-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_decays [hPre_finite_decays : Cert.Pre_finite_decays.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_decays.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite_decays.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite_decays.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_decays [hPre_finite_decays : Cert.Pre_finite_decays.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_decays.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite_decays.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite_decays.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_decays [hKernel2Ideal : Cert.Kernel2Ideal.Facts] [hPre_finite_decays : Cert.Pre_finite_decays.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_decays m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_decays [hReference2Ideal : Cert.Reference2Ideal.Facts] [hPre_finite_decays : Cert.Pre_finite_decays.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_decays m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_decays [hKernel2Ideal : Cert.Kernel2Ideal.Facts] [hReference2Ideal : Cert.Reference2Ideal.Facts] [hPre_finite_decays : Cert.Pre_finite_decays.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_decays m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_v62) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_v37) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v19_0)) (v1 : (c : Dev Cert.Kernel4Ideal.nD) → Buf (Elt Ideal) ((c.tc : Thread Cert.Kernel4Ideal.nD Cert.Kernel4Ideal.τ).loc Cert.Kernel4Ideal.main_v19_1)) (v2 : (c : Dev Cert.Kernel4Ideal.nD) → Buf (Elt Ideal) ((c.tc : Thread Cert.Kernel4Ideal.nD Cert.Kernel4Ideal.τ).loc Cert.Kernel4Ideal.main_v19_2)) (v3 : (c : Dev Cert.Kernel4Ideal.nD) → Buf (Elt Ideal) ((c.tc : Thread Cert.Kernel4Ideal.nD Cert.Kernel4Ideal.τ).loc Cert.Kernel4Ideal.main_v19_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19_0) = v0 c
          ∧ r.2.mem ((c.tc : Thread Cert.Kernel4Ideal.nD Cert.Kernel4Ideal.τ).loc Cert.Kernel4Ideal.main_v19_1) = v1 c
          ∧ r.2.mem ((c.tc : Thread Cert.Kernel4Ideal.nD Cert.Kernel4Ideal.τ).loc Cert.Kernel4Ideal.main_v19_2) = v2 c
          ∧ r.2.mem ((c.tc : Thread Cert.Kernel4Ideal.nD Cert.Kernel4Ideal.τ).loc Cert.Kernel4Ideal.main_v19_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v76) = v0 c
          ∧ r.2.mem ((c.tc : Thread Cert.Reference4Ideal.nD Cert.Reference4Ideal.τ).loc Cert.Reference4Ideal.main_v75) = v1 c
          ∧ r.2.mem ((c.tc : Thread Cert.Reference4Ideal.nD Cert.Reference4Ideal.τ).loc Cert.Reference4Ideal.main_v77) = v2 c
          ∧ r.2.mem ((c.tc : Thread Cert.Reference4Ideal.nD Cert.Reference4Ideal.τ).loc Cert.Reference4Ideal.main_v78) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)) (v3 : (c : Dev Cert.Kernel5Ideal.nD) → Buf (Elt Ideal) ((c.tc : Thread Cert.Kernel5Ideal.nD Cert.Kernel5Ideal.τ).loc Cert.Kernel5Ideal.main_v2_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_v2_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v105) = v0 c
          ∧ r.2.mem ((c.tc : Thread Cert.Reference5Ideal.nD Cert.Reference5Ideal.τ).loc Cert.Reference5Ideal.main_v107) = v1 c
          ∧ r.2.mem ((c.tc : Thread Cert.Reference5Ideal.nD Cert.Reference5Ideal.τ).loc Cert.Reference5Ideal.main_v80) = v2 c
          ∧ r.2.mem ((c.tc : Thread Cert.Reference5Ideal.nD Cert.Reference5Ideal.τ).loc Cert.Reference5Ideal.main_v109) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)) (v3 : (c : Dev Cert.Kernel6Ideal.nD) → Buf (Elt Ideal) ((c.tc : Thread Cert.Kernel6Ideal.nD Cert.Kernel6Ideal.τ).loc Cert.Kernel6Ideal.main_v2_3)) (v4 : (c : Dev Cert.Kernel6Ideal.nD) → Buf (Elt Ideal) ((c.tc : Thread Cert.Kernel6Ideal.nD Cert.Kernel6Ideal.τ).loc Cert.Kernel6Ideal.main_v2_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_v2_3) = v3 c
          ∧ r.2.mem ((c.tc : Thread Cert.Kernel6Ideal.nD Cert.Kernel6Ideal.τ).loc Cert.Kernel6Ideal.main_v2_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v142) = v0 c
          ∧ r.2.mem ((c.tc : Thread Cert.Reference6Ideal.nD Cert.Reference6Ideal.τ).loc Cert.Reference6Ideal.main_v146) = v1 c
          ∧ r.2.mem ((c.tc : Thread Cert.Reference6Ideal.nD Cert.Reference6Ideal.τ).loc Cert.Reference6Ideal.main_v121) = v2 c
          ∧ r.2.mem ((c.tc : Thread Cert.Reference6Ideal.nD Cert.Reference6Ideal.τ).loc Cert.Reference6Ideal.main_v116) = v3 c
          ∧ r.2.mem ((c.tc : Thread Cert.Reference6Ideal.nD Cert.Reference6Ideal.τ).loc Cert.Reference6Ideal.main_v145) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)) (v3 : (c : Dev Cert.Kernel8Ideal.nD) → Buf (Elt Ideal) ((c.tc : Thread Cert.Kernel8Ideal.nD Cert.Kernel8Ideal.τ).loc Cert.Kernel8Ideal.main_v2_3)) (v4 : (c : Dev Cert.Kernel8Ideal.nD) → Buf (Elt Ideal) ((c.tc : Thread Cert.Kernel8Ideal.nD Cert.Kernel8Ideal.τ).loc Cert.Kernel8Ideal.main_v2_4)) (v5 : (c : Dev Cert.Kernel8Ideal.nD) → Buf (Elt Ideal) ((c.tc : Thread Cert.Kernel8Ideal.nD Cert.Kernel8Ideal.τ).loc Cert.Kernel8Ideal.main_v2_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_v2_3) = v3 c
          ∧ r.2.mem ((c.tc : Thread Cert.Kernel8Ideal.nD Cert.Kernel8Ideal.τ).loc Cert.Kernel8Ideal.main_v2_4) = v4 c
          ∧ r.2.mem ((c.tc : Thread Cert.Kernel8Ideal.nD Cert.Kernel8Ideal.τ).loc Cert.Kernel8Ideal.main_v2_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_v14) = v1 c
          ∧ r.2.mem ((c.tc : Thread Cert.Reference8Ideal.nD Cert.Reference8Ideal.τ).loc Cert.Reference8Ideal.main_v15) = v2 c
          ∧ r.2.mem ((c.tc : Thread Cert.Reference8Ideal.nD Cert.Reference8Ideal.τ).loc Cert.Reference8Ideal.main_v16) = v3 c
          ∧ r.2.mem ((c.tc : Thread Cert.Reference8Ideal.nD Cert.Reference8Ideal.τ).loc Cert.Reference8Ideal.main_v17) = v4 c
          ∧ r.2.mem ((c.tc : Thread Cert.Reference8Ideal.nD Cert.Reference8Ideal.τ).loc Cert.Reference8Ideal.main_v18) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v5) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)) (v2 : (c : Dev Cert.Kernel10Ideal.nD) → Buf (Elt Ideal) ((c.tc : Thread Cert.Kernel10Ideal.nD Cert.Kernel10Ideal.τ).loc Cert.Kernel10Ideal.main_v1_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_v1_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v40) = v0 c
          ∧ r.2.mem ((c.tc : Thread Cert.Reference10Ideal.nD Cert.Reference10Ideal.τ).loc Cert.Reference10Ideal.main_v39) = v1 c
          ∧ r.2.mem ((c.tc : Thread Cert.Reference10Ideal.nD Cert.Reference10Ideal.τ).loc Cert.Reference10Ideal.main_v53) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v1_0)) (v1 : (c : Dev Cert.Kernel11Ideal.nD) → Buf (Elt Ideal) ((c.tc : Thread Cert.Kernel11Ideal.nD Cert.Kernel11Ideal.τ).loc Cert.Kernel11Ideal.main_v1_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1_0) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v30) = v0 c
          ∧ r.2.mem ((c.tc : Thread Cert.Reference11Ideal.nD Cert.Reference11Ideal.τ).loc Cert.Reference11Ideal.main_v33) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)) (v4 : (c : Dev Cert.Kernel14Ideal.nD) → Buf (Elt Ideal) ((c.tc : Thread Cert.Kernel14Ideal.nD Cert.Kernel14Ideal.τ).loc Cert.Kernel14Ideal.main_v0_4)) (v5 : (c : Dev Cert.Kernel14Ideal.nD) → Buf (Elt Ideal) ((c.tc : Thread Cert.Kernel14Ideal.nD Cert.Kernel14Ideal.τ).loc Cert.Kernel14Ideal.main_v0_5)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_v0_4) = v4 c
          ∧ r.2.mem ((c.tc : Thread Cert.Kernel14Ideal.nD Cert.Kernel14Ideal.τ).loc Cert.Kernel14Ideal.main_v0_5) = v5 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_v47) = v3 c
          ∧ r.2.mem ((c.tc : Thread Cert.Reference14Ideal.nD Cert.Reference14Ideal.τ).loc Cert.Reference14Ideal.main_v28) = v4 c
          ∧ r.2.mem ((c.tc : Thread Cert.Reference14Ideal.nD Cert.Reference14Ideal.τ).loc Cert.Reference14Ideal.main_v34) = v5 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite_decays : Cert.Pre_finite_decays.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_decays (hKernel2Ideal := hKernel2Ideal) (hPre_finite_decays := hPre_finite_decays)
    ∧ quiescent_Reference2Ideal (hReference2Ideal := hReference2Ideal)
    ∧ quiescent_Reference2Ideal_pre_finite_decays (hReference2Ideal := hReference2Ideal) (hPre_finite_decays := hPre_finite_decays)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_decays (hKernel2Ideal := hKernel2Ideal) (hReference2Ideal := hReference2Ideal) (hPre_finite_decays := hPre_finite_decays)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite_decays.lean ====
abbrev S4096x1536 : Shape := ⟨2, ![4096, 1536]⟩
abbrev S4096x16 : Shape := ⟨2, ![4096, 16]⟩
abbrev S1x16 : Shape := ⟨2, ![1, 16]⟩
abbrev S_ : Shape := ⟨0, ![]⟩

class Facts : Prop where
  bcast_S_S4096x16 : S_.BroadcastsInDim S4096x16 (![] : Fin 0 → Fin S4096x16.rank)
  bcast_S_S1x16 : S_.BroadcastsInDim S1x16 (![] : Fin 0 → Fin S1x16.rank)

variable [Facts]

def fn {F : FTy → Type} [FloatOps F] (main_arg0 : FVec F S4096x1536 .f32) (main_arg1 : FVec F S4096x16 .f32) (main_arg2 : FVec F S1x16 .f32) (main_arg3 : FVec F S1x16 .f32) : IVec S4096x16 1 × IVec S1x16 1 × IVec S1x16 1 :=
  let main_v0 : FVec F S4096x16 .f32 := Host.absf main_arg1
  let main_cst : FVec F S_ .f32 := constant S_ .f32 0x7F800000#32
  let main_v1 : FVec F S4096x16 .f32 := broadcastInDim S4096x16 ![] bcast_S_S4096x16 main_cst
  let main_v2 : IVec S4096x16 1 := cmpf .olt main_v0 main_v1
  let main_v3 : FVec F S1x16 .f32 := Host.absf main_arg2
  let main_cst_0 : FVec F S_ .f32 := constant S_ .f32 0x7F800000#32
  let main_v4 : FVec F S1x16 .f32 := broadcastInDim S1x16 ![] bcast_S_S1x16 main_cst_0
  let main_v5 : IVec S1x16 1 := cmpf .olt main_v3 main_v4
  let main_v6 : FVec F S1x16 .f32 := Host.absf main_arg3
  let main_cst_1 : FVec F S_ .f32 := constant S_ .f32 0x7F800000#32
  let main_v7 : FVec F S1x16 .f32 := broadcastInDim S1x16 ![] bcast_S_S1x16 main_cst_1
  let main_v8 : IVec S1x16 1 := cmpf .olt main_v6 main_v7
  (main_v2, main_v5, main_v8)
-- ==== Kernel.lean ====
abbrev S4096x1536 : Shape := ⟨2, ![4096, 1536]⟩
abbrev S4x1536 : Shape := ⟨2, ![4, 1536]⟩
abbrev S_ : Shape := ⟨0, ![]⟩
abbrev S8x1536 : Shape := ⟨2, ![8, 1536]⟩
abbrev S512x1536 : Shape := ⟨2, ![512, 1536]⟩
abbrev S520x1536 : Shape := ⟨2, ![520, 1536]⟩
abbrev S1x512 : Shape := ⟨2, ![1, 512]⟩
abbrev S16x512 : Shape := ⟨2, ![16, 512]⟩

abbrev nBuf : Space → Nat
  | .hbm => 7
  | .vmem => 8
  | .smem => 0
  | _ => 0

abbrev bufTy : (tb : Table) → Fin (tcTables nBuf tb) → BufTy
  | .hbm, ⟨0, _⟩ => ⟨S4096x1536, .f32⟩
  | .hbm, ⟨1, _⟩ => ⟨S4x1536, .f32⟩
  | .hbm, ⟨2, _⟩ => ⟨S4096x1536, .f32⟩
  | .hbm, ⟨3, _⟩ => ⟨S_, .i32⟩
  | .hbm, ⟨4, _⟩ => ⟨S_, .f32⟩
  | .hbm, ⟨5, _⟩ => ⟨S8x1536, .f32⟩
  | .hbm, ⟨6, _⟩ => ⟨S4096x1536, .bf16⟩
  | .local _ .vmem, ⟨0, _⟩ => ⟨S512x1536, .f32⟩
  | .local _ .vmem, ⟨1, _⟩ => ⟨S512x1536, .f32⟩
  | .local _ .vmem, ⟨2, _⟩ => ⟨S8x1536, .f32⟩
  | .local _ .vmem, ⟨3, _⟩ => ⟨S8x1536, .f32⟩
  | .local _ .vmem, ⟨4, _⟩ => ⟨S8x1536, .f32⟩
  | .local _ .vmem, ⟨5, _⟩ => ⟨S512x1536, .bf16⟩
  | .local _ .vmem, ⟨6, _⟩ => ⟨S512x1536, .bf16⟩
  | .local _ .vmem, ⟨7, _⟩ => ⟨S520x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4096x1536 : Shape := ⟨2, ![4096, 1536]⟩
abbrev S4x1536 : Shape := ⟨2, ![4, 1536]⟩
abbrev S_ : Shape := ⟨0, ![]⟩
abbrev S3x1536 : Shape := ⟨2, ![3, 1536]⟩
abbrev S4099x1536 : Shape := ⟨2, ![4099, 1536]⟩
abbrev S1x1536 : Shape := ⟨2, ![1, 1536]⟩

abbrev nBuf : Space → Nat
  | .hbm => 54
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4x1536, .f32⟩
  | .hbm, ⟨2, _⟩ => ⟨S4096x1536, .f32⟩
  | .hbm, ⟨3, _⟩ => ⟨S_, .f32⟩
  | .hbm, ⟨4, _⟩ => ⟨S3x1536, .f32⟩
  | .hbm, ⟨5, _⟩ => ⟨S4099x1536, .f32⟩
  | .hbm, ⟨6, _⟩ => ⟨S_, .f32⟩
  | .hbm, ⟨7, _⟩ => ⟨S3x1536, .f32⟩
  | .hbm, ⟨8, _⟩ => ⟨S1x1536, .f32⟩
  | .hbm, ⟨9, _⟩ => ⟨S4096x1536, .f32⟩
  | .hbm, ⟨10, _⟩ => ⟨S4096x1536, .f32⟩
  | .hbm, ⟨11, _⟩ => ⟨S4096x1536, .f32⟩
  | .hbm, ⟨12, _⟩ => ⟨S_, .f32⟩
  | .hbm, ⟨13, _⟩ => ⟨S4096x1536, .f32⟩
  | .hbm, ⟨14, _⟩ => ⟨S4096x1536, .f32⟩
  | .hbm, ⟨15, _⟩ => ⟨S1x1536, .f32⟩
  | .hbm, ⟨16, _⟩ => ⟨S4096x1536, .f32⟩
  | .hbm, ⟨17, _⟩ => ⟨S4096x1536, .f32⟩
  | .hbm, ⟨18, _⟩ => ⟨S4096x1536, .f32⟩
  | .hbm, ⟨19, _⟩ => ⟨S4096x1536, .f32⟩
  | .hbm, ⟨20, _⟩ => ⟨S1x1536, .f32⟩
  | .hbm, ⟨21, _⟩ => ⟨S4096x1536, .f32⟩
  | .hbm, ⟨22, _⟩ => ⟨S4096x1536, .f32⟩
  | .hbm, ⟨23, _⟩ => ⟨S4096x1536, .f32⟩
  | .hbm, ⟨24, _⟩ => ⟨S4096x1536, .f32⟩
  | .hbm, ⟨25, _⟩ => ⟨S1x1536, .f32⟩
  | .hbm, ⟨26, _⟩ => ⟨S4096x1536, .f32⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S4096x1536, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S_, .f32⟩
  | .hbm, ⟨35, _⟩ => ⟨S4099x1536, .f32⟩
  | .hbm, ⟨36, _⟩ => ⟨S4096x1536, .f32⟩
  | .hbm, ⟨37, _⟩ => ⟨S4096x1536, .f32⟩
  | .hbm, ⟨38, _⟩ => ⟨S_, .f32⟩
  | .hbm, ⟨39, _⟩ => ⟨S4099x1536, .f32⟩
  | .hbm, ⟨40, _⟩ => ⟨S4099x1536, .f32⟩
  | .hbm, ⟨41, _⟩ => ⟨S4096x1536, .f32⟩
  | .hbm, ⟨42, _⟩ => ⟨S4096x1536, .f32⟩
  | .hbm, ⟨43, _⟩ => ⟨S_, .f32⟩
  | .hbm, ⟨44, _⟩ => ⟨S4099x1536, .f32⟩
  | .hbm, ⟨45, _⟩ => ⟨S4099x1536, .f32⟩
  | .hbm, ⟨46, _⟩ => ⟨S4096x1536, .f32⟩
  | .hbm, ⟨47, _⟩ => ⟨S4096x1536, .f32⟩
  | .hbm, ⟨48, _⟩ => ⟨S_, .f32⟩
  | .hbm, ⟨49, _⟩ => ⟨S4099x1536, .f32⟩
  | .hbm, ⟨50, _⟩ => ⟨S4099x1536, .f32⟩
  | .hbm, ⟨51, _⟩ => ⟨S3x1536, .f32⟩
  | .hbm, ⟨52, _⟩ => ⟨S4096x1536, .f32⟩
  | .hbm, ⟨53, _⟩ => ⟨S4096x1536, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]
-- ==== Kernel2.lean ====
abbrev S4096x1536 : Shape := ⟨2, ![4096, 1536]⟩
abbrev S4096x16 : Shape := ⟨2, ![4096, 16]⟩
abbrev S1x16 : Shape := ⟨2, ![1, 16]⟩
abbrev S4096x1024 : Shape := ⟨2, ![4096, 1024]⟩
abbrev S32x128x1024 : Shape := ⟨3, ![32, 128, 1024]⟩
abbrev S512x1536 : Shape := ⟨2, ![512, 1536]⟩
abbrev S512x16 : Shape := ⟨2, ![512, 16]⟩
abbrev S512x1024 : Shape := ⟨2, ![512, 1024]⟩
abbrev S4x128x1024 : Shape := ⟨3, ![4, 128, 1024]⟩
abbrev S128x1024 : Shape := ⟨2, ![128, 1024]⟩
abbrev S128x128 : Shape := ⟨2, ![128, 128]⟩
abbrev S16x1024 : Shape := ⟨2, ![16, 1024]⟩
abbrev S1x128 : Shape := ⟨2, ![1, 128]⟩
abbrev S1x128x1024 : Shape := ⟨3, ![1, 128, 1024]⟩
abbrev S128x256 : Shape := ⟨2, ![128, 256]⟩
abbrev S128x16 : Shape := ⟨2, ![128, 16]⟩
abbrev S16x128 : Shape := ⟨2, ![16, 128]⟩
abbrev S8x16 : Shape := ⟨2, ![8, 16]⟩
abbrev S400x16 : Shape := ⟨2, ![400, 16]⟩
abbrev S400x1024 : Shape := ⟨2, ![400, 1024]⟩
abbrev S1x1024 : Shape := ⟨2, ![1, 1024]⟩
abbrev S128x512 : Shape := ⟨2, ![128, 512]⟩
abbrev S1x512 : Shape := ⟨2, ![1, 512]⟩
abbrev S128x1 : Shape := ⟨2, ![128, 1]⟩
abbrev S256x128 : Shape := ⟨2, ![256, 128]⟩

abbrev nBuf : Space → Nat
  | .hbm => 6
  | .vmem => 11
  | .smem => 0
  | _ => 0

abbrev bufTy : (tb : Table) → Fin (tcTables nBuf tb) → BufTy
  | .hbm, ⟨0, _⟩ => ⟨S4096x1536, .f32⟩
  | .hbm, ⟨1, _⟩ => ⟨S4096x16, .f32⟩
  | .hbm, ⟨2, _⟩ => ⟨S1x16, .f32⟩
  | .hbm, ⟨3, _⟩ => ⟨S1x16, .f32⟩
  | .hbm, ⟨4, _⟩ => ⟨S4096x1024, .f32⟩
  | .hbm, ⟨5, _⟩ => ⟨S32x128x1024, .f32⟩
  | .local _ .vmem, ⟨0, _⟩ => ⟨S512x1536, .f32⟩
  | .local _ .vmem, ⟨1, _⟩ => ⟨S512x1536, .f32⟩
  | .local _ .vmem, ⟨2, _⟩ => ⟨S512x16, .f32⟩
  | .local _ .vmem, ⟨3, _⟩ => ⟨S512x16, .f32⟩
  | .local _ .vmem, ⟨4, _⟩ => ⟨S1x16, .f32⟩
  | .local _ .vmem, ⟨5, _⟩ => ⟨S1x16, .f32⟩
  | .local _ .vmem, ⟨6, _⟩ => ⟨S512x1024, .f32⟩
  | .local _ .vmem, ⟨7, _⟩ => ⟨S512x1024, .f32⟩
  | .local _ .vmem, ⟨8, _⟩ => ⟨S4x128x1024, .f32⟩
  | .local _ .vmem, ⟨9, _⟩ => ⟨S4x128x1024, .f32⟩
  | .local _ .vmem, ⟨10, _⟩ => ⟨S128x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S4096x1536 : Shape := ⟨2, ![4096, 1536]⟩
abbrev S4096x16 : Shape := ⟨2, ![4096, 16]⟩
abbrev S1x16 : Shape := ⟨2, ![1, 16]⟩
abbrev S4096x1024 : Shape := ⟨2, ![4096, 1024]⟩
abbrev S4096x256 : Shape := ⟨2, ![4096, 256]⟩
abbrev S4096x16x64 : Shape := ⟨3, ![4096, 16, 64]⟩
abbrev S16 : Shape := ⟨1, ![16]⟩
abbrev S4096x2x128 : Shape := ⟨3, ![4096, 2, 128]⟩
abbrev S4096x16x1 : Shape := ⟨3, ![4096, 16, 1]⟩
abbrev S32x128x2x8x64 : Shape := ⟨5, ![32, 128, 2, 8, 64]⟩
abbrev S32x128x2x128 : Shape := ⟨4, ![32, 128, 2, 128]⟩
abbrev S32x128x2x8 : Shape := ⟨4, ![32, 128, 2, 8]⟩
abbrev S2x8x32x128 : Shape := ⟨4, ![2, 8, 32, 128]⟩
abbrev S_ : Shape := ⟨0, ![]⟩
abbrev S128x128 : Shape := ⟨2, ![128, 128]⟩
abbrev S2x8x32x128x1 : Shape := ⟨5, ![2, 8, 32, 128, 1]⟩
abbrev S2x8x32x1x128 : Shape := ⟨5, ![2, 8, 32, 1, 128]⟩
abbrev S2x8x32x128x128 : Shape := ⟨5, ![2, 8, 32, 128, 128]⟩
abbrev S2x32x128x128 : Shape := ⟨4, ![2, 32, 128, 128]⟩
abbrev S2x1x32x128x128 : Shape := ⟨5, ![2, 1, 32, 128, 128]⟩
abbrev S32x2x8x64x128 : Shape := ⟨5, ![32, 2, 8, 64, 128]⟩
abbrev S2x8x32x1 : Shape := ⟨4, ![2, 8, 32, 1]⟩
abbrev S32x128x2x8x1 : Shape := ⟨5, ![32, 128, 2, 8, 1]⟩
abbrev S2x8x32 : Shape := ⟨3, ![2, 8, 32]⟩
abbrev S32x2x8 : Shape := ⟨3, ![32, 2, 8]⟩
abbrev S2x8x64x128 : Shape := ⟨4, ![2, 8, 64, 128]⟩
abbrev S1x2x8 : Shape := ⟨3, ![1, 2, 8]⟩
abbrev S2x8 : Shape := ⟨2, ![2, 8]⟩
abbrev S1x2x8x64x128 : Shape := ⟨5, ![1, 2, 8, 64, 128]⟩
abbrev S2x8x1x1 : Shape := ⟨4, ![2, 8, 1, 1]⟩
abbrev S32x1024x128 : Shape := ⟨3, ![32, 1024, 128]⟩
abbrev S32x128x1024 : Shape := ⟨3, ![32, 128, 1024]⟩
abbrev S16x1 : Shape := ⟨2, ![16, 1]⟩
abbrev S1x16x1 : Shape := ⟨3, ![1, 16, 1]⟩

abbrev nBuf : Space → Nat
  | .hbm => 120
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x16, .f32⟩
  | .hbm, ⟨2, _⟩ => ⟨S1x16, .f32⟩
  | .hbm, ⟨3, _⟩ => ⟨S1x16, .f32⟩
  | .hbm, ⟨4, _⟩ => ⟨S4096x1024, .f32⟩
  | .hbm, ⟨5, _⟩ => ⟨S4096x256, .f32⟩
  | .hbm, ⟨6, _⟩ => ⟨S4096x256, .f32⟩
  | .hbm, ⟨7, _⟩ => ⟨S4096x16x64, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S4096x2x128, .f32⟩
  | .hbm, ⟨12, _⟩ => ⟨S4096x2x128, .f32⟩
  | .hbm, ⟨13, _⟩ => ⟨S4096x16x1, .f32⟩
  | .hbm, ⟨14, _⟩ => ⟨S4096x16x64, .f32⟩
  | .hbm, ⟨15, _⟩ => ⟨S4096x16x64, .f32⟩
  | .hbm, ⟨16, _⟩ => ⟨S32x128x2x8x64, .f32⟩
  | .hbm, ⟨17, _⟩ => ⟨S32x128x2x128, .f32⟩
  | .hbm, ⟨18, _⟩ => ⟨S32x128x2x128, .f32⟩
  | .hbm, ⟨19, _⟩ => ⟨S1x16, .f32⟩
  | .hbm, ⟨20, _⟩ => ⟨S4096x16, .f32⟩
  | .hbm, ⟨21, _⟩ => ⟨S4096x16, .f32⟩
  | .hbm, ⟨22, _⟩ => ⟨S32x128x2x8, .f32⟩
  | .hbm, ⟨23, _⟩ => ⟨S2x8x32x128, .f32⟩
  | .hbm, ⟨24, _⟩ => ⟨S_, .f32⟩
  | .hbm, ⟨25, _⟩ => ⟨S_, .f32⟩
  | .hbm, ⟨26, _⟩ => ⟨S2x8x32x128, .f32⟩
  | .hbm, ⟨27, _⟩ => ⟨S_, .i1⟩
  | .hbm, ⟨28, _⟩ => ⟨S128x128, .i1⟩
  | .hbm, ⟨29, _⟩ => ⟨S128x128, .i32⟩
  | .hbm, ⟨30, _⟩ => ⟨S_, .i32⟩
  | .hbm, ⟨31, _⟩ => ⟨S128x128, .i32⟩
  | .hbm, ⟨32, _⟩ => ⟨S128x128, .i32⟩
  | .hbm, ⟨33, _⟩ => ⟨S128x128, .i32⟩
  | .hbm, ⟨34, _⟩ => ⟨S128x128, .i1⟩
  | .hbm, ⟨35, _⟩ => ⟨S_, .i1⟩
  | .hbm, ⟨36, _⟩ => ⟨S128x128, .i1⟩
  | .hbm, ⟨37, _⟩ => ⟨S128x128, .i1⟩
  | .hbm, ⟨38, _⟩ => ⟨S2x8x32x128x1, .f32⟩
  | .hbm, ⟨39, _⟩ => ⟨S2x8x32x1x128, .f32⟩
  | .hbm, ⟨40, _⟩ => ⟨S2x8x32x128x128, .f32⟩
  | .hbm, ⟨41, _⟩ => ⟨S2x8x32x128x128, .f32⟩
  | .hbm, ⟨42, _⟩ => ⟨S2x8x32x128x128, .f32⟩
  | .hbm, ⟨43, _⟩ => ⟨S_, .f32⟩
  | .hbm, ⟨44, _⟩ => ⟨S_, .f32⟩
  | .hbm, ⟨45, _⟩ => ⟨S2x8x32x128x128, .i1⟩
  | .hbm, ⟨46, _⟩ => ⟨S2x8x32x128x128, .f32⟩
  | .hbm, ⟨47, _⟩ => ⟨S2x8x32x128x128, .f32⟩
  | .hbm, ⟨48, _⟩ => ⟨S2x8x32x128x128, .f32⟩
  | .hbm, ⟨49, _⟩ => ⟨S2x32x128x128, .f32⟩
  | .hbm, ⟨50, _⟩ => ⟨S2x1x32x128x128, .f32⟩
  | .hbm, ⟨51, _⟩ => ⟨S2x8x32x128x128, .f32⟩
  | .hbm, ⟨52, _⟩ => ⟨S2x8x32x128x128, .f32⟩
  | .hbm, ⟨53, _⟩ => ⟨S32x2x8x64x128, .f32⟩
  | .hbm, ⟨54, _⟩ => ⟨S32x128x2x8x64, .f32⟩
  | .hbm, ⟨55, _⟩ => ⟨S2x8x32x1, .f32⟩
  | .hbm, ⟨56, _⟩ => ⟨S2x8x32x128, .f32⟩
  | .hbm, ⟨57, _⟩ => ⟨S2x8x32x128, .f32⟩
  | .hbm, ⟨58, _⟩ => ⟨S2x8x32x128, .f32⟩
  | .hbm, ⟨59, _⟩ => ⟨S32x128x2x8, .f32⟩
  | .hbm, ⟨60, _⟩ => ⟨S32x128x2x8x1, .f32⟩
  | .hbm, ⟨61, _⟩ => ⟨S32x128x2x8x64, .f32⟩
  | .hbm, ⟨62, _⟩ => ⟨S32x128x2x8x64, .f32⟩
  | .hbm, ⟨63, _⟩ => ⟨S32x2x8x64x128, .f32⟩
  | .hbm, ⟨64, _⟩ => ⟨S2x8x32x1, .f32⟩
  | .hbm, ⟨65, _⟩ => ⟨S2x8x32, .f32⟩
  | .hbm, ⟨66, _⟩ => ⟨S2x8x32, .f32⟩
  | .hbm, ⟨67, _⟩ => ⟨S32x2x8, .f32⟩
  | .hbm, ⟨68, _⟩ => ⟨S_, .f32⟩
  | .hbm, ⟨69, _⟩ => ⟨S2x8x64x128, .f32⟩
  | .hbm, ⟨70, _⟩ => ⟨S_, .f32⟩
  | .hbm, ⟨71, _⟩ => ⟨S32x2x8x64x128, .f32⟩
  | .hbm, ⟨72, _⟩ => ⟨S_, .i32⟩
  | .hbm, ⟨73, _⟩ => ⟨S32x2x8, .f32⟩
  | .hbm, ⟨74, _⟩ => ⟨S32x2x8x64x128, .f32⟩
  | .hbm, ⟨75, _⟩ => ⟨S_, .i32⟩
  | .hbm, ⟨76, _⟩ => ⟨S2x8x64x128, .f32⟩
  | .hbm, ⟨77, _⟩ => ⟨S32x2x8x64x128, .f32⟩
  | .hbm, ⟨78, _⟩ => ⟨S_, .i32⟩
  | .hbm, ⟨79, _⟩ => ⟨S_, .i1⟩
  | .hbm, ⟨80, _⟩ => ⟨S_, .i32⟩
  | .hbm, ⟨81, _⟩ => ⟨S_, .i32⟩
  | .hbm, ⟨82, _⟩ => ⟨S1x2x8, .f32⟩
  | .hbm, ⟨83, _⟩ => ⟨S2x8, .f32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S1x2x8x64x128, .f32⟩
  | .hbm, ⟨89, _⟩ => ⟨S2x8x64x128, .f32⟩
  | .hbm, ⟨90, _⟩ => ⟨S2x8x1x1, .f32⟩
  | .hbm, ⟨91, _⟩ => ⟨S2x8x64x128, .f32⟩
  | .hbm, ⟨92, _⟩ => ⟨S2x8x64x128, .f32⟩
  | .hbm, ⟨93, _⟩ => ⟨S2x8x64x128, .f32⟩
  | .hbm, ⟨94, _⟩ => ⟨S1x2x8x64x128, .f32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S32x2x8x64x128, .f32⟩
  | .hbm, ⟨100, _⟩ => ⟨S_, .i32⟩
  | .hbm, ⟨101, _⟩ => ⟨S_, .i32⟩
  | .hbm, ⟨102, _⟩ => ⟨S2x8x32x128, .f32⟩
  | .hbm, ⟨103, _⟩ => ⟨S32x128x2x8, .f32⟩
  | .hbm, ⟨104, _⟩ => ⟨S32x2x8x64x128, .f32⟩
  | .hbm, ⟨105, _⟩ => ⟨S32x128x2x8x64, .f32⟩
  | .hbm, ⟨106, _⟩ => ⟨S32x128x2x8x1, .f32⟩
  | .hbm, ⟨107, _⟩ => ⟨S32x128x2x8x64, .f32⟩
  | .hbm, ⟨108, _⟩ => ⟨S32x128x2x8x64, .f32⟩
  | .hbm, ⟨109, _⟩ => ⟨S32x128x2x8x64, .f32⟩
  | .hbm, ⟨110, _⟩ => ⟨S4096x16x64, .f32⟩
  | .hbm, ⟨111, _⟩ => ⟨S32x1024x128, .f32⟩
  | .hbm, ⟨112, _⟩ => ⟨S32x128x1024, .f32⟩
  | .hbm, ⟨113, _⟩ => ⟨S16, .f32⟩
  | .hbm, ⟨114, _⟩ => ⟨S16x1, .f32⟩
  | .hbm, ⟨115, _⟩ => ⟨S1x16x1, .f32⟩
  | .hbm, ⟨116, _⟩ => ⟨S4096x16x64, .f32⟩
  | .hbm, ⟨117, _⟩ => ⟨S4096x16x64, .f32⟩
  | .hbm, ⟨118, _⟩ => ⟨S4096x16x64, .f32⟩
  | .hbm, ⟨119, _⟩ => ⟨S4096x1024, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_call0_call0_cst : Ref sig .tc := ⟨.hbm, 24, rfl⟩
abbrev main_call0_call0_v0 : Ref sig .tc := ⟨.hbm, 25, rfl⟩
abbrev main_v20 : Ref sig .tc := ⟨.hbm, 26, rfl⟩
abbrev main_c : Ref sig .tc := ⟨.hbm, 27, rfl⟩
abbrev main_v21 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_0 : Ref sig .tc := ⟨.hbm, 35, rfl⟩
abbrev main_call1_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_0 : Ref sig .tc := ⟨.hbm, 68, rfl⟩
abbrev main_v49 : Ref sig .tc := ⟨.hbm, 69, rfl⟩
abbrev main_cst_1 : Ref sig .tc := ⟨.hbm, 70, rfl⟩
abbrev main_v50 : Ref sig .tc := ⟨.hbm, 71, rfl⟩
abbrev main_c_2 : Ref sig .tc := ⟨.hbm, 72, rfl⟩
abbrev main_v51_0 : Ref sig .tc := ⟨.hbm, 73, rfl⟩
abbrev main_v51_1 : Ref sig .tc := ⟨.hbm, 74, rfl⟩
abbrev main_v51_2 : Ref sig .tc := ⟨.hbm, 75, rfl⟩
abbrev main_v51_3 : Ref sig .tc := ⟨.hbm, 76, rfl⟩
abbrev main_v51_4 : Ref sig .tc := ⟨.hbm, 77, rfl⟩
abbrev main_while0c_c_7 : Ref sig .tc := ⟨.hbm, 78, rfl⟩
abbrev main_while0c_v70 : Ref sig .tc := ⟨.hbm, 79, rfl⟩
abbrev main_while0b_call3_c : Ref sig .tc := ⟨.hbm, 80, rfl⟩
abbrev main_while0b_call3_c_0 : Ref sig .tc := ⟨.hbm, 81, rfl⟩
abbrev main_while0b_call3_v0 : Ref sig .tc := ⟨.hbm, 82, rfl⟩
abbrev main_while0b_v70 : Ref sig .tc := ⟨.hbm, 83, rfl⟩
abbrev main_while0b_call4_c : Ref sig .tc := ⟨.hbm, 84, rfl⟩
abbrev main_while0b_call4_c_0 : Ref sig .tc := ⟨.hbm, 85, rfl⟩
abbrev main_while0b_call4_c_1 : Ref sig .tc := ⟨.hbm, 86, rfl⟩
abbrev main_while0b_call4_c_2 : Ref sig .tc := ⟨.hbm, 87, rfl⟩
abbrev main_while0b_call4_v0 : Ref sig .tc := ⟨.hbm, 88, rfl⟩
abbrev main_while0b_v71 : Ref sig .tc := ⟨.hbm, 89, rfl⟩
abbrev main_while0b_v72 : Ref sig .tc := ⟨.hbm, 90, rfl⟩
abbrev main_while0b_v73 : Ref sig .tc := ⟨.hbm, 91, rfl⟩
abbrev main_while0b_v74 : Ref sig .tc := ⟨.hbm, 92, rfl⟩
abbrev main_while0b_v75 : Ref sig .tc := ⟨.hbm, 93, rfl⟩
abbrev main_while0b_call5_v0 : Ref sig .tc := ⟨.hbm, 94, rfl⟩
abbrev main_while0b_call5_c : Ref sig .tc := ⟨.hbm, 95, rfl⟩
abbrev main_while0b_call5_c_0 : Ref sig .tc := ⟨.hbm, 96, rfl⟩
abbrev main_while0b_call5_c_1 : Ref sig .tc := ⟨.hbm, 97, rfl⟩
abbrev main_while0b_call5_c_2 : Ref sig .tc := ⟨.hbm, 98, rfl⟩
abbrev main_while0b_v76 : Ref sig .tc := ⟨.hbm, 99, rfl⟩
abbrev main_while0b_c_7 : Ref sig .tc := ⟨.hbm, 100, rfl⟩
abbrev main_while0b_v77 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩

abbrev nD : Nat := 1
abbrev τ : Topo := Topo.v7x

variable {F : FTy → Type} [FloatOps F]

abbrev main_while0_count : Scf.Loop 32 := ⟨0#32, 32#32, 1#32⟩
-- ==== Kernel3.lean ====
abbrev S4096x1024 : Shape := ⟨2, ![4096, 1024]⟩
abbrev S1x1024 : Shape := ⟨2, ![1, 1024]⟩
abbrev S1024x4624 : Shape := ⟨2, ![1024, 4624]⟩
abbrev S4096x4624 : Shape := ⟨2, ![4096, 4624]⟩
abbrev S4096x1536 : Shape := ⟨2, ![4096, 1536]⟩
abbrev S4096x16 : Shape := ⟨2, ![4096, 16]⟩
abbrev S4096x2048 : Shape := ⟨2, ![4096, 2048]⟩
abbrev S4624x1024 : Shape := ⟨2, ![4624, 1024]⟩
abbrev S8x1024 : Shape := ⟨2, ![8, 1024]⟩
abbrev S512x1024 : Shape := ⟨2, ![512, 1024]⟩
abbrev S512x1536 : Shape := ⟨2, ![512, 1536]⟩
abbrev S512x16 : Shape := ⟨2, ![512, 16]⟩
abbrev S512x2048 : Shape := ⟨2, ![512, 2048]⟩
abbrev S1024x1024 : Shape := ⟨2, ![1024, 1024]⟩
abbrev S1536x1024 : Shape := ⟨2, ![1536, 1024]⟩
abbrev S16x1024 : Shape := ⟨2, ![16, 1024]⟩
abbrev S2048x1024 : Shape := ⟨2, ![2048, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4624, .f32⟩
  | .hbm, ⟨3, _⟩ => ⟨S4096x4624, .f32⟩
  | .hbm, ⟨4, _⟩ => ⟨S4096x1024, .f32⟩
  | .hbm, ⟨5, _⟩ => ⟨S4096x4624, .bf16⟩
  | .hbm, ⟨6, _⟩ => ⟨S4096x1024, .bf16⟩
  | .hbm, ⟨7, _⟩ => ⟨S4096x1536, .bf16⟩
  | .hbm, ⟨8, _⟩ => ⟨S4096x16, .bf16⟩
  | .hbm, ⟨9, _⟩ => ⟨S4096x2048, .bf16⟩
  | .hbm, ⟨10, _⟩ => ⟨S4624x1024, .f32⟩
  | .hbm, ⟨11, _⟩ => ⟨S4624x1024, .bf16⟩
  | .hbm, ⟨12, _⟩ => ⟨S4096x1024, .f32⟩
  | .hbm, ⟨13, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S512x16, .bf16⟩
  | .local _ .vmem, ⟨5, _⟩ => ⟨S512x16, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S4624x1024, .bf16⟩
  | .local _ .vmem, ⟨14, _⟩ => ⟨S512x1024, .f32⟩
  | .local _ .vmem, ⟨15, _⟩ => ⟨S512x1024, .f32⟩
  | .local _ .vmem, ⟨16, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4624x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S4096x1024 : Shape := ⟨2, ![4096, 1024]⟩
abbrev S1x1024 : Shape := ⟨2, ![1, 1024]⟩
abbrev S1024x4624 : Shape := ⟨2, ![1024, 4624]⟩
abbrev S4096x4624 : Shape := ⟨2, ![4096, 4624]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x1024 : Shape := ⟨2, ![8, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4624, .f32⟩
  | .hbm, ⟨3, _⟩ => ⟨S4096x4624, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4624, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .i32⟩
  | .hbm, ⟨51, _⟩ => ⟨S_, .f32⟩
  | .hbm, ⟨52, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c : Ref sig .tc := ⟨.hbm, 50, rfl⟩
abbrev main_call0_v0 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024x8x512 : Shape := ⟨3, ![1024, 8, 512]⟩
abbrev S8x1024x512 : Shape := ⟨3, ![8, 1024, 512]⟩
abbrev S8x1024 : Shape := ⟨2, ![8, 1024]⟩
abbrev S512x1024 : Shape := ⟨2, ![512, 1024]⟩
abbrev S512x4096 : Shape := ⟨2, ![512, 4096]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 31
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S4096x1024, .bf16⟩
  | .hbm, ⟨22, _⟩ => ⟨S4096x4096, .bf16⟩
  | .hbm, ⟨23, _⟩ => ⟨S4096x1024, .bf16⟩
  | .hbm, ⟨24, _⟩ => ⟨S1024x4096, .bf16⟩
  | .hbm, ⟨25, _⟩ => ⟨S1024x8x512, .bf16⟩
  | .hbm, ⟨26, _⟩ => ⟨S8x1024x512, .bf16⟩
  | .hbm, ⟨27, _⟩ => ⟨S4096x4096, .bf16⟩
  | .hbm, ⟨28, _⟩ => ⟨S4096x1024, .f32⟩
  | .hbm, ⟨29, _⟩ => ⟨S4096x1024, .bf16⟩
  | .hbm, ⟨30, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x4096, .bf16⟩
  | .local _ .vmem, ⟨5, _⟩ => ⟨S512x4096, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x4096, .bf16⟩
  | .local _ .vmem, ⟨10, _⟩ => ⟨S512x4096, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | .local _ .vmem, ⟨16, _⟩ => ⟨S4096x1024, .bf16⟩
  | .local _ .vmem, ⟨17, _⟩ => ⟨S8x1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev main_v19_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference4Ideal.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩
abbrev S8x1024 : Shape := ⟨2, ![8, 1024]⟩

abbrev nBuf : Space → Nat
  | .hbm => 107
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .i1⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x1024, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x4096, .f32⟩
  | .hbm, ⟨58, _⟩ => ⟨S_, .f32⟩
  | .hbm, ⟨59, _⟩ => ⟨S4096x4096, .f32⟩
  | .hbm, ⟨60, _⟩ => ⟨S4096x4096, .f32⟩
  | .hbm, ⟨61, _⟩ => ⟨S_, .f32⟩
  | .hbm, ⟨62, _⟩ => ⟨S4096x4096, .f32⟩
  | .hbm, ⟨63, _⟩ => ⟨S4096x4096, .i1⟩
  | .hbm, ⟨64, _⟩ => ⟨S_, .f32⟩
  | .hbm, ⟨65, _⟩ => ⟨S4096x4096, .f32⟩
  | .hbm, ⟨66, _⟩ => ⟨S4096x4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S_, .f32⟩
  | .hbm, ⟨75, _⟩ => ⟨S4096x4096, .f32⟩
  | .hbm, ⟨76, _⟩ => ⟨S4096x4096, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S_, .f32⟩
  | .hbm, ⟨96, _⟩ => ⟨S4096, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x4096, .bf16⟩
  | .hbm, ⟨103, _⟩ => ⟨S4096x1024, .bf16⟩
  | .hbm, ⟨104, _⟩ => ⟨S_, .i32⟩
  | .hbm, ⟨105, _⟩ => ⟨S_, .f32⟩
  | .hbm, ⟨106, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call1_cst : Ref sig .tc := ⟨.hbm, 58, rfl⟩
abbrev main_call1_v0 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_c : Ref sig .tc := ⟨.hbm, 104, rfl⟩
abbrev main_call2_v0 : Ref sig .tc := ⟨.hbm, 105, rfl⟩
abbrev main_v78 : Ref sig .tc := ⟨.hbm, 106, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S2048x1024 : Shape := ⟨2, ![2048, 1024]⟩
abbrev S8x1024 : Shape := ⟨2, ![8, 1024]⟩
abbrev S512x1024 : Shape := ⟨2, ![512, 1024]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 14
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S4096x1024, .f32⟩
  | .hbm, ⟨8, _⟩ => ⟨S4096x1024, .bf16⟩
  | .hbm, ⟨9, _⟩ => ⟨S2048x1024, .bf16⟩
  | .hbm, ⟨10, _⟩ => ⟨S4096x1024, .f32⟩
  | .hbm, ⟨11, _⟩ => ⟨S4096x1024, .bf16⟩
  | .hbm, ⟨12, _⟩ => ⟨S4096x1024, .f32⟩
  | .hbm, ⟨13, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S2048x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference5Ideal.lean ====
abbrev S4096x1024 : Shape := ⟨2, ![4096, 1024]⟩
abbrev S1x1024 : Shape := ⟨2, ![1, 1024]⟩
abbrev S2048x1024 : Shape := ⟨2, ![2048, 1024]⟩
abbrev S_ : Shape := ⟨0, ![]⟩
abbrev S4096x2x512 : Shape := ⟨3, ![4096, 2, 512]⟩
abbrev S4096x2 : Shape := ⟨2, ![4096, 2]⟩
abbrev S4096x2x1 : Shape := ⟨3, ![4096, 2, 1]⟩
abbrev S4096 : Shape := ⟨1, ![4096]⟩
abbrev S4096x1 : Shape := ⟨2, ![4096, 1]⟩
abbrev S4096x2048 : Shape := ⟨2, ![4096, 2048]⟩
abbrev S1024 : Shape := ⟨1, ![1024]⟩
abbrev S4x1024 : Shape := ⟨2, ![4, 1024]⟩
abbrev S8x1024 : Shape := ⟨2, ![8, 1024]⟩

abbrev nBuf : Space → Nat
  | .hbm => 173
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S1x1024, .f32⟩
  | 4 => ⟨S1x1024, .f32⟩
  | 5 => ⟨S1x1024, .f32⟩
  | 6 => ⟨S2048x1024, .f32⟩
  | 7 => ⟨S4096x1024, .f32⟩
  | 8 => ⟨S_, .f32⟩
  | 9 => ⟨S1x1024, .f32⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S4096x1024, .f32⟩
  | 22 => ⟨S4096x1024, .f32⟩
  | 23 => ⟨S4096x1024, .f32⟩
  | 24 => ⟨S4096x2x512, .f32⟩
  | 25 => ⟨S4096x2x512, .f32⟩
  | 26 => ⟨S_, .f32⟩
  | 27 => ⟨S4096x2, .f32⟩
  | 28 => ⟨S4096x2x1, .f32⟩
  | 29 => ⟨S_, .f32⟩
  | 30 => ⟨S4096x2x1, .f32⟩
  | 31 => ⟨S4096x2x1, .f32⟩
  | 32 => ⟨S_, .f32⟩
  | 33 => ⟨S4096x2x1, .f32⟩
  | 34 => ⟨S4096x2x1, .f32⟩
  | 35 => ⟨S4096x2x1, .f32⟩
  | 36 => ⟨S4096x2x1, .f32⟩
  | 37 => ⟨S_, .f32⟩
  | 38 => ⟨S4096x2x1, .f32⟩
  | 39 => ⟨S4096x2x1, .f32⟩
  | 40 => ⟨S4096x2x512, .f32⟩
  | 41 => ⟨S4096x2x512, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S_, .f32⟩
  | 48 => ⟨S4096, .f32⟩
  | 49 => ⟨S4096x1, .f32⟩
  | 50 => ⟨S_, .f32⟩
  | 51 => ⟨S4096x1, .f32⟩
  | 52 => ⟨S4096x1, .f32⟩
  | 53 => ⟨S4096x1024, .f32⟩
  | 54 => ⟨S4096x1024, .f32⟩
  | 55 => ⟨S4096x1024, .f32⟩
  | 56 => ⟨S_, .f32⟩
  | 57 => ⟨S4096, .f32⟩
  | 58 => ⟨S4096x1, .f32⟩
  | 59 => ⟨S_, .f32⟩
  | 60 => ⟨S4096x1, .f32⟩
  | 61 => ⟨S4096x1, .f32⟩
  | 62 => ⟨S_, .f32⟩
  | 63 => ⟨S4096x1, .f32⟩
  | 64 => ⟨S4096x1, .f32⟩
  | 65 => ⟨S4096x1, .f32⟩
  | 66 => ⟨S4096x1, .f32⟩
  | 67 => ⟨S_, .f32⟩
  | 68 => ⟨S4096x1, .f32⟩
  | 69 => ⟨S4096x1, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S4096x1024, .f32⟩
  | 77 => ⟨S4096x1024, .f32⟩
  | 78 => ⟨S_, .f32⟩
  | 79 => ⟨S4096x1024, .f32⟩
  | 80 => ⟨S4096x1024, .f32⟩
  | 81 => ⟨S_, .f32⟩
  | 82 => ⟨S4096x1024, .f32⟩
  | 83 => ⟨S4096x1024, .f32⟩
  | 84 => ⟨S_, .f32⟩
  | 85 => ⟨S4096x1024, .f32⟩
  | 86 => ⟨S4096x1024, .f32⟩
  | 87 => ⟨S4096x1024, .f32⟩
  | 88 => ⟨S4096x1024, .f32⟩
  | 89 => ⟨S4096x2048, .f32⟩
  | 90 => ⟨S4096x1024, .f32⟩
  | 91 => ⟨S4096x2048, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S4096x1024, .f32⟩
  | 98 => ⟨S_, .f32⟩
  | 99 => ⟨S1024, .f32⟩
  | 100 => ⟨S1x1024, .f32⟩
  | 101 => ⟨S4096x1024, .f32⟩
  | 102 => ⟨S_, .f32⟩
  | 103 => ⟨S1024, .f32⟩
  | 104 => ⟨S1x1024, .f32⟩
  | 105 => ⟨S4096x1024, .f32⟩
  | 106 => ⟨S4096x1024, .f32⟩
  | 107 => ⟨S4096x1024, .f32⟩
  | 108 => ⟨S_, .f32⟩
  | 109 => ⟨S4096, .f32⟩
  | 110 => ⟨S4096x1, .f32⟩
  | 111 => ⟨S4096x1024, .f32⟩
  | 112 => ⟨S4096x1024, .f32⟩
  | 113 => ⟨S4096x1, .f32⟩
  | 114 => ⟨S_, .f32⟩
  | 115 => ⟨S4096x1, .f32⟩
  | 116 => ⟨S4096x1, .f32⟩
  | 117 => ⟨S_, .f32⟩
  | 118 => ⟨S4096, .f32⟩
  | 119 => ⟨S4096x1024, .f32⟩
  | 120 => ⟨S4096x1024, .f32⟩
  | 121 => ⟨S4096x1024, .f32⟩
  | 122 => ⟨S4096x1024, .f32⟩
  | 123 => ⟨S4096x1024, .f32⟩
  | 124 => ⟨S4096x1024, .f32⟩
  | 125 => ⟨S_, .f32⟩
  | 126 => ⟨S4096, .f32⟩
  | 127 => ⟨S4096x1, .f32⟩
  | _ => ⟨S4096x1024, .f32⟩

abbrev hbmTy0_1 (i : Nat) : BufTy := match i % 128 with
  | 0 => ⟨S_, .f32⟩
  | 1 => ⟨S4096x1, .f32⟩
  | 2 => ⟨S4096x1, .f32⟩
  | 3 => ⟨S_, .f32⟩
  | 4 => ⟨S4096, .f32⟩
  | 5 => ⟨S4096x1024, .f32⟩
  | 6 => ⟨S4096x1024, .f32⟩
  | 7 => ⟨S_, .f32⟩
  | 8 => ⟨S1024, .f32⟩
  | 9 => ⟨S1x1024, .f32⟩
  | 10 => ⟨S4096x1024, .f32⟩
  | 11 => ⟨S_, .f32⟩
  | 12 => ⟨S1024, .f32⟩
  | 13 => ⟨S1x1024, .f32⟩
  | 14 => ⟨S4096x1024, .f32⟩
  | 15 => ⟨S4096x1024, .f32⟩
  | 16 => ⟨S4096x2x512, .f32⟩
  | 17 => ⟨S4096x2x512, .f32⟩
  | 18 => ⟨S_, .f32⟩
  | 19 => ⟨S4096x2, .f32⟩
  | 20 => ⟨S4096x2x1, .f32⟩
  | 21 => ⟨S4096x2x512, .f32⟩
  | 22 => ⟨S4096x2x512, .f32⟩
  | 23 => ⟨S4096x2x1, .f32⟩
  | 24 => ⟨S_, .f32⟩
  | 25 => ⟨S4096x2x1, .f32⟩
  | 26 => ⟨S4096x2x1, .f32⟩
  | 27 => ⟨S_, .f32⟩
  | 28 => ⟨S4096x2, .f32⟩
  | 29 => ⟨S4096x2x512, .f32⟩
  | 30 => ⟨S4096x2x512, .f32⟩
  | 31 => ⟨S4096x2x512, .f32⟩
  | 32 => ⟨S4096x2x512, .f32⟩
  | 33 => ⟨S4096x2x512, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S4096x1024, .bf16⟩
  | 42 => ⟨S_, .f32⟩
  | 43 => ⟨S4x1024, .f32⟩
  | 44 => ⟨S8x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v1_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v1_1 : Ref sig .tc := ⟨.hbm, 21, rfl⟩
abbrev main_v1_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_cst_1 : Ref sig .tc := ⟨.hbm, 29, rfl⟩
abbrev main_v7 : Ref sig .tc := ⟨.hbm, 30, rfl⟩
abbrev main_v8 : Ref sig .tc := ⟨.hbm, 31, rfl⟩
abbrev main_cst_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_3 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_4 : Ref sig .tc := ⟨.hbm, 47, rfl⟩
abbrev main_v22 : Ref sig .tc := ⟨.hbm, 48, rfl⟩
abbrev main_v23 : Ref sig .tc := ⟨.hbm, 49, rfl⟩
abbrev main_cst_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_6 : Ref sig .tc := ⟨.hbm, 56, rfl⟩
abbrev main_v29 : Ref sig .tc := ⟨.hbm, 57, rfl⟩
abbrev main_v30 : Ref sig .tc := ⟨.hbm, 58, rfl⟩
abbrev main_cst_7 : Ref sig .tc := ⟨.hbm, 59, rfl⟩
abbrev main_v31 : Ref sig .tc := ⟨.hbm, 60, rfl⟩
abbrev main_v32 : Ref sig .tc := ⟨.hbm, 61, rfl⟩
abbrev main_cst_8 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_9 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_v45_2 : Ref sig .tc := ⟨.hbm, 83, rfl⟩
abbrev main_call1_cst_1 : Ref sig .tc := ⟨.hbm, 84, rfl⟩
abbrev main_call1_v6 : Ref sig .tc := ⟨.hbm, 85, rfl⟩
abbrev main_call1_v7 : Ref sig .tc := ⟨.hbm, 86, rfl⟩
abbrev main_v45_1 : Ref sig .tc := ⟨.hbm, 87, rfl⟩
abbrev main_v45_0 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_v51 : Ref sig .tc := ⟨.hbm, 97, rfl⟩
abbrev main_cst_10 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_cst_11 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_cst_12 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_cst_13 : Ref sig .tc := ⟨.hbm, 114, rfl⟩
abbrev main_v65 : Ref sig .tc := ⟨.hbm, 115, rfl⟩
abbrev main_v66 : Ref sig .tc := ⟨.hbm, 116, rfl⟩
abbrev main_cst_14 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_cst_15 : Ref sig .tc := ⟨.hbm, 125, rfl⟩
abbrev main_v74 : Ref sig .tc := ⟨.hbm, 126, rfl⟩
abbrev main_v75 : Ref sig .tc := ⟨.hbm, 127, rfl⟩
abbrev main_cst_16 : Ref sig .tc := ⟨.hbm, 128, rfl⟩
abbrev main_v76 : Ref sig .tc := ⟨.hbm, 129, rfl⟩
abbrev main_v77 : Ref sig .tc := ⟨.hbm, 130, rfl⟩
abbrev main_cst_17 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_cst_18 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_cst_19 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_cst_20 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_21 : Ref sig .tc := ⟨.hbm, 152, rfl⟩
abbrev main_v95 : Ref sig .tc := ⟨.hbm, 153, rfl⟩
abbrev main_v96 : Ref sig .tc := ⟨.hbm, 154, rfl⟩
abbrev main_cst_22 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_call3_v0 : Ref sig .tc := ⟨.hbm, 165, rfl⟩
abbrev main_call3_v1 : Ref sig .tc := ⟨.hbm, 166, rfl⟩
abbrev main_call3_v2 : Ref sig .tc := ⟨.hbm, 167, rfl⟩
abbrev main_v106 : Ref sig .tc := ⟨.hbm, 168, rfl⟩
abbrev main_v107 : Ref sig .tc := ⟨.hbm, 169, rfl⟩
abbrev main_cst_23 : Ref sig .tc := ⟨.hbm, 170, rfl⟩
abbrev main_v108 : Ref sig .tc := ⟨.hbm, 171, rfl⟩
abbrev main_v109 : Ref sig .tc := ⟨.hbm, 172, rfl⟩

abbrev nD : Nat := 1
abbrev τ : Topo := Topo.v7x

variable {F : FTy → Type} [FloatOps F]
-- ==== Kernel6.lean ====
abbrev S4096x1024 : Shape := ⟨2, ![4096, 1024]⟩
abbrev S4096x256 : Shape := ⟨2, ![4096, 256]⟩
abbrev S1x1024 : Shape := ⟨2, ![1, 1024]⟩
abbrev S1024x1024 : Shape := ⟨2, ![1024, 1024]⟩
abbrev S256x1024 : Shape := ⟨2, ![256, 1024]⟩
abbrev S8x1024 : Shape := ⟨2, ![8, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 16
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x1024, .f32⟩
  | .hbm, ⟨3, _⟩ => ⟨S1x1024, .f32⟩
  | .hbm, ⟨4, _⟩ => ⟨S1024x1024, .f32⟩
  | .hbm, ⟨5, _⟩ => ⟨S1x1024, .f32⟩
  | .hbm, ⟨6, _⟩ => ⟨S256x1024, .f32⟩
  | .hbm, ⟨7, _⟩ => ⟨S1x1024, .f32⟩
  | .hbm, ⟨8, _⟩ => ⟨S1x1024, .f32⟩
  | .hbm, ⟨9, _⟩ => ⟨S1024x1024, .bf16⟩
  | .hbm, ⟨10, _⟩ => ⟨S256x1024, .bf16⟩
  | .hbm, ⟨11, _⟩ => ⟨S4096x1024, .f32⟩
  | .hbm, ⟨12, _⟩ => ⟨S4096x1024, .bf16⟩
  | .hbm, ⟨13, _⟩ => ⟨S1024x1024, .f32⟩
  | .hbm, ⟨14, _⟩ => ⟨S256x1024, .f32⟩
  | .hbm, ⟨15, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S256x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .f32⟩
  | .local _ .vmem, ⟨17, _⟩ => ⟨S256x1024, .f32⟩
  | .local _ .vmem, ⟨18, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v2_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference6Ideal.lean ====
abbrev S4096x1024 : Shape := ⟨2, ![4096, 1024]⟩
abbrev S4096x256 : Shape := ⟨2, ![4096, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1024x256 : Shape := ⟨2, ![1024, 256]⟩
abbrev S3x1024 : Shape := ⟨2, ![3, 1024]⟩
abbrev S8x1024 : Shape := ⟨2, ![8, 1024]⟩

abbrev nBuf : Space → Nat
  | .hbm => 193
  | .vmem => 0
  | .smem => 0
  | _ => 0

abbrev hbmTy0_0 (i : Nat) : BufTy := match i % 128 with
  | 0 => ⟨S4096x1024, .f32⟩
  | 1 => ⟨S4096x256, .f32⟩
  | 2 => ⟨S4096x1024, .f32⟩
  | 3 => ⟨S1x1024, .f32⟩
  | 4 => ⟨S1024x1024, .f32⟩
  | 5 => ⟨S1x1024, .f32⟩
  | 6 => ⟨S256x1024, .f32⟩
  | 7 => ⟨S1x1024, .f32⟩
  | 8 => ⟨S1x1024, .f32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S_, .f32⟩
  | 46 => ⟨S4096, .f32⟩
  | 47 => ⟨S4096x1, .f32⟩
  | 48 => ⟨S_, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S4096x1024, .f32⟩
  | 65 => ⟨S4096x1024, .f32⟩
  | 66 => ⟨S_, .f32⟩
  | 67 => ⟨S4096, .f32⟩
  | 68 => ⟨S4096x1, .f32⟩
  | 69 => ⟨S_, .f32⟩
  | 70 => ⟨S4096x1, .f32⟩
  | 71 => ⟨S4096x1, .f32⟩
  | 72 => ⟨S_, .f32⟩
  | 73 => ⟨S4096x1, .f32⟩
  | 74 => ⟨S4096x1, .f32⟩
  | 75 => ⟨S4096x1, .f32⟩
  | 76 => ⟨S4096x1, .f32⟩
  | 77 => ⟨S_, .f32⟩
  | 78 => ⟨S4096x1, .f32⟩
  | 79 => ⟨S4096x1, .f32⟩
  | 80 => ⟨S4096x1024, .f32⟩
  | 81 => ⟨S4096x1024, .f32⟩
  | 82 => ⟨S4096x1024, .f32⟩
  | 83 => ⟨S4096x1024, .f32⟩
  | 84 => ⟨S4096x1024, .f32⟩
  | 85 => ⟨S4096x1024, .f32⟩
  | 86 => ⟨S_, .f32⟩
  | 87 => ⟨S4096x1024, .f32⟩
  | 88 => ⟨S4096x1024, .f32⟩
  | 89 => ⟨S_, .f32⟩
  | 90 => ⟨S4096, .f32⟩
  | 91 => ⟨S_, .f32⟩
  | 92 => ⟨S4096, .f32⟩
  | 93 => ⟨S4096, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S4096, .f32⟩
  | 102 => ⟨S_, .f32⟩
  | 103 => ⟨S4096, .f32⟩
  | 104 => ⟨S4096, .f32⟩
  | 105 => ⟨S4096x1024, .f32⟩
  | 106 => ⟨S4096x1024, .f32⟩
  | 107 => ⟨S4096x1024, .f32⟩
  | 108 => ⟨S_, .f32⟩
  | 109 => ⟨S1024, .f32⟩
  | 110 => ⟨S1x1024, .f32⟩
  | 111 => ⟨S4096x1024, .f32⟩
  | 112 => ⟨S4096x1024, .f32⟩
  | 113 => ⟨S4096x1024, .f32⟩
  | 114 => ⟨S_, .f32⟩
  | 115 => ⟨S4096, .f32⟩
  | 116 => ⟨S4096x1, .f32⟩
  | 117 => ⟨S4096x1024, .f32⟩
  | 118 => ⟨S4096x1024, .f32⟩
  | 119 => ⟨S4096x1, .f32⟩
  | 120 => ⟨S_, .f32⟩
  | 121 => ⟨S4096x1, .f32⟩
  | 122 => ⟨S4096x1, .f32⟩
  | 123 => ⟨S_, .f32⟩
  | 124 => ⟨S4096, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S_, .f32⟩
  | 6 => ⟨S1024, .f32⟩
  | 7 => ⟨S1x1024, .f32⟩
  | 8 => ⟨S4096x1024, .f32⟩
  | 9 => ⟨S4096x1024, .f32⟩
  | 10 => ⟨S4096x1024, .f32⟩
  | 11 => ⟨S_, .f32⟩
  | 12 => ⟨S4096, .f32⟩
  | 13 => ⟨S4096x1, .f32⟩
  | 14 => ⟨S4096x1024, .f32⟩
  | 15 => ⟨S4096x1024, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096, .f32⟩
  | 22 => ⟨S4096x1024, .f32⟩
  | 23 => ⟨S4096x1024, .f32⟩
  | 24 => ⟨S4096x1024, .f32⟩
  | 25 => ⟨S4096x1024, .f32⟩
  | 26 => ⟨S4096x1024, .f32⟩
  | 27 => ⟨S1024x256, .f32⟩
  | 28 => ⟨S256x1024, .f32⟩
  | 29 => ⟨S4096x1024, .f32⟩
  | 30 => ⟨S_, .f32⟩
  | 31 => ⟨S1024, .f32⟩
  | 32 => ⟨S1x1024, .f32⟩
  | 33 => ⟨S1024x1024, .f32⟩
  | 34 => ⟨S1024x1024, .f32⟩
  | 35 => ⟨S4096x1024, .f32⟩
  | 36 => ⟨S4096x1024, .f32⟩
  | 37 => ⟨S_, .f32⟩
  | 38 => ⟨S1024, .f32⟩
  | 39 => ⟨S1x1024, .f32⟩
  | 40 => ⟨S4096x1024, .f32⟩
  | 41 => ⟨S4096x1024, .f32⟩
  | 42 => ⟨S4096x1024, .f32⟩
  | 43 => ⟨S_, .f32⟩
  | 44 => ⟨S4096, .f32⟩
  | 45 => ⟨S4096x1, .f32⟩
  | 46 => ⟨S4096x1024, .f32⟩
  | 47 => ⟨S4096x1024, .f32⟩
  | 48 => ⟨S4096x1024, .f32⟩
  | 49 => ⟨S4096x1, .f32⟩
  | 50 => ⟨S_, .f32⟩
  | 51 => ⟨S4096x1, .f32⟩
  | 52 => ⟨S4096x1, .f32⟩
  | 53 => ⟨S_, .f32⟩
  | 54 => ⟨S4096, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S1x1024, .f32⟩
  | 61 => ⟨S_, .f32⟩
  | 62 => ⟨S3x1024, .f32⟩
  | 63 => ⟨S8x1024, .f32⟩
  | 64 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_13 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_14 : Ref sig .tc := ⟨.hbm, 86, rfl⟩
abbrev main_v62 : Ref sig .tc := ⟨.hbm, 87, rfl⟩
abbrev main_v63 : Ref sig .tc := ⟨.hbm, 88, rfl⟩
abbrev main_cst_15 : Ref sig .tc := ⟨.hbm, 89, rfl⟩
abbrev main_v64 : Ref sig .tc := ⟨.hbm, 90, rfl⟩
abbrev main_cst_16 : Ref sig .tc := ⟨.hbm, 91, rfl⟩
abbrev main_v65 : Ref sig .tc := ⟨.hbm, 92, rfl⟩
abbrev main_v66 : Ref sig .tc := ⟨.hbm, 93, rfl⟩
abbrev main_cst_17 : Ref sig .tc := ⟨.hbm, 94, rfl⟩
abbrev main_v67 : Ref sig .tc := ⟨.hbm, 95, rfl⟩
abbrev main_cst_18 : Ref sig .tc := ⟨.hbm, 96, rfl⟩
abbrev main_v68 : Ref sig .tc := ⟨.hbm, 97, rfl⟩
abbrev main_cst_19 : Ref sig .tc := ⟨.hbm, 98, rfl⟩
abbrev main_cst_20 : Ref sig .tc := ⟨.hbm, 99, rfl⟩
abbrev main_v69 : Ref sig .tc := ⟨.hbm, 100, rfl⟩
abbrev main_v70 : Ref sig .tc := ⟨.hbm, 101, rfl⟩
abbrev main_cst_21 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_22 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_23 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_24 : Ref sig .tc := ⟨.hbm, 120, rfl⟩
abbrev main_v86 : Ref sig .tc := ⟨.hbm, 121, rfl⟩
abbrev main_v87 : Ref sig .tc := ⟨.hbm, 122, rfl⟩
abbrev main_cst_25 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_26 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_27 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_28 : Ref sig .tc := ⟨.hbm, 145, rfl⟩
abbrev main_v107 : Ref sig .tc := ⟨.hbm, 146, rfl⟩
abbrev main_v108 : Ref sig .tc := ⟨.hbm, 147, rfl⟩
abbrev main_cst_29 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_30 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_31 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_32 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_cst_33 : Ref sig .tc := ⟨.hbm, 178, rfl⟩
abbrev main_v135 : Ref sig .tc := ⟨.hbm, 179, rfl⟩
abbrev main_v136 : Ref sig .tc := ⟨.hbm, 180, rfl⟩
abbrev main_cst_34 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_cst_35 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩

abbrev nD : Nat := 1
abbrev τ : Topo := Topo.v7x

variable {F : FTy → Type} [FloatOps F]
-- ==== Kernel8.lean ====
abbrev S4096x1024 : Shape := ⟨2, ![4096, 1024]⟩
abbrev S1x1024 : Shape := ⟨2, ![1, 1024]⟩
abbrev S1024x4624 : Shape := ⟨2, ![1024, 4624]⟩
abbrev S4624x1024 : Shape := ⟨2, ![4624, 1024]⟩
abbrev S4096x1536 : Shape := ⟨2, ![4096, 1536]⟩
abbrev S4096x16 : Shape := ⟨2, ![4096, 16]⟩
abbrev S512x1024 : Shape := ⟨2, ![512, 1024]⟩
abbrev S512x1536 : Shape := ⟨2, ![512, 1536]⟩
abbrev S512x16 : Shape := ⟨2, ![512, 16]⟩
abbrev S512 : Shape := ⟨1, ![512]⟩
abbrev S512x1 : Shape := ⟨2, ![512, 1]⟩
abbrev S1024x1024 : Shape := ⟨2, ![1024, 1024]⟩
abbrev S1536x1024 : Shape := ⟨2, ![1536, 1024]⟩
abbrev S16x1024 : Shape := ⟨2, ![16, 1024]⟩

abbrev nBuf : Space → Nat
  | .hbm => 11
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4624, .f32⟩
  | .hbm, ⟨3, _⟩ => ⟨S4624x1024, .f32⟩
  | .hbm, ⟨4, _⟩ => ⟨S4624x1024, .bf16⟩
  | .hbm, ⟨5, _⟩ => ⟨S4096x1024, .bf16⟩
  | .hbm, ⟨6, _⟩ => ⟨S4096x1024, .f32⟩
  | .hbm, ⟨7, _⟩ => ⟨S4096x1536, .f32⟩
  | .hbm, ⟨8, _⟩ => ⟨S4096x16, .f32⟩
  | .hbm, ⟨9, _⟩ => ⟨S4096x1024, .f32⟩
  | .hbm, ⟨10, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4624x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1536, .f32⟩
  | .local _ .vmem, ⟨9, _⟩ => ⟨S512x1536, .f32⟩
  | .local _ .vmem, ⟨10, _⟩ => ⟨S512x16, .f32⟩
  | .local _ .vmem, ⟨11, _⟩ => ⟨S512x16, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4624x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S4096x1024 : Shape := ⟨2, ![4096, 1024]⟩
abbrev S1x1024 : Shape := ⟨2, ![1, 1024]⟩
abbrev S1024x4624 : Shape := ⟨2, ![1024, 4624]⟩
abbrev S_ : Shape := ⟨0, ![]⟩
abbrev S4096 : Shape := ⟨1, ![4096]⟩
abbrev S4096x1 : Shape := ⟨2, ![4096, 1]⟩
abbrev S4096x4624 : Shape := ⟨2, ![4096, 4624]⟩
abbrev S4096x1536 : Shape := ⟨2, ![4096, 1536]⟩
abbrev S4096x16 : Shape := ⟨2, ![4096, 16]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4624, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x4624, .f32⟩
  | .hbm, ⟨19, _⟩ => ⟨S4096x1024, .bf16⟩
  | .hbm, ⟨20, _⟩ => ⟨S4096x1024, .f32⟩
  | .hbm, ⟨21, _⟩ => ⟨S4096x1536, .f32⟩
  | .hbm, ⟨22, _⟩ => ⟨S4096x16, .f32⟩
  | .hbm, ⟨23, _⟩ => ⟨S4096x1024, .f32⟩
  | .hbm, ⟨24, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel9.lean ====
abbrev S4096x1024 : Shape := ⟨2, ![4096, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S4096x4096 : Shape := ⟨2, ![4096, 4096]⟩
abbrev S512x1024 : Shape := ⟨2, ![512, 1024]⟩
abbrev S512x4096 : Shape := ⟨2, ![512, 4096]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .bf16⟩
  | .hbm, ⟨3, _⟩ => ⟨S1024x4096, .bf16⟩
  | .hbm, ⟨4, _⟩ => ⟨S1024x8x512, .bf16⟩
  | .hbm, ⟨5, _⟩ => ⟨S8x1024x512, .bf16⟩
  | .hbm, ⟨6, _⟩ => ⟨S4096x4096, .bf16⟩
  | .hbm, ⟨7, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S8x1024x512, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x4096, .f32⟩
  | .hbm, ⟨8, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x1024 : Shape := ⟨2, ![4096, 1024]⟩
abbrev S1x1024 : Shape := ⟨2, ![1, 1024]⟩
abbrev S2048x1024 : Shape := ⟨2, ![2048, 1024]⟩
abbrev S4096x2048 : Shape := ⟨2, ![4096, 2048]⟩
abbrev S512x1024 : Shape := ⟨2, ![512, 1024]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1024x1024 : Shape := ⟨2, ![1024, 1024]⟩

abbrev nBuf : Space → Nat
  | .hbm => 13
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S1x1024, .f32⟩
  | .hbm, ⟨9, _⟩ => ⟨S2048x1024, .bf16⟩
  | .hbm, ⟨10, _⟩ => ⟨S4096x2048, .bf16⟩
  | .hbm, ⟨11, _⟩ => ⟨S4096x1024, .f32⟩
  | .hbm, ⟨12, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S2048x1024, .bf16⟩
  | .local _ .vmem, ⟨12, _⟩ => ⟨S1x1024, .f32⟩
  | .local _ .vmem, ⟨13, _⟩ => ⟨S512x2048, .bf16⟩
  | .local _ .vmem, ⟨14, _⟩ => ⟨S512x2048, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference10Ideal.lean ====
abbrev S4096x1024 : Shape := ⟨2, ![4096, 1024]⟩
abbrev S1x1024 : Shape := ⟨2, ![1, 1024]⟩
abbrev S2048x1024 : Shape := ⟨2, ![2048, 1024]⟩
abbrev S_ : Shape := ⟨0, ![]⟩
abbrev S4096x2x512 : Shape := ⟨3, ![4096, 2, 512]⟩
abbrev S4096x2 : Shape := ⟨2, ![4096, 2]⟩
abbrev S4096x2x1 : Shape := ⟨3, ![4096, 2, 1]⟩
abbrev S4096 : Shape := ⟨1, ![4096]⟩
abbrev S4096x1 : Shape := ⟨2, ![4096, 1]⟩
abbrev S4096x2048 : Shape := ⟨2, ![4096, 2048]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x2x512, .f32⟩
  | .hbm, ⟨20, _⟩ => ⟨S4096x2x512, .f32⟩
  | .hbm, ⟨21, _⟩ => ⟨S_, .f32⟩
  | .hbm, ⟨22, _⟩ => ⟨S4096x2, .f32⟩
  | .hbm, ⟨23, _⟩ => ⟨S4096x2x1, .f32⟩
  | .hbm, ⟨24, _⟩ => ⟨S_, .f32⟩
  | .hbm, ⟨25, _⟩ => ⟨S4096x2x1, .f32⟩
  | .hbm, ⟨26, _⟩ => ⟨S4096x2x1, .f32⟩
  | .hbm, ⟨27, _⟩ => ⟨S_, .f32⟩
  | .hbm, ⟨28, _⟩ => ⟨S4096x2x1, .f32⟩
  | .hbm, ⟨29, _⟩ => ⟨S4096x2x1, .f32⟩
  | .hbm, ⟨30, _⟩ => ⟨S4096x2x1, .f32⟩
  | .hbm, ⟨31, _⟩ => ⟨S4096x2x512, .f32⟩
  | .hbm, ⟨32, _⟩ => ⟨S4096x2x512, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x2048, .f32⟩
  | .hbm, ⟨71, _⟩ => ⟨S4096x1024, .f32⟩
  | .hbm, ⟨72, _⟩ => ⟨S4096x1024, .f32⟩
  | .hbm, ⟨73, _⟩ => ⟨S4096x2048, .bf16⟩
  | .hbm, ⟨74, _⟩ => ⟨S4096x1024, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S4096x1, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_4 : Ref sig .tc := ⟨.hbm, 45, rfl⟩
abbrev main_v23 : Ref sig .tc := ⟨.hbm, 46, rfl⟩
abbrev main_v24 : Ref sig .tc := ⟨.hbm, 47, rfl⟩
abbrev main_cst_5 : Ref sig .tc := ⟨.hbm, 48, rfl⟩
abbrev main_v25 : Ref sig .tc := ⟨.hbm, 49, rfl⟩
abbrev main_v26 : Ref sig .tc := ⟨.hbm, 50, rfl⟩
abbrev main_cst_6 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_7 : Ref sig .tc := ⟨.hbm, 75, rfl⟩
abbrev main_v42 : Ref sig .tc := ⟨.hbm, 76, rfl⟩
abbrev main_v43 : Ref sig .tc := ⟨.hbm, 77, rfl⟩
abbrev main_cst_8 : Ref sig .tc := ⟨.hbm, 78, rfl⟩
abbrev main_v44 : Ref sig .tc := ⟨.hbm, 79, rfl⟩
abbrev main_v45 : Ref sig .tc := ⟨.hbm, 80, rfl⟩
abbrev main_cst_9 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩

abbrev nD : Nat := 1
abbrev τ : Topo := Topo.v7x

variable {F : FTy → Type} [FloatOps F]
-- ==== Kernel11.lean ====
abbrev S4096x1536 : Shape := ⟨2, ![4096, 1536]⟩
abbrev S4096x16 : Shape := ⟨2, ![4096, 16]⟩
abbrev S4x1536 : Shape := ⟨2, ![4, 1536]⟩
abbrev S1x1536 : Shape := ⟨2, ![1, 1536]⟩
abbrev S1x16 : Shape := ⟨2, ![1, 16]⟩
abbrev S_ : Shape := ⟨0, ![]⟩
abbrev S8x1536 : Shape := ⟨2, ![8, 1536]⟩
abbrev S512x1536 : Shape := ⟨2, ![512, 1536]⟩
abbrev S512x16 : Shape := ⟨2, ![512, 16]⟩
abbrev S520x1536 : Shape := ⟨2, ![520, 1536]⟩
abbrev S1x512 : Shape := ⟨2, ![1, 512]⟩
abbrev S16x512 : Shape := ⟨2, ![16, 512]⟩

abbrev nBuf : Space → Nat
  | .hbm => 10
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S4096x16, .f32⟩
  | .hbm, ⟨2, _⟩ => ⟨S4x1536, .f32⟩
  | .hbm, ⟨3, _⟩ => ⟨S1x1536, .f32⟩
  | .hbm, ⟨4, _⟩ => ⟨S1x16, .f32⟩
  | .hbm, ⟨5, _⟩ => ⟨S_, .i32⟩
  | .hbm, ⟨6, _⟩ => ⟨S_, .f32⟩
  | .hbm, ⟨7, _⟩ => ⟨S8x1536, .f32⟩
  | .hbm, ⟨8, _⟩ => ⟨S4096x1536, .f32⟩
  | .hbm, ⟨9, _⟩ => ⟨S4096x16, .f32⟩
  | .local _ .vmem, ⟨0, _⟩ => ⟨S512x1536, .f32⟩
  | .local _ .vmem, ⟨1, _⟩ => ⟨S512x1536, .f32⟩
  | .local _ .vmem, ⟨2, _⟩ => ⟨S8x1536, .f32⟩
  | .local _ .vmem, ⟨3, _⟩ => ⟨S8x1536, .f32⟩
  | .local _ .vmem, ⟨4, _⟩ => ⟨S512x16, .f32⟩
  | .local _ .vmem, ⟨5, _⟩ => ⟨S512x16, .f32⟩
  | .local _ .vmem, ⟨6, _⟩ => ⟨S8x1536, .f32⟩
  | .local _ .vmem, ⟨7, _⟩ => ⟨S1x1536, .f32⟩
  | .local _ .vmem, ⟨8, _⟩ => ⟨S1x16, .f32⟩
  | .local _ .vmem, ⟨9, _⟩ => ⟨S512x1536, .f32⟩
  | .local _ .vmem, ⟨10, _⟩ => ⟨S512x1536, .f32⟩
  | .local _ .vmem, ⟨11, _⟩ => ⟨S512x16, .f32⟩
  | .local _ .vmem, ⟨12, _⟩ => ⟨S512x16, .f32⟩
  | .local _ .vmem, ⟨13, _⟩ => ⟨S520x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S4096x1536 : Shape := ⟨2, ![4096, 1536]⟩
abbrev S4096x16 : Shape := ⟨2, ![4096, 16]⟩
abbrev S4x1536 : Shape := ⟨2, ![4, 1536]⟩
abbrev S1x1536 : Shape := ⟨2, ![1, 1536]⟩
abbrev S1x16 : Shape := ⟨2, ![1, 16]⟩
abbrev S_ : Shape := ⟨0, ![]⟩
abbrev S4099x1536 : Shape := ⟨2, ![4099, 1536]⟩
abbrev S1536 : Shape := ⟨1, ![1536]⟩

abbrev nBuf : Space → Nat
  | .hbm => 62
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x16, .f32⟩
  | .hbm, ⟨2, _⟩ => ⟨S4x1536, .f32⟩
  | .hbm, ⟨3, _⟩ => ⟨S1x1536, .f32⟩
  | .hbm, ⟨4, _⟩ => ⟨S1x16, .f32⟩
  | .hbm, ⟨5, _⟩ => ⟨S_, .i32⟩
  | .hbm, ⟨6, _⟩ => ⟨S_, .f32⟩
  | .hbm, ⟨7, _⟩ => ⟨S4099x1536, .f32⟩
  | .hbm, ⟨8, _⟩ => ⟨S4096x1536, .f32⟩
  | .hbm, ⟨9, _⟩ => ⟨S1x1536, .f32⟩
  | .hbm, ⟨10, _⟩ => ⟨S1536, .f32⟩
  | .hbm, ⟨11, _⟩ => ⟨S1x1536, .f32⟩
  | .hbm, ⟨12, _⟩ => ⟨S4096x1536, .f32⟩
  | .hbm, ⟨13, _⟩ => ⟨S4096x1536, .f32⟩
  | .hbm, ⟨14, _⟩ => ⟨S4096x1536, .f32⟩
  | .hbm, ⟨15, _⟩ => ⟨S1x1536, .f32⟩
  | .hbm, ⟨16, _⟩ => ⟨S1536, .f32⟩
  | .hbm, ⟨17, _⟩ => ⟨S1x1536, .f32⟩
  | .hbm, ⟨18, _⟩ => ⟨S4096x1536, .f32⟩
  | .hbm, ⟨19, _⟩ => ⟨S4096x1536, .f32⟩
  | .hbm, ⟨20, _⟩ => ⟨S4096x1536, .f32⟩
  | .hbm, ⟨21, _⟩ => ⟨S4096x1536, .f32⟩
  | .hbm, ⟨22, _⟩ => ⟨S1x1536, .f32⟩
  | .hbm, ⟨23, _⟩ => ⟨S1536, .f32⟩
  | .hbm, ⟨24, _⟩ => ⟨S1x1536, .f32⟩
  | .hbm, ⟨25, _⟩ => ⟨S4096x1536, .f32⟩
  | .hbm, ⟨26, _⟩ => ⟨S4096x1536, .f32⟩
  | .hbm, ⟨27, _⟩ => ⟨S4096x1536, .f32⟩
  | .hbm, ⟨28, _⟩ => ⟨S4096x1536, .f32⟩
  | .hbm, ⟨29, _⟩ => ⟨S1x1536, .f32⟩
  | .hbm, ⟨30, _⟩ => ⟨S1536, .f32⟩
  | .hbm, ⟨31, _⟩ => ⟨S1x1536, .f32⟩
  | .hbm, ⟨32, _⟩ => ⟨S4096x1536, .f32⟩
  | .hbm, ⟨33, _⟩ => ⟨S4096x1536, .f32⟩
  | .hbm, ⟨34, _⟩ => ⟨S4096x1536, .f32⟩
  | .hbm, ⟨35, _⟩ => ⟨S4096x1536, .f32⟩
  | .hbm, ⟨36, _⟩ => ⟨S4096x1536, .f32⟩
  | .hbm, ⟨37, _⟩ => ⟨S4096x1536, .f32⟩
  | .hbm, ⟨38, _⟩ => ⟨S4096x1536, .f32⟩
  | .hbm, ⟨39, _⟩ => ⟨S_, .f32⟩
  | .hbm, ⟨40, _⟩ => ⟨S4096x1536, .f32⟩
  | .hbm, ⟨41, _⟩ => ⟨S4096x1536, .f32⟩
  | .hbm, ⟨42, _⟩ => ⟨S_, .f32⟩
  | .hbm, ⟨43, _⟩ => ⟨S4096x1536, .f32⟩
  | .hbm, ⟨44, _⟩ => ⟨S4096x1536, .f32⟩
  | .hbm, ⟨45, _⟩ => ⟨S4096x1536, .f32⟩
  | .hbm, ⟨46, _⟩ => ⟨S4096x16, .f32⟩
  | .hbm, ⟨47, _⟩ => ⟨S4096x16, .f32⟩
  | .hbm, ⟨48, _⟩ => ⟨S_, .f32⟩
  | .hbm, ⟨49, _⟩ => ⟨S4096x16, .f32⟩
  | .hbm, ⟨50, _⟩ => ⟨S4096x16, .f32⟩
  | .hbm, ⟨51, _⟩ => ⟨S4096x16, .f32⟩
  | .hbm, ⟨52, _⟩ => ⟨S4096x16, .f32⟩
  | .hbm, ⟨53, _⟩ => ⟨S4096x16, .i1⟩
  | .hbm, ⟨54, _⟩ => ⟨S4096x16, .f32⟩
  | .hbm, ⟨55, _⟩ => ⟨S4096x16, .f32⟩
  | .hbm, ⟨56, _⟩ => ⟨S4096x16, .f32⟩
  | .hbm, ⟨57, _⟩ => ⟨S4096x16, .f32⟩
  | .hbm, ⟨58, _⟩ => ⟨S4096x16, .f32⟩
  | .hbm, ⟨59, _⟩ => ⟨S4096x16, .f32⟩
  | .hbm, ⟨60, _⟩ => ⟨S4096x16, .f32⟩
  | .hbm, ⟨61, _⟩ => ⟨S4096x16, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call2_cst : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_v33 : Ref sig .tc := ⟨.hbm, 61, rfl⟩

abbrev nD : Nat := 1
abbrev τ : Topo := Topo.v7x

variable {F : FTy → Type} [FloatOps F]
-- ==== Kernel12.lean ====
abbrev S4096x1024 : Shape := ⟨2, ![4096, 1024]⟩
abbrev S4096x4096 : Shape := ⟨2, ![4096, 4096]⟩
abbrev S512x1024 : Shape := ⟨2, ![512, 1024]⟩
abbrev S512x4096 : Shape := ⟨2, ![512, 4096]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .f32⟩
  | .hbm, ⟨3, _⟩ => ⟨S4096x4096, .f32⟩
  | .hbm, ⟨4, _⟩ => ⟨S4096x4096, .bf16⟩
  | .hbm, ⟨5, _⟩ => ⟨S4096x1024, .bf16⟩
  | .hbm, ⟨6, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S4096x1024 : Shape := ⟨2, ![4096, 1024]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .f32⟩
  | .hbm, ⟨3, _⟩ => ⟨S4096x4096, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S4096x1024 : Shape := ⟨2, ![4096, 1024]⟩
abbrev S1024x4096 : Shape := ⟨2, ![1024, 4096]⟩
abbrev S4096x4096 : Shape := ⟨2, ![4096, 4096]⟩
abbrev S8x1024x512 : Shape := ⟨3, ![8, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x1024, .bf16⟩
  | .hbm, ⟨4, _⟩ => ⟨S4096x4096, .bf16⟩
  | .hbm, ⟨5, _⟩ => ⟨S8x1024x512, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference13Ideal.lean ====
abbrev S4096x1024 : Shape := ⟨2, ![4096, 1024]⟩
abbrev S1024x4096 : Shape := ⟨2, ![1024, 4096]⟩
abbrev S4096x4096 : Shape := ⟨2, ![4096, 4096]⟩
abbrev S1024x8x512 : Shape := ⟨3, ![1024, 8, 512]⟩
abbrev S8x1024x512 : Shape := ⟨3, ![8, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x4096, .f32⟩
  | .hbm, ⟨3, _⟩ => ⟨S4096x4096, .f32⟩
  | .hbm, ⟨4, _⟩ => ⟨S4096x1024, .f32⟩
  | .hbm, ⟨5, _⟩ => ⟨S1024x4096, .f32⟩
  | .hbm, ⟨6, _⟩ => ⟨S1024x8x512, .f32⟩
  | .hbm, ⟨7, _⟩ => ⟨S8x1024x512, .f32⟩
  | .hbm, ⟨8, _⟩ => ⟨S8x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S4x192 : Shape := ⟨2, ![4, 192]⟩
abbrev S31x128 : Shape := ⟨2, ![31, 128]⟩

abbrev nBuf : Space → Nat
  | .hbm => 14
  | .vmem => 14
  | .smem => 0
  | _ => 0

abbrev bufTy : (tb : Table) → Fin (tcTables nBuf tb) → BufTy
  | .hbm, ⟨0, _⟩ => ⟨S4x192, .f32⟩
  | .hbm, ⟨1, _⟩ => ⟨S31x128, .f32⟩
  | .hbm, ⟨2, _⟩ => ⟨S4x192, .f32⟩
  | .hbm, ⟨3, _⟩ => ⟨S31x128, .f32⟩
  | .hbm, ⟨4, _⟩ => ⟨S4x192, .f32⟩
  | .hbm, ⟨5, _⟩ => ⟨S31x128, .f32⟩
  | .hbm, ⟨6, _⟩ => ⟨S4x192, .f32⟩
  | .hbm, ⟨7, _⟩ => ⟨S31x128, .f32⟩
  | .hbm, ⟨8, _⟩ => ⟨S4x192, .f32⟩
  | .hbm, ⟨9, _⟩ => ⟨S4x192, .f32⟩
  | .hbm, ⟨10, _⟩ => ⟨S4x192, .f32⟩
  | .hbm, ⟨11, _⟩ => ⟨S31x128, .f32⟩
  | .hbm, ⟨12, _⟩ => ⟨S31x128, .f32⟩
  | .hbm, ⟨13, _⟩ => ⟨S31x128, .f32⟩
  | .local _ .vmem, ⟨0, _⟩ => ⟨S4x192, .f32⟩
  | .local _ .vmem, ⟨1, _⟩ => ⟨S4x192, .f32⟩
  | .local _ .vmem, ⟨2, _⟩ => ⟨S4x192, .f32⟩
  | .local _ .vmem, ⟨3, _⟩ => ⟨S4x192, .f32⟩
  | .local _ .vmem, ⟨4, _⟩ => ⟨S31x128, .f32⟩
  | .local _ .vmem, ⟨5, _⟩ => ⟨S31x128, .f32⟩
  | .local _ .vmem, ⟨6, _⟩ => ⟨S31x128, .f32⟩
  | .local _ .vmem, ⟨7, _⟩ => ⟨S31x128, .f32⟩
  | .local _ .vmem, ⟨8, _⟩ => ⟨S4x192, .f32⟩
  | .local _ .vmem, ⟨9, _⟩ => ⟨S4x192, .f32⟩
  | .local _ .vmem, ⟨10, _⟩ => ⟨S4x192, .f32⟩
  | .local _ .vmem, ⟨11, _⟩ => ⟨S31x128, .f32⟩
  | .local _ .vmem, ⟨12, _⟩ => ⟨S31x128, .f32⟩
  | .local _ .vmem, ⟨13, _⟩ => ⟨S31x128, .f32⟩
  | _, _ => ⟨S4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S4x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S31x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S31x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S31x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S31x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S31x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference14Ideal.lean ====
abbrev S4x192 : Shape := ⟨2, ![4, 192]⟩
abbrev S31x128 : Shape := ⟨2, ![31, 128]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S4x192, .f32⟩
  | .hbm, ⟨1, _⟩ => ⟨S31x128, .f32⟩
  | .hbm, ⟨2, _⟩ => ⟨S4x192, .f32⟩
  | .hbm, ⟨3, _⟩ => ⟨S31x128, .f32⟩
  | .hbm, ⟨4, _⟩ => ⟨S4x192, .f32⟩
  | .hbm, ⟨5, _⟩ => ⟨S31x128, .f32⟩
  | .hbm, ⟨6, _⟩ => ⟨S4x192, .f32⟩
  | .hbm, ⟨7, _⟩ => ⟨S31x128, .f32⟩
  | .hbm, ⟨8, _⟩ => ⟨S_, .f32⟩
  | .hbm, ⟨9, _⟩ => ⟨S4x192, .f32⟩
  | .hbm, ⟨10, _⟩ => ⟨S4x192, .f32⟩
  | .hbm, ⟨11, _⟩ => ⟨S_, .f32⟩
  | .hbm, ⟨12, _⟩ => ⟨S4x192, .f32⟩
  | .hbm, ⟨13, _⟩ => ⟨S4x192, .f32⟩
  | .hbm, ⟨14, _⟩ => ⟨S4x192, .f32⟩
  | .hbm, ⟨15, _⟩ => ⟨S_, .f32⟩
  | .hbm, ⟨16, _⟩ => ⟨S4x192, .f32⟩
  | .hbm, ⟨17, _⟩ => ⟨S4x192, .f32⟩
  | .hbm, ⟨18, _⟩ => ⟨S4x192, .f32⟩
  | .hbm, ⟨19, _⟩ => ⟨S_, .f32⟩
  | .hbm, ⟨20, _⟩ => ⟨S4x192, .f32⟩
  | .hbm, ⟨21, _⟩ => ⟨S4x192, .f32⟩
  | .hbm, ⟨22, _⟩ => ⟨S4x192, .f32⟩
  | .hbm, ⟨23, _⟩ => ⟨S_, .f32⟩
  | .hbm, ⟨24, _⟩ => ⟨S4x192, .f32⟩
  | .hbm, ⟨25, _⟩ => ⟨S4x192, .f32⟩
  | .hbm, ⟨26, _⟩ => ⟨S_, .f32⟩
  | .hbm, ⟨27, _⟩ => ⟨S4x192, .f32⟩
  | .hbm, ⟨28, _⟩ => ⟨S4x192, .f32⟩
  | .hbm, ⟨29, _⟩ => ⟨S4x192, .f32⟩
  | .hbm, ⟨30, _⟩ => ⟨S_, .f32⟩
  | .hbm, ⟨31, _⟩ => ⟨S4x192, .f32⟩
  | .hbm, ⟨32, _⟩ => ⟨S4x192, .f32⟩
  | .hbm, ⟨33, _⟩ => ⟨S4x192, .f32⟩
  | .hbm, ⟨34, _⟩ => ⟨S_, .f32⟩
  | .hbm, ⟨35, _⟩ => ⟨S4x192, .f32⟩
  | .hbm, ⟨36, _⟩ => ⟨S4x192, .f32⟩
  | .hbm, ⟨37, _⟩ => ⟨S4x192, .f32⟩
  | .hbm, ⟨38, _⟩ => ⟨S_, .f32⟩
  | .hbm, ⟨39, _⟩ => ⟨S4x192, .f32⟩
  | .hbm, ⟨40, _⟩ => ⟨S4x192, .f32⟩
  | .hbm, ⟨41, _⟩ => ⟨S_, .f32⟩
  | .hbm, ⟨42, _⟩ => ⟨S31x128, .f32⟩
  | .hbm, ⟨43, _⟩ => ⟨S31x128, .f32⟩
  | .hbm, ⟨44, _⟩ => ⟨S_, .f32⟩
  | .hbm, ⟨45, _⟩ => ⟨S31x128, .f32⟩
  | .hbm, ⟨46, _⟩ => ⟨S31x128, .f32⟩
  | .hbm, ⟨47, _⟩ => ⟨S31x128, .f32⟩
  | .hbm, ⟨48, _⟩ => ⟨S_, .f32⟩
  | .hbm, ⟨49, _⟩ => ⟨S31x128, .f32⟩
  | .hbm, ⟨50, _⟩ => ⟨S31x128, .f32⟩
  | .hbm, ⟨51, _⟩ => ⟨S31x128, .f32⟩
  | .hbm, ⟨52, _⟩ => ⟨S_, .f32⟩
  | .hbm, ⟨53, _⟩ => ⟨S31x128, .f32⟩
  | .hbm, ⟨54, _⟩ => ⟨S31x128, .f32⟩
  | .hbm, ⟨55, _⟩ => ⟨S31x128, .f32⟩
  | .hbm, ⟨56, _⟩ => ⟨S_, .f32⟩
  | .hbm, ⟨57, _⟩ => ⟨S31x128, .f32⟩
  | .hbm, ⟨58, _⟩ => ⟨S31x128, .f32⟩
  | .hbm, ⟨59, _⟩ => ⟨S_, .f32⟩
  | .hbm, ⟨60, _⟩ => ⟨S31x128, .f32⟩
  | .hbm, ⟨61, _⟩ => ⟨S31x128, .f32⟩
  | .hbm, ⟨62, _⟩ => ⟨S31x128, .f32⟩
  | .hbm, ⟨63, _⟩ => ⟨S_, .f32⟩
  | .hbm, ⟨64, _⟩ => ⟨S31x128, .f32⟩
  | .hbm, ⟨65, _⟩ => ⟨S31x128, .f32⟩
  | .hbm, ⟨66, _⟩ => ⟨S31x128, .f32⟩
  | .hbm, ⟨67, _⟩ => ⟨S_, .f32⟩
  | .hbm, ⟨68, _⟩ => ⟨S31x128, .f32⟩
  | .hbm, ⟨69, _⟩ => ⟨S31x128, .f32⟩
  | .hbm, ⟨70, _⟩ => ⟨S31x128, .f32⟩
  | .hbm, ⟨71, _⟩ => ⟨S_, .f32⟩
  | .hbm, ⟨72, _⟩ => ⟨S31x128, .f32⟩
  | .hbm, ⟨73, _⟩ => ⟨S31x128, .f32⟩
  | _, _ => ⟨S4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Proof.Conv4Block.lean ====
/- One grid step of the four-tap convolution's data gradient: whatever block of the extended rows a store covers, the
   value stored at a row is the four-term sum over the taps of the rows at and after it. -/
module

public import proofs.«01_k».proof.Proof.Gen.KernelIdeal.Value
public import Idealize.ShloMosaic.Lib.Pipeline.ValueKit
public import Idealize.ShloMosaic.Lib.WholeRead

@[expose] public section

set_option maxRecDepth 16384

noncomputable section

namespace Cert.Conv4

open Cert.KernelIdeal Cert.KernelIdeal.Gen Idealize.ShloMosaic Idealize.ShloMosaic.TcCoe Idealize.SL.Sem

variable {F : FTy → Type} [FloatOps F]

/-- The four-tap sum at row `r`, lane `c`: tap `k` meets the row `3 - k` later. -/
def taps (W : S8x1536.Idx → F .f32) (E : S520x1536.Idx → F .f32) (y : S512x1536.Idx) : F .bf16 :=
  have h : (y 0).val < 512 := (y 0).isLt
  FloatOps.truncf .bf16 bitsLt_bf16_f32
    (FloatOps.addf (FloatOps.addf (FloatOps.addf
      (FloatOps.mulf (W (ix2 0 (y 1))) (E (ix2 ⟨(y 0).val + 3, by omega⟩ (y 1))))
      (FloatOps.mulf (W (ix2 1 (y 1))) (E (ix2 ⟨(y 0).val + 2, by omega⟩ (y 1)))))
      (FloatOps.mulf (W (ix2 2 (y 1))) (E (ix2 ⟨(y 0).val + 1, by omega⟩ (y 1)))))
      (FloatOps.mulf (W (ix2 3 (y 1))) (E (ix2 ⟨(y 0).val, by omega⟩ (y 1)))))

/-- A weight row spread over sixteen rows, at an index. -/
theorem spread (w : Vec F S1x512 .f32) (x : S16x512.Idx) :
    broadcastTo S16x512 (shapeCast S1x512 w shapeCasts_S1x512_S1x512) broadcasts_S1x512_S16x512 x = w (ix2 0 (x 1)) := by
  rw [shapeCast_self]
  refine broadcastTo_apply _ _ x _ fun a => ?_
  fin_cases a <;> rfl

/-- The stored arithmetic at an index. -/
theorem pay_apply (w0 w1 w2 w3 : Vec F S1x512 .f32) (e0 e1 e2 e3 : Vec F S16x512 .f32) (x : S16x512.Idx) :
    k0_pay181 w0 e0 w1 e1 w2 e2 w3 e3 x = FloatOps.truncf .bf16 bitsLt_bf16_f32
      (FloatOps.addf (FloatOps.addf (FloatOps.addf (FloatOps.mulf (w0 (ix2 0 (x 1))) (e0 x))
        (FloatOps.mulf (w1 (ix2 0 (x 1))) (e1 x))) (FloatOps.mulf (w2 (ix2 0 (x 1))) (e2 x)))
        (FloatOps.mulf (w3 (ix2 0 (x 1))) (e3 x))) := by
  rw [← spread w0, ← spread w1, ← spread w2, ← spread w3]
  rfl

/-- A load of sixteen rows of the extended block, at an index. -/
theorem rows (v : View sig .tc .vmem S520x1536 .f32) (L : List (View.Piece (Elt F) S520x1536 .f32)) (r c : ℕ)
    (h : ∀ a, (![r, c] : Fin 2 → ℕ) a + (![16, 512] : Fin 2 → ℕ) a ≤ S520x1536.size a) (x : S16x512.Idx)
    (y : S520x1536.Idx) (h0 : (y 0).val = r + (x 0).val) (h1 : (y 1).val = c + (x 1).val) :
    v.readCov L (Rect.unit (s := S520x1536) ![r, c] ![16, 512] h).toLoadRect x = View.canon L y := by
  rw [View.readCov_eq_canon']
  refine congrArg (View.canon L) (funext fun a => Fin.ext ?_)
  fin_cases a
  · exact (congrArg (r + ·) (Nat.one_mul _)).trans h0.symm
  · exact (congrArg (c + ·) (Nat.one_mul _)).trans h1.symm

/-- A load of 512 lanes of a weight row, at an index. -/
theorem lanes {m : Memref sig .tc .vmem S8x1536 .f32} (hm : m.IsWhole) (W : Vec F S8x1536 .f32) (k c : ℕ)
    (h : ∀ a, (![k, c] : Fin 2 → ℕ) a + (![1, 512] : Fin 2 → ℕ) a ≤ S8x1536.size a) (x : S1x512.Idx)
    (y : S8x1536.Idx) (h0 : (y 0).val = k) (h1 : (y 1).val = c + (x 1).val) :
    View.readAt (Elt F) m.view (Rect.unit (s := S8x1536) ![k, c] ![1, 512] h).toLoadRect (hm.unread W) x = W y := by
  rw [hm.readAt_unread]
  refine congrArg W (funext fun a => Fin.ext ?_)
  fin_cases a
  · refine Eq.trans ?_ h0.symm
    have : (x 0).val < 1 := (x 0).isLt
    show k + 1 * (x 0).val = k
    omega
  · exact (congrArg (c + ·) (Nat.one_mul _)).trans h1.symm

/-- One store: the sixteen rows from `r` and the 512 lanes from `c` hold the four-tap sums. -/
theorem store {m : Memref sig .tc .vmem S8x1536 .f32} (hm : m.IsWhole) (W : Vec F S8x1536 .f32)
    (v : View sig .tc .vmem S520x1536 .f32) (L : List (View.Piece (Elt F) S520x1536 .f32)) (E : Vec F S520x1536 .f32)
    (hL : View.canon L = E) (r c : ℕ)
    (h : ∀ a, (![r, c] : Fin 2 → ℕ) a + (![16, 512] : Fin 2 → ℕ) a ≤ S512x1536.size a)
    (k0 : ∀ a, (![0, c] : Fin 2 → ℕ) a + (![1, 512] : Fin 2 → ℕ) a ≤ S8x1536.size a)
    (k1 : ∀ a, (![1, c] : Fin 2 → ℕ) a + (![1, 512] : Fin 2 → ℕ) a ≤ S8x1536.size a)
    (k2 : ∀ a, (![2, c] : Fin 2 → ℕ) a + (![1, 512] : Fin 2 → ℕ) a ≤ S8x1536.size a)
    (k3 : ∀ a, (![3, c] : Fin 2 → ℕ) a + (![1, 512] : Fin 2 → ℕ) a ≤ S8x1536.size a)
    (e0 : ∀ a, (![r + 3, c] : Fin 2 → ℕ) a + (![16, 512] : Fin 2 → ℕ) a ≤ S520x1536.size a)
    (e1 : ∀ a, (![r + 2, c] : Fin 2 → ℕ) a + (![16, 512] : Fin 2 → ℕ) a ≤ S520x1536.size a)
    (e2 : ∀ a, (![r + 1, c] : Fin 2 → ℕ) a + (![16, 512] : Fin 2 → ℕ) a ≤ S520x1536.size a)
    (e3 : ∀ a, (![r, c] : Fin 2 → ℕ) a + (![16, 512] : Fin 2 → ℕ) a ≤ S520x1536.size a) (x : S16x512.Idx) :
    k0_pay181
      (View.readAt (Elt F) m.view (Rect.unit (s := S8x1536) ![0, c] ![1, 512] k0).toLoadRect (hm.unread W))
      (v.readCov L (Rect.unit (s := S520x1536) ![r + 3, c] ![16, 512] e0).toLoadRect)
      (View.readAt (Elt F) m.view (Rect.unit (s := S8x1536) ![1, c] ![1, 512] k1).toLoadRect (hm.unread W))
      (v.readCov L (Rect.unit (s := S520x1536) ![r + 2, c] ![16, 512] e1).toLoadRect)
      (View.readAt (Elt F) m.view (Rect.unit (s := S8x1536) ![2, c] ![1, 512] k2).toLoadRect (hm.unread W))
      (v.readCov L (Rect.unit (s := S520x1536) ![r + 1, c] ![16, 512] e2).toLoadRect)
      (View.readAt (Elt F) m.view (Rect.unit (s := S8x1536) ![3, c] ![1, 512] k3).toLoadRect (hm.unread W))
      (v.readCov L (Rect.unit (s := S520x1536) ![r, c] ![16, 512] e3).toLoadRect) x
    = taps W E ((Rect.unit (s := S512x1536) ![r, c] ![16, 512] h).emb x) := by
  subst hL
  have hr : ((Rect.unit (s := S512x1536) ![r, c] ![16, 512] h).emb x 0).val = r + (x 0).val :=
    congrArg (r + ·) (Nat.one_mul _)
  have hc : ((Rect.unit (s := S512x1536) ![r, c] ![16, 512] h).emb x 1).val = c + (x 1).val :=
    congrArg (c + ·) (Nat.one_mul _)
  generalize (Rect.unit (s := S512x1536) ![r, c] ![16, 512] h).emb x = y at hr hc
  rw [pay_apply]
  unfold taps
  refine congrArg _ (congrArg₂ _ (congrArg₂ _ (congrArg₂ _ (congrArg₂ _ ?_ ?_) (congrArg₂ _ ?_ ?_)) (congrArg₂ _ ?_ ?_))
    (congrArg₂ _ ?_ ?_))
  · exact lanes hm W 0 c k0 _ _ rfl hc
  · exact rows v L (r + 3) c e0 x _ (by show (y 0).val + 3 = _; omega) hc
  · exact lanes hm W 1 c k1 _ _ rfl hc
  · exact rows v L (r + 2) c e1 x _ (by show (y 0).val + 2 = _; omega) hc
  · exact lanes hm W 2 c k2 _ _ rfl hc
  · exact rows v L (r + 1) c e2 x _ (by show (y 0).val + 1 = _; omega) hc
  · exact lanes hm W 3 c k3 _ _ rfl hc
  · exact rows v L r c e3 x _ (by show (y 0).val = _; omega) hc

/-- The extended block: the 512 rows of this step, then the eight rows after them, or zeros at the last step. -/
def ext (i : grid0.Coords) (x0 : Vec F S512x1536 .f32) (x1 : Vec F S8x1536 .f32) (y : S520x1536.Idx) : F .f32 :=
  if h : (y 0).val < 512 then x0 (ix2 ⟨(y 0).val, h⟩ (y 1))
  else if (i 0).val = 7 then FloatOps.ofBits .f32 0x00000000#32
  else x1 (ix2 ⟨(y 0).val - 512, by have : (y 0).val < 520 := (y 0).isLt; omega⟩ (y 1))

/-- The two stores into the scratch leave the extended block. -/
theorem canon_ext (i : grid0.Coords) (x0 : Vec F S512x1536 .f32) (x1 : Vec F S8x1536 .f32)
    (h : ∀ a, (![512, 0] : Fin 2 → ℕ) a + S8x1536.size a ≤ S520x1536.size a)
    (h' : ∀ a, (![0, 0] : Fin 2 → ℕ) a + S512x1536.size a ≤ S520x1536.size a) (y : S520x1536.Idx) :
    View.canon (Val := Elt F) (e := .f32) [⟨Rect.unit (s := S520x1536) ![512, 0] S8x1536.size h, k0_pay3 i x1⟩,
      ⟨Rect.unit (s := S520x1536) ![0, 0] S512x1536.size h', k0_pay2 x0⟩] y = ext i x0 x1 y := by
  have hy0 : (y 0).val < 520 := (y 0).isLt
  have hy1 : (y 1).val < 1536 := (y 1).isLt
  refine View.canon_apply_of_pieces (Val := Elt F) (e := .f32) (ext i x0 x1) _ ?_ y ?_
  · intro p hp
    simp only [List.mem_cons, List.not_mem_nil, or_false] at hp
    rcases hp with rfl | rfl
    · intro x
      have hx : (x 0).val < 8 := (x 0).isLt
      have e0 : ((Rect.unit (s := S520x1536) ![512, 0] S8x1536.size h).emb x 0).val = 512 + (x 0).val :=
        congrArg (512 + ·) (Nat.one_mul _)
      have e1 : ((Rect.unit (s := S520x1536) ![512, 0] S8x1536.size h).emb x 1).val = (x 1).val :=
        (congrArg (0 + ·) (Nat.one_mul _)).trans (Nat.zero_add _)
      show k0_pay3 i x1 x = ext i x0 x1 ((Rect.unit (s := S520x1536) ![512, 0] S8x1536.size h).emb x)
      generalize (Rect.unit (s := S520x1536) ![512, 0] S8x1536.size h).emb x = z at e0 e1
      unfold k0_pay3 ext
      dsimp only
      rw [shapeCast_self, dif_neg (by omega)]
      have hi : (i 0).val < 8 := (i 0).isLt
      by_cases h7 : (i 0).val = 7
      · rw [if_pos h7, h7]; rfl
      · have : Scalar.cmpi .eq (BitVec.ofNat 32 (i 0).val) 7#32 = 0#1 := by
          generalize (i 0).val = n at hi h7
          revert h7
          revert n
          decide
        rw [if_neg h7, this]
        show x1 x = _
        refine congrArg x1 (funext fun a => Fin.ext ?_)
        fin_cases a
        · show (x 0).val = (z 0).val - 512; omega
        · exact e1.symm
    · intro x
      have hx : (x 0).val < 512 := (x 0).isLt
      have e0 : ((Rect.unit (s := S520x1536) ![0, 0] S512x1536.size h').emb x 0).val = (x 0).val :=
        (congrArg (0 + ·) (Nat.one_mul _)).trans (Nat.zero_add _)
      have e1 : ((Rect.unit (s := S520x1536) ![0, 0] S512x1536.size h').emb x 1).val = (x 1).val :=
        (congrArg (0 + ·) (Nat.one_mul _)).trans (Nat.zero_add _)
      show k0_pay2 x0 x = ext i x0 x1 ((Rect.unit (s := S520x1536) ![0, 0] S512x1536.size h').emb x)
      generalize (Rect.unit (s := S520x1536) ![0, 0] S512x1536.size h').emb x = z at e0 e1
      unfold k0_pay2 ext
      dsimp only
      rw [shapeCast_self, dif_pos (by omega)]
      refine congrArg x0 (funext fun a => Fin.ext ?_)
      fin_cases a
      · exact e0.symm
      · exact e1.symm
  · by_cases hlt : (y 0).val < 512
    · refine ⟨_, List.mem_cons_of_mem _ List.mem_cons_self, (Rect.mem_set_unit (s := S520x1536) (inb := h')).2 fun a => ?_⟩
      fin_cases a
      · exact ⟨Nat.zero_le _, by show (y 0).val < 0 + 512; omega⟩
      · exact ⟨Nat.zero_le _, by show (y 1).val < 0 + 1536; omega⟩
    · refine ⟨_, List.mem_cons_self, (Rect.mem_set_unit (s := S520x1536) (inb := h)).2 fun a => ?_⟩
      fin_cases a
      · exact ⟨by show 512 ≤ (y 0).val; omega, by show (y 0).val < 512 + 8; omega⟩
      · exact ⟨Nat.zero_le _, by show (y 1).val < 0 + 1536; omega⟩

/-- A load of a whole block is its contents. -/
theorem whole {S : Shape} {m : Memref sig .tc .vmem S .f32} (hm : m.IsWhole) (X : Vec F S .f32) (off : Fin S.rank → ℕ)
    (h0 : ∀ a, off a = 0) (h : ∀ a, off a + S.size a ≤ S.size a) :
    View.readAt (Elt F) m.view (Rect.unit (s := S) off S.size h).toLoadRect (hm.unread X) = X := by
  funext x
  rw [Memref.IsWhole.readAt_unread]
  refine congrArg X (funext fun a => Fin.ext ?_)
  show off a + 1 * (x a).val = (x a).val
  rw [h0 a]
  omega

/-- The same with the loads the two stores take their values from written out. -/
theorem canon_loads (i : grid0.Coords) {m0 : Memref sig .tc .vmem S512x1536 .f32} (hm0 : m0.IsWhole)
    {m1 : Memref sig .tc .vmem S8x1536 .f32} (hm1 : m1.IsWhole) (x0 : Vec F S512x1536 .f32) (x1 : Vec F S8x1536 .f32)
    (h : ∀ a, (![512, 0] : Fin 2 → ℕ) a + S8x1536.size a ≤ S520x1536.size a)
    (h' : ∀ a, (![0, 0] : Fin 2 → ℕ) a + S512x1536.size a ≤ S520x1536.size a)
    (g0 : ∀ a, (![0, 0] : Fin 2 → ℕ) a + S512x1536.size a ≤ S512x1536.size a)
    (g1 : ∀ a, (![0, 0] : Fin 2 → ℕ) a + S8x1536.size a ≤ S8x1536.size a) :
    View.canon (Val := Elt F) (e := .f32) [⟨Rect.unit (s := S520x1536) ![512, 0] S8x1536.size h,
        k0_pay3 i (View.readAt (Elt F) m1.view (Rect.unit (s := S8x1536) ![0, 0] S8x1536.size g1).toLoadRect (hm1.unread x1))⟩,
      ⟨Rect.unit (s := S520x1536) ![0, 0] S512x1536.size h',
        k0_pay2 (View.readAt (Elt F) m0.view (Rect.unit (s := S512x1536) ![0, 0] S512x1536.size g0).toLoadRect (hm0.unread x0))⟩]
      = ext i x0 x1 := by
  rw [whole hm1 x1 ![0, 0] (fun a => by fin_cases a <;> rfl) g1, whole hm0 x0 ![0, 0] (fun a => by fin_cases a <;> rfl) g0]
  exact funext fun z => canon_ext i x0 x1 h h' z

end Cert.Conv4

end
-- ==== Proof.Conv4Point.lean ====
/- What one grid step of the four-tap convolution's data gradient leaves in its output block: the four-tap sums of the
   extended block, at every one of its 96 stores. -/
module

public import proofs.«01_k».proof.Proof.Conv4Block

@[expose] public section

set_option pp.maxSteps 200
set_option maxRecDepth 16384

noncomputable section

namespace Cert.Conv4

open Cert.KernelIdeal Cert.KernelIdeal.Gen Idealize.ShloMosaic Idealize.ShloMosaic.TcCoe Idealize.SL.Sem

variable {F : FTy → Type} [FloatOps F]

/-- Two facts, one for the newest store and one for the earlier ones, make the fact for all of them. -/
theorem PiecesOf.cons {G : S512x1536.Idx → F .bf16} {p : View.Piece (Elt F) S512x1536 .bf16}
    {L : List (View.Piece (Elt F) S512x1536 .bf16)} (h : ∀ x, p.2 x = G (p.1.emb x))
    (hL : ∀ q ∈ L, ∀ x : q.1.shape.Idx, q.2 x = G (q.1.emb x)) :
    ∀ q ∈ p :: L, ∀ x : q.1.shape.Idx, q.2 x = G (q.1.emb x) :=
  List.forall_mem_cons.2 ⟨h, hL⟩

set_option maxHeartbeats 4000000 in
/-- The output block after a step. -/
theorem block (c : Dev nD) (i : grid0.Coords) (arg1 : Memref sig .tc .vmem S512x1536 .f32) (harg1 : arg1.IsWhole)
    (arg2 : Memref sig .tc .vmem S8x1536 .f32) (harg2 : arg2.IsWhole) (arg3 : Memref sig .tc .vmem S8x1536 .f32)
    (harg3 : arg3.IsWhole) (arg4 : Memref sig .tc .vmem S512x1536 .bf16) (harg4 : arg4.IsWhole)
    (arg5 : Memref sig .tc .vmem S520x1536 .f32) (harg5 : arg5.IsWhole)
    (x0 : Vec F S512x1536 .f32) (x1 : Vec F S8x1536 .f32) (x2 : Vec F S8x1536 .f32) (y : S512x1536.Idx) :
    out0_A_3 c i arg1 harg1 arg2 harg2 arg3 harg3 arg4 harg4 arg5 harg5 x0 x1 x2 y = taps x2 (ext i x0 x1) y := by
  have hc := cover0_A_3 c i arg1 harg1 arg2 harg2 arg3 harg3 arg4 harg4 arg5 harg5 x0 x1 x2 y
  unfold out0_A_3
  rw [View.read_writes_junk_eq_canon]
  refine View.canon_apply_of_pieces (Val := Elt F) (e := .bf16) (taps x2 (ext i x0 x1)) _ ?_ y hc
  clear hc
  unfold kernelRun0_A
  sl_unfold_run_names
  dsimp only
  iterate 96
    refine PiecesOf.cons (fun x => store harg3 x2 arg5.view _ _ (canon_loads i harg1 harg2 x0 x1 (by decide) (by decide) (by decide) (by decide)) _ _ (by decide) (by decide) (by decide) (by decide) (by decide) (by decide) (by decide) (by decide) (by decide) x) ?_
  exact fun _ hq => absurd hq List.not_mem_nil

end Cert.Conv4

end
-- ==== Proof.Conv4Value.lean ====
/- The array that the four-tap convolution's data gradient leaves, as one function of the arguments: at row `t` the sum over
   the taps `k` of weight `k` times the cotangent's row `t + 3 - k`, rows past the end being zero. -/
module

public import proofs.«01_k».proof.Proof.Conv4Point
public import Idealize.ShloMosaic.Lib.KernelVsHost

@[expose] public section

set_option maxRecDepth 16384

noncomputable section

namespace Cert.Conv4

open Cert.KernelIdeal Cert.KernelIdeal.Gen Idealize.ShloMosaic Idealize.ShloMosaic.TcCoe Idealize.SL.Sem

/-- Row `s`, lane `l` of the cotangent; zero past the last row. -/
def row (d : S4096x1536.Idx → EReal) (s : ℕ) (l : Fin 1536) : EReal := if h : s < 4096 then d (ix2 ⟨s, h⟩ l) else 0

/-- The gradient with respect to the convolution's input. -/
def conv (w : S4x1536.Idx → EReal) (d : S4096x1536.Idx → EReal) (y : S4096x1536.Idx) : EReal :=
  w (ix2 0 (y 1)) * row d ((y 0).val + 3) (y 1) + w (ix2 1 (y 1)) * row d ((y 0).val + 2) (y 1)
    + w (ix2 2 (y 1)) * row d ((y 0).val + 1) (y 1) + w (ix2 3 (y 1)) * row d (y 0).val (y 1)

theorem coord : ∀ t : Fin cfg0.N, (grid0.coords t 0).val = t.val := (by decide +kernel : ∀ t : Fin grid0.N, _)
theorem idx0 : ∀ t : Fin cfg0.N, win0_0.index t = ![t.val, 0] := (by decide +kernel : ∀ t : Fin grid0.N, _)
theorem idx1 : ∀ t : Fin cfg0.N, win0_1.index t = ![min ((t.val + 1) * 64) 511, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

variable (m : (ℓ : Loc nD τ sig) → Buf (Elt Ideal) ℓ) (c : Dev nD)

/-- The extended block of a step holds the cotangent's rows from the step's first on. -/
theorem ext_row (t : Fin cfg0.N) (r : Fin 520) (l : Fin 1536) :
    ext (F := Ideal) (grid0.coords t) (iblk m c 0 t) (iblk m c 1 t) (ix2 r l)
      = row (m ((c : Thread nD τ).loc main_arg2)) (t.val * 512 + r.val) l := by
  have ht : t.val < 8 := t.isLt
  unfold ext row
  by_cases h : r.val < 512
  · refine (dif_pos (h : ((ix2 r l : S520x1536.Idx) 0).val < 512)).trans (Eq.trans ?_ (dif_pos (by omega)).symm)
    blk_simp [iblk, V_main_arg2]
    refine congrArg _ ?_
    blk_ext [idx0 t]
  · refine (dif_neg (h : ¬ ((ix2 r l : S520x1536.Idx) 0).val < 512)).trans ?_
    by_cases h7 : t.val = 7
    · refine (if_pos ((coord t).trans h7)).trans (Eq.trans ?_ (dif_neg (by omega)).symm)
      exact Ideal.ofBits_zero _
    · refine (if_neg (fun e => h7 ((coord t).symm.trans e))).trans (Eq.trans ?_ (dif_pos (by omega)).symm)
      blk_simp [iblk, V_main_arg2]
      refine congrArg _ ?_
      blk_ext [idx1 t]

/-- The padded weights' first four rows are the weights. -/
theorem weight (t : Fin cfg0.N) (k : Fin 4) (l : Fin 1536) :
    iblk (F := Ideal) m c 2 t (ix2 (n0 := 8) ⟨k.val, by omega⟩ l) = m ((c : Thread nD τ).loc main_arg1) (ix2 k l) := by
  have e : V m c main_v0 = pad S8x1536 ![0, 0] ![4, 0] ![0, 0] (m ((c : Thread nD τ).loc main_arg1))
      (sitofp (F := Ideal) .f32 (constantI S_ 32 0#32)) pads_S4x1536_S8x1536_040_000 h_S_ := by
    unfold V
    simp only [hostOps0, hostOps0_1, List.flatten_cons, List.flatten_nil, List.append_nil, List.cons_append, List.nil_append]
    entry_read
    rfl
  show V m c main_v0 ((win0_2.blk t).view.emb _) = _
  rw [e]
  refine pad_apply_of_inside _ ![4, 0] _ _ _ pads_S4x1536_S8x1536_040_000 _ _ (ix2 k l) fun a => ?_
  fin_cases a
  · show ((win0_2.blk t).view.emb (ix2 (n0 := 8) (n1 := 1536) ⟨k.val, by omega⟩ l) 0).val = 0 + k.val * (0 + 1)
    blk_simp [idx2 t]
  · show ((win0_2.blk t).view.emb (ix2 (n0 := 8) (n1 := 1536) ⟨k.val, by omega⟩ l) 1).val = 0 + l.val * (0 + 1)
    blk_simp [idx2 t]

/-- The array after the run. -/
theorem final : (dats m 0 c).arrAt 3 cfg0.N = conv (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  rw [block]
  have h0 : ((win0_3.blk t).view.emb y 0).val = t.val * 512 + (y 0).val := by blk_simp [idx3 t]
  have h1 : (win0_3.blk t).view.emb y 1 = y 1 := Fin.ext (by blk_simp [idx3 t])
  have hy : (y 0).val < 512 := (y 0).isLt
  generalize (win0_3.blk t).view.emb y = z at h0 h1
  unfold taps conv
  rw [h0, h1]
  refine congrArg₂ (fun a b : EReal => a + b) (congrArg₂ (fun a b : EReal => a + b) (congrArg₂ (fun a b : EReal => a + b)
    (congrArg₂ (fun a b : EReal => a * b) ?_ ?_) (congrArg₂ (fun a b : EReal => a * b) ?_ ?_))
    (congrArg₂ (fun a b : EReal => a * b) ?_ ?_)) (congrArg₂ (fun a b : EReal => a * b) ?_ ?_)
  · exact weight m c t 0 (y 1)
  · exact ext_row m c t ⟨(y 0).val + 3, by omega⟩ (y 1)
  · exact weight m c t 1 (y 1)
  · exact ext_row m c t ⟨(y 0).val + 2, by omega⟩ (y 1)
  · exact weight m c t 2 (y 1)
  · exact ext_row m c t ⟨(y 0).val + 1, by omega⟩ (y 1)
  · exact weight m c t 3 (y 1)
  · exact ext_row m c t ⟨(y 0).val, by omega⟩ (y 1)

end Cert.Conv4

end
-- ==== Proof.Conv4Ref.lean ====
/- The reference's gradient: the derivative's four padded products, added up and read three rows on, are the same sum over
   the taps. -/
module

public import proofs.«01_k».proof.Proof.Gen.ReferenceIdeal.Read
public import proofs.«01_k».proof.Proof.Conv4Value

@[expose] public section

set_option maxRecDepth 16384

noncomputable section

namespace Cert.Conv4

open Cert.ReferenceIdeal Cert.ReferenceIdeal.Read Idealize.ShloMosaic Idealize.ShloMosaic.TcCoe Idealize.SL.Sem

/-- A product padded by `k` rows before and `3 - k` after, read three rows on: the row `3 - k` later, or zero. -/
theorem padded (k : ℕ) (hk : k ≤ 3) (w : EReal) (x d : S4096x1536.Idx → EReal) (v : S_.Idx → EReal) (hv : ∀ i, v i = 0)
    (h : S4096x1536.Pads ![k, 0] ![3 - k, 0] ![0, 0] ⟨2, ![4099, 1536]⟩) (hu : 0 < S_.numel)
    (y : S4096x1536.Idx) (j : (⟨2, ![4099, 1536]⟩ : Shape).Idx) (h0 : (j 0).val = 3 + (y 0).val) (h1 : (j 1).val = (y 1).val)
    (hx : ∀ z : S4096x1536.Idx, z 1 = y 1 → x z = w * d z) :
    pad (⟨2, ![4099, 1536]⟩ : Shape) ![k, 0] ![3 - k, 0] ![0, 0] x v h hu j = w * row d ((y 0).val + (3 - k)) (y 1) := by
  have hj : (j 0).val < 4099 := (j 0).isLt
  unfold row
  by_cases hs : (y 0).val + (3 - k) < 4096
  · rw [dif_pos hs, ← hx (ix2 ⟨(y 0).val + (3 - k), hs⟩ (y 1)) rfl]
    refine pad_apply_of_inside _ _ _ _ _ _ _ _ _ fun a => ?_
    fin_cases a
    · show (j 0).val = k + ((y 0).val + (3 - k)) * (0 + 1); omega
    · show (j 1).val = 0 + (y 1).val * (0 + 1); omega
  · rw [dif_neg hs, mul_zero]
    refine (pad_apply_of_not_inside _ _ _ _ _ _ _ _ 0 ?_).trans (hv _)
    show ¬ (k ≤ (j 0).val ∧ ((j 0).val - k) % (0 + 1) = 0 ∧ ((j 0).val - k) / (0 + 1) < 4096)
    rw [Nat.div_one]
    omega

theorem val_main_v24_self (d : (⟨S4096x1536, .f32⟩ : BufTy).Contents (Elt Ideal)) : val_main_v24 (F := Ideal) d = d :=
  shapeCast_self _ _
theorem val_main_v25_self (d : (⟨S4096x1536, .f32⟩ : BufTy).Contents (Elt Ideal)) : val_main_v25 (F := Ideal) d = d :=
  shapeCast_self _ _

/-- The reference's result. -/
theorem ref_eq (w : (⟨S4x1536, .f32⟩ : BufTy).Contents (Elt Ideal)) (d : (⟨S4096x1536, .f32⟩ : BufTy).Contents (Elt Ideal)) :
    val_main_v43 (F := Ideal) w d = conv w d := by
  funext y
  rw [val_main_v43_apply, val_main_v42_apply, val_main_v40_apply, val_main_v36_apply, val_main_v32_apply]
  unfold val_main_v28 val_main_v31 val_main_v35 val_main_v39 conv
  refine (congrArg₂ (fun a b : EReal => a + b) (congrArg₂ (fun a b : EReal => a + b) (congrArg₂ (fun a b : EReal => a + b)
    (padded 3 le_rfl (w (ix2 3 (y 1))) _ d _ ?_ _ _ y _ rfl rfl ?_)
    (padded 2 (by omega) (w (ix2 2 (y 1))) _ d _ ?_ _ _ y _ rfl rfl ?_))
    (padded 1 (by omega) (w (ix2 1 (y 1))) _ d _ ?_ _ _ y _ rfl rfl ?_))
    (padded 0 (by omega) (w (ix2 0 (y 1))) _ d _ ?_ _ _ y _ rfl rfl ?_)).trans ?_
  · intro i; exact (val_main_cst_2_apply i).trans (Ideal.ofBits_zero FTy.f32)
  · intro z hz
    rw [val_main_v27_apply, val_main_v26_apply, val_main_v19_apply]
    refine congrArg₂ (fun a b : EReal => a * b) (congrArg w (funext fun a => ?_)) (congrFun (val_main_v25_self d) z)
    fin_cases a
    · rfl
    · exact hz
  · intro i; exact (val_main_cst_3_apply i).trans (Ideal.ofBits_zero FTy.f32)
  · intro z hz
    rw [val_main_v30_apply, val_main_v29_apply, val_main_v14_apply]
    refine congrArg₂ (fun a b : EReal => a * b) (congrArg w (funext fun a => ?_)) (congrFun (val_main_v24_self d) z)
    fin_cases a
    · rfl
    · exact hz
  · intro i; exact (val_main_cst_4_apply i).trans (Ideal.ofBits_zero FTy.f32)
  · intro z hz
    rw [val_main_v34_apply, val_main_v33_apply, val_main_v9_apply]
    refine congrArg₂ (fun a b : EReal => a * b) (congrArg w (funext fun a => ?_)) (congrFun (val_main_v24_self d) z)
    fin_cases a
    · rfl
    · exact hz
  · intro i; exact (val_main_cst_5_apply i).trans (Ideal.ofBits_zero FTy.f32)
  · intro z hz
    rw [val_main_v38_apply, val_main_v37_apply, val_main_v3_apply]
    refine congrArg₂ (fun a b : EReal => a * b) (congrArg w (funext fun a => ?_)) (congrFun (val_main_v24_self d) z)
    fin_cases a
    · rfl
    · exact hz
  · show w (ix2 3 (y 1)) * row d (y 0).val (y 1) + w (ix2 2 (y 1)) * row d ((y 0).val + 1) (y 1)
        + w (ix2 1 (y 1)) * row d ((y 0).val + 2) (y 1) + w (ix2 0 (y 1)) * row d ((y 0).val + 3) (y 1) = _
    ac_rfl

end Cert.Conv4

end
-- ==== Proof.Conv4.lean ====
/- The four-tap convolution's data gradient: kernel and reference end with the same array. -/
module

public import proofs.«01_k».proof.Defs
public import proofs.«01_k».proof.Proof.Gen.ReferenceIdeal.Run
public import proofs.«01_k».proof.Proof.Conv4Ref

@[expose] public section

noncomputable section

namespace Cert.Conv4

open Idealize.ShloMosaic Idealize.ShloMosaic.TcCoe Idealize.SL.Sem

theorem algebraic : Cert.algebraic_KernelIdeal_ReferenceIdeal (hKernelIdeal := Cert.KernelIdeal.Gen.facts)
    (hReferenceIdeal := Cert.ReferenceIdeal.Gen.facts) := by
  intro m ρ m' ρ' _ hag
  refine ⟨fun c => (Cert.KernelIdeal.Gen.dats m 0 c).arrAt 3 Cert.KernelIdeal.cfg0.N, Cert.KernelIdeal.Value.run_blocks m ρ,
    (θ_run _ _ _).mono (fun _ h c => ⟨(h c).1.trans ?_, (h c).2⟩) (Cert.ReferenceIdeal.Value.run m' ρ')⟩
  rw [(hag c).2.1, (hag c).2.2, Cert.ReferenceIdeal.Read.val_main_v43_eq, ref_eq]
  exact (final m c).symm

end Cert.Conv4

end
-- ==== Proof.ScanConst.lean ====
/- The constant matrices of the scan's body, read at an index: the causal mask, the 0/1 triangles, the 0/1 matrix spreading
   heads over channels, the two half masks. -/
module

public import proofs.«01_k».proof.Proof.Gen.Kernel2Ideal.Skeleton
public import Idealize.ShloMosaic.Lib.Pointwise

@[expose] public section

set_option maxRecDepth 16384

noncomputable section

namespace Cert.Scan

open Cert.Kernel2Ideal Cert.Kernel2Ideal.Gen Idealize.ShloMosaic Idealize.SL.Sem

theorem word_sle (a b : ℕ) (ha : a < 1024) (hb : b < 1024) : (BitVec.ofNat 32 a).sle (BitVec.ofNat 32 b) = decide (a ≤ b) := by
  rw [BitVec.sle_eq_decide, BitVec.toInt_ofNat', BitVec.toInt_ofNat']
  congr 1
  simp only [Int.bmod_def, eq_iff_iff]
  omega

theorem word_slt (a b : ℕ) (ha : a < 1024) (hb : b < 1024) : (BitVec.ofNat 32 a).slt (BitVec.ofNat 32 b) = decide (a < b) := by
  rw [BitVec.slt_eq_decide, BitVec.toInt_ofNat', BitVec.toInt_ofNat']
  congr 1
  simp only [Int.bmod_def, eq_iff_iff]
  omega

/-- A bit widened to a word and converted to a float is 1 or 0. -/
theorem bit_float (b : Bool) :
    FloatOps.sitofp (F := Ideal) FTy.f32 (BitVec.setWidth 32 (BitVec.ofBool b)) = if b then (1 : EReal) else 0 := by
  cases b
  · show (((0 : ℤ) : ℝ) : EReal) = _
    norm_num
  · show (((1 : ℤ) : ℝ) : EReal) = _
    norm_num

theorem causal_at (l s : Fin 128) : k0_pay3 (ix2 l s) = BitVec.ofBool (decide (s ≤ l)) := by
  pointwise [k0_pay3]
  unfold IntOp.cmpi
  exact congrArg _ (word_sle _ _ (by omega) (by omega))

theorem tril_at (l s : Fin 128) : k0_pay4 (F := Ideal) (ix2 l s) = if s ≤ l then (1 : EReal) else 0 := by
  pointwise [k0_pay4]
  rw [causal_at, bit_float]
  simp

theorem triu_at (s l : Fin 128) : k0_pay5 (F := Ideal) (ix2 s l) = if s ≤ l then (1 : EReal) else 0 := by
  pointwise [k0_pay5]
  unfold IntOp.cmpi
  rw [bit_float]
  simp only [word_sle s.val l.val (by omega) (by omega)]
  simp

theorem expand_at (h : Fin 16) (j : Fin 1024) :
    k0_pay6 (F := Ideal) (ix2 h j) = if j.val / 64 = h.val then (1 : EReal) else 0 := by
  pointwise [k0_pay6]
  unfold IntOp.cmpi
  rw [bit_float]
  have e : IntOp.shrui ArithUnit.vector (BitVec.ofNat 32 j.val) 6#32 = BitVec.ofNat 32 (j.val / 64) := by
    unfold IntOp.shrui
    rw [if_pos (by decide)]
    apply BitVec.eq_of_toNat_eq
    simp only [BitVec.ushiftRight_eq', BitVec.toNat_ushiftRight, BitVec.toNat_ofNat, Nat.shiftRight_eq_div_pow]
    rw [Nat.mod_eq_of_lt (show j.val < 2 ^ 32 by omega), Nat.mod_eq_of_lt (show j.val / 64 < 2 ^ 32 by omega)]
  have k : (BitVec.ofNat 32 (j.val / 64) == BitVec.ofNat 32 h.val) = decide (j.val / 64 = h.val) := by
    rw [Bool.eq_iff_iff, beq_iff_eq, decide_eq_true_iff, ← BitVec.toNat_inj, BitVec.toNat_ofNat, BitVec.toNat_ofNat]
    omega
  simp only [e, k]
  simp

theorem m0_at (r : Fin 128) : k0_pay7 (F := Ideal) (ix2 0 r) = if r.val < 64 then (1 : EReal) else 0 := by
  pointwise [k0_pay7]
  unfold IntOp.cmpi
  rw [bit_float]
  have e := word_slt r.val 64 (by omega) (by omega)
  simp only [e]
  simp

theorem m1_at (r : Fin 128) : k0_pay8 (F := Ideal) (ix2 0 r) = if r.val < 64 then (0 : EReal) else 1 := by
  pointwise [k0_pay8]
  rw [m0_at]
  split
  · show ((1 : ℝ) : EReal) - ((1 : ℝ) : EReal) = 0
    rw [← EReal.coe_sub]; simp
  · exact sub_zero 1

end Cert.Scan

end
-- ==== Proof.ScanChunk.lean ====
/- One chunk of the scan as operations on vectors: its result and the state it leaves. -/
module

public import proofs.«01_k».proof.Proof.ScanConst

@[expose] public section

set_option maxRecDepth 16384

noncomputable section

namespace Cert.Scan

open Cert.Kernel2Ideal Cert.Kernel2Ideal.Gen Idealize.ShloMosaic Idealize.SL.Sem

variable {F : FTy → Type} [FloatOps F]

/-- The scores of a group, weighted by head `h`'s decays. -/
def headMat (sc : FVec F S128x128 .f32) (cs : FVec F S128x16 .f32) (csT : FVec F S16x128 .f32) (h : ℕ)
    (h1 : S128x16.Slices ![0, h] S128x1) (h2 : S16x128.Slices ![h, 0] S1x128) : FVec F S128x128 .f32 :=
  mulf sc (exp (select k0_pay3
    (subf (broadcastTo S128x128 (extractStridedSlice S128x1 ![0, h] cs h1) broadcasts_S128x1_S128x128)
      (broadcastTo S128x128 (extractStridedSlice S1x128 ![h, 0] csT h2) broadcasts_S1x128_S128x128))
    (broadcast S128x128 (Scalar.ofBits .f32 0xFF800000#32))))

/-- The product of two heads' matrices, side by side, with their 128 channels, each head's masked, one above the other. -/
def pairY (A B : FVec F S128x128 .f32) (xc : FVec F S128x1024 .f32) (o : ℕ) (ho : S128x1024.Slices ![0, o] S128x128) :
    FVec F S128x128 .f32 :=
  matmul dot_S128x256_S256x128_S128x128_1_0_0_1_n_n none
    (truncf .bf16 (concatenate S128x256 1 [⟨S128x128, A⟩, ⟨S128x128, B⟩] concatenates_S128x128_S128x128_S128x256_d1) bitsLt_bf16_f32)
    (truncf .bf16 (concatenate S256x128 0
      [⟨S128x128, mulf (extractStridedSlice S128x128 ![0, o] xc ho) (broadcastTo S128x128 k0_pay7 broadcasts_S1x128_S128x128)⟩,
        ⟨S128x128, mulf (extractStridedSlice S128x128 ![0, o] xc ho) (broadcastTo S128x128 k0_pay8 broadcasts_S1x128_S128x128)⟩]
      concatenates_S128x128_S128x128_S256x128_d0) bitsLt_bf16_f32)
    (constant S128x128 .f32 0x00000000#32)

variable (sp xs : FVec F S128x1024 .f32) (bm cm : FVec F S128x256 .f32) (dt : FVec F S128x16 .f32) (al dk : FVec F S1x16 .f32)

/-- The running sums of the decays' exponents down a chunk, and the same transposed. -/
def cs : FVec F S128x16 .f32 := k0_pay11 (k0_pay4 (F := F)) dt al
def csT : FVec F S16x128 .f32 := k0_pay12 (k0_pay5 (F := F)) dt al

/-- Every per-head number of a chunk, spread over the channels. -/
def chan : FVec F S400x1024 .f32 := k0_pay13 (k0_pay4 (F := F)) (k0_pay6 (F := F)) dt al dk
def dtE : FVec F S128x1024 .f32 := extractStridedSlice S128x1024 ![0, 0] (chan dt al dk) slices_S400x1024_o0_0_S128x1024
def xc : FVec F S128x1024 .f32 := mulf xs (dtE dt al dk)

/-- The state that a chunk leaves. -/
def chunkState : FVec F S128x1024 .f32 :=
  concatenate S128x1024 1
    [⟨S128x512, k0_pay23 sp xs bm (chan dt al dk) (dtE dt al dk)⟩,
      ⟨S128x512, k0_pay35 sp bm (k0_pay16 (chan dt al dk)) (k0_pay19 xs (chan dt al dk) (dtE dt al dk))⟩]
    concatenates_S128x512_S128x512_S128x1024_d1

/-- Head `h`'s matrix in the first and in the second group. -/
def mat0 (h : ℕ) (h1 : S128x16.Slices ![0, h] S128x1) (h2 : S16x128.Slices ![h, 0] S1x128) : FVec F S128x128 .f32 :=
  headMat (k0_pay25 bm cm) (cs dt al) (csT dt al) h h1 h2
def mat1 (h : ℕ) (h1 : S128x16.Slices ![0, h] S128x1) (h2 : S16x128.Slices ![h, 0] S1x128) : FVec F S128x128 .f32 :=
  headMat (k0_pay37 bm cm) (cs dt al) (csT dt al) h h1 h2

/-- A chunk's result. -/
def chunkY : FVec F S128x1024 .f32 :=
  addf (concatenate S128x1024 1
    [⟨S128x512, addf (concatenate S128x512 1
        [⟨S128x128, pairY (mat0 bm cm dt al 0 slices_S128x16_o0_0_S128x1 slices_S16x128_o0_0_S1x128)
            (mat0 bm cm dt al 1 slices_S128x16_o0_1_S128x1 slices_S16x128_o1_0_S1x128) (xc xs dt al dk) 0 slices_S128x1024_o0_0_S128x128⟩,
          ⟨S128x128, pairY (mat0 bm cm dt al 2 slices_S128x16_o0_2_S128x1 slices_S16x128_o2_0_S1x128)
            (mat0 bm cm dt al 3 slices_S128x16_o0_3_S128x1 slices_S16x128_o3_0_S1x128) (xc xs dt al dk) 128 slices_S128x1024_o0_128_S128x128⟩,
          ⟨S128x128, pairY (mat0 bm cm dt al 4 slices_S128x16_o0_4_S128x1 slices_S16x128_o4_0_S1x128)
            (mat0 bm cm dt al 5 slices_S128x16_o0_5_S128x1 slices_S16x128_o5_0_S1x128) (xc xs dt al dk) 256 slices_S128x1024_o0_256_S128x128⟩,
          ⟨S128x128, pairY (mat0 bm cm dt al 6 slices_S128x16_o0_6_S128x1 slices_S16x128_o6_0_S1x128)
            (mat0 bm cm dt al 7 slices_S128x16_o0_7_S128x1 slices_S16x128_o7_0_S1x128) (xc xs dt al dk) 384 slices_S128x1024_o0_384_S128x128⟩]
        concatenates_S128x128_S128x128_S128x128_S128x128_S128x512_d1) (k0_pay24 sp cm (chan dt al dk))⟩,
      ⟨S128x512, addf (concatenate S128x512 1
        [⟨S128x128, pairY (mat1 bm cm dt al 8 slices_S128x16_o0_8_S128x1 slices_S16x128_o8_0_S1x128)
            (mat1 bm cm dt al 9 slices_S128x16_o0_9_S128x1 slices_S16x128_o9_0_S1x128) (xc xs dt al dk) 512 slices_S128x1024_o0_512_S128x128⟩,
          ⟨S128x128, pairY (mat1 bm cm dt al 10 slices_S128x16_o0_10_S128x1 slices_S16x128_o10_0_S1x128)
            (mat1 bm cm dt al 11 slices_S128x16_o0_11_S128x1 slices_S16x128_o11_0_S1x128) (xc xs dt al dk) 640 slices_S128x1024_o0_640_S128x128⟩,
          ⟨S128x128, pairY (mat1 bm cm dt al 12 slices_S128x16_o0_12_S128x1 slices_S16x128_o12_0_S1x128)
            (mat1 bm cm dt al 13 slices_S128x16_o0_13_S128x1 slices_S16x128_o13_0_S1x128) (xc xs dt al dk) 768 slices_S128x1024_o0_768_S128x128⟩,
          ⟨S128x128, pairY (mat1 bm cm dt al 14 slices_S128x16_o0_14_S128x1 slices_S16x128_o14_0_S1x128)
            (mat1 bm cm dt al 15 slices_S128x16_o0_15_S128x1 slices_S16x128_o15_0_S1x128) (xc xs dt al dk) 896 slices_S128x1024_o0_896_S128x128⟩]
        concatenates_S128x128_S128x128_S128x128_S128x128_S128x512_d1) (k0_pay36 sp cm (k0_pay15 (chan dt al dk)))⟩]
      concatenates_S128x512_S128x512_S128x1024_d1)
    (mulf xs (broadcastTo S128x1024 (k0_pay17 (chan dt al dk)) broadcasts_S1x1024_S128x1024))

end Cert.Scan

end
-- ==== Proof.ScanPieces.lean ====
/- The pieces a grid step stores: for each of its four chunks the result and the state before it, and the state after the last. -/
module

public import proofs.«01_k».proof.Proof.ScanChunk
public import proofs.«01_k».proof.Proof.Gen.Kernel2Ideal.Value
public import Idealize.ShloMosaic.Lib.Pipeline.ValueKit
public import Idealize.ShloMosaic.Lib.WholeRead

@[expose] public section

set_option maxRecDepth 16384

noncomputable section

namespace Cert.Scan

open Cert.Kernel2Ideal Cert.Kernel2Ideal.Gen Idealize.ShloMosaic Idealize.ShloMosaic.TcCoe Idealize.SL.Sem

variable {F : FTy → Type} [FloatOps F]

section loads

variable {arg1 : Memref sig .tc .vmem S512x1536 .f32} (harg1 : arg1.IsWhole) {arg2 : Memref sig .tc .vmem S512x16 .f32} (harg2 : arg2.IsWhole)
  {arg3 : Memref sig .tc .vmem S1x16 .f32} (harg3 : arg3.IsWhole) {arg4 : Memref sig .tc .vmem S1x16 .f32} (harg4 : arg4.IsWhole)
  (x0 : Vec F S512x1536 .f32) (x1 : Vec F S512x16 .f32) (x2 x3 : Vec F S1x16 .f32)

/-- The loads of the chunk that begins at row `o`. -/
def ldX (o : ℕ) (h : ∀ a, (![o, 0] : Fin 2 → ℕ) a + (![128, 1024] : Fin 2 → ℕ) a ≤ S512x1536.size a) : Vec F S128x1024 .f32 :=
  View.readAt (Elt F) arg1.view (Rect.unit (s := S512x1536) ![o, 0] ![128, 1024] h).toLoadRect (harg1.unread x0)
def ldB (o : ℕ) (h : ∀ a, (![o, 1024] : Fin 2 → ℕ) a + (![128, 256] : Fin 2 → ℕ) a ≤ S512x1536.size a) : Vec F S128x256 .f32 :=
  View.readAt (Elt F) arg1.view (Rect.unit (s := S512x1536) ![o, 1024] ![128, 256] h).toLoadRect (harg1.unread x0)
def ldC (o : ℕ) (h : ∀ a, (![o, 1280] : Fin 2 → ℕ) a + (![128, 256] : Fin 2 → ℕ) a ≤ S512x1536.size a) : Vec F S128x256 .f32 :=
  View.readAt (Elt F) arg1.view (Rect.unit (s := S512x1536) ![o, 1280] ![128, 256] h).toLoadRect (harg1.unread x0)
def ldT (o : ℕ) (h : ∀ a, (![o, 0] : Fin 2 → ℕ) a + (![128, 16] : Fin 2 → ℕ) a ≤ S512x16.size a) : Vec F S128x16 .f32 :=
  View.readAt (Elt F) arg2.view (Rect.unit (s := S512x16) ![o, 0] ![128, 16] h).toLoadRect (harg2.unread x1)
def ldA : Vec F S1x16 .f32 :=
  View.readAt (Elt F) arg3.view (Rect.unit (s := S1x16) ![0, 0] ![1, 16] (by decide)).toLoadRect (harg3.unread x2)
def ldD : Vec F S1x16 .f32 :=
  View.readAt (Elt F) arg4.view (Rect.unit (s := S1x16) ![0, 0] ![1, 16] (by decide)).toLoadRect (harg4.unread x3)

/-- The state after the first `n` chunks of a step that begins with the state `s`. -/
def st1 (s : FVec F S128x1024 .f32) : FVec F S128x1024 .f32 :=
  chunkState s (ldX harg1 x0 0 (by decide)) (ldB harg1 x0 0 (by decide)) (ldT harg2 x1 0 (by decide)) (ldA harg3 x2) (ldD harg4 x3)
def st2 (s : FVec F S128x1024 .f32) : FVec F S128x1024 .f32 :=
  chunkState (st1 harg1 harg2 harg3 harg4 x0 x1 x2 x3 s) (ldX harg1 x0 128 (by decide)) (ldB harg1 x0 128 (by decide)) (ldT harg2 x1 128 (by decide)) (ldA harg3 x2) (ldD harg4 x3)
def st3 (s : FVec F S128x1024 .f32) : FVec F S128x1024 .f32 :=
  chunkState (st2 harg1 harg2 harg3 harg4 x0 x1 x2 x3 s) (ldX harg1 x0 256 (by decide)) (ldB harg1 x0 256 (by decide)) (ldT harg2 x1 256 (by decide)) (ldA harg3 x2) (ldD harg4 x3)
def st4 (s : FVec F S128x1024 .f32) : FVec F S128x1024 .f32 :=
  chunkState (st3 harg1 harg2 harg3 harg4 x0 x1 x2 x3 s) (ldX harg1 x0 384 (by decide)) (ldB harg1 x0 384 (by decide)) (ldT harg2 x1 384 (by decide)) (ldA harg3 x2) (ldD harg4 x3)

/-- A chunk's result, of the state before it. -/
def yAt (o : ℕ) (s : FVec F S128x1024 .f32) (h0 : ∀ a, (![o, 0] : Fin 2 → ℕ) a + (![128, 1024] : Fin 2 → ℕ) a ≤ S512x1536.size a)
    (h1 : ∀ a, (![o, 1024] : Fin 2 → ℕ) a + (![128, 256] : Fin 2 → ℕ) a ≤ S512x1536.size a)
    (h2 : ∀ a, (![o, 1280] : Fin 2 → ℕ) a + (![128, 256] : Fin 2 → ℕ) a ≤ S512x1536.size a)
    (h3 : ∀ a, (![o, 0] : Fin 2 → ℕ) a + (![128, 16] : Fin 2 → ℕ) a ≤ S512x16.size a) : FVec F S128x1024 .f32 :=
  chunkY s (ldX harg1 x0 o h0) (ldB harg1 x0 o h1) (ldC harg1 x0 o h2) (ldT harg2 x1 o h3) (ldA harg3 x2) (ldD harg4 x3)

end loads

/-- A state as one slab of the array of saved states. -/
def slab (s : FVec F S128x1024 .f32) : FVec F S1x128x1024 .f32 := shapeCast S1x128x1024 s shapeCasts_S128x1024_S1x128x1024

/-- The state a step begins with: what the scratch holds, or, at the first point, the zeros just stored there. -/
def before {arg7 : Memref sig .tc .vmem S128x1024 .f32} (harg7 : arg7.IsWhole) (xs0 : Vec F S128x1024 .f32) : Vec F S128x1024 .f32 :=
  View.readAt (Elt F) arg7.view (Rect.unit (s := S128x1024) ![0, 0] ![128, 1024] (by decide)).toLoadRect (harg7.unread xs0)
def zeros (arg7 : Memref sig .tc .vmem S128x1024 .f32) : Vec F S128x1024 .f32 :=
  arg7.view.readCov [⟨Rect.unit (s := S128x1024) ![0, 0] ![128, 1024] (by decide), k0_pay2⟩] (Rect.unit (s := S128x1024) ![0, 0] ![128, 1024] (by decide)).toLoadRect

theorem results_A (c : Dev nD) (i : grid0.Coords) (arg1 : Memref sig .tc .vmem S512x1536 .f32) (harg1 : arg1.IsWhole) (arg2 : Memref sig .tc .vmem S512x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S512x1024 .f32) (harg5 : arg5.IsWhole) (arg6 : Memref sig .tc .vmem S4x128x1024 .f32) (harg6 : arg6.IsWhole) (arg7 : Memref sig .tc .vmem S128x1024 .f32) (harg7 : arg7.IsWhole) (hc0 : cond0_0 i)
    (x0 : Vec F S512x1536 .f32) (x1 : Vec F S512x16 .f32) (x2 : Vec F S1x16 .f32) (x3 : Vec F S1x16 .f32) :
    (kernelRun0_A c i arg1 harg1 arg2 harg2 arg3 harg3 arg4 harg4 arg5 harg5 arg6 harg6 arg7 harg7 hc0 x0 x1 x2 x3).1
      = [⟨Rect.unit (s := S512x1024) ![384, 0] ![128, 1024] (by decide), yAt harg1 harg2 harg3 harg4 x0 x1 x2 x3 384 (st3 harg1 harg2 harg3 harg4 x0 x1 x2 x3 (zeros arg7)) (by decide) (by decide) (by decide) (by decide)⟩,
          ⟨Rect.unit (s := S512x1024) ![256, 0] ![128, 1024] (by decide), yAt harg1 harg2 harg3 harg4 x0 x1 x2 x3 256 (st2 harg1 harg2 harg3 harg4 x0 x1 x2 x3 (zeros arg7)) (by decide) (by decide) (by decide) (by decide)⟩,
          ⟨Rect.unit (s := S512x1024) ![128, 0] ![128, 1024] (by decide), yAt harg1 harg2 harg3 harg4 x0 x1 x2 x3 128 (st1 harg1 harg2 harg3 harg4 x0 x1 x2 x3 (zeros arg7)) (by decide) (by decide) (by decide) (by decide)⟩,
          ⟨Rect.unit (s := S512x1024) ![0, 0] ![128, 1024] (by decide), yAt harg1 harg2 harg3 harg4 x0 x1 x2 x3 0 (zeros arg7) (by decide) (by decide) (by decide) (by decide)⟩] := by
  unfold kernelRun0_A
  sl_unfold_run_names
  dsimp only
  rfl

theorem saved_A (c : Dev nD) (i : grid0.Coords) (arg1 : Memref sig .tc .vmem S512x1536 .f32) (harg1 : arg1.IsWhole) (arg2 : Memref sig .tc .vmem S512x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S512x1024 .f32) (harg5 : arg5.IsWhole) (arg6 : Memref sig .tc .vmem S4x128x1024 .f32) (harg6 : arg6.IsWhole) (arg7 : Memref sig .tc .vmem S128x1024 .f32) (harg7 : arg7.IsWhole) (hc0 : cond0_0 i)
    (x0 : Vec F S512x1536 .f32) (x1 : Vec F S512x16 .f32) (x2 : Vec F S1x16 .f32) (x3 : Vec F S1x16 .f32) :
    (kernelRun0_A c i arg1 harg1 arg2 harg2 arg3 harg3 arg4 harg4 arg5 harg5 arg6 harg6 arg7 harg7 hc0 x0 x1 x2 x3).2.1
      = [⟨Rect.unit (s := S4x128x1024) ![3, 0, 0] ![1, 128, 1024] (by decide), slab (st3 harg1 harg2 harg3 harg4 x0 x1 x2 x3 (zeros arg7))⟩,
          ⟨Rect.unit (s := S4x128x1024) ![2, 0, 0] ![1, 128, 1024] (by decide), slab (st2 harg1 harg2 harg3 harg4 x0 x1 x2 x3 (zeros arg7))⟩,
          ⟨Rect.unit (s := S4x128x1024) ![1, 0, 0] ![1, 128, 1024] (by decide), slab (st1 harg1 harg2 harg3 harg4 x0 x1 x2 x3 (zeros arg7))⟩,
          ⟨Rect.unit (s := S4x128x1024) ![0, 0, 0] ![1, 128, 1024] (by decide), slab (zeros arg7)⟩] := by
  unfold kernelRun0_A
  sl_unfold_run_names
  dsimp only
  rfl

theorem states_A (c : Dev nD) (i : grid0.Coords) (arg1 : Memref sig .tc .vmem S512x1536 .f32) (harg1 : arg1.IsWhole) (arg2 : Memref sig .tc .vmem S512x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S512x1024 .f32) (harg5 : arg5.IsWhole) (arg6 : Memref sig .tc .vmem S4x128x1024 .f32) (harg6 : arg6.IsWhole) (arg7 : Memref sig .tc .vmem S128x1024 .f32) (harg7 : arg7.IsWhole) (hc0 : cond0_0 i)
    (x0 : Vec F S512x1536 .f32) (x1 : Vec F S512x16 .f32) (x2 : Vec F S1x16 .f32) (x3 : Vec F S1x16 .f32) :
    (kernelRun0_A c i arg1 harg1 arg2 harg2 arg3 harg3 arg4 harg4 arg5 harg5 arg6 harg6 arg7 harg7 hc0 x0 x1 x2 x3).2.2.1
      = [⟨Rect.unit (s := S128x1024) ![0, 0] ![128, 1024] (by decide), k0_pay1 (st4 harg1 harg2 harg3 harg4 x0 x1 x2 x3 (zeros arg7))⟩,
          ⟨Rect.unit (s := S128x1024) ![0, 0] ![128, 1024] (by decide), k0_pay2⟩] := by
  unfold kernelRun0_A
  sl_unfold_run_names
  dsimp only
  rfl

theorem results_B (c : Dev nD) (i : grid0.Coords) (arg1 : Memref sig .tc .vmem S512x1536 .f32) (harg1 : arg1.IsWhole) (arg2 : Memref sig .tc .vmem S512x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S512x1024 .f32) (harg5 : arg5.IsWhole) (arg6 : Memref sig .tc .vmem S4x128x1024 .f32) (harg6 : arg6.IsWhole) (arg7 : Memref sig .tc .vmem S128x1024 .f32) (harg7 : arg7.IsWhole) (hc0 : ¬ cond0_0 i)
    (x0 : Vec F S512x1536 .f32) (x1 : Vec F S512x16 .f32) (x2 : Vec F S1x16 .f32) (x3 : Vec F S1x16 .f32) (xs0 : Vec F S128x1024 .f32) :
    (kernelRun0_B c i arg1 harg1 arg2 harg2 arg3 harg3 arg4 harg4 arg5 harg5 arg6 harg6 arg7 harg7 hc0 x0 x1 x2 x3 xs0).1
      = [⟨Rect.unit (s := S512x1024) ![384, 0] ![128, 1024] (by decide), yAt harg1 harg2 harg3 harg4 x0 x1 x2 x3 384 (st3 harg1 harg2 harg3 harg4 x0 x1 x2 x3 (before harg7 xs0)) (by decide) (by decide) (by decide) (by decide)⟩,
          ⟨Rect.unit (s := S512x1024) ![256, 0] ![128, 1024] (by decide), yAt harg1 harg2 harg3 harg4 x0 x1 x2 x3 256 (st2 harg1 harg2 harg3 harg4 x0 x1 x2 x3 (before harg7 xs0)) (by decide) (by decide) (by decide) (by decide)⟩,
          ⟨Rect.unit (s := S512x1024) ![128, 0] ![128, 1024] (by decide), yAt harg1 harg2 harg3 harg4 x0 x1 x2 x3 128 (st1 harg1 harg2 harg3 harg4 x0 x1 x2 x3 (before harg7 xs0)) (by decide) (by decide) (by decide) (by decide)⟩,
          ⟨Rect.unit (s := S512x1024) ![0, 0] ![128, 1024] (by decide), yAt harg1 harg2 harg3 harg4 x0 x1 x2 x3 0 (before harg7 xs0) (by decide) (by decide) (by decide) (by decide)⟩] := by
  unfold kernelRun0_B
  sl_unfold_run_names
  dsimp only
  rfl

theorem saved_B (c : Dev nD) (i : grid0.Coords) (arg1 : Memref sig .tc .vmem S512x1536 .f32) (harg1 : arg1.IsWhole) (arg2 : Memref sig .tc .vmem S512x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S512x1024 .f32) (harg5 : arg5.IsWhole) (arg6 : Memref sig .tc .vmem S4x128x1024 .f32) (harg6 : arg6.IsWhole) (arg7 : Memref sig .tc .vmem S128x1024 .f32) (harg7 : arg7.IsWhole) (hc0 : ¬ cond0_0 i)
    (x0 : Vec F S512x1536 .f32) (x1 : Vec F S512x16 .f32) (x2 : Vec F S1x16 .f32) (x3 : Vec F S1x16 .f32) (xs0 : Vec F S128x1024 .f32) :
    (kernelRun0_B c i arg1 harg1 arg2 harg2 arg3 harg3 arg4 harg4 arg5 harg5 arg6 harg6 arg7 harg7 hc0 x0 x1 x2 x3 xs0).2.1
      = [⟨Rect.unit (s := S4x128x1024) ![3, 0, 0] ![1, 128, 1024] (by decide), slab (st3 harg1 harg2 harg3 harg4 x0 x1 x2 x3 (before harg7 xs0))⟩,
          ⟨Rect.unit (s := S4x128x1024) ![2, 0, 0] ![1, 128, 1024] (by decide), slab (st2 harg1 harg2 harg3 harg4 x0 x1 x2 x3 (before harg7 xs0))⟩,
          ⟨Rect.unit (s := S4x128x1024) ![1, 0, 0] ![1, 128, 1024] (by decide), slab (st1 harg1 harg2 harg3 harg4 x0 x1 x2 x3 (before harg7 xs0))⟩,
          ⟨Rect.unit (s := S4x128x1024) ![0, 0, 0] ![1, 128, 1024] (by decide), slab (before harg7 xs0)⟩] := by
  unfold kernelRun0_B
  sl_unfold_run_names
  dsimp only
  rfl

theorem states_B (c : Dev nD) (i : grid0.Coords) (arg1 : Memref sig .tc .vmem S512x1536 .f32) (harg1 : arg1.IsWhole) (arg2 : Memref sig .tc .vmem S512x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S512x1024 .f32) (harg5 : arg5.IsWhole) (arg6 : Memref sig .tc .vmem S4x128x1024 .f32) (harg6 : arg6.IsWhole) (arg7 : Memref sig .tc .vmem S128x1024 .f32) (harg7 : arg7.IsWhole) (hc0 : ¬ cond0_0 i)
    (x0 : Vec F S512x1536 .f32) (x1 : Vec F S512x16 .f32) (x2 : Vec F S1x16 .f32) (x3 : Vec F S1x16 .f32) (xs0 : Vec F S128x1024 .f32) :
    (kernelRun0_B c i arg1 harg1 arg2 harg2 arg3 harg3 arg4 harg4 arg5 harg5 arg6 harg6 arg7 harg7 hc0 x0 x1 x2 x3 xs0).2.2.1
      = [⟨Rect.unit (s := S128x1024) ![0, 0] ![128, 1024] (by decide), k0_pay1 (st4 harg1 harg2 harg3 harg4 x0 x1 x2 x3 (before harg7 xs0))⟩] := by
  unfold kernelRun0_B
  sl_unfold_run_names
  dsimp only
  rfl

end Cert.Scan

end
-- ==== Proof.ScanStep.lean ====
/- One grid step of the scan: of the arguments' rows it reads and the state it begins with, what it leaves in its three blocks. -/
module

public import proofs.«01_k».proof.Proof.ScanPieces
public import proofs.«01_k».proof.Proof.Gen.Kernel2Ideal.Value
public import Idealize.ShloMosaic.Lib.Pipeline.ValueKit
public import Idealize.ShloMosaic.Lib.WholeRead

@[expose] public section

set_option maxRecDepth 16384

noncomputable section

namespace Cert.Scan

open Cert.Kernel2Ideal Cert.Kernel2Ideal.Gen Idealize.ShloMosaic Idealize.ShloMosaic.TcCoe Idealize.SL.Sem

variable {F : FTy → Type} [FloatOps F]

section rows

variable (X : FVec F S4096x1536 .f32) (T : FVec F S4096x16 .f32) (al dk : FVec F S1x16 .f32)

/-- Chunk `q` of the arguments. -/
def rowsX (q : ℕ) : FVec F S128x1024 .f32 := fun y =>
  X (ix2 ⟨(128 * q + (y 0).val) % 4096, Nat.mod_lt _ (by decide)⟩ ⟨(y 1).val, lt_trans (show (y 1).val < 1024 from (y 1).isLt) (by decide)⟩)
def rowsB (q : ℕ) : FVec F S128x256 .f32 := fun y =>
  X (ix2 ⟨(128 * q + (y 0).val) % 4096, Nat.mod_lt _ (by decide)⟩ ⟨1024 + (y 1).val, by have : (y 1).val < 256 := (y 1).isLt; omega⟩)
def rowsC (q : ℕ) : FVec F S128x256 .f32 := fun y =>
  X (ix2 ⟨(128 * q + (y 0).val) % 4096, Nat.mod_lt _ (by decide)⟩ ⟨1280 + (y 1).val, by have : (y 1).val < 256 := (y 1).isLt; omega⟩)
def rowsT (q : ℕ) : FVec F S128x16 .f32 := fun y => T (ix2 ⟨(128 * q + (y 0).val) % 4096, Nat.mod_lt _ (by decide)⟩ (y 1))

/-- The state before chunk `q`. -/
def chain : ℕ → FVec F S128x1024 .f32
  | 0 => fun _ => FloatOps.ofBits .f32 0x00000000#32
  | q + 1 => chunkState (chain q) (rowsX X q) (rowsB X q) (rowsT T q) al dk

/-- The result of chunk `q`. -/
def result (q : ℕ) : FVec F S128x1024 .f32 :=
  chunkY (chain X T al dk q) (rowsX X q) (rowsB X q) (rowsC X q) (rowsT T q) al dk

/-- The result at row `r`, channel `j`. -/
def resultAt (r j : ℕ) : F .f32 := result X T al dk (r / 128) (ix2 ⟨r % 128, Nat.mod_lt _ (by decide)⟩ ⟨j % 1024, Nat.mod_lt _ (by decide)⟩)

end rows

/-- The state before chunk `q`, at row `n` and channel `j`. -/
def stateAt (X : FVec F S4096x1536 .f32) (T : FVec F S4096x16 .f32) (al dk : FVec F S1x16 .f32) (q n j : ℕ) : F .f32 :=
  chain X T al dk q (ix2 ⟨n % 128, Nat.mod_lt _ (by decide)⟩ ⟨j % 1024, Nat.mod_lt _ (by decide)⟩)

theorem stateAt_eq (X : FVec F S4096x1536 .f32) (T : FVec F S4096x16 .f32) (al dk : FVec F S1x16 .f32) (q : ℕ) (n : Fin 128) (j : Fin 1024) :
    stateAt X T al dk q n.val j.val = chain X T al dk q (ix2 n j) := by
  unfold stateAt
  simp only [Nat.mod_eq_of_lt n.isLt, Nat.mod_eq_of_lt j.isLt]

theorem obtain_idx3 (x : S1x128x1024.Idx) : ∃ a n j, x = ix3 a n j := ⟨x 0, x 1, x 2, eq_ix3 x⟩

section step

variable {arg1 : Memref sig .tc .vmem S512x1536 .f32} (harg1 : arg1.IsWhole) {arg2 : Memref sig .tc .vmem S512x16 .f32} (harg2 : arg2.IsWhole)
  {arg3 : Memref sig .tc .vmem S1x16 .f32} (harg3 : arg3.IsWhole) {arg4 : Memref sig .tc .vmem S1x16 .f32} (harg4 : arg4.IsWhole)
  {x0 : Vec F S512x1536 .f32} {x1 : Vec F S512x16 .f32} {x2 x3 : Vec F S1x16 .f32}
  {X : FVec F S4096x1536 .f32} {T : FVec F S4096x16 .f32} {al dk : FVec F S1x16 .f32} {t : ℕ}

/-- The blocks of step `t` are the arguments' rows from `512 t` on. -/
structure Blocks (x0 : Vec F S512x1536 .f32) (x1 : Vec F S512x16 .f32) (x2 x3 : Vec F S1x16 .f32)
    (X : FVec F S4096x1536 .f32) (T : FVec F S4096x16 .f32) (al dk : FVec F S1x16 .f32) (t : ℕ) : Prop where
  x : ∀ r c, x0 (ix2 r c) = X (ix2 ⟨(512 * t + r.val) % 4096, Nat.mod_lt _ (by decide)⟩ c)
  t : ∀ r c, x1 (ix2 r c) = T (ix2 ⟨(512 * t + r.val) % 4096, Nat.mod_lt _ (by decide)⟩ c)
  al : x2 = al
  dk : x3 = dk

variable (hb : Blocks x0 x1 x2 x3 X T al dk t)
include hb

/-- A load of rows and lanes of the first block. -/
theorem loadX (n k o u : ℕ) (h : ∀ a, (![o, u] : Fin 2 → ℕ) a + (![128, n] : Fin 2 → ℕ) a ≤ S512x1536.size a)
    (y : (⟨2, ![128, n]⟩ : Shape).Idx) (hk : o = 128 * k) (hu : u + (y 1).val < 1536) :
    View.readAt (Elt F) arg1.view (Rect.unit (s := S512x1536) ![o, u] ![128, n] h).toLoadRect (harg1.unread x0) y
      = X (ix2 ⟨(128 * (4 * t + k) + (y 0).val) % 4096, Nat.mod_lt _ (by decide)⟩ ⟨u + (y 1).val, hu⟩) := by
  have hy : (y 0).val < 128 := (y 0).isLt
  have ho : o + 128 ≤ 512 := h 0
  have e : 512 * t + (o + (y 0).val) = 128 * (4 * t + k) + (y 0).val := by omega
  rw [harg1.readAt_unread]
  refine Eq.trans (congrArg x0 (?_ : _ = ix2 (n0 := 512) (n1 := 1536) ⟨o + (y 0).val, by omega⟩ ⟨u + (y 1).val, hu⟩)) ((hb.x _ _).trans ?_)
  · refine funext fun a => Fin.ext ?_
    fin_cases a
    · exact congrArg (o + ·) (Nat.one_mul _)
    · exact congrArg (u + ·) (Nat.one_mul _)
  · simp only [e]

theorem loadT (k o : ℕ) (h : ∀ a, (![o, 0] : Fin 2 → ℕ) a + (![128, 16] : Fin 2 → ℕ) a ≤ S512x16.size a) (hk : o = 128 * k) :
    ldT harg2 x1 o h = rowsT T (4 * t + k) := by
  funext y
  have hy : (y 0).val < 128 := (y 0).isLt
  have ho : o + 128 ≤ 512 := h 0
  have e : 512 * t + (o + (y 0).val) = 128 * (4 * t + k) + (y 0).val := by omega
  unfold ldT rowsT
  rw [harg2.readAt_unread]
  refine Eq.trans (congrArg x1 (?_ : _ = ix2 (n0 := 512) (n1 := 16) ⟨o + (y 0).val, by omega⟩ (y 1))) ((hb.t _ _).trans ?_)
  · refine funext fun a => Fin.ext ?_
    fin_cases a
    · exact congrArg (o + ·) (Nat.one_mul _)
    · exact (congrArg (0 + ·) (Nat.one_mul _)).trans (Nat.zero_add _)
  · simp only [e]

theorem loadXs (k o : ℕ) (h) (hk : o = 128 * k) : ldX harg1 x0 o h = rowsX X (4 * t + k) := by
  funext y
  have hy : (y 1).val < 1024 := (y 1).isLt
  refine (loadX harg1 hb 1024 k o 0 h y hk (by omega)).trans ?_
  simp only [rowsX, Nat.zero_add]

theorem loadB (k o : ℕ) (h) (hk : o = 128 * k) : ldB harg1 x0 o h = rowsB X (4 * t + k) :=
  funext fun y => loadX harg1 hb 256 k o 1024 h y hk (by have : (y 1).val < 256 := (y 1).isLt; omega)

theorem loadC (k o : ℕ) (h) (hk : o = 128 * k) : ldC harg1 x0 o h = rowsC X (4 * t + k) :=
  funext fun y => loadX harg1 hb 256 k o 1280 h y hk (by have : (y 1).val < 256 := (y 1).isLt; omega)

omit hb in
theorem loadWhole {m : Memref sig .tc .vmem S1x16 .f32} (hm : m.IsWhole) (x : Vec F S1x16 .f32)
    (h : ∀ a, (![0, 0] : Fin 2 → ℕ) a + (![1, 16] : Fin 2 → ℕ) a ≤ S1x16.size a) :
    View.readAt (Elt F) m.view (Rect.unit (s := S1x16) ![0, 0] ![1, 16] h).toLoadRect (hm.unread x) = x := by
  funext y
  rw [hm.readAt_unread]
  refine congrArg x (funext fun a => Fin.ext ?_)
  fin_cases a <;> exact (congrArg (0 + ·) (Nat.one_mul _)).trans (Nat.zero_add _)

theorem loadA : ldA harg3 x2 = al := (loadWhole harg3 x2 _).trans hb.al
theorem loadD : ldD harg4 x3 = dk := (loadWhole harg4 x3 _).trans hb.dk

variable {s : FVec F S128x1024 .f32} (hs : s = chain X T al dk (4 * t))
include hs

theorem st1_eq : st1 harg1 harg2 harg3 harg4 x0 x1 x2 x3 s = chain X T al dk (4 * t + 1) := by
  unfold st1
  rw [loadXs harg1 hb 0 0 _ rfl, loadB harg1 hb 0 0 _ rfl, loadT harg2 hb 0 0 _ rfl, loadA harg3 hb, loadD harg4 hb, hs]
  rfl
theorem st2_eq : st2 harg1 harg2 harg3 harg4 x0 x1 x2 x3 s = chain X T al dk (4 * t + 2) := by
  unfold st2
  rw [loadXs harg1 hb 1 128 _ rfl, loadB harg1 hb 1 128 _ rfl, loadT harg2 hb 1 128 _ rfl, loadA harg3 hb, loadD harg4 hb,
    st1_eq harg1 harg2 harg3 harg4 hb hs]
  rfl
theorem st3_eq : st3 harg1 harg2 harg3 harg4 x0 x1 x2 x3 s = chain X T al dk (4 * t + 3) := by
  unfold st3
  rw [loadXs harg1 hb 2 256 _ rfl, loadB harg1 hb 2 256 _ rfl, loadT harg2 hb 2 256 _ rfl, loadA harg3 hb, loadD harg4 hb,
    st2_eq harg1 harg2 harg3 harg4 hb hs]
  rfl
theorem st4_eq : st4 harg1 harg2 harg3 harg4 x0 x1 x2 x3 s = chain X T al dk (4 * (t + 1)) := by
  unfold st4
  rw [loadXs harg1 hb 3 384 _ rfl, loadB harg1 hb 3 384 _ rfl, loadT harg2 hb 3 384 _ rfl, loadA harg3 hb, loadD harg4 hb,
    st3_eq harg1 harg2 harg3 harg4 hb hs]
  rfl

omit hs in
/-- One store of a result. -/
theorem storeY (k o : ℕ) (h0 h1 h2 h3) (hk : o = 128 * k) (s' : FVec F S128x1024 .f32) (hs' : s' = chain X T al dk (4 * t + k))
    (h : ∀ a, (![o, 0] : Fin 2 → ℕ) a + (![128, 1024] : Fin 2 → ℕ) a ≤ S512x1024.size a) (x : S128x1024.Idx) :
    yAt harg1 harg2 harg3 harg4 x0 x1 x2 x3 o s' h0 h1 h2 h3 x
      = (fun y : S512x1024.Idx => resultAt X T al dk (512 * t + (y 0).val) (y 1).val) ((Rect.unit (s := S512x1024) ![o, 0] ![128, 1024] h).emb x) := by
  have hx0 : (x 0).val < 128 := (x 0).isLt
  have hx1 : (x 1).val < 1024 := (x 1).isLt
  have e0 : ((Rect.unit (s := S512x1024) ![o, 0] ![128, 1024] h).emb x 0).val = o + (x 0).val := congrArg (o + ·) (Nat.one_mul _)
  have e1 : ((Rect.unit (s := S512x1024) ![o, 0] ![128, 1024] h).emb x 1).val = (x 1).val :=
    (congrArg (0 + ·) (Nat.one_mul _)).trans (Nat.zero_add _)
  unfold yAt resultAt result
  rw [loadXs harg1 hb k o _ hk, loadB harg1 hb k o _ hk, loadC harg1 hb k o _ hk, loadT harg2 hb k o _ hk, loadA harg3 hb, loadD harg4 hb, hs']
  simp only [e0, e1]
  have a0 : (512 * t + (o + (x 0).val)) / 128 = 4 * t + k := by omega
  have a1 : (512 * t + (o + (x 0).val)) % 128 = (x 0).val := by omega
  have a2 : (x 1).val % 1024 = (x 1).val := by omega
  simp only [a0, a1, a2]
  exact congrArg _ (eq_ix2 x)

omit hb hs in
/-- One store of a state. -/
theorem storeS (k : ℕ) (s' : FVec F S128x1024 .f32) (hs' : s' = chain X T al dk (4 * t + k))
    (h : ∀ a, (![k, 0, 0] : Fin 3 → ℕ) a + (![1, 128, 1024] : Fin 3 → ℕ) a ≤ S4x128x1024.size a) (x : S1x128x1024.Idx) :
    slab s' x = (fun y : S4x128x1024.Idx => chain X T al dk (4 * t + (y 0).val) (ix2 (y 1) (y 2)))
      ((Rect.unit (s := S4x128x1024) ![k, 0, 0] ![1, 128, 1024] h).emb x) := by
  obtain ⟨a, n, j, rfl⟩ := obtain_idx3 x
  have e0 : ((Rect.unit (s := S4x128x1024) ![k, 0, 0] ![1, 128, 1024] h).emb (ix3 a n j) 0).val = k := by
    refine (congrArg (k + ·) (Nat.one_mul _)).trans ?_
    show k + a.val = k
    omega
  have e1 : (Rect.unit (s := S4x128x1024) ![k, 0, 0] ![1, 128, 1024] h).emb (ix3 a n j) 1 = n :=
    Fin.ext ((congrArg (0 + ·) (Nat.one_mul _)).trans (Nat.zero_add _))
  have e2 : (Rect.unit (s := S4x128x1024) ![k, 0, 0] ![1, 128, 1024] h).emb (ix3 a n j) 2 = j :=
    Fin.ext ((congrArg (0 + ·) (Nat.one_mul _)).trans (Nat.zero_add _))
  show _ = chain X T al dk (4 * t + _) (ix2 _ _)
  rw [e0, e1, e2, hs']
  pointwise [slab]

end step

end Cert.Scan

end
-- ==== Proof.ScanOuts.lean ====
/- What a grid step of the scan leaves in its two blocks and in its scratch. -/
module

public import proofs.«01_k».proof.Proof.ScanStep
public import proofs.«01_k».proof.Proof.Gen.Kernel2Ideal.Value
public import Idealize.ShloMosaic.Lib.Pipeline.ValueKit
public import Idealize.ShloMosaic.Lib.WholeRead

@[expose] public section

set_option maxRecDepth 16384

noncomputable section

namespace Cert.Scan

open Cert.Kernel2Ideal Cert.Kernel2Ideal.Gen Idealize.ShloMosaic Idealize.ShloMosaic.TcCoe Idealize.SL.Sem

variable {F : FTy → Type} [FloatOps F]

section outs

variable (c : Dev nD) (i : grid0.Coords) (arg1 : Memref sig .tc .vmem S512x1536 .f32) (harg1 : arg1.IsWhole) (arg2 : Memref sig .tc .vmem S512x16 .f32) (harg2 : arg2.IsWhole) (arg3 : Memref sig .tc .vmem S1x16 .f32) (harg3 : arg3.IsWhole) (arg4 : Memref sig .tc .vmem S1x16 .f32) (harg4 : arg4.IsWhole) (arg5 : Memref sig .tc .vmem S512x1024 .f32) (harg5 : arg5.IsWhole) (arg6 : Memref sig .tc .vmem S4x128x1024 .f32) (harg6 : arg6.IsWhole) (arg7 : Memref sig .tc .vmem S128x1024 .f32) (harg7 : arg7.IsWhole)
  {x0 : Vec F S512x1536 .f32} {x1 : Vec F S512x16 .f32} {x2 x3 : Vec F S1x16 .f32} {xs0 : Vec F S128x1024 .f32}
  {X : FVec F S4096x1536 .f32} {T : FVec F S4096x16 .f32} {al dk : FVec F S1x16 .f32} {t : ℕ}

theorem zeros_eq : zeros (F := F) arg7 = chain X T al dk (4 * 0) := by
  unfold zeros
  rw [View.readCov_eq_canon']
  funext y
  refine (congrFun (View.canon_unit_zero (Val := Elt F) (e := .f32) (S := S128x1024) (off := ![0, 0]) (funext fun a => by fin_cases a <;> rfl) (by decide) k0_pay2) _).trans ?_
  unfold k0_pay2
  rw [shapeCast_self]
  rfl

theorem before_eq : before harg7 xs0 = xs0 := by
  unfold before
  funext y
  rw [harg7.readAt_unread]
  refine congrArg xs0 (funext fun a => Fin.ext ?_)
  fin_cases a <;> exact (congrArg (0 + ·) (Nat.one_mul _)).trans (Nat.zero_add _)

/-- The pieces of the two outputs and of the scratch, whatever the step begins with. -/
theorem pieces_y (hb : Blocks x0 x1 x2 x3 X T al dk t) {s : FVec F S128x1024 .f32} (hs : s = chain X T al dk (4 * t)) (y : S512x1024.Idx) :
    ∀ L : List (View.Piece (Elt F) S512x1024 .f32), L = [⟨Rect.unit (s := S512x1024) ![384, 0] ![128, 1024] (by decide), yAt harg1 harg2 harg3 harg4 x0 x1 x2 x3 384 (st3 harg1 harg2 harg3 harg4 x0 x1 x2 x3 s) (by decide) (by decide) (by decide) (by decide)⟩,
          ⟨Rect.unit (s := S512x1024) ![256, 0] ![128, 1024] (by decide), yAt harg1 harg2 harg3 harg4 x0 x1 x2 x3 256 (st2 harg1 harg2 harg3 harg4 x0 x1 x2 x3 s) (by decide) (by decide) (by decide) (by decide)⟩,
          ⟨Rect.unit (s := S512x1024) ![128, 0] ![128, 1024] (by decide), yAt harg1 harg2 harg3 harg4 x0 x1 x2 x3 128 (st1 harg1 harg2 harg3 harg4 x0 x1 x2 x3 s) (by decide) (by decide) (by decide) (by decide)⟩,
          ⟨Rect.unit (s := S512x1024) ![0, 0] ![128, 1024] (by decide), yAt harg1 harg2 harg3 harg4 x0 x1 x2 x3 0 s (by decide) (by decide) (by decide) (by decide)⟩] → (∃ pc ∈ L, y ∈ pc.1.set) → View.canon L y = resultAt X T al dk (512 * t + (y 0).val) (y 1).val := by
  rintro L rfl hc
  refine View.canon_apply_of_pieces (Val := Elt F) (e := .f32) (fun y : S512x1024.Idx => resultAt X T al dk (512 * t + (y 0).val) (y 1).val) _ ?_ y hc
  refine List.forall_mem_cons.2 ⟨fun x => storeY harg1 harg2 harg3 harg4 hb 3 384 (by decide) (by decide) (by decide) (by decide) rfl _ (st3_eq harg1 harg2 harg3 harg4 hb hs) (by decide) x, ?_⟩
  refine List.forall_mem_cons.2 ⟨fun x => storeY harg1 harg2 harg3 harg4 hb 2 256 (by decide) (by decide) (by decide) (by decide) rfl _ (st2_eq harg1 harg2 harg3 harg4 hb hs) (by decide) x, ?_⟩
  refine List.forall_mem_cons.2 ⟨fun x => storeY harg1 harg2 harg3 harg4 hb 1 128 (by decide) (by decide) (by decide) (by decide) rfl _ (st1_eq harg1 harg2 harg3 harg4 hb hs) (by decide) x, ?_⟩
  refine List.forall_mem_cons.2 ⟨fun x => storeY harg1 harg2 harg3 harg4 hb 0 0 (by decide) (by decide) (by decide) (by decide) rfl _ hs (by decide) x, ?_⟩
  exact fun _ hq => absurd hq List.not_mem_nil

theorem pieces_s (hb : Blocks x0 x1 x2 x3 X T al dk t) {s : FVec F S128x1024 .f32} (hs : s = chain X T al dk (4 * t)) (y : S4x128x1024.Idx) :
    ∀ L : List (View.Piece (Elt F) S4x128x1024 .f32), L = [⟨Rect.unit (s := S4x128x1024) ![3, 0, 0] ![1, 128, 1024] (by decide), slab (st3 harg1 harg2 harg3 harg4 x0 x1 x2 x3 s)⟩,
          ⟨Rect.unit (s := S4x128x1024) ![2, 0, 0] ![1, 128, 1024] (by decide), slab (st2 harg1 harg2 harg3 harg4 x0 x1 x2 x3 s)⟩,
          ⟨Rect.unit (s := S4x128x1024) ![1, 0, 0] ![1, 128, 1024] (by decide), slab (st1 harg1 harg2 harg3 harg4 x0 x1 x2 x3 s)⟩,
          ⟨Rect.unit (s := S4x128x1024) ![0, 0, 0] ![1, 128, 1024] (by decide), slab s⟩] → (∃ pc ∈ L, y ∈ pc.1.set) → View.canon L y = chain X T al dk (4 * t + (y 0).val) (ix2 (y 1) (y 2)) := by
  rintro L rfl hc
  refine View.canon_apply_of_pieces (Val := Elt F) (e := .f32) (fun y : S4x128x1024.Idx => chain X T al dk (4 * t + (y 0).val) (ix2 (y 1) (y 2))) _ ?_ y hc
  refine List.forall_mem_cons.2 ⟨fun x => storeS 3 _ (st3_eq harg1 harg2 harg3 harg4 hb hs) (by decide) x, ?_⟩
  refine List.forall_mem_cons.2 ⟨fun x => storeS 2 _ (st2_eq harg1 harg2 harg3 harg4 hb hs) (by decide) x, ?_⟩
  refine List.forall_mem_cons.2 ⟨fun x => storeS 1 _ (st1_eq harg1 harg2 harg3 harg4 hb hs) (by decide) x, ?_⟩
  refine List.forall_mem_cons.2 ⟨fun x => storeS 0 _ hs (by decide) x, ?_⟩
  exact fun _ hq => absurd hq List.not_mem_nil

theorem pieces_c (hb : Blocks x0 x1 x2 x3 X T al dk t) {s : FVec F S128x1024 .f32} (hs : s = chain X T al dk (4 * t))
    (L : List (View.Piece (Elt F) S128x1024 .f32)) :
    View.canon (Val := Elt F) (e := .f32) (⟨Rect.unit (s := S128x1024) ![0, 0] ![128, 1024] (by decide), k0_pay1 (st4 harg1 harg2 harg3 harg4 x0 x1 x2 x3 s)⟩ :: L) = chain X T al dk (4 * (t + 1)) := by
  refine (View.canon_cons_unit_zero (S := S128x1024) (funext fun a => by fin_cases a <;> rfl) (by decide) _ L).trans ?_
  unfold k0_pay1
  rw [shapeCast_self]
  exact st4_eq harg1 harg2 harg3 harg4 hb hs

theorem y_A (hc0 : cond0_0 i) (hb : Blocks x0 x1 x2 x3 X T al dk 0) (y : S512x1024.Idx) :
    out0_A_4 c i arg1 harg1 arg2 harg2 arg3 harg3 arg4 harg4 arg5 harg5 arg6 harg6 arg7 harg7 hc0 x0 x1 x2 x3 y = resultAt X T al dk (512 * 0 + (y 0).val) (y 1).val := by
  have hc := cover0_A_4 c i arg1 harg1 arg2 harg2 arg3 harg3 arg4 harg4 arg5 harg5 arg6 harg6 arg7 harg7 hc0 x0 x1 x2 x3 y
  unfold out0_A_4
  rw [View.read_writes_junk_eq_canon]
  exact pieces_y arg1 harg1 arg2 harg2 arg3 harg3 arg4 harg4 hb (zeros_eq arg7) y _ (results_A c i arg1 harg1 arg2 harg2 arg3 harg3 arg4 harg4 arg5 harg5 arg6 harg6 arg7 harg7 hc0 x0 x1 x2 x3) hc

theorem s_A (hc0 : cond0_0 i) (hb : Blocks x0 x1 x2 x3 X T al dk 0) (y : S4x128x1024.Idx) :
    out0_A_5 c i arg1 harg1 arg2 harg2 arg3 harg3 arg4 harg4 arg5 harg5 arg6 harg6 arg7 harg7 hc0 x0 x1 x2 x3 y = chain X T al dk (4 * 0 + (y 0).val) (ix2 (y 1) (y 2)) := by
  have hc := cover0_A_5 c i arg1 harg1 arg2 harg2 arg3 harg3 arg4 harg4 arg5 harg5 arg6 harg6 arg7 harg7 hc0 x0 x1 x2 x3 y
  unfold out0_A_5
  rw [View.read_writes_junk_eq_canon]
  exact pieces_s arg1 harg1 arg2 harg2 arg3 harg3 arg4 harg4 hb (zeros_eq arg7) y _ (saved_A c i arg1 harg1 arg2 harg2 arg3 harg3 arg4 harg4 arg5 harg5 arg6 harg6 arg7 harg7 hc0 x0 x1 x2 x3) hc

theorem c_A (hc0 : cond0_0 i) (hb : Blocks x0 x1 x2 x3 X T al dk 0) :
    sout0_A_0 c i arg1 harg1 arg2 harg2 arg3 harg3 arg4 harg4 arg5 harg5 arg6 harg6 arg7 harg7 hc0 x0 x1 x2 x3 = chain X T al dk (4 * (0 + 1)) := by
  unfold sout0_A_0
  rw [View.read_writes_junk_eq_canon, states_A c i arg1 harg1 arg2 harg2 arg3 harg3 arg4 harg4 arg5 harg5 arg6 harg6 arg7 harg7 hc0 x0 x1 x2 x3]
  exact pieces_c arg1 harg1 arg2 harg2 arg3 harg3 arg4 harg4 hb (zeros_eq arg7) _

theorem y_B (hc0 : ¬ cond0_0 i) (hb : Blocks x0 x1 x2 x3 X T al dk t) (hs : xs0 = chain X T al dk (4 * t)) (y : S512x1024.Idx) :
    out0_B_4 c i arg1 harg1 arg2 harg2 arg3 harg3 arg4 harg4 arg5 harg5 arg6 harg6 arg7 harg7 hc0 x0 x1 x2 x3 xs0 y = resultAt X T al dk (512 * t + (y 0).val) (y 1).val := by
  have hc := cover0_B_4 c i arg1 harg1 arg2 harg2 arg3 harg3 arg4 harg4 arg5 harg5 arg6 harg6 arg7 harg7 hc0 x0 x1 x2 x3 xs0 y
  unfold out0_B_4
  rw [View.read_writes_junk_eq_canon]
  exact pieces_y arg1 harg1 arg2 harg2 arg3 harg3 arg4 harg4 hb ((before_eq arg7 harg7).trans hs) y _ (results_B c i arg1 harg1 arg2 harg2 arg3 harg3 arg4 harg4 arg5 harg5 arg6 harg6 arg7 harg7 hc0 x0 x1 x2 x3 xs0) hc

theorem s_B (hc0 : ¬ cond0_0 i) (hb : Blocks x0 x1 x2 x3 X T al dk t) (hs : xs0 = chain X T al dk (4 * t)) (y : S4x128x1024.Idx) :
    out0_B_5 c i arg1 harg1 arg2 harg2 arg3 harg3 arg4 harg4 arg5 harg5 arg6 harg6 arg7 harg7 hc0 x0 x1 x2 x3 xs0 y = chain X T al dk (4 * t + (y 0).val) (ix2 (y 1) (y 2)) := by
  have hc := cover0_B_5 c i arg1 harg1 arg2 harg2 arg3 harg3 arg4 harg4 arg5 harg5 arg6 harg6 arg7 harg7 hc0 x0 x1 x2 x3 xs0 y
  unfold out0_B_5
  rw [View.read_writes_junk_eq_canon]
  exact pieces_s arg1 harg1 arg2 harg2 arg3 harg3 arg4 harg4 hb ((before_eq arg7 harg7).trans hs) y _ (saved_B c i arg1 harg1 arg2 harg2 arg3 harg3 arg4 harg4 arg5 harg5 arg6 harg6 arg7 harg7 hc0 x0 x1 x2 x3 xs0) hc

theorem c_B (hc0 : ¬ cond0_0 i) (hb : Blocks x0 x1 x2 x3 X T al dk t) (hs : xs0 = chain X T al dk (4 * t)) :
    sout0_B_0 c i arg1 harg1 arg2 harg2 arg3 harg3 arg4 harg4 arg5 harg5 arg6 harg6 arg7 harg7 hc0 x0 x1 x2 x3 xs0 = chain X T al dk (4 * (t + 1)) := by
  unfold sout0_B_0
  rw [View.read_writes_junk_eq_canon, states_B c i arg1 harg1 arg2 harg2 arg3 harg3 arg4 harg4 arg5 harg5 arg6 harg6 arg7 harg7 hc0 x0 x1 x2 x3 xs0]
  exact pieces_c arg1 harg1 arg2 harg2 arg3 harg3 arg4 harg4 hb ((before_eq arg7 harg7).trans hs) _

end outs

end Cert.Scan

end
-- ==== Proof.ScanArray.lean ====
/- The two arrays the scan leaves: every chunk's result, and the state before every chunk. -/
module

public import proofs.«01_k».proof.Proof.ScanOuts
public import Idealize.ShloMosaic.Lib.KernelVsHost

@[expose] public section

set_option maxRecDepth 16384

noncomputable section

namespace Cert.Scan

open Cert.Kernel2Ideal Cert.Kernel2Ideal.Gen Idealize.ShloMosaic Idealize.ShloMosaic.TcCoe Idealize.SL.Sem

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0, 0] := (by decide +kernel : ∀ t : Fin grid0.N, _)

variable {F : FTy → Type} [FloatOps F] (m : (ℓ : Loc nD τ sig) → Buf (Elt F) ℓ) (c : Dev nD)

/-- The arguments' arrays. -/
abbrev argX : FVec F S4096x1536 .f32 := m ((c : Thread nD τ).loc main_arg0)
abbrev argT : FVec F S4096x16 .f32 := m ((c : Thread nD τ).loc main_arg1)
abbrev argA : FVec F S1x16 .f32 := m ((c : Thread nD τ).loc main_arg2)
abbrev argD : FVec F S1x16 .f32 := m ((c : Thread nD τ).loc main_arg3)

theorem blocks (t : Fin cfg0.N) : Blocks (iblk m c 0 t) (iblk m c 1 t) (iblk m c 2 t) (iblk m c 3 t) (argX m c) (argT m c) (argA m c) (argD m c) t.val := by
  have ht : t.val < 8 := t.isLt
  constructor
  · intro r l
    blk_simp [iblk, V_main_arg0]
    refine congrArg _ ?_
    blk_ext [idx0 t]
  · intro r l
    blk_simp [iblk, V_main_arg1]
    refine congrArg _ ?_
    blk_ext [idx1 t]
  · funext y
    blk_simp [iblk, V_main_arg2]
    refine congrArg _ ?_
    blk_ext [idx2 t]
  · funext y
    blk_simp [iblk, V_main_arg3]
    refine congrArg _ ?_
    blk_ext [idx3 t]

theorem first (t : Fin cfg0.N) (h0 : t.val % 8 = 0) : t.val = 0 := by
  have ht : t.val < 8 := t.isLt
  omega

/-- The scratch after point `n` holds the state before the next point's first chunk. -/
theorem carried : ∀ (n : ℕ) (hn : n < cfg0.N), (outsAt0 m c n hn).2.2 = chain (argX m c) (argT m c) (argA m c) (argD m c) (4 * (n + 1))
  | 0, hn => by
    rw [outsAt0_A m c ⟨0, hn⟩ rfl]
    dsimp only
    exact c_A _ _ _ _ _ _ _ _ _ _ _ _ _ _ _ _ _ (blocks m c ⟨0, hn⟩)
  | n + 1, hn => by
    have h8 : n + 1 < 8 := hn
    rw [outsAt0_B m c ⟨n + 1, hn⟩ (by show ¬ (n + 1) % 8 = 0; omega)]
    dsimp only
    exact c_B _ _ _ _ _ _ _ _ _ _ _ _ _ _ _ _ _ (blocks m c ⟨n + 1, hn⟩) (carried n _)

/-- The first block after point `t`. -/
theorem y_point (t : Fin cfg0.N) (y : S512x1024.Idx) :
    (outsAt0 m c t.val t.isLt).1 y = resultAt (argX m c) (argT m c) (argA m c) (argD m c) (512 * t.val + (y 0).val) (y 1).val := by
  by_cases h0 : t.val % 8 = 0
  · rw [outsAt0_A m c t h0]
    dsimp only
    have hb := blocks m c t
    have e := first t h0
    rw [e] at hb
    refine (y_A _ _ _ _ _ _ _ _ _ _ _ _ _ _ _ _ _ hb y).trans ?_
    rw [e]
  · rw [outsAt0_B m c t h0]
    dsimp only
    have e : 4 * (t.val - 1 + 1) = 4 * t.val := by omega
    have hs := carried m c (t.val - 1) (Nat.lt_of_le_of_lt (Nat.sub_le _ _) t.isLt)
    rw [e] at hs
    exact y_B _ _ _ _ _ _ _ _ _ _ _ _ _ _ _ _ _ (blocks m c t) hs y

/-- The second block after point `t`. -/
theorem s_point (t : Fin cfg0.N) (y : S4x128x1024.Idx) :
    (outsAt0 m c t.val t.isLt).2.1 y
      = chain (argX m c) (argT m c) (argA m c) (argD m c) (4 * t.val + (y 0).val) (ix2 (y 1) (y 2)) := by
  by_cases h0 : t.val % 8 = 0
  · rw [outsAt0_A m c t h0]
    dsimp only
    have hb := blocks m c t
    have e := first t h0
    rw [e] at hb
    refine (s_A _ _ _ _ _ _ _ _ _ _ _ _ _ _ _ _ _ hb y).trans ?_
    rw [e]
  · rw [outsAt0_B m c t h0]
    dsimp only
    have e : 4 * (t.val - 1 + 1) = 4 * t.val := by omega
    have hs := carried m c (t.val - 1) (Nat.lt_of_le_of_lt (Nat.sub_le _ _) t.isLt)
    rw [e] at hs
    exact s_B _ _ _ _ _ _ _ _ _ _ _ _ _ _ _ _ _ (blocks m c t) hs y

/-- The array of results after the run. -/
theorem results : (dats m 0 c).arrAt 4 cfg0.N
    = (fun y : S4096x1024.Idx => resultAt (argX m c) (argT m c) (argA m c) (argD m c) (y 0).val (y 1).val) := by
  refine (dats m 0 c).arrAt_eq_of_covers 4 _ (by decide +kernel) fun t hf y => ?_
  have h0 : ((win0_4.blk t).view.emb y 0).val = 512 * t.val + (y 0).val := by
    blk_simp [idx4 t]
    omega
  have h1 : ((win0_4.blk t).view.emb y 1).val = (y 1).val := by blk_simp [idx4 t]
  rw [after0_4]
  refine (y_point m c t y).trans ?_
  exact (congrArg₂ (resultAt (argX m c) (argT m c) (argA m c) (argD m c)) h0 h1).symm

/-- The array of states after the run. -/
theorem states : (dats m 0 c).arrAt 5 cfg0.N
    = (fun y : S32x128x1024.Idx => stateAt (argX m c) (argT m c) (argA m c) (argD m c) (y 0).val (y 1).val (y 2).val) := by
  refine (dats m 0 c).arrAt_eq_of_covers 5 _ (by decide +kernel) fun t hf y => ?_
  have h0 : ((win0_5.blk t).view.emb y 0).val = 4 * t.val + (y 0).val := by
    blk_simp [idx5 t]
    omega
  have h1 : ((win0_5.blk t).view.emb y 1).val = (y 1).val := by blk_simp [idx5 t]
  have h2 : ((win0_5.blk t).view.emb y 2).val = (y 2).val := by blk_simp [idx5 t]
  rw [after0_5]
  refine (s_point m c t y).trans ((stateAt_eq _ _ _ _ _ _ _).symm.trans ?_)
  exact (congr (congrArg₂ (stateAt (argX m c) (argT m c) (argA m c) (argD m c)) h0 h1) h2).symm

end Cert.Scan

end
-- ==== Proof.ScanRefDefs.lean ====
/- The reference's values around its loop over the chunks, named step by step as functions of the arguments. -/
module

public import proofs.«01_k».proof.Proof.Gen.Reference2Ideal.Run

@[expose] public section

set_option maxRecDepth 16384

noncomputable section

namespace Cert.Scan.Ref

open Cert.Reference2Ideal Cert.Reference2Ideal.Gen Idealize.ShloMosaic Idealize.SL.Sem

variable {F : FTy → Type} [FloatOps F]
variable (x : FVec F S4096x1536 .f32) (dt : FVec F S4096x16 .f32) (al dk : FVec F S1x16 .f32)

/-- Each step's decay exponent, by group, head of the group, chunk and row of the chunk. -/
def rates : FVec F S2x8x32x128 .f32 :=
  transpose S2x8x32x128 [2, 3, 0, 1]
    (shapeCast S32x128x2x8
      (mulf dt (broadcastInDim S4096x16 ![0, 1] bcast_S1x16_S4096x16_0_1
        (broadcastInDim S1x16 ![1] bcast_S16_S1x16_1 (Host.negf (Host.exp (shapeCast S16 al shapeCasts_S1x16_S16))))))
      shapeCasts_S4096x16_S32x128x2x8)
    transposes_S32x128x2x8_S2x8x32x128_2_3_0_1

/-- The running sums of the exponents within each chunk. -/
def sums (a : FVec F S2x8x32x128 .f32) : FVec F S2x8x32x128 .f32 :=
  Host.reduceWindowAdd ![1, 1, 1, 128] ![1, 1, 1, 1] ![0, 0, 0, 127] ![0, 0, 0, 0] a
    (broadcastInDim S_ ![] bcast_S_S_ (constant S_ .f32 0x00000000#32))
    reduceWindows_S2x8x32x128_S2x8x32x128_w1s1p0_0_w1s1p0_0_w1s1p0_0_w128s1p127_0 h_S_

/-- The rows of the head's channels. -/
def heads : FVec F S4096x16x64 .f32 :=
  shapeCast S4096x16x64 (extractStridedSlice S4096x1024 ![0, 0] x slices_S4096x1536_S4096x1024_0_0)
    shapeCasts_S4096x1024_S4096x16x64

/-- The channels times the step sizes, by chunk, row, group, head and channel. -/
def steps : FVec F S32x128x2x8x64 .f32 :=
  shapeCast S32x128x2x8x64
    (mulf (heads x) (broadcastInDim S4096x16x64 ![0, 1, 2] bcast_S4096x16x1_S4096x16x64_0_1_2
      (broadcastInDim S4096x16x1 ![0, 1] bcast_S4096x16_S4096x16x1_0_1 dt)))
    shapeCasts_S4096x16x64_S32x128x2x8x64

/-- The columns of the input projection of the state. -/
def inCols : FVec F S32x128x2x128 .f32 :=
  shapeCast S32x128x2x128
    (shapeCast S4096x2x128 (extractStridedSlice S4096x256 ![0, 1024] x slices_S4096x1536_S4096x256_0_1024)
      shapeCasts_S4096x256_S4096x2x128)
    shapeCasts_S4096x2x128_S32x128x2x128

/-- The columns of the output projection of the state. -/
def outCols : FVec F S32x128x2x128 .f32 :=
  shapeCast S32x128x2x128
    (shapeCast S4096x2x128 (extractStridedSlice S4096x256 ![0, 1280] x slices_S4096x1536_S4096x256_0_1280)
      shapeCasts_S4096x256_S4096x2x128)
    shapeCasts_S4096x2x128_S32x128x2x128

/-- The lower triangle of a chunk. -/
def lower : IVec S128x128 1 :=
  select (cmpi .sge (addi (iotaInDim S128x128 32 0) (broadcastInDim S128x128 ![] bcast_S_S128x128 (constantI S_ 32 0#32)))
      (iotaInDim S128x128 32 1))
    (broadcastInDim S128x128 ![] bcast_S_S128x128 (constantI S_ 1 1#1))
    (broadcastInDim S128x128 ![] bcast_S_S128x128 (constantI S_ 1 0#1))

/-- The decay between two rows of a chunk. -/
def between (a : FVec F S2x8x32x128 .f32) : FVec F S2x8x32x128x128 .f32 :=
  Host.exp (select (broadcastInDim S2x8x32x128x128 ![3, 4] bcast_S128x128_S2x8x32x128x128_3_4 lower)
    (subf
      (broadcastInDim S2x8x32x128x128 ![0, 1, 2, 3, 4] bcast_S2x8x32x128x1_S2x8x32x128x128_0_1_2_3_4
        (broadcastInDim S2x8x32x128x1 ![0, 1, 2, 3] bcast_S2x8x32x128_S2x8x32x128x1_0_1_2_3 a))
      (broadcastInDim S2x8x32x128x128 ![0, 1, 2, 3, 4] bcast_S2x8x32x1x128_S2x8x32x128x128_0_1_2_3_4
        (broadcastInDim S2x8x32x1x128 ![0, 1, 2, 4] bcast_S2x8x32x128_S2x8x32x1x128_0_1_2_4 a)))
    (broadcastInDim S2x8x32x128x128 ![] bcast_S_S2x8x32x128x128 (constant S_ .f32 0xFF800000#32)))

/-- The scores of the rows of a chunk against each other. -/
def scores (b c : FVec F S32x128x2x128 .f32) : FVec F S2x32x128x128 .f32 :=
  Host.dotGeneral dot_S32x128x2x128_S32x128x2x128_S2x32x128x128_3_3_1_1_20_20 none c b

/-- What each chunk's own rows give its result. -/
def within (p : FVec F S32x128x2x8x64 .f32) (s : FVec F S2x32x128x128 .f32) (d : FVec F S2x8x32x128x128 .f32) :
    FVec F S32x128x2x8x64 .f32 :=
  transpose S32x128x2x8x64 [0, 4, 1, 2, 3]
    (Host.dotGeneral dot_S32x128x2x8x64_S2x8x32x128x128_S32x2x8x64x128_1_4_4_3_023_201 none p
      (mulf (broadcastInDim S2x8x32x128x128 ![0, 1, 2, 3, 4] bcast_S2x1x32x128x128_S2x8x32x128x128_0_1_2_3_4
        (broadcastInDim S2x1x32x128x128 ![0, 2, 3, 4] bcast_S2x32x128x128_S2x1x32x128x128_0_2_3_4 s)) d))
    transposes_S32x2x8x64x128_S32x128x2x8x64_0_4_1_2_3

/-- The state each chunk's own rows leave. -/
def chunkStates (p : FVec F S32x128x2x8x64 .f32) (b : FVec F S32x128x2x128 .f32) (a : FVec F S2x8x32x128 .f32) :
    FVec F S32x2x8x64x128 .f32 :=
  Host.dotGeneral dot_S32x128x2x8x64_S32x128x2x128_S32x2x8x64x128_1_1_34_3_02_02 none
    (mulf p (broadcastInDim S32x128x2x8x64 ![0, 1, 2, 3, 4] bcast_S32x128x2x8x1_S32x128x2x8x64_0_1_2_3_4
      (broadcastInDim S32x128x2x8x1 ![0, 1, 2, 3] bcast_S32x128x2x8_S32x128x2x8x1_0_1_2_3
        (transpose S32x128x2x8 [2, 3, 0, 1]
          (Host.exp (subf
            (broadcastInDim S2x8x32x128 ![0, 1, 2, 3] bcast_S2x8x32x1_S2x8x32x128_0_1_2_3
              (extractStridedSlice S2x8x32x1 ![0, 0, 0, 127] a slices_S2x8x32x128_S2x8x32x1_0_0_0_127)) a))
          transposes_S2x8x32x128_S32x128x2x8_2_3_0_1))))
    b

/-- The decay over a whole chunk. -/
def chunkDecays (a : FVec F S2x8x32x128 .f32) : FVec F S32x2x8 .f32 :=
  transpose S32x2x8 [2, 0, 1]
    (Host.exp (shapeCast S2x8x32
      (extractStridedSlice S2x8x32x1 ![0, 0, 0, 127] a slices_S2x8x32x128_S2x8x32x1_0_0_0_127) shapeCasts_S2x8x32x1_S2x8x32))
    transposes_S2x8x32_S32x2x8_2_0_1

/-- What the states before each chunk give its result. -/
def across (e : FVec F S32x2x8x64x128 .f32) (c : FVec F S32x128x2x128 .f32) (a : FVec F S2x8x32x128 .f32) :
    FVec F S32x128x2x8x64 .f32 :=
  mulf
    (transpose S32x128x2x8x64 [0, 4, 1, 2, 3]
      (Host.dotGeneral dot_S32x2x8x64x128_S32x128x2x128_S32x2x8x64x128_4_3_23_1_01_02 none e c)
      transposes_S32x2x8x64x128_S32x128x2x8x64_0_4_1_2_3)
    (broadcastInDim S32x128x2x8x64 ![0, 1, 2, 3, 4] bcast_S32x128x2x8x1_S32x128x2x8x64_0_1_2_3_4
      (broadcastInDim S32x128x2x8x1 ![0, 1, 2, 3] bcast_S32x128x2x8_S32x128x2x8x1_0_1_2_3
        (transpose S32x128x2x8 [2, 3, 0, 1] (Host.exp a) transposes_S2x8x32x128_S32x128x2x8_2_3_0_1)))

/-- The result: both parts, and the channels times the skip weights. -/
def result (w o : FVec F S32x128x2x8x64 .f32) (h : FVec F S4096x16x64 .f32) : FVec F S4096x1024 .f32 :=
  shapeCast S4096x1024
    (addf (shapeCast S4096x16x64 (addf w o) shapeCasts_S32x128x2x8x64_S4096x16x64)
      (mulf h (broadcastInDim S4096x16x64 ![0, 1, 2] bcast_S1x16x1_S4096x16x64_0_1_2
        (broadcastInDim S1x16x1 ![1, 2] bcast_S16x1_S1x16x1_1_2
          (broadcastInDim S16x1 ![0] bcast_S16_S16x1_0 (shapeCast S16 dk shapeCasts_S1x16_S16))))))
    shapeCasts_S4096x16x64_S4096x1024

/-- The states before each chunk, as the result has them. -/
def saved (e : FVec F S32x2x8x64x128 .f32) : FVec F S32x128x1024 .f32 :=
  transpose S32x128x1024 [0, 2, 1] (shapeCast S32x1024x128 e shapeCasts_S32x2x8x64x128_S32x1024x128)
    transposes_S32x1024x128_S32x128x1024_0_2_1

end Cert.Scan.Ref

end
-- ==== Proof.ScanRefRead.lean ====
/- The reference's buffers around its loop hold the named values. -/
module

public import proofs.«01_k».proof.Proof.ScanRefDefs
public import Idealize.ShloMosaic.Lib.StableHlo.RunRead

@[expose] public section

set_option maxRecDepth 16384

noncomputable section

namespace Cert.Scan.Ref

open Cert.Reference2Ideal Cert.Reference2Ideal.Gen Cert.Reference2Ideal.Value Idealize.ShloMosaic Idealize.ShloMosaic.TcCoe Idealize.ShloMosaic.StableHlo Idealize.SL.Sem

variable {F : FTy → Type} [FloatOps F]
variable (V : Valuation τ sig (Elt F))

/-- The contents when the loop is entered. -/
abbrev before : Valuation τ sig (Elt F) :=
  after hostOps0_6 (after hostOps0_5 (after hostOps0_4 (after hostOps0_3 (after hostOps0_2 (after hostOps0_1 (after hostOps0 V))))))

abbrev aV : FVec F S2x8x32x128 .f32 := sums (rates (V (Proc.devRef .tc main_arg1)) (V (Proc.devRef .tc main_arg2)))

set_option maxHeartbeats 2000000 in
theorem sums_before : before V (Proc.devRef .tc main_v20) = aV V := by
  after_reads_simp
  rfl

set_option maxHeartbeats 2000000 in
theorem decays_before : before V (Proc.devRef .tc main_v51_0) = chunkDecays (aV V) := by
  after_reads_simp
  rfl

abbrev xV : FVec F S4096x1536 .f32 := V (Proc.devRef .tc main_arg0)
abbrev tV : FVec F S4096x16 .f32 := V (Proc.devRef .tc main_arg1)

set_option maxHeartbeats 2000000 in
theorem states_before : before V (Proc.devRef .tc main_v51_1) = chunkStates (steps (xV V) (tV V)) (inCols (xV V)) (aV V) := by
  after_reads_simp
  rfl

theorem start_before : before V (Proc.devRef .tc main_v51_3)
    = broadcastInDim S2x8x64x128 ![] bcast_S_S2x8x64x128 (constant (F := F) S_ .f32 0x00000000#32) := by
  after_reads_simp
  rfl

set_option maxHeartbeats 2000000 in
theorem within_before : before V (Proc.devRef .tc main_v35)
    = within (steps (xV V) (tV V)) (scores (inCols (xV V)) (outCols (xV V))) (between (aV V)) := by
  after_reads_simp
  rfl

theorem outCols_before : before V (Proc.devRef .tc main_v14) = outCols (xV V) := by
  after_reads_simp
  rfl

theorem heads_before : before V (Proc.devRef .tc main_v3) = heads (xV V) := by
  after_reads_simp
  rfl

theorem skip_before : before V (Proc.devRef .tc main_arg3) = V (Proc.devRef .tc main_arg3) := by
  after_reads_simp

set_option maxHeartbeats 2000000 in
theorem result_after : after hostOps0_7 V (Proc.devRef .tc main_v69)
    = result (V (Proc.devRef .tc main_arg3)) (V (Proc.devRef .tc main_v35))
        (across (V (Proc.devRef .tc main_v51_4)) (V (Proc.devRef .tc main_v14)) (V (Proc.devRef .tc main_v20)))
        (V (Proc.devRef .tc main_v3)) := by
  after_reads_simp
  rfl

theorem saved_after : after hostOps0_7 V (Proc.devRef .tc main_v62) = saved (V (Proc.devRef .tc main_v51_4)) := by
  after_reads_simp
  rfl

end Cert.Scan.Ref

end
-- ==== Proof.ScanPrefix.lean ====
/- A window sum padded low by one less than the axis is the running sum along the last axis. -/
module

public import proofs.«01_k».proof.Proof.ScanRefDefs
public import Idealize.ShloMosaic.Lib.Pointwise

@[expose] public section

set_option maxRecDepth 16384

noncomputable section

namespace Cert.Scan.Ref

open Cert.Reference2Ideal Cert.Reference2Ideal.Gen Idealize.ShloMosaic Idealize.SL.Sem

/-- A left fold of additions is the sum of what it adds. -/
theorem fold_sum {ι : Type} (f : ι → EReal) (l : List ι) (v : EReal) : l.foldl (fun r n => r + f n) v = v + (l.map f).sum := by
  induction l generalizing v with
  | nil => simp
  | cons i l ih => rw [List.foldl_cons, ih, List.map_cons, List.sum_cons, add_assoc]

/-- The window's positions are those of its last axis. -/
def lastAxis : Fin 128 ≃ (⟨4, ![1, 1, 1, 128]⟩ : Shape).Idx where
  toFun k := ix4 0 0 0 k
  invFun i := i 3
  left_inv _ := rfl
  right_inv i := by
    have e : ∀ (a : Fin 4) (z : Fin ((![1, 1, 1, 128] : Fin 4 → ℕ) a)), (a : ℕ) ≠ 3 → z.val = 0 := by
      intro a z h
      match a with
      | 0 | 1 | 2 => exact Nat.lt_one_iff.1 z.isLt
      | 3 => exact absurd rfl h
    funext a
    match a with
    | 0 => exact Fin.ext (e 0 (i 0) (by decide)).symm
    | 1 => exact Fin.ext (e 1 (i 1) (by decide)).symm
    | 2 => exact Fin.ext (e 2 (i 2) (by decide)).symm
    | 3 => rfl

/-- Positions `127 - l` on of the window at `l` are the entries up to `l`. -/
theorem window_sum (f : Fin 128 → EReal) (l : Fin 128) :
    (∑ w : Fin 128, if h : 127 ≤ l.val + w.val then f ⟨l.val + w.val - 127, by omega⟩ else 0) = ∑ k : Fin 128, if k ≤ l then f k else 0 := by
  have e1 : ∀ w : Fin 128, (if h : 127 ≤ l.val + w.val then f ⟨l.val + w.val - 127, by omega⟩ else 0)
      = ∑ k : Fin 128, if k.val + 127 = l.val + w.val then f k else 0 := by
    intro w
    by_cases h : 127 ≤ l.val + w.val
    · rw [dif_pos h, Finset.sum_eq_single (⟨l.val + w.val - 127, by omega⟩ : Fin 128) (fun k _ hk => if_neg fun he => hk (Fin.ext (by
        show k.val = l.val + w.val - 127
        omega))) (fun hn => absurd (Finset.mem_univ _) hn)]
      exact (if_pos (by show l.val + w.val - 127 + 127 = _; omega)).symm
    · rw [dif_neg h]
      exact (Finset.sum_eq_zero fun k _ => if_neg (by omega)).symm
  simp only [e1]
  rw [Finset.sum_comm]
  refine Finset.sum_congr rfl fun k _ => ?_
  by_cases h : k ≤ l
  · have hk : k.val ≤ l.val := h
    rw [if_pos h, Finset.sum_eq_single (⟨k.val + 127 - l.val, by omega⟩ : Fin 128) (fun w _ hw => if_neg fun he => hw (Fin.ext (by
        show w.val = k.val + 127 - l.val
        omega))) (fun hn => absurd (Finset.mem_univ _) hn)]
    exact if_pos (by show k.val + 127 = l.val + (k.val + 127 - l.val); omega)
  · have hk : l.val < k.val := lt_of_not_ge h
    rw [if_neg h]
    exact Finset.sum_eq_zero fun w _ => if_neg (by omega)

theorem sums_at (a : FVec Ideal S2x8x32x128 .f32) (g : Fin 2) (e : Fin 8) (c : Fin 32) (l : Fin 128) :
    sums a (ix4 g e c l) = ∑ k : Fin 128, if k ≤ l then a (ix4 g e c k) else 0 := by
  unfold sums Host.reduceWindowAdd
  have hz : (broadcastInDim S_ ![] bcast_S_S_ (constant (F := Ideal) S_ .f32 0x00000000#32)) (Shape.Idx.first h_S_) = 0 :=
    Ideal.ofBits_zero FTy.f32
  rw [hz]
  change Host.reduceWindow (u := ⟨0, ![]⟩) (· + ·) ![1, 1, 1, 128] ![1, 1, 1, 1] ![0, 0, 0, 127] ![0, 0, 0, 0] a (fun _ => (0 : EReal))
    reduceWindows_S2x8x32x128_S2x8x32x128_w1s1p0_0_w1s1p0_0_w1s1p0_0_w128s1p127_0 (by decide) (ix4 g e c l) = _
  unfold Host.reduceWindow
  dsimp only
  rw [← window_sum]
  refine (fold_sum _ _ _).trans ?_
  rw [zero_add, ← Fin.sum_univ_def]
  refine Fintype.sum_equiv ((⟨4, ![1, 1, 1, 128]⟩ : Shape).rowMajor.symm.trans lastAxis.symm) _ _ fun n => ?_
  obtain ⟨w, hw⟩ : ∃ w, (⟨4, ![1, 1, 1, 128]⟩ : Shape).rowMajor.symm n = lastAxis w := ⟨_, (lastAxis.apply_symm_apply _).symm⟩
  have e2 : ((⟨4, ![1, 1, 1, 128]⟩ : Shape).rowMajor.symm.trans lastAxis.symm) n = w := (Equiv.symm_apply_eq _).2 hw
  rw [e2]
  simp only [hw]
  by_cases h : 127 ≤ l.val + w.val
  · rw [dif_pos h, dif_pos (fun b => by
      match b with
      | 0 => exact ⟨Nat.zero_le _, (show g.val * 1 + 0 - 0 < 2 by omega)⟩
      | 1 => exact ⟨Nat.zero_le _, (show e.val * 1 + 0 - 0 < 8 by omega)⟩
      | 2 => exact ⟨Nat.zero_le _, (show c.val * 1 + 0 - 0 < 32 by omega)⟩
      | 3 => exact (show 127 ≤ l.val * 1 + w.val ∧ l.val * 1 + w.val - 127 < 128 by omega))]
    refine congrArg a (funext fun b => Fin.ext ?_)
    match b with
    | 0 => exact (show g.val * 1 + 0 - 0 = g.val by omega)
    | 1 => exact (show e.val * 1 + 0 - 0 = e.val by omega)
    | 2 => exact (show c.val * 1 + 0 - 0 = c.val by omega)
    | 3 => exact (show l.val * 1 + w.val - 127 = l.val + w.val - 127 by omega)
  · rw [dif_neg h, dif_neg fun hb => h ?_]
    have := (hb 3).1
    exact (show 127 ≤ l.val + w.val by
      change 127 ≤ l.val * 1 + w.val at this
      omega)

end Cert.Scan.Ref

end
-- ==== Proof.Consts.lean ====
/- Single words of float format as extended reals. -/
module

public import Idealize.ShloMosaic.Lib.Pointwise
public import Idealize.ShloMosaic.Lib.IdealHost

@[expose] public section

noncomputable section

namespace Cert.Consts

open Idealize.ShloMosaic

theorem half : Ideal.ofBits FTy.f32 0x3F000000#32 = ((1 / 2 : ℝ) : EReal) := by
  unfold Ideal.ofBits
  simp [Ideal.ieee, -EReal.coe_mul]
  norm_num

theorem two : Ideal.ofBits FTy.f32 0x40000000#32 = ((2 : ℝ) : EReal) := by
  unfold Ideal.ofBits
  simp [Ideal.ieee, -EReal.coe_mul]
  norm_num

theorem width : Ideal.ofBits FTy.f32 0x44800000#32 = ((1024 : ℝ) : EReal) := by
  unfold Ideal.ofBits
  simp [Ideal.ieee, -EReal.coe_mul]
  norm_num

theorem low : Ideal.ofBits FTy.f32 4286578688#32 = ⊥ := by
  unfold Ideal.ofBits
  simp [Ideal.ieee]

theorem high : Ideal.ofBits FTy.f32 0x7F800000#32 = ⊤ := by
  unfold Ideal.ofBits
  simp [Ideal.ieee]

/-- A number that is not negative goes through a sum of any extended reals. -/
theorem mul_sum {ι : Type} (s : Finset ι) (f : ι → EReal) (x : ℝ) (hx : 0 ≤ x) : (x : EReal) * ∑ i ∈ s, f i = ∑ i ∈ s, (x : EReal) * f i := by
  classical
  induction s using Finset.induction_on with
  | empty => simp
  | insert a s ha ih => rw [Finset.sum_insert ha, Finset.sum_insert ha, EReal.left_distrib_of_nonneg_of_ne_top (EReal.coe_nonneg.mpr hx) (EReal.coe_ne_top x), ih]

/-- Twice, as a sum. -/
theorem two_mul (e : EReal) : ((2 : ℝ) : EReal) * e = e + e := by
  induction e with
  | bot => exact (EReal.coe_mul_bot_of_pos (by norm_num)).trans rfl
  | coe e => exact (EReal.coe_mul 2 e).symm.trans ((congrArg _ (_root_.two_mul e)).trans (EReal.coe_add e e))
  | top => exact (EReal.coe_mul_top_of_pos (by norm_num)).trans rfl

end Cert.Consts

end
-- ==== Proof.ScanHead.lean ====
/- A pair of heads' product at an index: the other head's channels are masked away. -/
module

public import proofs.«01_k».proof.Proof.ScanChunk
public import proofs.«01_k».proof.Proof.Consts

@[expose] public section

set_option maxRecDepth 16384

noncomputable section

namespace Cert.Scan

open Cert.Kernel2Ideal Cert.Kernel2Ideal.Gen Idealize.ShloMosaic Idealize.SL.Sem

theorem low_word : Ideal.ofBits FTy.f32 4286578688#32 = ⊥ := Consts.low

theorem high_word : Ideal.ofBits FTy.f32 0x7F800000#32 = ⊤ := Consts.high

theorem pairY_at (A B : FVec Ideal S128x128 .f32) (x : FVec Ideal S128x1024 .f32) (o : ℕ)
    (ho : S128x1024.Slices ![0, o] S128x128) (hb : o + 128 ≤ 1024) (l j : Fin 128) :
    pairY A B x o ho (ix2 l j)
      = ∑ s : Fin 128, (if j.val < 64 then A (ix2 l s) else B (ix2 l s)) * x (ix2 s ⟨o + j.val, by omega⟩) := by
  pointwise [pairY]
  rw [m0_at, m1_at]
  by_cases h : j.val < 64
  · simp only [if_pos h, mul_one, mul_zero, Finset.sum_const_zero, add_zero]
  · simp only [if_neg h, mul_one, mul_zero, Finset.sum_const_zero, zero_add]

theorem headMat_at (sc : FVec Ideal S128x128 .f32) (c : FVec Ideal S128x16 .f32) (cT : FVec Ideal S16x128 .f32) (h : ℕ)
    (h1 : S128x16.Slices ![0, h] S128x1) (h2 : S16x128.Slices ![h, 0] S1x128) (hh : h < 16) (l s : Fin 128) :
    headMat sc c cT h h1 h2 (ix2 l s)
      = sc (ix2 l s) * if s ≤ l then Ideal.exp (c (ix2 l ⟨h, hh⟩) - cT (ix2 ⟨h, hh⟩ s)) else 0 := by
  pointwise [headMat]
  rw [causal_at]
  by_cases k : s ≤ l
  · rw [decide_eq_true k, if_pos k]; rfl
  · rw [decide_eq_false k, if_neg k]
    show _ * Ideal.exp (Ideal.ofBits FTy.f32 4286578688#32) = _
    rw [low_word]; rfl

/-- A value that is a real number. -/
def Real' (v : EReal) : Prop := ∃ r : ℝ, v = r

theorem Real'.zero : Real' 0 := ⟨0, rfl⟩
theorem Real'.sub {a b : EReal} : Real' a → Real' b → Real' (a - b) := by
  rintro ⟨x, rfl⟩ ⟨y, rfl⟩; exact ⟨x - y, (EReal.coe_sub x y).symm⟩
theorem Real'.add {a b : EReal} : Real' a → Real' b → Real' (a + b) := by
  rintro ⟨x, rfl⟩ ⟨y, rfl⟩; exact ⟨x + y, (EReal.coe_add x y).symm⟩
theorem Real'.mul {a b : EReal} : Real' a → Real' b → Real' (a * b) := by
  rintro ⟨x, rfl⟩ ⟨y, rfl⟩; exact ⟨x * y, (EReal.coe_mul x y).symm⟩
theorem Real'.exp {a : EReal} : Real' a → Real' (Ideal.exp a) := by
  rintro ⟨x, rfl⟩; exact ⟨_, rfl⟩
theorem Real'.ite {p : Prop} [Decidable p] {a b : EReal} (ha : Real' a) (hb : Real' b) : Real' (if p then a else b) := by
  split <;> assumption
theorem Real'.sum {ι : Type} (s : Finset ι) {f : ι → EReal} (h : ∀ i, Real' (f i)) : Real' (∑ i ∈ s, f i) := by
  classical
  induction s using Finset.induction_on with
  | empty => exact .zero
  | insert a s ha ih => rw [Finset.sum_insert ha]; exact (h a).add ih
theorem Real'.rest {a : EReal} : Real' a → a - a = 0 := by
  rintro ⟨x, rfl⟩; rw [← EReal.coe_sub, sub_self]; rfl

variable {dt : FVec Ideal S128x16 .f32} {al dk : FVec Ideal S1x16 .f32}

/-- The exponent of step `k`'s decay in head `h`, and its sum over the steps up to `l`. -/
def ex (dt : FVec Ideal S128x16 .f32) (al : FVec Ideal S1x16 .f32) (k : Fin 128) (h : Fin 16) : EReal :=
  dt (ix2 k h) * (0 - Ideal.exp (al (ix2 0 h)))
def run (dt : FVec Ideal S128x16 .f32) (al : FVec Ideal S1x16 .f32) (l : Fin 128) (h : Fin 16) : EReal :=
  ∑ k : Fin 128, if k ≤ l then ex dt al k h else 0

theorem ex_real (hd : ∀ i, Real' (dt i)) (ha : ∀ i, Real' (al i)) (k h) : Real' (ex dt al k h) :=
  (hd _).mul (Real'.zero.sub (ha _).exp)
theorem run_real (hd : ∀ i, Real' (dt i)) (ha : ∀ i, Real' (al i)) (l h) : Real' (run dt al l h) :=
  Real'.sum _ fun k => Real'.ite (ex_real hd ha k h) .zero

theorem pay10_at (k : Fin 128) (h : Fin 16) : k0_pay10 (F := Ideal) dt al (ix2 k h) = ex dt al k h := by
  pointwise [k0_pay10, ex]

theorem cs_at (hd : ∀ i, Real' (dt i)) (ha : ∀ i, Real' (al i)) (l : Fin 128) (h : Fin 16) :
    cs dt al (ix2 l h) = run dt al l h := by
  pointwise [cs, k0_pay11]
  simp only [pay10_at, (ex_real hd ha _ _).rest, tril_at, sub_zero, mul_zero, Finset.sum_const_zero, add_zero, ite_mul, one_mul, zero_mul, ite_self]
  rfl

theorem csT_at (hd : ∀ i, Real' (dt i)) (ha : ∀ i, Real' (al i)) (l : Fin 128) (h : Fin 16) :
    csT dt al (ix2 h l) = run dt al l h := by
  pointwise [csT, k0_pay12]
  simp only [pay10_at, (ex_real hd ha _ _).rest, triu_at, sub_zero, zero_mul, Finset.sum_const_zero, add_zero, mul_ite, mul_one, mul_zero, ite_self]
  rfl

/-- The numbers of a chunk per head, one above the other. -/
def perHead (dt : FVec Ideal S128x16 .f32) (al dk : FVec Ideal S1x16 .f32) (r : Fin 400) (h : Fin 16) : EReal :=
  if h0 : r.val < 128 then dt (ix2 ⟨r.val, h0⟩ h)
  else if h1 : r.val < 256 then Ideal.exp (run dt al 127 h - run dt al ⟨r.val - 128, by omega⟩ h)
  else if h2 : r.val < 384 then Ideal.exp (run dt al ⟨r.val - 256, by omega⟩ h)
  else if r.val < 392 then Ideal.exp (run dt al 127 h) else dk (ix2 0 h)

theorem perHead_real (hd : ∀ i, Real' (dt i)) (ha : ∀ i, Real' (al i)) (hk : ∀ i, Real' (dk i)) (r h) :
    Real' (perHead dt al dk r h) := by
  unfold perHead
  split
  · exact hd _
  split
  · exact ((run_real hd ha _ _).sub (run_real hd ha _ _)).exp
  split
  · exact (run_real hd ha _ _).exp
  exact Real'.ite (run_real hd ha _ _).exp (hk _)

/-- The same as an operation on vectors, and its spreading over the channels in two parts. -/
def stack {F : FTy → Type} [FloatOps F] (v : FVec F S128x16 .f32) (c : FVec F S128x16 .f32) (dk : FVec F S1x16 .f32) : FVec F S400x16 .f32 :=
  concatenate S400x16 0 [⟨S128x16, v⟩,
    ⟨S128x16, exp (subf (broadcastTo S128x16 (extractStridedSlice S1x16 ![127, 0] c slices_S128x16_o127_0_S1x16) broadcasts_S1x16_S128x16) c)⟩,
    ⟨S128x16, exp c⟩,
    ⟨S8x16, broadcastTo S8x16 (shapeCast S1x16 (exp (extractStridedSlice S1x16 ![127, 0] c slices_S128x16_o127_0_S1x16))
      shapeCasts_S1x16_S1x16) broadcasts_S1x16_S8x16⟩,
    ⟨S8x16, broadcastTo S8x16 (shapeCast S1x16 dk shapeCasts_S1x16_S1x16) broadcasts_S1x16_S8x16⟩]
    concatenates_S128x16_S128x16_S128x16_S8x16_S8x16_S400x16_d0

def twice {F : FTy → Type} [FloatOps F] (p : FVec F S400x16 .f32) (e : FVec F S16x1024 .f32) : FVec F S400x1024 .f32 :=
  addf (matmul dot_S400x16_S16x1024_S400x1024_1_0_0_1_n_n none (truncf .bf16 p bitsLt_bf16_f32) (truncf .bf16 e bitsLt_bf16_f32)
      (constant S400x1024 .f32 0x00000000#32))
    (matmul dot_S400x16_S16x1024_S400x1024_1_0_0_1_n_n none
      (truncf .bf16 (subf p (extf .f32 (truncf .bf16 p bitsLt_bf16_f32) bitsLt_bf16_f32)) bitsLt_bf16_f32)
      (truncf .bf16 e bitsLt_bf16_f32) (constant S400x1024 .f32 0x00000000#32))

theorem pieces_at (a b c : FVec Ideal S128x16 .f32) (d e : FVec Ideal S8x16 .f32) (r : Fin 400) (h : Fin 16) :
    concatenate S400x16 0 [⟨S128x16, a⟩, ⟨S128x16, b⟩, ⟨S128x16, c⟩, ⟨S8x16, d⟩, ⟨S8x16, e⟩]
        concatenates_S128x16_S128x16_S128x16_S8x16_S8x16_S400x16_d0 (ix2 r h)
      = if h0 : r.val < 128 then a (ix2 ⟨r.val, h0⟩ h) else if h1 : r.val < 256 then b (ix2 ⟨r.val - 128, by omega⟩ h)
        else if h2 : r.val < 384 then c (ix2 ⟨r.val - 256, by omega⟩ h)
        else if h3 : r.val < 392 then d (ix2 ⟨r.val - 384, by omega⟩ h) else e (ix2 ⟨r.val - 392, by omega⟩ h) := by
  split
  · exact concatenate_apply_piece (t := S400x16) 0 _ _ (ix2 r h) 0 (Nat.lt_of_lt_of_eq (by decide : 0 < 5) rfl) S128x16 a rfl rfl 0 rfl (ix2 ⟨r.val, by omega⟩ h)
      (fun y hy => by fin_cases y <;> first | exact absurd rfl hy | rfl) (by show 0 + (r.val) = r.val; omega)
  split
  · exact concatenate_apply_piece (t := S400x16) 0 _ _ (ix2 r h) 1 (Nat.lt_of_lt_of_eq (by decide : 1 < 5) rfl) S128x16 b rfl rfl 128 rfl (ix2 ⟨r.val - 128, by omega⟩ h)
      (fun y hy => by fin_cases y <;> first | exact absurd rfl hy | rfl) (by show 128 + (r.val - 128) = r.val; omega)
  split
  · exact concatenate_apply_piece (t := S400x16) 0 _ _ (ix2 r h) 2 (Nat.lt_of_lt_of_eq (by decide : 2 < 5) rfl) S128x16 c rfl rfl 256 rfl (ix2 ⟨r.val - 256, by omega⟩ h)
      (fun y hy => by fin_cases y <;> first | exact absurd rfl hy | rfl) (by show 256 + (r.val - 256) = r.val; omega)
  split
  · exact concatenate_apply_piece (t := S400x16) 0 _ _ (ix2 r h) 3 (Nat.lt_of_lt_of_eq (by decide : 3 < 5) rfl) S8x16 d rfl rfl 384 rfl (ix2 ⟨r.val - 384, by omega⟩ h)
      (fun y hy => by fin_cases y <;> first | exact absurd rfl hy | rfl) (by show 384 + (r.val - 384) = r.val; omega)
  · exact concatenate_apply_piece (t := S400x16) 0 _ _ (ix2 r h) 4 (Nat.lt_of_lt_of_eq (by decide : 4 < 5) rfl) S8x16 e rfl rfl 392 rfl (ix2 ⟨r.val - 392, by omega⟩ h)
      (fun y hy => by fin_cases y <;> first | exact absurd rfl hy | rfl) (by show 392 + (r.val - 392) = r.val; omega)

theorem stack_at (hd : ∀ i, Real' (dt i)) (ha : ∀ i, Real' (al i)) (r : Fin 400) (h : Fin 16) :
    stack dt (cs dt al) dk (ix2 r h) = perHead dt al dk r h := by
  unfold stack perHead
  rw [pieces_at]
  split
  · rfl
  split
  · pointwise []
    rw [cs_at hd ha, cs_at hd ha]
  split
  · pointwise []
    rw [cs_at hd ha]
  split
  · pointwise []
    rw [cs_at hd ha]
  · pointwise []

theorem twice_at (p : FVec Ideal S400x16 .f32) (r : Fin 400) (j : Fin 1024) (hp : ∀ h, Real' (p (ix2 r h))) :
    twice p k0_pay6 (ix2 r j) = p (ix2 r ⟨j.val / 64, by omega⟩) := by
  pointwise [twice]
  simp only [(hp _).rest, expand_at, zero_mul, Finset.sum_const_zero, add_zero, mul_ite, mul_one, mul_zero, ite_self]
  rw [Finset.sum_eq_single (⟨j.val / 64, by omega⟩ : Fin 16)]
  · exact if_pos rfl
  · intro b _ hb
    exact if_neg fun e => hb (Fin.ext e.symm)
  · intro h; exact absurd (Finset.mem_univ _) h

theorem chan_eq {F : FTy → Type} [FloatOps F] (dt : FVec F S128x16 .f32) (al dk : FVec F S1x16 .f32) :
    chan dt al dk = twice (stack dt (cs dt al) dk) k0_pay6 := rfl

theorem chan_at (hd : ∀ i, Real' (dt i)) (ha : ∀ i, Real' (al i)) (hk : ∀ i, Real' (dk i)) (r : Fin 400) (j : Fin 1024) :
    chan dt al dk (ix2 r j) = perHead dt al dk r ⟨j.val / 64, by omega⟩ := by
  have e (h) := stack_at (dk := dk) hd ha r h
  rw [chan_eq, twice_at _ _ _ fun h => by rw [e]; exact perHead_real hd ha hk r h, e]

/-- The parts of the spread numbers that the chunk reads. -/
def head (j : Fin 1024) : Fin 16 := ⟨j.val / 64, by omega⟩

theorem dtE_at (hd : ∀ i, Real' (dt i)) (ha : ∀ i, Real' (al i)) (hk : ∀ i, Real' (dk i)) (l : Fin 128) (j : Fin 1024) :
    dtE dt al dk (ix2 l j) = dt (ix2 l (head j)) := by
  pointwise [dtE]
  rw [chan_at hd ha hk]
  exact dif_pos l.isLt

theorem decEnd_at (hd : ∀ i, Real' (dt i)) (ha : ∀ i, Real' (al i)) (hk : ∀ i, Real' (dk i)) (r : Fin 400) (l : Fin 128)
    (j : Fin 1024) (hr : r.val = 128 + l.val) :
    chan dt al dk (ix2 r j) = Ideal.exp (run dt al 127 (head j) - run dt al l (head j)) := by
  rw [chan_at hd ha hk]
  refine (dif_neg (by omega)).trans ((dif_pos (by omega)).trans ?_)
  congr 3
  exact Fin.ext (by simp only; omega)

theorem decStart_at (hd : ∀ i, Real' (dt i)) (ha : ∀ i, Real' (al i)) (hk : ∀ i, Real' (dk i)) (r : Fin 400) (l : Fin 128)
    (j : Fin 1024) (hr : r.val = 256 + l.val) : chan dt al dk (ix2 r j) = Ideal.exp (run dt al l (head j)) := by
  rw [chan_at hd ha hk]
  refine (dif_neg (by omega)).trans ((dif_neg (by omega)).trans ((dif_pos (by omega)).trans ?_))
  congr 2
  exact Fin.ext (by simp only; omega)

theorem decAll_at (hd : ∀ i, Real' (dt i)) (ha : ∀ i, Real' (al i)) (hk : ∀ i, Real' (dk i)) (r : Fin 400) (j : Fin 1024)
    (hr : r.val = 384) : chan dt al dk (ix2 r j) = Ideal.exp (run dt al 127 (head j)) := by
  rw [chan_at hd ha hk]
  exact (dif_neg (by omega)).trans ((dif_neg (by omega)).trans ((dif_neg (by omega)).trans (if_pos (by omega))))

theorem skip_at (hd : ∀ i, Real' (dt i)) (ha : ∀ i, Real' (al i)) (hk : ∀ i, Real' (dk i)) (r : Fin 400) (j : Fin 1024)
    (hr : r.val = 392) : chan dt al dk (ix2 r j) = dk (ix2 0 (head j)) := by
  rw [chan_at hd ha hk]
  exact (dif_neg (by omega)).trans ((dif_neg (by omega)).trans ((dif_neg (by omega)).trans (if_neg (by omega))))

end Cert.Scan

end
-- ==== Proof.ScanPoint.lean ====
/- A chunk's result and the state it leaves, read at an index, where the step sizes, the decays and the skip weights are real
   numbers. -/
module

public import proofs.«01_k».proof.Proof.ScanHead

@[expose] public section

set_option maxRecDepth 16384

noncomputable section

namespace Cert.Scan

open Cert.Kernel2Ideal Cert.Kernel2Ideal.Gen Idealize.ShloMosaic Idealize.SL.Sem

variable {dt : FVec Ideal S128x16 .f32} {al dk : FVec Ideal S1x16 .f32}
variable (sp xs : FVec Ideal S128x1024 .f32) (bm cm : FVec Ideal S128x256 .f32)

/-- Column `n` of the group that channel `j` belongs to. -/
def gcol (j : Fin 1024) (n : Fin 128) : Fin 256 := ⟨128 * (j.val / 512) + n.val, by omega⟩

def nextAt (dt : FVec Ideal S128x16 .f32) (al : FVec Ideal S1x16 .f32) (n : Fin 128) (j : Fin 1024) : EReal :=
  sp (ix2 n j) * Ideal.exp (run dt al 127 (head j))
    + ∑ l : Fin 128, bm (ix2 l (gcol j n))
        * (xs (ix2 l j) * dt (ix2 l (head j)) * Ideal.exp (run dt al 127 (head j) - run dt al l (head j)))

def scoreAt (j : Fin 1024) (l s : Fin 128) : EReal := ∑ n : Fin 128, cm (ix2 l (gcol j n)) * bm (ix2 s (gcol j n))

def decayAt (dt : FVec Ideal S128x16 .f32) (al : FVec Ideal S1x16 .f32) (h : Fin 16) (l s : Fin 128) : EReal :=
  if s ≤ l then Ideal.exp (run dt al l h - run dt al s h) else 0

def diagAt (sc : Fin 128 → Fin 128 → EReal) (dt : FVec Ideal S128x16 .f32) (al : FVec Ideal S1x16 .f32) (l : Fin 128) (j : Fin 1024) : EReal :=
  ∑ s : Fin 128, sc l s * decayAt dt al (head j) l s * (xs (ix2 s j) * dt (ix2 s (head j)))

def offAt (dt : FVec Ideal S128x16 .f32) (al : FVec Ideal S1x16 .f32) (l : Fin 128) (j : Fin 1024) : EReal :=
  (∑ n : Fin 128, cm (ix2 l (gcol j n)) * sp (ix2 n j)) * Ideal.exp (run dt al l (head j))

def outAt (dt : FVec Ideal S128x16 .f32) (al dk : FVec Ideal S1x16 .f32) (l : Fin 128) (j : Fin 1024) : EReal :=
  (diagAt xs (scoreAt bm cm j) dt al l j + offAt sp cm dt al l j) + xs (ix2 l j) * dk (ix2 0 (head j))

variable (hd : ∀ i, Real' (dt i)) (ha : ∀ i, Real' (al i)) (hk : ∀ i, Real' (dk i))
include hd ha hk

theorem state0_at (n : Fin 128) (j : Fin 512) :
    k0_pay23 sp xs bm (chan dt al dk) (dtE dt al dk) (ix2 n j) = nextAt sp xs bm dt al n ⟨j.val, by omega⟩ := by
  pointwise [k0_pay23, k0_pay22, k0_pay16, k0_pay20, k0_pay19, k0_pay18]
  unfold nextAt
  simp only [dtE_at hd ha hk, decAll_at hd ha hk 384 _ rfl]
  refine congrArg₂ (· + ·) rfl (Finset.sum_congr rfl fun x _ => ?_)
  rw [decEnd_at hd ha hk _ x _ rfl]
  congr 3
  exact Fin.ext (by simp only [gcol]; omega)

theorem state1_at (n : Fin 128) (j : Fin 512) :
    k0_pay35 sp bm (k0_pay16 (chan dt al dk)) (k0_pay19 xs (chan dt al dk) (dtE dt al dk)) (ix2 n j)
      = nextAt sp xs bm dt al n ⟨512 + j.val, by omega⟩ := by
  pointwise [k0_pay35, k0_pay34, k0_pay16, k0_pay32, k0_pay19, k0_pay18]
  unfold nextAt
  simp only [dtE_at hd ha hk, decAll_at hd ha hk 384 _ rfl]
  refine congrArg₂ (· + ·) rfl (Finset.sum_congr rfl fun x _ => ?_)
  rw [decEnd_at hd ha hk _ x _ rfl]
  congr 3
  exact Fin.ext (by simp only [gcol]; omega)

theorem chunkState_at (n : Fin 128) (j : Fin 1024) :
    chunkState sp xs bm dt al dk (ix2 n j) = nextAt sp xs bm dt al n j := by
  unfold chunkState
  pointwise []
  by_cases h : j.val < 512
  · exact (dif_pos h).trans (state0_at sp xs bm hd ha hk n ⟨j.val, h⟩)
  · refine (dif_neg h).trans ((state1_at sp xs bm hd ha hk n ⟨j.val - 512, by omega⟩).trans ?_)
    congr 1
    exact Fin.ext (by simp only; omega)

theorem off0_at (l : Fin 128) (j : Fin 512) :
    k0_pay24 sp cm (chan dt al dk) (ix2 l j) = offAt sp cm dt al l ⟨j.val, by omega⟩ := by
  pointwise [k0_pay24, k0_pay21, k0_pay22, k0_pay15]
  rw [decStart_at hd ha hk _ l _ rfl]
  refine congrArg₂ (· * ·) (Finset.sum_congr rfl fun x _ => ?_) rfl
  congr 3
  exact Fin.ext (by simp only [gcol]; omega)

theorem off1_at (l : Fin 128) (j : Fin 512) :
    k0_pay36 sp cm (k0_pay15 (chan dt al dk)) (ix2 l j) = offAt sp cm dt al l ⟨512 + j.val, by omega⟩ := by
  pointwise [k0_pay36, k0_pay33, k0_pay34, k0_pay15]
  rw [decStart_at hd ha hk _ l _ rfl]
  refine congrArg₂ (· * ·) (Finset.sum_congr rfl fun x _ => ?_) rfl
  congr 3
  exact Fin.ext (by simp only [gcol]; omega)

theorem pair_at (sc : FVec Ideal S128x128 .f32) (p : ℕ) (hp : p < 8)
    (a0 : S128x16.Slices ![0, 2 * p] S128x1) (b0 : S16x128.Slices ![2 * p, 0] S1x128)
    (a1 : S128x16.Slices ![0, 2 * p + 1] S128x1) (b1 : S16x128.Slices ![2 * p + 1, 0] S1x128)
    (ho : S128x1024.Slices ![0, 128 * p] S128x128) (l r : Fin 128) :
    pairY (headMat sc (cs dt al) (csT dt al) (2 * p) a0 b0) (headMat sc (cs dt al) (csT dt al) (2 * p + 1) a1 b1)
        (xc xs dt al dk) (128 * p) ho (ix2 l r)
      = diagAt xs (fun l s => sc (ix2 l s)) dt al l ⟨128 * p + r.val, by omega⟩ := by
  rw [pairY_at _ _ _ _ _ (by omega)]
  refine Finset.sum_congr rfl fun s _ => ?_
  rw [headMat_at _ _ _ _ _ _ (by omega), headMat_at _ _ _ _ _ _ (by omega)]
  simp only [cs_at hd ha, csT_at hd ha]
  unfold xc
  pointwise []
  rw [dtE_at hd ha hk]
  have hl : ∀ h : r.val < 64, (⟨2 * p, by omega⟩ : Fin 16) = head ⟨128 * p + r.val, by omega⟩ := fun h =>
    Fin.ext (by simp only [head]; omega)
  have hr : ∀ h : ¬ r.val < 64, (⟨2 * p + 1, by omega⟩ : Fin 16) = head ⟨128 * p + r.val, by omega⟩ := fun h =>
    Fin.ext (by simp only [head]; omega)
  split
  · rw [hl ‹_›]
    rfl
  · rw [hr ‹_›]
    rfl

omit hd ha hk in
theorem score0_at (l s : Fin 128) (j : Fin 1024) (hj : j.val < 512) : k0_pay25 (F := Ideal) bm cm (ix2 l s) = scoreAt bm cm j l s := by
  pointwise [k0_pay25, k0_pay20, k0_pay21]
  refine Finset.sum_congr rfl fun n _ => ?_
  have e : ∀ h, (⟨n.val, h⟩ : Fin 256) = gcol j n := fun h => Fin.ext (by simp only [gcol]; omega)
  rw [e]

omit hd ha hk in
theorem score1_at (l s : Fin 128) (j : Fin 1024) (hj : ¬ j.val < 512) : k0_pay37 (F := Ideal) bm cm (ix2 l s) = scoreAt bm cm j l s := by
  pointwise [k0_pay37, k0_pay32, k0_pay33]
  refine Finset.sum_congr rfl fun n _ => ?_
  have e : ∀ h, (⟨128 + n.val, h⟩ : Fin 256) = gcol j n := fun h => Fin.ext (by simp only [gcol]; omega)
  rw [e]

omit hd ha hk in
/-- Four squares side by side. -/
theorem quad_at (a b c d : FVec Ideal S128x128 .f32) (f : Fin 512 → EReal) (l : Fin 128)
    (h0 : ∀ r : Fin 128, a (ix2 l r) = f ⟨r.val, by omega⟩) (h1 : ∀ r : Fin 128, b (ix2 l r) = f ⟨128 + r.val, by omega⟩)
    (h2 : ∀ r : Fin 128, c (ix2 l r) = f ⟨256 + r.val, by omega⟩) (h3 : ∀ r : Fin 128, d (ix2 l r) = f ⟨384 + r.val, by omega⟩)
    (j : Fin 512) :
    concatenate S128x512 1 [⟨S128x128, a⟩, ⟨S128x128, b⟩, ⟨S128x128, c⟩, ⟨S128x128, d⟩]
      concatenates_S128x128_S128x128_S128x128_S128x128_S128x512_d1 (ix2 l j) = f j := by
  pointwise []
  split
  · exact h0 _
  split
  · exact (h1 _).trans (congrArg f (Fin.ext (by simp only; omega)))
  split
  · exact (h2 _).trans (congrArg f (Fin.ext (by simp only; omega)))
  · exact (h3 _).trans (congrArg f (Fin.ext (by simp only; omega)))

/-- The part of a chunk's result that comes from inside the chunk, by pairs of heads. -/
theorem diag0_at (p : ℕ) (hp : p < 4)
    (a0 : S128x16.Slices ![0, 2 * p] S128x1) (b0 : S16x128.Slices ![2 * p, 0] S1x128)
    (a1 : S128x16.Slices ![0, 2 * p + 1] S128x1) (b1 : S16x128.Slices ![2 * p + 1, 0] S1x128)
    (ho : S128x1024.Slices ![0, 128 * p] S128x128) (l r : Fin 128) :
    pairY (mat0 bm cm dt al (2 * p) a0 b0) (mat0 bm cm dt al (2 * p + 1) a1 b1) (xc xs dt al dk) (128 * p) ho (ix2 l r)
      = (fun j : Fin 512 => diagAt xs (scoreAt bm cm ⟨j.val, by omega⟩) dt al l ⟨j.val, by omega⟩) ⟨128 * p + r.val, by omega⟩ := by
  unfold mat0
  rw [pair_at xs hd ha hk _ p (by omega)]
  refine Finset.sum_congr rfl fun s _ => ?_
  exact congrArg (· * _ * _) (score0_at bm cm l s ⟨128 * p + r.val, by omega⟩ (by simp only; omega))

theorem diag1_at (p q : ℕ) (hq : q < 4) (hp : p = q + 4)
    (a0 : S128x16.Slices ![0, 2 * p] S128x1) (b0 : S16x128.Slices ![2 * p, 0] S1x128)
    (a1 : S128x16.Slices ![0, 2 * p + 1] S128x1) (b1 : S16x128.Slices ![2 * p + 1, 0] S1x128)
    (ho : S128x1024.Slices ![0, 128 * p] S128x128) (l r : Fin 128) :
    pairY (mat1 bm cm dt al (2 * p) a0 b0) (mat1 bm cm dt al (2 * p + 1) a1 b1) (xc xs dt al dk) (128 * p) ho (ix2 l r)
      = (fun j : Fin 512 => diagAt xs (scoreAt bm cm ⟨512 + j.val, by omega⟩) dt al l ⟨512 + j.val, by omega⟩) ⟨128 * q + r.val, by omega⟩ := by
  unfold mat1
  rw [pair_at xs hd ha hk _ p (by omega)]
  have e : ∀ h, (⟨128 * p + r.val, h⟩ : Fin 1024) = ⟨512 + (128 * q + r.val), by omega⟩ := fun h => Fin.ext (by simp only; omega)
  rw [e]
  refine Finset.sum_congr rfl fun s _ => ?_
  exact congrArg (· * _ * _) (score1_at bm cm l s ⟨512 + (128 * q + r.val), by omega⟩ (by simp only; omega))

omit hd ha hk in
/-- Two halves side by side. -/
theorem both_at (l : Fin 128) (j : Fin 1024) (a b : FVec Ideal S128x512 .f32) (f : Fin 1024 → EReal)
    (h0 : ∀ j : Fin 512, a (ix2 l j) = f ⟨j.val, by omega⟩) (h1 : ∀ j : Fin 512, b (ix2 l j) = f ⟨512 + j.val, by omega⟩) :
    concatenate S128x1024 1 [⟨S128x512, a⟩, ⟨S128x512, b⟩] concatenates_S128x512_S128x512_S128x1024_d1 (ix2 l j) = f j := by
  pointwise []
  split
  · exact h0 _
  · exact (h1 _).trans (congrArg f (Fin.ext (by simp only; omega)))

omit hd ha hk in
theorem quad_add_at (a b c d : FVec Ideal S128x128 .f32) (o : FVec Ideal S128x512 .f32) (f g : Fin 512 → EReal) (l : Fin 128)
    (h0 : ∀ r : Fin 128, a (ix2 l r) = f ⟨r.val, by omega⟩) (h1 : ∀ r : Fin 128, b (ix2 l r) = f ⟨128 + r.val, by omega⟩)
    (h2 : ∀ r : Fin 128, c (ix2 l r) = f ⟨256 + r.val, by omega⟩) (h3 : ∀ r : Fin 128, d (ix2 l r) = f ⟨384 + r.val, by omega⟩)
    (ho : ∀ j, o (ix2 l j) = g j) (j : Fin 512) :
    addf (concatenate S128x512 1 [⟨S128x128, a⟩, ⟨S128x128, b⟩, ⟨S128x128, c⟩, ⟨S128x128, d⟩]
      concatenates_S128x128_S128x128_S128x128_S128x128_S128x512_d1) o (ix2 l j) = f j + g j :=
  congrArg₂ (fun x y : EReal => x + y) (quad_at a b c d f l h0 h1 h2 h3 j) (ho j)

theorem chunkY_at (l : Fin 128) (j : Fin 1024) : chunkY sp xs bm cm dt al dk (ix2 l j) = outAt sp xs bm cm dt al dk l j := by
  unfold chunkY
  refine congrArg₂ (fun x y : EReal => x + y) ?_ ?_
  · refine both_at l j _ _ (fun j => diagAt xs (scoreAt bm cm j) dt al l j + offAt sp cm dt al l j) (fun j => ?_) fun j => ?_
    · refine quad_add_at _ _ _ _ _ (fun j => diagAt xs (scoreAt bm cm ⟨j.val, by omega⟩) dt al l ⟨j.val, by omega⟩)
        (fun j => offAt sp cm dt al l ⟨j.val, by omega⟩) l (fun r => ?_) (fun r => ?_) (fun r => ?_) (fun r => ?_)
        (off0_at sp cm hd ha hk l) j
      · exact (diag0_at xs bm cm hd ha hk 0 (by omega) _ _ _ _ _ l r).trans
          (congrArg (fun j : Fin 512 => diagAt xs (scoreAt bm cm ⟨j.val, by omega⟩) dt al l ⟨j.val, by omega⟩) (Fin.ext (by simp only; omega)))
      · exact diag0_at xs bm cm hd ha hk 1 (by omega) _ _ _ _ _ l r
      · exact diag0_at xs bm cm hd ha hk 2 (by omega) _ _ _ _ _ l r
      · exact diag0_at xs bm cm hd ha hk 3 (by omega) _ _ _ _ _ l r
    · refine quad_add_at _ _ _ _ _ (fun j => diagAt xs (scoreAt bm cm ⟨512 + j.val, by omega⟩) dt al l ⟨512 + j.val, by omega⟩)
        (fun j => offAt sp cm dt al l ⟨512 + j.val, by omega⟩) l (fun r => ?_) (fun r => ?_) (fun r => ?_) (fun r => ?_)
        (off1_at sp cm hd ha hk l) j
      · exact (diag1_at xs bm cm hd ha hk 4 0 (by omega) rfl _ _ _ _ _ l r).trans
          (congrArg (fun j : Fin 512 => diagAt xs (scoreAt bm cm ⟨512 + j.val, by omega⟩) dt al l ⟨512 + j.val, by omega⟩) (Fin.ext (by simp only; omega)))
      · exact diag1_at xs bm cm hd ha hk 5 1 (by omega) rfl _ _ _ _ _ l r
      · exact diag1_at xs bm cm hd ha hk 6 2 (by omega) rfl _ _ _ _ _ l r
      · exact diag1_at xs bm cm hd ha hk 7 3 (by omega) rfl _ _ _ _ _ l r
  · pointwise [k0_pay17]
    rw [skip_at hd ha hk _ _ rfl]

end Cert.Scan

end
-- ==== Proof.ScanRefPoint.lean ====
/- The reference's values around its loop, read at an index, in the kernel's chunks of the arguments. -/
module

public import proofs.«01_k».proof.Proof.ScanPrefix
public import proofs.«01_k».proof.Proof.ScanStep
public import proofs.«01_k».proof.Proof.ScanPoint

@[expose] public section

set_option maxRecDepth 16384

noncomputable section

namespace Cert.Scan.Ref

open Cert.Reference2Ideal Cert.Reference2Ideal.Gen Idealize.ShloMosaic Idealize.SL.Sem
variable (x : FVec Ideal S4096x1536 .f32) (dt : FVec Ideal S4096x16 .f32) (al dk : FVec Ideal S1x16 .f32)
variable (g : Fin 2) (e : Fin 8) (p : Fin 64) (n : Fin 128) (c : Fin 32) (l s : Fin 128)

/-- Row `l` of chunk `c`; head `e` of group `g`; its channel `p`. -/
def row : Fin 4096 := ⟨c.val * 128 + l.val, by omega⟩
def hd : Fin 16 := ⟨g.val * 8 + e.val, by omega⟩
def ch : Fin 1024 := ⟨(g.val * 8 + e.val) * 64 + p.val, by omega⟩

theorem head_ch : head (ch g e p) = hd g e := Fin.ext (by simp only [head, ch, hd]; omega)

theorem row_eq : (⟨(128 * c.val + l.val) % 4096, Nat.mod_lt _ (by decide)⟩ : Fin 4096) = row c l :=
  Fin.ext (by simp only [row]; omega)

theorem rowsX_ch : rowsX x c.val (ix2 l (ch g e p)) = x (ix2 (row c l) ⟨(g.val * 8 + e.val) * 64 + p.val, by omega⟩) :=
  congrArg (fun r => x (ix2 r _)) (row_eq c l)
theorem rowsT_hd : rowsT dt c.val (ix2 l (hd g e)) = dt (ix2 (row c l) (hd g e)) := congrArg (fun r => dt (ix2 r _)) (row_eq c l)
theorem rowsB_col : rowsB x c.val (ix2 l (gcol (ch g e p) n)) = x (ix2 (row c l) ⟨1024 + (g.val * 128 + n.val), by omega⟩) := by
  refine (congrArg (fun r => x (ix2 r _)) (row_eq c l)).trans (congrArg (fun k => x (ix2 (row c l) k)) (Fin.ext ?_))
  show 1024 + (128 * (((g.val * 8 + e.val) * 64 + p.val) / 512) + n.val) = _
  dsimp only
  omega
theorem rowsC_col : rowsC x c.val (ix2 l (gcol (ch g e p) n)) = x (ix2 (row c l) ⟨1280 + (g.val * 128 + n.val), by omega⟩) := by
  refine (congrArg (fun r => x (ix2 r _)) (row_eq c l)).trans (congrArg (fun k => x (ix2 (row c l) k)) (Fin.ext ?_))
  show 1280 + (128 * (((g.val * 8 + e.val) * 64 + p.val) / 512) + n.val) = _
  dsimp only
  omega

theorem rates_at : rates dt al (ix4 g e c l) = ex (rowsT dt c.val) al l (hd g e) := by
  unfold ex
  rw [rowsT_hd, zero_sub]
  pointwise [rates]
  rfl

theorem run_at : sums (rates dt al) (ix4 g e c l) = run (rowsT dt c.val) al l (hd g e) := by
  rw [sums_at]
  simp only [rates_at]
  rfl

theorem steps_at : steps x dt (ix5 c l g e p) = rowsX x c.val (ix2 l (ch g e p)) * rowsT dt c.val (ix2 l (hd g e)) := by
  rw [rowsX_ch, rowsT_hd]
  pointwise [steps, heads]
  rfl

theorem inCols_at : inCols x (ix4 c l g n) = rowsB x c.val (ix2 l (gcol (ch g e p) n)) := by
  rw [rowsB_col]
  pointwise [inCols]
  rfl

theorem outCols_at : outCols x (ix4 c l g n) = rowsC x c.val (ix2 l (gcol (ch g e p) n)) := by
  rw [rowsC_col]
  pointwise [outCols]
  rfl

theorem scores_eq : scores (inCols x) (outCols x) (ix4 g c l s) = scoreAt (rowsB x c.val) (rowsC x c.val) (ch g e p) l s := by
  pointwise [scores]
  exact Finset.sum_congr rfl fun k _ => congrArg₂ (· * ·) (outCols_at x g e p k c l) (inCols_at x g e p k c s)

theorem lower_at : lower (ix2 l s) = if s ≤ l then 1#1 else 0#1 := by
  pointwise [lower]
  have h : ∀ l s : Fin 128, Scalar.select (IntOp.cmpi CmpIPredicate.sge (IntOp.addi (BitVec.ofNat 32 ↑l) 0#32) (BitVec.ofNat 32 ↑s)) 1#1 0#1
      = if s ≤ l then 1#1 else 0#1 := by decide +kernel
  exact h l s

theorem between_at (a : FVec Ideal S2x8x32x128 .f32) :
    between a (ix5 g e c l s) = if s ≤ l then Ideal.exp (a (ix4 g e c l) - a (ix4 g e c s)) else 0 := by
  pointwise [between]
  rw [lower_at]
  by_cases h : s ≤ l
  · rw [if_pos h, if_pos h]; rfl
  · rw [if_neg h, if_neg h]
    show Ideal.exp (Ideal.ofBits FTy.f32 4286578688#32) = _
    rw [low_word]; rfl

theorem within_at : within (steps x dt) (scores (inCols x) (outCols x)) (between (sums (rates dt al))) (ix5 c l g e p)
    = diagAt (rowsX x c.val) (scoreAt (rowsB x c.val) (rowsC x c.val) (ch g e p)) (rowsT dt c.val) al l (ch g e p) := by
  pointwise [within]
  refine Finset.sum_congr rfl fun s _ => ?_
  rw [steps_at, scores_eq x g e p, between_at, run_at, run_at, head_ch, mul_comm]
  rfl

theorem chunkStates_at : chunkStates (steps x dt) (inCols x) (sums (rates dt al)) (ix5 c g e p n)
    = ∑ l : Fin 128, rowsB x c.val (ix2 l (gcol (ch g e p) n))
        * (rowsX x c.val (ix2 l (ch g e p)) * rowsT dt c.val (ix2 l (head (ch g e p)))
          * Ideal.exp (run (rowsT dt c.val) al 127 (head (ch g e p)) - run (rowsT dt c.val) al l (head (ch g e p)))) := by
  pointwise [chunkStates]
  refine Finset.sum_congr rfl fun l _ => ?_
  rw [steps_at, inCols_at x g e p, run_at, run_at, head_ch, mul_comm]

theorem chunkDecays_at : chunkDecays (sums (rates dt al)) (ix3 c g e) = Ideal.exp (run (rowsT dt c.val) al 127 (head (ch g e p))) := by
  pointwise [chunkDecays]
  rw [run_at, head_ch]

theorem across_at (b : FVec Ideal S32x2x8x64x128 .f32) (sp : FVec Ideal Cert.Kernel2Ideal.S128x1024 .f32)
    (hb : ∀ n, b (ix5 c g e p n) = sp (ix2 n (ch g e p))) : across b (outCols x) (sums (rates dt al)) (ix5 c l g e p)
      = offAt sp (rowsC x c.val) (rowsT dt c.val) al l (ch g e p) := by
  pointwise [across]
  unfold offAt
  rw [run_at, head_ch]
  refine congrArg (· * _) (Finset.sum_congr rfl fun n _ => ?_)
  rw [hb, outCols_at x g e p, mul_comm]

end Cert.Scan.Ref

end
-- ==== Proof.ScanRefLoop.lean ====
/- The reference's loop: before trip `k` it holds the state before chunk `k`, and has stored those before it. -/
module

public import proofs.«01_k».proof.Proof.ScanRefRead
public import proofs.«01_k».proof.Proof.ScanRefPoint
public import Idealize.ShloMosaic.Lib.DynamicIndex
public import Idealize.ShloMosaic.Lib.Pipeline.ValueKit

@[expose] public section

set_option maxRecDepth 16384

noncomputable section

namespace Cert.Scan.Ref

open Cert.Reference2Ideal Cert.Reference2Ideal.Gen Cert.Reference2Ideal.Value Idealize.ShloMosaic Idealize.ShloMosaic.TcCoe Idealize.ShloMosaic.StableHlo Idealize.SL.Sem

theorem trip_word : ∀ k : Fin 32, (Scf.iv 0#32 1#32 k.val).toInt = (k.val : ℤ) := by decide

theorem fits3 (k : Fin 32) : S32x2x8.Slices ![k.val, 0, 0] S1x2x8 := ⟨rfl, fun a => by
  match a with
  | 0 => exact (show k.val + 1 ≤ 32 by omega)
  | 1 => exact (show 0 + 2 ≤ 2 by omega)
  | 2 => exact (show 0 + 8 ≤ 8 by omega)⟩
theorem fits5 (k : Fin 32) : S32x2x8x64x128.Slices ![k.val, 0, 0, 0, 0] S1x2x8x64x128 := ⟨rfl, fun a => by
  match a with
  | 0 => exact (show k.val + 1 ≤ 32 by omega)
  | 1 => exact (show 0 + 2 ≤ 2 by omega)
  | 2 => exact (show 0 + 8 ≤ 8 by omega)
  | 3 => exact (show 0 + 64 ≤ 64 by omega)
  | 4 => exact (show 0 + 128 ≤ 128 by omega)⟩

/-- What the loop carries: the decays, the states the chunks add, the state, the states stored. -/
abbrev loopD (V : Valuation τ sig (Elt Ideal)) : FVec Ideal S32x2x8 .f32 := V (Proc.devRef .tc main_v51_0)
abbrev loopA (V : Valuation τ sig (Elt Ideal)) : FVec Ideal S32x2x8x64x128 .f32 := V (Proc.devRef .tc main_v51_1)
abbrev loopS (V : Valuation τ sig (Elt Ideal)) : FVec Ideal S2x8x64x128 .f32 := V (Proc.devRef .tc main_v51_3)
abbrev loopP (V : Valuation τ sig (Elt Ideal)) : FVec Ideal S32x2x8x64x128 .f32 := V (Proc.devRef .tc main_v51_4)

theorem advance_at (D : FVec Ideal S32x2x8 .f32) (A : FVec Ideal S32x2x8x64x128 .f32) (S : FVec Ideal S2x8x64x128 .f32) (k : Fin 32)
    (g : Fin 2) (e : Fin 8) (p : Fin 64) (n : Fin 128) :
    addf (mulf S (broadcastInDim S2x8x64x128 ![0, 1, 2, 3] bcast_S2x8x1x1_S2x8x64x128_0_1_2_3
        (broadcastInDim S2x8x1x1 ![0, 1] bcast_S2x8_S2x8x1x1_0_1
          (shapeCast S2x8 (extractStridedSlice S1x2x8 ![k.val, 0, 0] D (fits3 k)) shapeCasts_S1x2x8_S2x8))))
      (shapeCast S2x8x64x128 (extractStridedSlice S1x2x8x64x128 ![k.val, 0, 0, 0, 0] A (fits5 k)) shapeCasts_S1x2x8x64x128_S2x8x64x128)
      (ix4 g e p n) = S (ix4 g e p n) * D (ix3 k g e) + A (ix5 k g e p n) := by
  pointwise []

variable (V : Valuation τ sig (Elt Ideal)) (k : Fin 32)
variable (hc : V (Proc.devRef .tc main_v51_2) = fun _ => Scf.iv 0#32 1#32 k.val)
include hc

/-- A trip's new state: the state decayed over the chunk, and what the chunk adds. -/
theorem next_at (g : Fin 2) (e : Fin 8) (p : Fin 64) (n : Fin 128) :
    (step_main_v51_3 V : FVec Ideal S2x8x64x128 .f32) (ix4 g e p n)
      = loopS V (ix4 g e p n) * loopD V (ix3 k g e) + loopA V (ix5 k g e p n) := by
  unfold step_main_v51_3
  rw [hc, Host.dynamicSlice_eq_extractStridedSlice _ _ _ ![k.val, 0, 0] _ (fits3 k) (fun a => by
      match a with
      | 0 => exact trip_word k
      | 1 => rfl
      | 2 => rfl),
    Host.dynamicSlice_eq_extractStridedSlice _ _ _ ![k.val, 0, 0, 0, 0] _ (fits5 k) (fun a => by
      match a with
      | 0 => exact trip_word k
      | 1 => rfl
      | 2 => rfl
      | 3 => rfl
      | 4 => rfl)]
  exact advance_at (loopD V) (loopA V) (loopS V) k g e p n

/-- A trip stores the state it found at its own place. -/
theorem stored_at (c : Fin 32) (g : Fin 2) (e : Fin 8) (p : Fin 64) (n : Fin 128) :
    (step_main_v51_4 V : FVec Ideal S32x2x8x64x128 .f32) (ix5 c g e p n)
      = if c = k then loopS V (ix4 g e p n) else loopP V (ix5 c g e p n) := by
  unfold step_main_v51_4
  rw [hc, Host.dynamicUpdateSlice_eq_updateSlice _ _ _ _ ![k.val, 0, 0, 0, 0] (fun a => by
      match a with
      | 0 =>
        show (min (max (Scf.iv 0#32 1#32 k.val).toInt 0) ((32 - 1 : ℕ) : ℤ)).toNat = k.val
        rw [trip_word k]
        omega
      | 1 => rfl
      | 2 => rfl
      | 3 => rfl
      | 4 => rfl) (fits5 k)]
  show updateSlice _ _ _ _ _ = _
  unfold updateSlice
  by_cases h : c = k
  · subst h
    rw [if_pos rfl, dif_pos (fun a => by
      match a with
      | 0 => exact (show c.val ≤ c.val ∧ c.val < c.val + 1 by omega)
      | 1 => exact (show 0 ≤ g.val ∧ g.val < 0 + 2 by omega)
      | 2 => exact (show 0 ≤ e.val ∧ e.val < 0 + 8 by omega)
      | 3 => exact (show 0 ≤ p.val ∧ p.val < 0 + 64 by omega)
      | 4 => exact (show 0 ≤ n.val ∧ n.val < 0 + 128 by omega))]
    refine congrArg (loopS V) (funext fun a => ?_)
    match a with
    | 0 | 1 | 2 | 3 => rfl
  · rw [if_neg h, dif_neg fun hi => h (Fin.ext ?_)]
    have : k.val ≤ c.val ∧ c.val < k.val + 1 := hi 0
    omega

end Cert.Scan.Ref

end
-- ==== Proof.ScanRef.lean ====
/- The reference's results: the same chunk by chunk chain as the kernel's. -/
module

public import proofs.«01_k».proof.Proof.ScanRefLoop

@[expose] public section

set_option maxRecDepth 16384

noncomputable section

namespace Cert.Scan.Ref

open Cert.Reference2Ideal Cert.Reference2Ideal.Gen Cert.Reference2Ideal.Value Idealize.ShloMosaic Idealize.ShloMosaic.TcCoe Idealize.ShloMosaic.StableHlo Idealize.SL.Sem

variable (m : (ℓ : Loc nD τ sig) → Buf (Elt Ideal) ℓ) (c : Dev nD)

/-- The arguments. -/
abbrev argX : FVec Ideal S4096x1536 .f32 := m ((c.tc : Thread nD τ).loc main_arg0)
abbrev argT : FVec Ideal S4096x16 .f32 := m ((c.tc : Thread nD τ).loc main_arg1)
abbrev argA : FVec Ideal S1x16 .f32 := m ((c.tc : Thread nD τ).loc main_arg2)
abbrev argD : FVec Ideal S1x16 .f32 := m ((c.tc : Thread nD τ).loc main_arg3)

theorem entry_eq : entryContents preI m c = before (launchContents m c) := rfl

/-- The loop writes only what it carries and its own temporaries. -/
theorem kept (b : Ref sig .tc) (h : b ∉ condOps_W) (h0 : b ∉ while0Ops0_W) (h1 : b ∉ while0Ops0_1_W) (h2 : b ∉ while0Ops0_2_W)
    (h3 : b ∉ while0Ops0_3_W) (h4 : b ∉ while0Ops0_4_W) : ∀ k, atK m k c (Proc.devRef .tc b) = before (launchContents m c) (Proc.devRef .tc b)
  | 0 => rfl
  | k + 1 => by
    rw [show atK m (k + 1) c = afterL bodyI (after condOps (atK m k c)) from rfl]
    simp only [afterL_cons, afterL_nil]
    rw [after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes h, kept b h h0 h1 h2 h3 h4 k]

theorem stepped (k : ℕ) (b : Ref sig .tc) (hb : b ∈ carriedRefs) :
    atK m (k + 1) c (Proc.devRef .tc b) = STEP (atK m k c) (Proc.devRef .tc b) :=
  trip_agree (atK m k c) b hb

theorem decays_loop : ∀ k, loopD (atK m k c) = chunkDecays (sums (rates (argT m c) (argA m c)))
  | 0 => decays_before (launchContents m c)
  | k + 1 => (stepped m c k main_v51_0 (by decide)).trans ((STEP_main_v51_0 _).trans (decays_loop k))

theorem states_loop : ∀ k, loopA (atK m k c)
      = chunkStates (steps (argX m c) (argT m c)) (inCols (argX m c)) (sums (rates (argT m c) (argA m c)))
  | 0 => states_before (launchContents m c)
  | k + 1 => (stepped m c k main_v51_1 (by decide)).trans ((STEP_main_v51_1 _).trans (states_loop k))

variable (hd : ∀ i, Real' (argT m c i)) (ha : ∀ i, Real' (argA m c i)) (hk : ∀ i, Real' (argD m c i))
include hd ha hk

abbrev link (k : ℕ) : FVec Ideal Cert.Kernel2Ideal.S128x1024 .f32 := chain (argX m c) (argT m c) (argA m c) (argD m c) k

theorem link_succ (q : Fin 32) (g : Fin 2) (e : Fin 8) (p : Fin 64) (n : Fin 128) :
    link m c (q.val + 1) (ix2 n (ch g e p))
      = link m c q.val (ix2 n (ch g e p)) * chunkDecays (sums (rates (argT m c) (argA m c))) (ix3 q g e)
        + chunkStates (steps (argX m c) (argT m c)) (inCols (argX m c)) (sums (rates (argT m c) (argA m c))) (ix5 q g e p n) := by
  rw [chunkDecays_at (argT m c) (argA m c) g e p q, chunkStates_at]
  exact chunkState_at _ _ _ (fun i => hd _) ha hk n (ch g e p)

theorem state_loop (g : Fin 2) (e : Fin 8) (p : Fin 64) (n : Fin 128) : ∀ k, k ≤ 32 →
    loopS (atK m k c) (ix4 g e p n) = link m c k (ix2 n (ch g e p))
  | 0, _ => congrFun (start_before (launchContents m c)) (ix4 g e p n)
  | k + 1, h => by
    refine (congrFun ((stepped m c k main_v51_3 (by decide)).trans (STEP_main_v51_3 _)) (ix4 g e p n)).trans
      ((next_at (atK m k c) ⟨k, h⟩ (atK_ctr m c k) g e p n).trans ?_)
    rw [decays_loop, states_loop, state_loop g e p n k (by omega)]
    exact (link_succ m c hd ha hk ⟨k, h⟩ g e p n).symm

theorem stored_loop (q : Fin 32) (g : Fin 2) (e : Fin 8) (p : Fin 64) (n : Fin 128) : ∀ k, k ≤ 32 → q.val < k →
    loopP (atK m k c) (ix5 q g e p n) = link m c q.val (ix2 n (ch g e p))
  | 0, _, h => absurd h (Nat.not_lt_zero _)
  | k + 1, h, hq => by
    refine (congrFun ((stepped m c k main_v51_4 (by decide)).trans (STEP_main_v51_4 _)) (ix5 q g e p n)).trans
      ((stored_at (atK m k c) ⟨k, h⟩ (atK_ctr m c k) q g e p n).trans ?_)
    by_cases e1 : q = ⟨k, h⟩
    · rw [if_pos e1, state_loop m c hd ha hk g e p n k (by omega), e1]
    · rw [if_neg e1]
      exact stored_loop q g e p n k (by omega) (lt_of_le_of_ne (Nat.lt_succ_iff.1 hq) fun h' => e1 (Fin.ext h'))

/-- The contents when the loop is left. -/
abbrev left : Valuation τ sig (Elt Ideal) := after condOps (atK m 32 c)

omit hd ha hk in
theorem left_keeps (b : Ref sig .tc) (h : b ∉ condOps_W) (h0 : b ∉ while0Ops0_W) (h1 : b ∉ while0Ops0_1_W) (h2 : b ∉ while0Ops0_2_W)
    (h3 : b ∉ while0Ops0_3_W) (h4 : b ∉ while0Ops0_4_W) : left m c (Proc.devRef .tc b) = before (launchContents m c) (Proc.devRef .tc b) :=
  (after_of_writes_sub condOps _ condOps_writes h).trans (kept m c b h h0 h1 h2 h3 h4 32)

theorem left_stored (q : Fin 32) (g : Fin 2) (e : Fin 8) (p : Fin 64) (n : Fin 128) :
    loopP (left m c) (ix5 q g e p n) = link m c q.val (ix2 n (ch g e p)) :=
  (congrFun (cond_keeps (atK m 32 c) main_v51_4 (by decide)) _).trans (stored_loop m c hd ha hk q g e p n 32 le_rfl q.isLt)

omit hd ha hk in
theorem saved_at (b : FVec Ideal S32x2x8x64x128 .f32) (q : Fin 32) (n : Fin 128) (j : Fin 1024) :
    saved b (ix3 q n j) = b (ix5 q ⟨j.val / 512, by omega⟩ ⟨j.val / 64 % 8, by omega⟩ ⟨j.val % 64, by omega⟩ n) := by
  pointwise [saved]

omit hd ha hk in
theorem result_at (D : FVec Ideal S1x16 .f32) (w o : FVec Ideal S32x128x2x8x64 .f32) (h : FVec Ideal S4096x16x64 .f32) (r : Fin 4096) (j : Fin 1024) :
    result D w o h (ix2 r j)
      = w (ix5 ⟨r.val / 128, by omega⟩ ⟨r.val % 128, by omega⟩ ⟨j.val / 512, by omega⟩ ⟨j.val / 64 % 8, by omega⟩ ⟨j.val % 64, by omega⟩)
        + o (ix5 ⟨r.val / 128, by omega⟩ ⟨r.val % 128, by omega⟩ ⟨j.val / 512, by omega⟩ ⟨j.val / 64 % 8, by omega⟩ ⟨j.val % 64, by omega⟩)
        + h (ix3 r ⟨j.val / 64, by omega⟩ ⟨j.val % 64, by omega⟩) * D (ix2 0 ⟨j.val / 64, by omega⟩) := by
  pointwise [result]
  simp only [Nat.div_div_eq_div_mul]

omit hd ha hk in
theorem heads_at (X : FVec Ideal S4096x1536 .f32) (r : Fin 4096) (j : Fin 1024) :
    heads X (ix3 r ⟨j.val / 64, by omega⟩ ⟨j.val % 64, by omega⟩) = X (ix2 r ⟨j.val, by omega⟩) := by
  pointwise [heads]

omit hd ha hk in
theorem ch_split (j : Fin 1024) : ch ⟨j.val / 512, by omega⟩ ⟨j.val / 64 % 8, by omega⟩ ⟨j.val % 64, by omega⟩ = j :=
  Fin.ext (by simp only [ch]; omega)

theorem saved_eq : (finalContents condOps preI bodyI postI 32 m c (Proc.devRef .tc main_v62) : FVec Ideal S32x128x1024 .f32)
    = fun y => stateAt (argX m c) (argT m c) (argA m c) (argD m c) (y 0).val (y 1).val (y 2).val := by
  funext y
  obtain ⟨q, n, j, rfl⟩ : ∃ q n j, y = ix3 q n j := ⟨y 0, y 1, y 2, eq_ix3 y⟩
  refine (congrFun (saved_after (left m c)) (ix3 q n j)).trans ((saved_at _ q n j).trans ((left_stored m c hd ha hk q _ _ _ n).trans ?_))
  rw [ch_split j]
  exact (stateAt_eq _ _ _ _ _ n j).symm

theorem result_eq : (finalContents condOps preI bodyI postI 32 m c (Proc.devRef .tc main_v69) : FVec Ideal S4096x1024 .f32)
    = fun y => resultAt (argX m c) (argT m c) (argA m c) (argD m c) (y 0).val (y 1).val := by
  funext y
  obtain ⟨r, j, rfl⟩ : ∃ r j, y = ix2 r j := ⟨y 0, y 1, eq_ix2 y⟩
  refine (congrFun (result_after (left m c)) (ix2 r j)).trans ?_
  rw [left_keeps m c main_v35 (by decide) (by decide) (by decide) (by decide) (by decide) (by decide),
    left_keeps m c main_v14 (by decide) (by decide) (by decide) (by decide) (by decide) (by decide),
    left_keeps m c main_v20 (by decide) (by decide) (by decide) (by decide) (by decide) (by decide),
    left_keeps m c main_v3 (by decide) (by decide) (by decide) (by decide) (by decide) (by decide),
    left_keeps m c main_arg3 (by decide) (by decide) (by decide) (by decide) (by decide) (by decide),
    within_before, outCols_before, sums_before, heads_before, skip_before]
  refine (result_at (argD m c) _ _ _ r j).trans ?_
  rw [heads_at]
  have hw := within_at (argX m c) (argT m c) (argA m c) ⟨j.val / 512, by omega⟩ ⟨j.val / 64 % 8, by omega⟩ ⟨j.val % 64, by omega⟩
    ⟨r.val / 128, by omega⟩ ⟨r.val % 128, by omega⟩
  have ho := across_at (argX m c) (argT m c) (argA m c) ⟨j.val / 512, by omega⟩ ⟨j.val / 64 % 8, by omega⟩ ⟨j.val % 64, by omega⟩
    ⟨r.val / 128, by omega⟩ ⟨r.val % 128, by omega⟩ (loopP (left m c)) (link m c (r.val / 128))
    (fun n => left_stored m c hd ha hk ⟨r.val / 128, by omega⟩ _ _ _ n)
  rw [ch_split j] at hw ho
  have hy := chunkY_at (link m c (r.val / 128)) (rowsX (argX m c) (r.val / 128)) (rowsB (argX m c) (r.val / 128))
    (rowsC (argX m c) (r.val / 128)) (dt := rowsT (argT m c) (r.val / 128)) (fun i => hd _) ha hk ⟨r.val % 128, by omega⟩ j
  have e1 : (⟨j.val % 1024, Nat.mod_lt _ (by decide)⟩ : Fin 1024) = j := Fin.ext (Nat.mod_eq_of_lt j.isLt)
  have e2 : (⟨(128 * (r.val / 128) + r.val % 128) % 4096, Nat.mod_lt _ (by decide)⟩ : Fin 4096) = r := Fin.ext (by dsimp only; omega)
  unfold resultAt Cert.Scan.result
  refine Eq.trans ?_ ((congrArg (fun k => chunkY (F := Ideal) _ _ _ _ _ _ _ (ix2 _ k)) e1).trans hy).symm
  unfold outAt
  refine congrArg₂ (· + ·) (congrArg₂ (· + ·) hw ho) (congrArg₂ (· * ·) ?_ rfl)
  exact (congrArg (fun k => argX m c (ix2 k _)) e2).symm

omit hd ha hk in
/-- No operation of the program writes an argument. -/
theorem arg_kept (b : Ref sig .tc) (hb : b ∈ [main_arg0, main_arg1, main_arg2, main_arg3]) :
    finalContents condOps preI bodyI postI 32 m c (Proc.devRef .tc b) = m ((c.tc : Thread nD τ).loc b) := by
  have hp : ∀ V : Valuation τ sig (Elt Ideal), after hostOps0_7 V (Proc.devRef .tc b) = V (Proc.devRef .tc b) := fun V => by
    fin_cases hb <;> after_reads_simp
  have h0 : ∀ V : Valuation τ sig (Elt Ideal), before V (Proc.devRef .tc b) = V (Proc.devRef .tc b) := fun V => by
    fin_cases hb <;> after_reads_simp
  refine (hp (left m c)).trans ((left_keeps m c b ?_ ?_ ?_ ?_ ?_ ?_).trans (h0 _)) <;> fin_cases hb <;> decide

end Cert.Scan.Ref

end
-- ==== Proof.Scan.lean ====
/- The value claim of the forward scan: both programs end with the chain of chunks of the arguments. -/
module

public import proofs.«01_k».proof.Proof.ScanArray
public import proofs.«01_k».proof.Proof.ScanRef
public import proofs.«01_k».proof.Proof.Gen.Pre_finite_decays
public import proofs.«01_k».proof.Defs

@[expose] public section

set_option maxRecDepth 16384

noncomputable section

namespace Cert.Scan

open Idealize.ShloMosaic Idealize.ShloMosaic.TcCoe Idealize.ShloMosaic.StableHlo Idealize.SL.Sem

/-- An extended real whose absolute value compares below the infinity is a real number. -/
theorem real_of_below {v : EReal} (h : max v (-v) < ⊤) : Real' v := by
  induction v using EReal.rec with
  | bot => exact absurd h (by simp)
  | coe r => exact ⟨r, rfl⟩
  | top => exact absurd h (by simp)

theorem real_of_bit {v : EReal} (h : FloatOps.cmpf (F := Ideal) (φ := .f32) .olt (FloatOps.hostAbsf (F := Ideal) (φ := .f32) v) (FloatOps.ofBits .f32 0x7F800000#32) = 1#1) :
    Real' v := by
  refine real_of_below (by_contra fun hn => ?_)
  change BitVec.ofBool (decide (max v (-v) < Ideal.ofBits .f32 0x7F800000#32)) = 1#1 at h
  rw [high_word, decide_eq_false hn] at h
  exact absurd h (by decide)

theorem algebraic : Cert.algebraic_Kernel2Ideal_Reference2Ideal_pre_finite_decays
    (hKernel2Ideal := Cert.Kernel2Ideal.Gen.facts) (hReference2Ideal := Cert.Reference2Ideal.Gen.facts)
    (hPre_finite_decays := Cert.Pre_finite_decays.Gen.facts) := by
  intro m ρ m' ρ' hp hag
  have real : ∀ c, (∀ i, Real' (Ref.argT m' c i)) ∧ (∀ i, Real' (Ref.argA m' c i)) ∧ (∀ i, Real' (Ref.argD m' c i)) := by
    intro c
    obtain ⟨h1, h2, h3⟩ := hp c
    obtain ⟨-, a1, a2, a3⟩ := hag c
    refine ⟨fun i => ?_, fun i => ?_, fun i => ?_⟩
    · exact (congrArg Real' (congrFun a1 i)).mpr (real_of_bit (congrFun h1 i))
    · exact (congrArg Real' (congrFun a2 i)).mpr (real_of_bit (congrFun h2 i))
    · exact (congrArg Real' (congrFun a3 i)).mpr (real_of_bit (congrFun h3 i))
  refine ⟨fun c => (Cert.Kernel2Ideal.Gen.dats m 0 c).arrAt 4 Cert.Kernel2Ideal.cfg0.N,
    fun c => (Cert.Kernel2Ideal.Gen.dats m 0 c).arrAt 5 Cert.Kernel2Ideal.cfg0.N, Cert.Kernel2Ideal.Value.run_blocks m ρ,
    (θ_run _ _ _).mono (fun r h c => ?_) (Cert.Reference2Ideal.Value.run_fold (F := Ideal) m' ρ')⟩
  obtain ⟨a0, a1, a2, a3⟩ := hag c
  obtain ⟨r1, r2, r3⟩ := real c
  refine ⟨(h c Cert.Reference2Ideal.main_v69 (by decide)).trans ((Ref.result_eq m' c r1 r2 r3).trans ?_),
    (h c Cert.Reference2Ideal.main_v62 (by decide)).trans ((Ref.saved_eq m' c r1 r2 r3).trans ?_),
    (h c Cert.Reference2Ideal.main_arg0 (by decide)).trans (Ref.arg_kept m' c _ (by simp)),
    (h c Cert.Reference2Ideal.main_arg1 (by decide)).trans (Ref.arg_kept m' c _ (by simp)),
    (h c Cert.Reference2Ideal.main_arg2 (by decide)).trans (Ref.arg_kept m' c _ (by simp)),
    (h c Cert.Reference2Ideal.main_arg3 (by decide)).trans (Ref.arg_kept m' c _ (by simp))⟩
  · refine Eq.trans ?_ (results m c).symm
    unfold Ref.argX Ref.argT Ref.argA Ref.argD
    rw [a0, a1, a2, a3]
    rfl
  · refine Eq.trans ?_ (states m c).symm
    unfold Ref.argX Ref.argT Ref.argA Ref.argD
    rw [a0, a1, a2, a3]
    rfl

end Cert.Scan

end
-- ==== Proof.Rows.lean ====
/- The gradient of a root-mean-square norm over the rows of an array, as functions of a row: what both the kernels' blocks and
   the references' arrays hold. -/
module

public import Idealize.ShloMosaic.Lib.Pointwise

@[expose] public section

noncomputable section

namespace Cert.Rows

open Idealize.ShloMosaic

/-- The two row lengths that occur, as the programs hold them. -/
abbrev N1024 : EReal := Ideal.ofBits .f32 0x44800000#32
abbrev N512 : EReal := Ideal.ofBits .f32 0x44000000#32

variable {n : ℕ} (N : EReal)

/-- The mean of the squares, and the small number. -/
def meanSq (x : Fin n → EReal) : EReal := Ideal.div (∑ k, x k * x k) N + Ideal.ofBits .f32 0x358637BD#32

/-- The inverse root the row is scaled with. -/
def scale (x : Fin n → EReal) : EReal := Ideal.rsqrt (meanSq N x)

/-- What reaches every square of the row. -/
def toSquares (x g d : Fin n → EReal) : EReal :=
  Ideal.div ((∑ k, x k * (d k * g k)) * (Ideal.ofBits .f32 0xBF000000#32 * Ideal.div (scale N x) (meanSq N x))) N

/-- The gradient with respect to the row. -/
def grad (x g d : Fin n → EReal) (l : Fin n) : EReal :=
  d l * g l * scale N x + x l * toSquares N x g d + toSquares N x g d * x l

/-- A row's part of the gradient with respect to the weights. -/
def gradG (x d : Fin n → EReal) (l : Fin n) : EReal := x l * scale N x * d l

/-- A row less its mean. -/
def center (x : Fin n → EReal) (l : Fin n) : EReal := x l - Ideal.div (∑ k, x k) N

/-- The gradient through the subtraction of the mean. -/
def uncenter (e : Fin n → EReal) (l : Fin n) : EReal := e l + Ideal.div (∑ k, -e k) N

/-- The layer norm's result. -/
def normed (x g b : Fin n → EReal) (l : Fin n) : EReal := center N x l * scale N (center N x) * g l + b l

/-- The gradient of `x * logistic x`. -/
def siluGrad (x d : EReal) : EReal := d * Ideal.logistic x + x * d * (Ideal.logistic x * (1 - Ideal.logistic x))

end Cert.Rows

end
-- ==== Proof.InbPoint.lean ====
/- What one point of the input projection's gradient computes, at an index. -/
module

public import proofs.«01_k».proof.Proof.Gen.Kernel3Ideal.Skeleton
public import proofs.«01_k».proof.Proof.Rows

@[expose] public section

set_option maxRecDepth 16384

noncomputable section

namespace Cert.Inb

open Cert.Kernel3Ideal Cert.Kernel3Ideal.Gen Idealize.ShloMosaic Idealize.SL.Sem Cert.Rows

theorem pay3_at (v27 : FVec Ideal S512x1024 .f32) (v28 : FVec Ideal S512x1024 .f32) (v29 : FVec Ideal S1x1024 .f32)
    (v63 : FVec Ideal S512x1024 .f32) (r : Fin 512) (l : Fin 1024) :
    k0_pay3 (F := Ideal) v27 v28 v29 (k0_pay7 v28) v63 (ix2 r l)
      = v63 (ix2 r l) + grad N1024 (fun k => v28 (ix2 r k)) (fun k => v29 (ix2 0 k)) (fun k => v27 (ix2 r k)) l := by
  unfold grad toSquares scale meanSq
  pointwise [k0_pay3, k0_pay2, k0_pay1, k0_pay7]
  simp only [Fin.sum_univ_one]

theorem pay4_at (v27 : FVec Ideal S512x1024 .f32) (v28 : FVec Ideal S512x1024 .f32) (v66 : FVec Ideal S1x1024 .f32) (l : Fin 1024) :
    k0_pay4 (F := Ideal) v27 v28 (k0_pay7 v28) v66 (ix2 0 l)
      = v66 (ix2 0 l) + ∑ r : Fin 512, gradG N1024 (fun k => v28 (ix2 r k)) (fun k => v27 (ix2 r k)) l := by
  unfold gradG scale meanSq
  pointwise [k0_pay4, k0_pay2, k0_pay1, k0_pay7]

theorem pay5_at (i : S8x1024.Idx) : k0_pay5 (F := Ideal) i = 0 := Ideal.ofBits_zero FTy.f32

theorem pay6_at (v4 : FVec Ideal S512x1024 .bf16) (v6 : FVec Ideal S1024x1024 .bf16) (v10 : FVec Ideal S512x1536 .bf16) (v12 : FVec Ideal S1536x1024 .bf16)
    (v16 : FVec Ideal S512x16 .bf16) (v18 : FVec Ideal S16x1024 .bf16) (v22 : FVec Ideal S512x2048 .bf16) (v24 : FVec Ideal S2048x1024 .bf16)
    (r : Fin 512) (l : Fin 1024) :
    k0_pay6 (F := Ideal) v4 v6 v10 v12 v16 v18 v22 v24 (ix2 r l)
      = (∑ k, v4 (ix2 r k) * v6 (ix2 k l)) + (∑ k, v10 (ix2 r k) * v12 (ix2 k l)) + (∑ k, v16 (ix2 r k) * v18 (ix2 k l))
        + (∑ k, v22 (ix2 r k) * v24 (ix2 k l)) := by
  pointwise [k0_pay6]

end Cert.Inb

end
-- ==== Proof.Corner.lean ====
/- An accumulator of eight rows whose first row every point of a run adds a row to: what the writes leave, and the sum over
   the run. -/
module

public import Idealize.ShloMosaic.Lib.Pipeline.ValueKit
public import Idealize.ShloMosaic.Lib.WritesUnit

@[expose] public section

noncomputable section

namespace Cert.Corner

open Idealize.ShloMosaic

variable {W : ℕ}

/-- The accumulator that holds a row at the top and zeros below. -/
def top (row : Fin W → EReal) (y : (⟨2, ![8, W]⟩ : Shape).Idx) : EReal := if (y 0).val = 0 then row (y 1) else 0

theorem top_zero (l : Fin W) (row : Fin W → EReal) : top row (ix2 0 l) = row l := if_pos rfl

theorem top_ld (row : Fin W → EReal) (inb : ∀ a : Fin 2, (![0, 0] : Fin 2 → ℕ) a + (![1, W] : Fin 2 → ℕ) a ≤ (![8, W] : Fin 2 → ℕ) a) (l : Fin W) :
    View.ld (Val := Elt Ideal) (S := ⟨2, ![8, W]⟩) (e' := .f32) (top row) (Rect.unit (s := ⟨2, ![8, W]⟩) ![0, 0] ![1, W] inb) (ix2 0 l) = row l :=
  (if_pos rfl).trans (congrArg row (Fin.ext (show 0 + 1 * l.val = l.val by omega)))

variable {sig : RefSig} {κ : Kind} {sp : Space} (v : View sig κ sp (⟨2, ![8, W]⟩ : Shape) .f32)
  (f : v.ty.Contents (Elt Ideal)) (inb : ∀ a : Fin 2, (![0, 0] : Fin 2 → ℕ) a + (![1, W] : Fin 2 → ℕ) a ≤ (![8, W] : Fin 2 → ℕ) a)
  (p : (⟨2, ![1, W]⟩ : Shape).Idx → EReal) (L : List (View.Piece (Elt Ideal) (⟨2, ![8, W]⟩ : Shape) .f32))

/-- A store of the first row over contents that are zero below it. -/
theorem stored (hL : ∀ y : (⟨2, ![8, W]⟩ : Shape).Idx, (y 0).val ≠ 0 → v.read (Elt Ideal) (v.writes (Elt Ideal) f L) y = (0 : EReal)) :
    v.read (Elt Ideal) (v.writes (Elt Ideal) f (⟨Rect.unit (s := ⟨2, ![8, W]⟩) ![0, 0] ![1, W] inb, p⟩ :: L)) = top fun l => p (ix2 0 l) := by
  funext y
  unfold top
  split
  · rename_i h
    exact v.read_writes_cons_rows_of_mem f inb p L y (ix2 0 (y 1)) rfl (h.trans (Nat.zero_add 0).symm) rfl
  · rename_i h
    exact (v.read_writes_cons_rows_of_not_mem f (W := 1) inb p L y rfl rfl (Or.inr (by omega))).trans (hL y h)

include v in
/-- The first point: zeros everywhere, then the first row. -/
theorem first (inb' : ∀ a : Fin 2, (![0, 0] : Fin 2 → ℕ) a + (![8, W] : Fin 2 → ℕ) a ≤ (![8, W] : Fin 2 → ℕ) a)
    (z : (⟨2, ![8, W]⟩ : Shape).Idx → EReal) (hz : ∀ i, z i = 0) :
    View.canon (Val := Elt Ideal) (e := .f32) [⟨Rect.unit (s := ⟨2, ![8, W]⟩) ![0, 0] ![1, W] inb, p⟩,
      ⟨Rect.unit (s := ⟨2, ![8, W]⟩) ![0, 0] ![8, W] inb', z⟩] = top fun l => p (ix2 0 l) := by
  rw [← v.read_writes_junk_eq_canon]
  refine stored v _ inb p _ fun y _ => ?_
  rw [v.read_writes_junk_eq_canon]
  exact (congrFun (View.canon_unit_zero (S := ⟨2, ![8, W]⟩) (Val := Elt Ideal) (e := .f32) (off := ![0, 0]) (funext fun a => by fin_cases a <;> rfl) inb' z) y).trans (hz y)

/-- The first row as the first point reads it back. -/
theorem first_read (inb' : ∀ a : Fin 2, (![0, 0] : Fin 2 → ℕ) a + (![8, W] : Fin 2 → ℕ) a ≤ (![8, W] : Fin 2 → ℕ) a)
    (z : (⟨2, ![8, W]⟩ : Shape).Idx → EReal) (hz : ∀ i, z i = 0) (B : LoadRect (⟨2, ![8, W]⟩ : Shape)) (x : B.shape.Idx) :
    v.readCov (Val := Elt Ideal) [⟨Rect.unit (s := ⟨2, ![8, W]⟩) ![0, 0] ![8, W] inb', z⟩] B x = (0 : EReal) := by
  rw [View.readCov_eq_canon']
  exact (congrFun (View.canon_unit_zero (S := ⟨2, ![8, W]⟩) (Val := Elt Ideal) (e := .f32) (off := ![0, 0]) (funext fun a => by fin_cases a <;> rfl) inb' z) _).trans (hz _)

end Cert.Corner

end
-- ==== Proof.InbOuts.lean ====
/- What the points of the input projection's gradient leave. -/
module

public import proofs.«01_k».proof.Proof.InbPoint
public import proofs.«01_k».proof.Proof.Corner
public import proofs.«01_k».proof.Proof.Gen.Kernel3Ideal.Value
public import Idealize.ShloMosaic.Lib.KernelVsHost

@[expose] public section

set_option maxRecDepth 16384

noncomputable section

namespace Cert.Inb

open Cert.Kernel3Ideal Cert.Kernel3Ideal.Gen Idealize.ShloMosaic Idealize.ShloMosaic.TcCoe Idealize.SL.Sem Cert.Rows

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)

/-- A sum over the 4624 columns is the sum over the four groups of columns. -/
theorem columns (f : Fin 4624 → EReal) : ∑ j, f j
    = (∑ k : Fin 1024, f ⟨k.val, by omega⟩) + (∑ k : Fin 1536, f ⟨1024 + k.val, by omega⟩) + (∑ k : Fin 16, f ⟨2560 + k.val, by omega⟩)
      + (∑ k : Fin 2048, f ⟨2576 + k.val, by omega⟩) := by
  refine (show ∑ j : Fin (1024 + 1536 + 16 + 2048), f j = _ from ?_)
  rw [Fin.sum_univ_add, Fin.sum_univ_add, Fin.sum_univ_add]
  rfl

variable (m : (ℓ : Loc nD τ sig) → Buf (Elt Ideal) ℓ) (c : Dev nD)

abbrev argX : FVec Ideal S4096x1024 .f32 := m ((c : Thread nD τ).loc main_arg0)
abbrev argG : FVec Ideal S1x1024 .f32 := m ((c : Thread nD τ).loc main_arg1)
abbrev argW : FVec Ideal S1024x4624 .f32 := m ((c : Thread nD τ).loc main_arg2)
abbrev argP : FVec Ideal S4096x4624 .f32 := m ((c : Thread nD τ).loc main_arg3)
abbrev argH : FVec Ideal S4096x1024 .f32 := m ((c : Thread nD τ).loc main_arg4)

/-- The gradient that reaches the norm's result: a product with the weights' transpose. -/
def back (P : FVec Ideal S4096x4624 .f32) (W : FVec Ideal S1024x4624 .f32) (R : Fin 4096) (l : Fin 1024) : EReal :=
  ∑ j : Fin 4624, P (ix2 R j) * W (ix2 l j)

/-- Row `r` of the block of point `t`. -/
abbrev rowOf (t : Fin cfg0.N) (r : Fin 512) : Fin 4096 := ⟨512 * t.val + r.val, by have : t.val < 8 := t.isLt; omega⟩

theorem blk0 (t : Fin cfg0.N) (r : Fin 512) (k : Fin 1024) :
    iblk (F := Ideal) m c 0 t (ix2 r k) = argP m c (ix2 (rowOf t r) ⟨k.val, by omega⟩) := by
  blk_simp [iblk]
  entry_read
  refine extractStridedSlice_apply _ _ _ _ (ix2 (rowOf t r) ⟨k.val, by omega⟩) fun a => ?_
  fin_cases a
  · show 512 * t.val + r.val = 0 + ((win0_0.blk t).view.emb (ix2 r k) 0).val
    blk_simp [idx0 t]
    omega
  · show k.val = 0 + ((win0_0.blk t).view.emb (ix2 r k) 1).val
    blk_simp [idx0 t]

theorem blk1 (t : Fin cfg0.N) (r : Fin 512) (k : Fin 1536) :
    iblk (F := Ideal) m c 1 t (ix2 r k) = argP m c (ix2 (rowOf t r) ⟨1024 + k.val, by omega⟩) := by
  blk_simp [iblk]
  entry_read
  refine extractStridedSlice_apply _ _ _ _ (ix2 (rowOf t r) ⟨1024 + k.val, by omega⟩) fun a => ?_
  fin_cases a
  · show 512 * t.val + r.val = 0 + ((win0_1.blk t).view.emb (ix2 r k) 0).val
    blk_simp [idx1 t]
    omega
  · show 1024 + k.val = 1024 + ((win0_1.blk t).view.emb (ix2 r k) 1).val
    blk_simp [idx1 t]

theorem blk2 (t : Fin cfg0.N) (r : Fin 512) (k : Fin 16) :
    iblk (F := Ideal) m c 2 t (ix2 r k) = argP m c (ix2 (rowOf t r) ⟨2560 + k.val, by omega⟩) := by
  blk_simp [iblk]
  entry_read
  refine extractStridedSlice_apply _ _ _ _ (ix2 (rowOf t r) ⟨2560 + k.val, by omega⟩) fun a => ?_
  fin_cases a
  · show 512 * t.val + r.val = 0 + ((win0_2.blk t).view.emb (ix2 r k) 0).val
    blk_simp [idx2 t]
    omega
  · show 2560 + k.val = 2560 + ((win0_2.blk t).view.emb (ix2 r k) 1).val
    blk_simp [idx2 t]

theorem blk3 (t : Fin cfg0.N) (r : Fin 512) (k : Fin 2048) :
    iblk (F := Ideal) m c 3 t (ix2 r k) = argP m c (ix2 (rowOf t r) ⟨2576 + k.val, by omega⟩) := by
  blk_simp [iblk]
  entry_read
  refine extractStridedSlice_apply _ _ _ _ (ix2 (rowOf t r) ⟨2576 + k.val, by omega⟩) fun a => ?_
  fin_cases a
  · show 512 * t.val + r.val = 0 + ((win0_3.blk t).view.emb (ix2 r k) 0).val
    blk_simp [idx3 t]
    omega
  · show 2576 + k.val = 2576 + ((win0_3.blk t).view.emb (ix2 r k) 1).val
    blk_simp [idx3 t]

theorem blk4 (t : Fin cfg0.N) (r : Fin 512) (k : Fin 1024) : iblk (F := Ideal) m c 4 t (ix2 r k) = argX m c (ix2 (rowOf t r) k) := by
  blk_simp [iblk, V_main_arg0]
  refine congrArg (argX m c) ?_
  blk_ext [idx4 t]

theorem blk5 (t : Fin cfg0.N) (r : Fin 512) (k : Fin 1024) : iblk (F := Ideal) m c 5 t (ix2 r k) = argH m c (ix2 (rowOf t r) k) := by
  blk_simp [iblk, V_main_arg4]
  refine congrArg (argH m c) ?_
  blk_ext [idx5 t]

theorem blk6 (t : Fin cfg0.N) (k : Fin 1024) : iblk (F := Ideal) m c 6 t (ix2 0 k) = argG m c (ix2 0 k) := by
  blk_simp [iblk, V_main_arg1]
  refine congrArg (argG m c) ?_
  blk_ext [idx6 t]

theorem blk7 (t : Fin cfg0.N) (j : S4624x1024.Idx) : iblk (F := Ideal) m c 7 t j = argW m c (ix2 (j 1) (j 0)) := by
  blk_simp [iblk]
  entry_read
  refine transpose_apply _ _ _ _ (ix2 (j 1) (j 0)) fun b => ?_
  fin_cases b
  · show (j 0).val = ((win0_7.blk t).view.emb j 0).val
    blk_simp [idx7 t]
  · show (j 1).val = ((win0_7.blk t).view.emb j 1).val
    blk_simp [idx7 t]

theorem ld7 (t : Fin cfg0.N) {o n : ℕ} (inb : ∀ a, (![o, 0] : Fin 2 → ℕ) a + (![n, 1024] : Fin 2 → ℕ) a ≤ S4624x1024.size a)
    (k : Fin n) (l : Fin 1024) (h : o + k.val < 4624) :
    View.ld (iblk (F := Ideal) m c 7 t) (Rect.unit ![o, 0] ![n, 1024] inb) (ix2 k l) = argW m c (ix2 l ⟨o + k.val, h⟩) := by
  refine (blk7 m c t _).trans (congrArg (argW m c) (funext fun a => Fin.ext ?_))
  fin_cases a
  · show 0 + 1 * l.val = l.val
    omega
  · show o + 1 * k.val = o + k.val
    omega

theorem back_block (t : Fin cfg0.N) (r : Fin 512) (l : Fin 1024) :
    k0_pay6 (F := Ideal) (iblk m c 0 t)
            (View.ld (iblk m c 7 t) (Rect.unit ![0, 0] ![1024, 1024] inb_S4624x1024_S1024x1024_0_0)) (iblk m c 1 t)
            (View.ld (iblk m c 7 t) (Rect.unit ![1024, 0] ![1536, 1024] inb_S4624x1024_S1536x1024_1024_0))
            (iblk m c 2 t) (View.ld (iblk m c 7 t) (Rect.unit ![2560, 0] ![16, 1024] inb_S4624x1024_S16x1024_2560_0))
            (iblk m c 3 t)
            (View.ld (iblk m c 7 t) (Rect.unit ![2576, 0] ![2048, 1024] inb_S4624x1024_S2048x1024_2576_0)) (ix2 r l)
      = back (argP m c) (argW m c) (rowOf t r) l := by
  unfold back
  rw [columns, pay6_at]
  refine congrArg₂ (· + ·) (congrArg₂ (· + ·) (congrArg₂ (· + ·) ?_ ?_) ?_) ?_
  · refine Finset.sum_congr rfl fun k _ => congrArg₂ (· * ·) (blk0 m c t r k) ((ld7 m c t _ k l (by omega)).trans ?_)
    exact congrArg (fun i => argW m c (ix2 l i)) (Fin.ext (Nat.zero_add _))
  · exact Finset.sum_congr rfl fun k _ => congrArg₂ (· * ·) (blk1 m c t r k) (ld7 m c t _ k l (by omega))
  · exact Finset.sum_congr rfl fun k _ => congrArg₂ (· * ·) (blk2 m c t r k) (ld7 m c t _ k l (by omega))
  · exact Finset.sum_congr rfl fun k _ => congrArg₂ (· * ·) (blk3 m c t r k) (ld7 m c t _ k l (by omega))

/-- A row's gradients in terms of the arguments. -/
def dxAt (X : FVec Ideal S4096x1024 .f32) (G : FVec Ideal S1x1024 .f32) (W : FVec Ideal S1024x4624 .f32) (P : FVec Ideal S4096x4624 .f32)
    (H : FVec Ideal S4096x1024 .f32) (R : Fin 4096) (l : Fin 1024) : EReal :=
  H (ix2 R l) + grad N1024 (fun k => X (ix2 R k)) (fun k => G (ix2 0 k)) (back P W R) l

def dgAt (X : FVec Ideal S4096x1024 .f32) (W : FVec Ideal S1024x4624 .f32) (P : FVec Ideal S4096x4624 .f32) (R : Fin 4096) (l : Fin 1024) : EReal :=
  gradG N1024 (fun k => X (ix2 R k)) (back P W R) l

theorem dx_value (t : Fin cfg0.N) (r : Fin 512) (l : Fin 1024) :
    grad N1024 (fun k => iblk m c 4 t (ix2 r k)) (fun k => iblk m c 6 t (ix2 0 k))
        (fun k => k0_pay6 (F := Ideal) (iblk m c 0 t)
            (View.ld (iblk m c 7 t) (Rect.unit ![0, 0] ![1024, 1024] inb_S4624x1024_S1024x1024_0_0)) (iblk m c 1 t)
            (View.ld (iblk m c 7 t) (Rect.unit ![1024, 0] ![1536, 1024] inb_S4624x1024_S1536x1024_1024_0))
            (iblk m c 2 t) (View.ld (iblk m c 7 t) (Rect.unit ![2560, 0] ![16, 1024] inb_S4624x1024_S16x1024_2560_0))
            (iblk m c 3 t)
            (View.ld (iblk m c 7 t) (Rect.unit ![2576, 0] ![2048, 1024] inb_S4624x1024_S2048x1024_2576_0)) (ix2 r k)) l
      = grad N1024 (fun k => argX m c (ix2 (rowOf t r) k)) (fun k => argG m c (ix2 0 k)) (back (argP m c) (argW m c) (rowOf t r)) l := by
  have e1 : (fun k => iblk (F := Ideal) m c 4 t (ix2 r k)) = fun k => argX m c (ix2 (rowOf t r) k) := funext fun k => blk4 m c t r k
  have e2 : (fun k : Fin 1024 => iblk (F := Ideal) m c 6 t (ix2 0 k)) = fun k => argG m c (ix2 0 k) := funext fun k => blk6 m c t k
  have e3 := funext fun k => back_block m c t r k
  rw [e1, e2, e3]

theorem dx_point (t : Fin cfg0.N) (r : Fin 512) (l : Fin 1024) :
    (outsAt0 m c t.val t.isLt).1 (ix2 r l) = dxAt (argX m c) (argG m c) (argW m c) (argP m c) (argH m c) (rowOf t r) l := by
  by_cases h : t.val % 8 = 0
  · rw [outsAt0_A m c t h]
    frame_out
    rw [pay3_at]
    exact congrArg₂ (fun a b : EReal => a + b) (blk5 m c t r l) (dx_value m c t r l)
  · rw [outsAt0_B m c t h]
    frame_out
    rw [pay3_at]
    exact congrArg₂ (fun a b : EReal => a + b) (blk5 m c t r l) (dx_value m c t r l)

/-- The part of the weights' gradient that comes from one block of rows. -/
def part (n : ℕ) (l : Fin 1024) : EReal :=
  if h : n < 8 then ∑ r : Fin 512, dgAt (argX m c) (argW m c) (argP m c) ⟨512 * n + r.val, by omega⟩ l else 0

theorem part_value (t : Fin cfg0.N) (l : Fin 1024) :
    ∑ r : Fin 512, gradG N1024 (fun k => iblk m c 4 t (ix2 r k))
        (fun k => k0_pay6 (F := Ideal) (iblk m c 0 t)
            (View.ld (iblk m c 7 t) (Rect.unit ![0, 0] ![1024, 1024] inb_S4624x1024_S1024x1024_0_0)) (iblk m c 1 t)
            (View.ld (iblk m c 7 t) (Rect.unit ![1024, 0] ![1536, 1024] inb_S4624x1024_S1536x1024_1024_0))
            (iblk m c 2 t) (View.ld (iblk m c 7 t) (Rect.unit ![2560, 0] ![16, 1024] inb_S4624x1024_S16x1024_2560_0))
            (iblk m c 3 t)
            (View.ld (iblk m c 7 t) (Rect.unit ![2576, 0] ![2048, 1024] inb_S4624x1024_S2048x1024_2576_0)) (ix2 r k)) l
      = part m c t.val l := by
  have ht : t.val < 8 := t.isLt
  unfold part
  rw [dif_pos ht]
  refine Finset.sum_congr rfl fun r _ => ?_
  unfold dgAt
  have e1 : (fun k => iblk (F := Ideal) m c 4 t (ix2 r k)) = fun k => argX m c (ix2 (rowOf t r) k) := funext fun k => blk4 m c t r k
  have e3 := funext fun k => back_block m c t r k
  rw [e1, e3]

theorem acc_first (t : Fin cfg0.N) (h : t.val % 8 = 0) :
    (outsAt0 m c t.val t.isLt).2 = Corner.top fun l => 0 + part m c t.val l := by
  rw [outsAt0_A m c t h]
  frame_out
  refine (Corner.first (ms0_9 t).view _ _ _ _ pay5_at).trans (congrArg Corner.top (funext fun l => ?_))
  rw [pay4_at, Corner.first_read _ _ _ pay5_at]
  exact congrArg (fun s => 0 + s) (part_value m c t l)

theorem acc_next (t : Fin cfg0.N) (h : ¬ t.val % 8 = 0) (row : Fin 1024 → EReal)
    (hp : (outsAt0 m c (t.val - 1) (Nat.lt_of_le_of_lt (Nat.sub_le _ _) t.isLt)).2 = Corner.top row) :
    (outsAt0 m c t.val t.isLt).2 = Corner.top fun l => row l + part m c t.val l := by
  rw [outsAt0_B m c t h]
  frame_out
  rw [hp]
  refine (Corner.stored (ms0_9 t).view _ _ _ _ fun y hy => ?_).trans (congrArg Corner.top (funext fun l => ?_))
  · rw [View.writes_nil, Memref.IsWhole.read_unread]
    exact if_neg hy
  · rw [pay4_at]
    refine congrArg₂ (· + ·) ?_ (part_value m c t l)
    exact Corner.top_ld row _ l

theorem acc_point : ∀ (n : ℕ) (hn : n < cfg0.N), (outsAt0 m c n hn).2 = Corner.top fun l => ∑ k ∈ Finset.range (n + 1), part m c k l
  | 0, hn => (acc_first m c ⟨0, hn⟩ rfl).trans (congrArg Corner.top (funext fun l => by simp))
  | n + 1, hn => by
    have h8 : n + 1 < 8 := hn
    refine (acc_next m c ⟨n + 1, hn⟩ (by show ¬ (n + 1) % 8 = 0; omega) _ (acc_point n _)).trans (congrArg Corner.top (funext fun l => ?_))
    rw [Finset.sum_range_succ _ (n + 1)]

/-- The rows' gradient after the run. -/
theorem final8 : (dats m 0 c).arrAt 8 cfg0.N
    = (fun y : S4096x1024.Idx => dxAt (argX m c) (argG m c) (argW m c) (argP m c) (argH m c) (y 0) (y 1)) := by
  refine (dats m 0 c).arrAt_eq_of_covers 8 _ (by decide +kernel) fun t hf y => ?_
  have h0 : (win0_8.blk t).view.emb y 0 = rowOf t (y 0) := Fin.ext (by
    show ((win0_8.blk t).view.emb y 0).val = 512 * t.val + (y 0).val
    blk_simp [idx8 t]
    omega)
  have h1 : (win0_8.blk t).view.emb y 1 = y 1 := Fin.ext (by blk_simp [idx8 t])
  rw [after0_8]
  refine Eq.trans ?_ ((dx_point m c t (y 0) (y 1)).trans (congrArg₂ (dxAt (argX m c) (argG m c) (argW m c) (argP m c) (argH m c)) h0 h1).symm)
  exact congrArg (outsAt0 m c t.val t.isLt).1 (funext fun a => by fin_cases a <;> rfl)

/-- The weights' gradient after the run: the eight blocks' parts. -/
theorem final9 : (dats m 0 c).arrAt 9 cfg0.N
    = Corner.top fun l => ∑ k ∈ Finset.range 8, part m c k l := by
  refine (dats m 0 c).arrAt_eq_of_after_last 9 t0_7 (by decide +kernel) _ fun j => ?_
  rw [after0_9]
  refine (congrFun (acc_point m c 7 t0_7.isLt) _).trans (congrArg (Corner.top _) (funext fun a => Fin.ext ?_))
  fin_cases a <;> rfl

theorem parts (l : Fin 1024) : ∑ k ∈ Finset.range 8, part m c k l = ∑ R, dgAt (argX m c) (argW m c) (argP m c) R l := by
  rw [← Fin.sum_univ_eq_sum_range (fun k => part m c k l)]
  refine Eq.trans (Finset.sum_congr rfl fun t _ => dif_pos t.isLt) (Fin.sum_mul_add_congr (n := 512) fun t r hl => ?_)
  exact congrArg (fun R => dgAt (argX m c) (argW m c) (argP m c) R l) (Fin.ext (by show 512 * t.val + r.val = t.val * 512 + r.val; omega))

end Cert.Inb

end
-- ==== Proof.InbRef.lean ====
/- The reference's gradients through the norm and the product, at an index. -/
module

public import proofs.«01_k».proof.Proof.InbOuts
public import proofs.«01_k».proof.Proof.Gen.Reference3Ideal.Read

@[expose] public section

set_option maxRecDepth 16384

noncomputable section

namespace Cert.Inb.Ref

open Cert.Reference3Ideal Cert.Reference3Ideal.Gen Cert.Reference3Ideal.Read Idealize.ShloMosaic Idealize.SL.Sem Cert.Rows

variable (X : FVec Ideal S4096x1024 .f32) (G : FVec Ideal S1x1024 .f32) (W : FVec Ideal S1024x4624 .f32) (P : FVec Ideal S4096x4624 .f32)
    (H : FVec Ideal S4096x1024 .f32)

theorem dx_ref (R : Fin 4096) (l : Fin 1024) : val_main_v36 (F := Ideal) X G W P H (ix2 R l) = dxAt X G W P H R l := by
  unfold dxAt grad toSquares scale meanSq back
  pointwise [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v16, val_main_v10, val_main_v9, val_main_v8, val_main_v7, val_main_v6, val_main_v5, val_main_v4, val_main_v3, val_main_v2, val_main_v1, val_main_v0,
    val_main_cst, val_main_cst_0, val_main_cst_1, val_main_cst_2, val_main_cst_4, val_main_cst_5, val_main_cst_6]
  simp only [Ideal.ofBits_zero, zero_add, Fin.sum_univ_one, add_assoc]

theorem dg_ref (y : S8x1024.Idx) : val_main_v37 (F := Ideal) X W P y = Corner.top (fun l => ∑ R, dgAt X W P R l) y := by
  unfold Corner.top dgAt gradG scale meanSq back
  pointwise [val_main_v37, val_main_v19, val_main_v18, val_main_v17, val_main_v16, val_main_v12, val_main_v11,  val_main_v7, val_main_v6, val_main_v5, val_main_v4, val_main_v3, val_main_v2, val_main_v1, val_main_v0,
    val_main_cst, val_main_cst_0, val_main_cst_1, val_main_cst_3, val_main_call0_v0, val_main_c]
  simp only [Ideal.ofBits_zero, zero_add, Nat.lt_one_iff, dite_eq_ite]
  split
  · rfl
  · exact congrArg (fun n : ℝ => (n : EReal)) Int.cast_zero

end Cert.Inb.Ref

end
-- ==== Proof.Inb.lean ====
/- The value claim of the input projection's gradient: kernel and reference end with the same two arrays. -/
module

public import proofs.«01_k».proof.Defs
public import proofs.«01_k».proof.Proof.Gen.Reference3Ideal.Run
public import proofs.«01_k».proof.Proof.InbRef

@[expose] public section

noncomputable section

namespace Cert.Inb

open Idealize.ShloMosaic Idealize.ShloMosaic.TcCoe Idealize.SL.Sem

theorem algebraic : Cert.algebraic_Kernel3Ideal_Reference3Ideal (hKernel3Ideal := Cert.Kernel3Ideal.Gen.facts)
    (hReference3Ideal := Cert.Reference3Ideal.Gen.facts) := by
  intro m ρ m' ρ' _ hag
  refine ⟨fun c => (Cert.Kernel3Ideal.Gen.dats m 0 c).arrAt 8 Cert.Kernel3Ideal.cfg0.N,
    fun c => (Cert.Kernel3Ideal.Gen.dats m 0 c).arrAt 9 Cert.Kernel3Ideal.cfg0.N, Cert.Kernel3Ideal.Value.run_blocks m ρ,
    (θ_run _ _ _).mono (fun _ h c => ⟨(h c).1.trans ?_, (h c).2.1.trans ?_, (h c).2.2⟩) (Cert.Reference3Ideal.Value.run m' ρ')⟩
  · obtain ⟨a0, a1, a2, a3, a4⟩ := hag c
    rw [Cert.Reference3Ideal.Read.val_main_v36_eq, a0, a1, a2, a3, a4]
    refine Eq.trans (funext fun y => ?_) (final8 m c).symm
    exact (congrArg _ (funext fun a => by fin_cases a <;> rfl)).trans (Ref.dx_ref _ _ _ _ _ (y 0) (y 1))
  · obtain ⟨a0, a1, a2, a3, a4⟩ := hag c
    rw [Cert.Reference3Ideal.Read.val_main_v37_eq, a0, a2, a3]
    refine Eq.trans (funext fun y => Ref.dg_ref _ _ _ y) ((final9 m c).trans (congrArg Corner.top (funext fun l => parts m c l))).symm

end Cert.Inb

end
-- ==== Proof.MlpbPoint.lean ====
/- What one point of the gradient of the squared-relu layer computes, at an index. -/
module

public import proofs.«01_k».proof.Proof.Gen.Kernel4Ideal.Skeleton
public import proofs.«01_k».proof.Proof.Rows

@[expose] public section

set_option maxRecDepth 16384

noncomputable section

namespace Cert.Mlpb

open Cert.Kernel4Ideal Cert.Kernel4Ideal.Gen Idealize.ShloMosaic Idealize.SL.Sem Cert.Rows

/-- What the squared relu passes back at a value `p`, as the kernel writes it. -/
def slope (p : EReal) : EReal := Ideal.ofBits .f32 0x40000000#32 * max p 0

variable (x : FVec Ideal S512x1024 .bf16) (w : Fin 8 → FVec Ideal S512x1024 .bf16) (p : Fin 8 → FVec Ideal S512x512 .bf16)
  (u : Fin 8 → FVec Ideal S1x1024x512 .bf16)

/-- One block of columns of the gradient at the layer's inner value. -/
theorem pay11_at (wq : FVec Ideal S512x1024 .bf16) (pq : FVec Ideal S512x512 .bf16) (r k : Fin 512) :
    k0_pay11 (F := Ideal) (k0_pay5 x) wq pq (ix2 r k) = (∑ j : Fin 1024, x (ix2 r j) * wq (ix2 k j)) * slope (pq (ix2 r k)) := by
  unfold slope
  pointwise [k0_pay11, k0_pay5]

/-- The sums of products that reach the norm's result, after one, three, five, seven and all eight blocks. -/
abbrev du1 : FVec Ideal S512x1024 .f32 := k0_pay7 (F := Ideal) x (w 0) (p 0) (u 0)
abbrev du3 : FVec Ideal S512x1024 .f32 :=
  k0_pay12 (F := Ideal) (k0_pay5 x) (du1 x w p u) (k0_pay8 x (w 1)) (k0_pay9 (p 1)) (Scalar.ofBits .f32 0x00000000#32) (u 1) (w 2) (p 2) (u 2)
abbrev du5 : FVec Ideal S512x1024 .f32 :=
  k0_pay17 (F := Ideal) (k0_pay5 x) (du3 x w p u) (k0_pay13 (k0_pay5 x) (w 3)) (k0_pay14 (p 3)) (Scalar.ofBits .f32 0x00000000#32) (u 3) (w 4) (p 4) (u 4)
abbrev du7 : FVec Ideal S512x1024 .f32 :=
  k0_pay22 (F := Ideal) (k0_pay5 x) (du5 x w p u) (k0_pay18 (k0_pay5 x) (w 5)) (k0_pay19 (p 5)) (Scalar.ofBits .f32 0x00000000#32) (u 5) (w 6) (p 6) (u 6)
abbrev du8 : FVec Ideal S512x1024 .f32 :=
  k0_pay26 (F := Ideal) (du7 x w p u) (k0_pay23 (k0_pay5 x) (w 7)) (k0_pay24 (p 7)) (Scalar.ofBits .f32 0x00000000#32) (u 7)

/-- One block's products. -/
abbrev term (q : Fin 8) (r : Fin 512) (l : Fin 1024) : EReal :=
  ∑ k : Fin 512, k0_pay11 (F := Ideal) (k0_pay5 x) (w q) (p q) (ix2 r k) * u q (ix3 0 l k)

variable (r : Fin 512) (l : Fin 1024)

theorem du1_at : du1 x w p u (ix2 r l) = term x w p u 0 r l := by
  refine Eq.trans ?_ (zero_add _)
  rw [← Ideal.ofBits_zero FTy.f32]
  refine Eq.trans (b := Ideal.ofBits .f32 0x00000000#32 + ∑ k : Fin 512, k0_pay6 (F := Ideal) x (w 0) (p 0) (ix2 r k) * u 0 (ix3 0 l k)) ?_ rfl
  pointwise [k0_pay7]

theorem du3_at : du3 x w p u (ix2 r l) = du1 x w p u (ix2 r l) + term x w p u 1 r l + term x w p u 2 r l := by
  refine Eq.trans (b := du1 x w p u (ix2 r l) + (∑ k : Fin 512, k0_pay10 (F := Ideal) (k0_pay8 x (w 1)) (k0_pay9 (p 1)) (Scalar.ofBits .f32 0x00000000#32) (ix2 r k) * u 1 (ix3 0 l k))
    + term x w p u 2 r l) ?_ rfl
  pointwise [k0_pay12]

theorem du5_at : du5 x w p u (ix2 r l) = du3 x w p u (ix2 r l) + term x w p u 3 r l + term x w p u 4 r l := by
  refine Eq.trans (b := du3 x w p u (ix2 r l) + (∑ k : Fin 512, k0_pay15 (F := Ideal) (k0_pay13 (k0_pay5 x) (w 3)) (k0_pay14 (p 3)) (Scalar.ofBits .f32 0x00000000#32) (ix2 r k) * u 3 (ix3 0 l k))
    + ∑ k : Fin 512, k0_pay16 (F := Ideal) (k0_pay5 x) (w 4) (p 4) (ix2 r k) * u 4 (ix3 0 l k)) ?_ rfl
  pointwise [k0_pay17]

theorem du7_at : du7 x w p u (ix2 r l) = du5 x w p u (ix2 r l) + term x w p u 5 r l + term x w p u 6 r l := by
  refine Eq.trans (b := du5 x w p u (ix2 r l) + (∑ k : Fin 512, k0_pay20 (F := Ideal) (k0_pay18 (k0_pay5 x) (w 5)) (k0_pay19 (p 5)) (Scalar.ofBits .f32 0x00000000#32) (ix2 r k) * u 5 (ix3 0 l k))
    + ∑ k : Fin 512, k0_pay21 (F := Ideal) (k0_pay5 x) (w 6) (p 6) (ix2 r k) * u 6 (ix3 0 l k)) ?_ rfl
  pointwise [k0_pay22]

theorem du8_last : du8 x w p u (ix2 r l) = du7 x w p u (ix2 r l) + term x w p u 7 r l := by
  refine Eq.trans (b := du7 x w p u (ix2 r l) + ∑ k : Fin 512, k0_pay25 (F := Ideal) (k0_pay23 (k0_pay5 x) (w 7)) (k0_pay24 (p 7)) (Scalar.ofBits .f32 0x00000000#32) (ix2 r k) * u 7 (ix3 0 l k)) ?_ rfl
  pointwise [k0_pay26]

theorem du8_at : du8 x w p u (ix2 r l) = ∑ q : Fin 8, term x w p u q r l := by
  rw [Fin.sum_univ_eight, du8_last, du7_at, du5_at, du3_at, du1_at]

variable (v120 : FVec Ideal S512x1024 .f32) (v122 v125 : FVec Ideal S512x512 .f32) (z : Ideal .f32) (v133 : FVec Ideal S1x1024x512 .bf16)
  (v137 v172 : FVec Ideal S512x1024 .f32) (v138 : FVec Ideal S1x1024 .f32)

theorem pay1_at :
    k0_pay1 (F := Ideal) v137 (k0_pay31 v120 v122 v125 z v133 v137 v138) (k0_pay32 v120 v122 v125 z v133 v137 v138) v172 (ix2 r l)
      = v172 (ix2 r l) + grad N1024 (fun k => v137 (ix2 r k)) (fun k => v138 (ix2 0 k)) (fun k => k0_pay26 (F := Ideal) v120 v122 v125 z v133 (ix2 r k)) l := by
  unfold grad toSquares scale meanSq N1024
  pointwise [k0_pay1, k0_pay31, k0_pay32, k0_pay30, k0_pay28, k0_pay27]
  simp only [Fin.sum_univ_one]

theorem pay29_at :
    k0_pay29 (F := Ideal) v120 v122 v125 z v133 v137 (ix2 0 l)
      = ∑ r : Fin 512, gradG N1024 (fun k => v137 (ix2 r k)) (fun k => k0_pay26 (F := Ideal) v120 v122 v125 z v133 (ix2 r k)) l := by
  unfold gradG scale meanSq N1024
  pointwise [k0_pay29, k0_pay28, k0_pay27]

theorem pay3_at (v154 v177 : FVec Ideal S1x1024 .f32) : k0_pay3 (F := Ideal) v154 v177 (ix2 0 l) = v177 (ix2 0 l) + v154 (ix2 0 l) := by
  pointwise [k0_pay3]

theorem pay4_at (i : S8x1024.Idx) : k0_pay4 (F := Ideal) i = 0 := Ideal.ofBits_zero FTy.f32

end Cert.Mlpb

end
-- ==== Proof.MlpbRows.lean ====
/- The gradient of the squared-relu layer, row by row, in terms of the arguments. -/
module

public import proofs.«01_k».proof.Proof.MlpbPoint
public import Idealize.ShloMosaic.Lib.KernelVsHost

@[expose] public section

noncomputable section

namespace Cert.Mlpb

open Cert.Kernel4Ideal Cert.Kernel4Ideal.Gen Idealize.ShloMosaic Cert.Rows

/-- The arguments of both programs. -/
structure Args where
  h : FVec Ideal S4096x1024 .f32
  g : FVec Ideal S1x1024 .f32
  wu : FVec Ideal S1024x4096 .f32
  wd : FVec Ideal S4096x1024 .f32
  d : FVec Ideal S4096x1024 .f32

variable (A : Args) (R : Fin 4096)

/-- The row of the hidden state, the gains as a row. -/
abbrev hRow : Fin 1024 → EReal := fun k => A.h (ix2 R k)
abbrev gRow : Fin 1024 → EReal := fun k => A.g (ix2 0 k)

/-- The forward pass up to the squared relu. -/
def pre (j : Fin 4096) : EReal := ∑ k : Fin 1024, hRow A R k * scale N1024 (hRow A R) * gRow A k * A.wu (ix2 k j)

/-- The backward pass: the gradients at that value, at the norm's result, at the hidden state and at the gains. -/
def back (j : Fin 4096) : EReal := ∑ k : Fin 1024, A.d (ix2 R k) * A.wd (ix2 j k)
def dpre (j : Fin 4096) : EReal := back A R j * slope (pre A R j)
def du (l : Fin 1024) : EReal := ∑ j : Fin 4096, dpre A R j * A.wu (ix2 l j)
def dhAt (l : Fin 1024) : EReal := A.d (ix2 R l) + grad N1024 (hRow A R) (gRow A) (du A R) l
def dgAt (l : Fin 1024) : EReal := gradG N1024 (hRow A R) (du A R) l

end Cert.Mlpb

end
-- ==== Proof.MlpbOuts.lean ====
/- What the points of the gradient of the squared-relu layer leave. -/
module

public import proofs.«01_k».proof.Proof.MlpbRows
public import proofs.«01_k».proof.Proof.Corner
public import proofs.«01_k».proof.Proof.Gen.Kernel4Ideal.Value

@[expose] public section

set_option maxRecDepth 16384

noncomputable section

namespace Cert.Mlpb

open Cert.Kernel4Ideal Cert.Kernel4Ideal.Gen Idealize.ShloMosaic Idealize.ShloMosaic.TcCoe Idealize.SL.Sem Cert.Rows

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

variable (m : (ℓ : Loc nD τ sig) → Buf (Elt Ideal) ℓ) (c : Dev nD)

/-- The arguments in a memory. -/
abbrev args : Args := ⟨m ((c : Thread nD τ).loc main_arg0), m ((c : Thread nD τ).loc main_arg1), m ((c : Thread nD τ).loc main_arg2),
  m ((c : Thread nD τ).loc main_arg3), m ((c : Thread nD τ).loc main_arg4)⟩

/-- Row `r` of the block of point `t`. -/
abbrev rowOf (t : Fin cfg0.N) (r : Fin 512) : Fin 4096 := ⟨512 * t.val + r.val, by have : t.val < 8 := t.isLt; omega⟩

variable (t : Fin cfg0.N) (r : Fin 512) (k : Fin 1024)

theorem blk0 : iblk (F := Ideal) m c 0 t (ix2 r k) = (args m c).d (ix2 (rowOf t r) k) := by
  blk_simp [iblk, V_main_arg4]
  refine congrArg (args m c).d ?_
  blk_ext [idx0 t]

theorem blk1 : iblk (F := Ideal) m c 1 t (ix2 r k) = (args m c).d (ix2 (rowOf t r) k) := by
  blk_simp [iblk]
  entry_read
  refine congrArg (args m c).d ?_
  blk_ext [idx1 t]

theorem blk3 : iblk (F := Ideal) m c 3 t (ix2 r k) = (args m c).h (ix2 (rowOf t r) k) := by
  blk_simp [iblk, V_main_arg0]
  refine congrArg (args m c).h ?_
  blk_ext [idx3 t]

theorem blk4 : iblk (F := Ideal) m c 4 t (ix2 0 k) = (args m c).g (ix2 0 k) := by
  blk_simp [iblk, V_main_arg1]
  refine congrArg (args m c).g ?_
  blk_ext [idx4 t]

theorem down_at (j : Fin 4096) : V m c main_v15 (ix2 j k) = (args m c).wd (ix2 j k) := by
  entry_read
  rfl

theorem up_at (q : Fin 8) (l : Fin 1024) (k : Fin 512) : V m c main_v18 (ix3 q l k) = (args m c).wu (ix2 l ⟨512 * q.val + k.val, by omega⟩) := by
  entry_read
  refine (transpose_apply _ _ _ _ (ix3 l q k) fun b => by fin_cases b <;> rfl).trans ?_
  refine shapeCast_apply _ _ _ (ix2 l ⟨512 * q.val + k.val, by omega⟩) ?_
  refine (Shape.rowMajor_val_two _).trans (Eq.trans ?_ (Shape.rowMajor_val_three _).symm)
  show l.val * 4096 + (512 * q.val + k.val) = (l.val * 8 + q.val) * 512 + k.val
  omega

theorem pre_at (j : Fin 4096) (R : Fin 4096) : V m c main_v14 (ix2 R j) = pre (args m c) R j := by
  entry_read
  unfold pre scale meanSq N1024
  pointwise []

theorem blk2 (j : Fin 4096) : iblk (F := Ideal) m c 2 t (ix2 r j) = pre (args m c) (rowOf t r) j := by
  refine Eq.trans ?_ (pre_at m c j (rowOf t r))
  blk_simp [iblk]
  refine congrArg (V m c main_v14) ?_
  blk_ext [idx2 t]

/-- The copied weights, at every point. -/
theorem scratch0_first (h : t.val % 8 = 0) : (outsAt0 m c t.val t.isLt).2.2.2.2.1 = V m c main_v15 := by
  rw [outsAt0_A m c t h h]
  frame_out
  exact View.canon_unit_zero (off := fun _ => 0) rfl (fun _ => (Nat.zero_add _).le) _

theorem scratch0_next (h : ¬ t.val % 8 = 0) :
    (outsAt0 m c t.val t.isLt).2.2.2.2.1 = (outsAt0 m c (t.val - 1) (Nat.lt_of_le_of_lt (Nat.sub_le _ _) t.isLt)).2.2.2.2.1 := by
  rw [outsAt0_B m c t h h]
  unfold sout0_B_0
  rfl

theorem scratch1_first (h : t.val % 8 = 0) : (outsAt0 m c t.val t.isLt).2.2.2.2.2 = V m c main_v18 := by
  rw [outsAt0_A m c t h h]
  frame_out
  exact View.canon_unit_zero (off := fun _ => 0) rfl (fun _ => (Nat.zero_add _).le) _

theorem scratch1_next (h : ¬ t.val % 8 = 0) :
    (outsAt0 m c t.val t.isLt).2.2.2.2.2 = (outsAt0 m c (t.val - 1) (Nat.lt_of_le_of_lt (Nat.sub_le _ _) t.isLt)).2.2.2.2.2 := by
  rw [outsAt0_B m c t h h]
  unfold sout0_B_1
  rfl

theorem scratch0 (n : ℕ) : ∀ hn : n < cfg0.N, (outsAt0 m c n hn).2.2.2.2.1 = V m c main_v15 := by
  induction n with
  | zero => exact fun hn => scratch0_first m c ⟨0, hn⟩ rfl
  | succ n ih =>
    intro hn
    have h8 : n + 1 < 8 := hn
    exact (scratch0_next m c ⟨n + 1, hn⟩ (by show ¬ (n + 1) % 8 = 0; omega)).trans (ih _)

theorem scratch1 (n : ℕ) : ∀ hn : n < cfg0.N, (outsAt0 m c n hn).2.2.2.2.2 = V m c main_v18 := by
  induction n with
  | zero => exact fun hn => scratch1_first m c ⟨0, hn⟩ rfl
  | succ n ih =>
    intro hn
    have h8 : n + 1 < 8 := hn
    exact (scratch1_next m c ⟨n + 1, hn⟩ (by show ¬ (n + 1) % 8 = 0; omega)).trans (ih _)

theorem inbW (q : Fin 8) : ∀ a : Fin 2, (![512 * q.val, 0] : Fin 2 → ℕ) a + (![512, 1024] : Fin 2 → ℕ) a ≤ S4096x1024.size a := by
  intro a
  fin_cases a
  · show 512 * q.val + 512 ≤ 4096
    omega
  · exact Nat.le_refl _
theorem inbP (q : Fin 8) : ∀ a : Fin 2, (![0, 512 * q.val] : Fin 2 → ℕ) a + (![512, 512] : Fin 2 → ℕ) a ≤ S512x4096.size a := by
  intro a
  fin_cases a
  · exact Nat.le_refl _
  · show 512 * q.val + 512 ≤ 4096
    omega
theorem inbU (q : Fin 8) : ∀ a : Fin 3, (![q.val, 0, 0] : Fin 3 → ℕ) a + (![1, 1024, 512] : Fin 3 → ℕ) a ≤ S8x1024x512.size a := by
  intro a
  fin_cases a
  · show q.val + 1 ≤ 8
    omega
  · exact Nat.le_refl _
  · exact Nat.le_refl _

/-- The blocks a point loads, numbered: the weights from what the first point copied, or from what it left. -/
abbrev wA (q : Fin 8) : FVec Ideal S512x1024 .bf16 :=
  (View.whole cc0_scratch0).readCov (Val := Elt Ideal) [⟨Rect.whole S4096x1024, ReadAs.same.apply (View.read (Elt Ideal) (View.whole main_v15) (V m c main_v15))⟩]
    (Rect.unit (s := S4096x1024) ![512 * q.val, 0] ![512, 1024] (inbW q)).toLoadRect
abbrev wB (q : Fin 8) : FVec Ideal S512x1024 .bf16 :=
  View.ld (View.read (Elt Ideal) (View.whole cc0_scratch0) ((Memref.isWhole_whole cc0_scratch0).unread (outsAt0 m c (t.val - 1) (Nat.lt_of_le_of_lt (Nat.sub_le _ _) t.isLt)).2.2.2.2.1))
    (Rect.unit (s := S4096x1024) ![512 * q.val, 0] ![512, 1024] (inbW q))
abbrev pB (q : Fin 8) : FVec Ideal S512x512 .bf16 :=
  View.ld (iblk (F := Ideal) m c 2 t) (Rect.unit (s := S512x4096) ![0, 512 * q.val] ![512, 512] (inbP q))
abbrev uA (q : Fin 8) : FVec Ideal S1x1024x512 .bf16 :=
  (View.whole cc0_scratch1).readCov (Val := Elt Ideal) [⟨Rect.whole S8x1024x512, ReadAs.same.apply (View.read (Elt Ideal) (View.whole main_v18) (V m c main_v18))⟩]
    (Rect.unit (s := S8x1024x512) ![q.val, 0, 0] ![1, 1024, 512] (inbU q)).toLoadRect
abbrev uB (q : Fin 8) : FVec Ideal S1x1024x512 .bf16 :=
  View.ld (View.read (Elt Ideal) (View.whole cc0_scratch1) ((Memref.isWhole_whole cc0_scratch1).unread (outsAt0 m c (t.val - 1) (Nat.lt_of_le_of_lt (Nat.sub_le _ _) t.isLt)).2.2.2.2.2))
    (Rect.unit (s := S8x1024x512) ![q.val, 0, 0] ![1, 1024, 512] (inbU q))

variable (q : Fin 8)

theorem ld_down (inb) (j : Fin 512) :
    View.ld (Val := Elt Ideal) (S := S4096x1024) (e' := .bf16) (V m c main_v15) (Rect.unit (s := S4096x1024) ![512 * q.val, 0] ![512, 1024] inb) (ix2 j k)
      = (args m c).wd (ix2 ⟨512 * q.val + j.val, by omega⟩ k) := by
  refine Eq.trans (congrArg (V m c main_v15) (funext fun a => Fin.ext ?_)) (down_at m c k ⟨512 * q.val + j.val, by omega⟩)
  fin_cases a
  · show 512 * q.val + 1 * j.val = 512 * q.val + j.val
    omega
  · show 0 + 1 * k.val = k.val
    omega

theorem ld_up (inb) (l : Fin 1024) (k : Fin 512) :
    View.ld (Val := Elt Ideal) (S := S8x1024x512) (e' := .bf16) (V m c main_v18) (Rect.unit (s := S8x1024x512) ![q.val, 0, 0] ![1, 1024, 512] inb) (ix3 0 l k)
      = (args m c).wu (ix2 l ⟨512 * q.val + k.val, by omega⟩) := by
  refine Eq.trans (congrArg (V m c main_v18) (funext fun a => Fin.ext ?_)) (up_at m c q l k)
  fin_cases a
  · show q.val + 1 * 0 = q.val
    omega
  · show 0 + 1 * l.val = l.val
    omega
  · show 0 + 1 * k.val = k.val
    omega

theorem wA_at (j : Fin 512) : wA m c q (ix2 j k) = (args m c).wd (ix2 ⟨512 * q.val + j.val, by omega⟩ k) := by
  refine Eq.trans ?_ (ld_down m c k q (inbW q) j)
  rw [wA, View.readCov_eq_canon']
  exact congrFun (View.canon_unit_zero (S := S4096x1024) (Val := Elt Ideal) (e := .bf16) (off := fun _ => 0) rfl (fun _ => (Nat.zero_add _).le) _) _

theorem wB_at (j : Fin 512) : wB m c t q (ix2 j k) = (args m c).wd (ix2 ⟨512 * q.val + j.val, by omega⟩ k) := by
  refine Eq.trans ?_ (ld_down m c k q (inbW q) j)
  exact congrFun (congrArg (fun X => View.ld (Val := Elt Ideal) (S := S4096x1024) (e' := .bf16) X (Rect.unit (s := S4096x1024) ![512 * q.val, 0] ![512, 1024] (inbW q)))
    (((Memref.isWhole_whole cc0_scratch0).read_unread _).trans (scratch0 m c _ _))) _

theorem uA_at (l : Fin 1024) (k : Fin 512) : uA m c q (ix3 0 l k) = (args m c).wu (ix2 l ⟨512 * q.val + k.val, by omega⟩) := by
  refine Eq.trans ?_ (ld_up m c q (inbU q) l k)
  rw [uA, View.readCov_eq_canon']
  exact congrFun (View.canon_unit_zero (S := S8x1024x512) (Val := Elt Ideal) (e := .bf16) (off := fun _ => 0) rfl (fun _ => (Nat.zero_add _).le) _) _

theorem uB_at (l : Fin 1024) (k : Fin 512) : uB m c t q (ix3 0 l k) = (args m c).wu (ix2 l ⟨512 * q.val + k.val, by omega⟩) := by
  refine Eq.trans ?_ (ld_up m c q (inbU q) l k)
  exact congrFun (congrArg (fun X => View.ld (Val := Elt Ideal) (S := S8x1024x512) (e' := .bf16) X (Rect.unit (s := S8x1024x512) ![q.val, 0, 0] ![1, 1024, 512] (inbU q)))
    (((Memref.isWhole_whole cc0_scratch1).read_unread _).trans (scratch1 m c _ _))) _

theorem pB_at (k : Fin 512) : pB m c t q (ix2 r k) = pre (args m c) (rowOf t r) ⟨512 * q.val + k.val, by omega⟩ := by
  refine Eq.trans (congrArg (iblk (F := Ideal) m c 2 t) (funext fun a => Fin.ext ?_)) (blk2 m c t r ⟨512 * q.val + k.val, by omega⟩)
  fin_cases a
  · show 0 + 1 * r.val = r.val
    omega
  · show 512 * q.val + 1 * k.val = 512 * q.val + k.val
    omega

end Cert.Mlpb

end
-- ==== Proof.MlpbAcc.lean ====
/- The arrays the gradient of the squared-relu layer leaves after the run. -/
module

public import proofs.«01_k».proof.Proof.MlpbOuts

@[expose] public section

set_option maxRecDepth 16384

noncomputable section

namespace Cert.Mlpb

open Cert.Kernel4Ideal Cert.Kernel4Ideal.Gen Idealize.ShloMosaic Idealize.ShloMosaic.TcCoe Idealize.SL.Sem Cert.Rows

/-- Eight blocks of 512 columns, stored from the first to the last, and what they leave. -/
abbrev cols (q : Fin 8) : Rect S512x4096 := Rect.unit (s := S512x4096) ![0, 512 * q.val] ![512, 512] (inbP q)
abbrev pieces (f : Fin 8 → FVec Ideal S512x512 .bf16) : List (View.Piece (Elt Ideal) S512x4096 .bf16) :=
  [⟨cols 7, f 7⟩, ⟨cols 6, f 6⟩, ⟨cols 5, f 5⟩, ⟨cols 4, f 4⟩, ⟨cols 3, f 3⟩, ⟨cols 2, f 2⟩, ⟨cols 1, f 1⟩, ⟨cols 0, f 0⟩]

theorem pieces_at (f : Fin 8 → FVec Ideal S512x512 .bf16) (G : Fin 512 → Fin 4096 → EReal)
    (hf : ∀ q (r k : Fin 512), f q (ix2 r k) = G r ⟨512 * q.val + k.val, by omega⟩) (y : S512x4096.Idx) :
    View.canon (pieces f) y = G (y 0) (y 1) := by
  refine View.canon_apply_of_pieces (Val := Elt Ideal) (e := .bf16) (fun y => G (y 0) (y 1)) _ ?_ y
    (View.cover_of_tiledL (pieces f) S512x512.size (by sl_kernel_rfl) y)
  have key : ∀ q (x : S512x512.Idx), f q x = G ((cols q).emb x 0) ((cols q).emb x 1) := fun q x =>
    (congrArg (f q) (funext fun a => by fin_cases a <;> rfl)).trans ((hf q (x 0) (x 1)).trans (congrArg₂ G
      (Fin.ext (by show (x 0).val = 0 + 1 * (x 0).val; omega)) (Fin.ext (by show 512 * q.val + (x 1).val = 512 * q.val + 1 * (x 1).val; omega))))
  intro p hp
  simp only [pieces, List.mem_cons, List.not_mem_nil, or_false] at hp
  rcases hp with rfl | rfl | rfl | rfl | rfl | rfl | rfl | rfl <;> exact key _

variable (m : (ℓ : Loc nD τ sig) → Buf (Elt Ideal) ℓ) (c : Dev nD)

section blocks

variable (w : Fin 8 → FVec Ideal S512x1024 .bf16) (u : Fin 8 → FVec Ideal S1x1024x512 .bf16)
  (hw : ∀ (q : Fin 8) (j : Fin 512) (k : Fin 1024), w q (ix2 j k) = (args m c).wd (ix2 ⟨512 * q.val + j.val, by omega⟩ k))
  (hu : ∀ (q : Fin 8) (l : Fin 1024) (k : Fin 512), u q (ix3 0 l k) = (args m c).wu (ix2 l ⟨512 * q.val + k.val, by omega⟩))
  (t : Fin cfg0.N) (r : Fin 512)

/-- The blocks at the inner value. -/
abbrev dB (q : Fin 8) : FVec Ideal S512x512 .bf16 := k0_pay11 (F := Ideal) (k0_pay5 (iblk m c 1 t)) (w q) (pB m c t q)

/-- The sums that reach the norm's result, over the loaded blocks. -/
abbrev duB : FVec Ideal S512x1024 .f32 := du8 (iblk m c 1 t) w (fun q => pB m c t q) u

include hw in
theorem dpre_block (q : Fin 8) (k : Fin 512) : dB m c w t q (ix2 r k) = dpre (args m c) (rowOf t r) ⟨512 * q.val + k.val, by omega⟩ := by
  refine (pay11_at _ _ _ r k).trans ?_
  unfold dpre back
  refine congrArg₂ (fun a b : EReal => a * b) (Finset.sum_congr rfl fun j _ => congrArg₂ (fun a b : EReal => a * b) (blk1 m c t r j) (hw q k j)) ?_
  exact congrArg slope (pB_at m c t r q k)

include hw hu in
theorem du_block (l : Fin 1024) : duB m c w u t (ix2 r l) = du (args m c) (rowOf t r) l := by
  refine (du8_at _ _ _ _ r l).trans ?_
  refine Fin.sum_mul_add_congr (n := 512) fun q k hl => ?_
  refine congrArg₂ (fun a b : EReal => a * b) ((dpre_block m c w hw t r q k).trans ?_) ((hu q l k).trans ?_)
  · exact congrArg (dpre (args m c) (rowOf t r)) (Fin.ext (by show 512 * q.val + k.val = q.val * 512 + k.val; omega))
  · exact congrArg (fun j => (args m c).wu (ix2 l j)) (Fin.ext (by show 512 * q.val + k.val = q.val * 512 + k.val; omega))

include hw hu in
theorem grad_block (l : Fin 1024) :
    (fun a b : EReal => a + b) (iblk (F := Ideal) m c 0 t (ix2 r l)) (grad N1024 (fun k => iblk (F := Ideal) m c 3 t (ix2 r k))
      (fun k => iblk (F := Ideal) m c 4 t (ix2 0 k)) (fun k => duB m c w u t (ix2 r k)) l) = dhAt (args m c) (rowOf t r) l := by
  refine congrArg₂ (fun a b : EReal => a + b) (blk0 m c t r l) ?_
  rw [funext fun k => blk3 m c t r k, funext fun k => blk4 m c t k, funext fun k => du_block m c w u hw hu t r k]

/-- What one block of rows adds to the gains' gradient. -/
def part (n : ℕ) (l : Fin 1024) : EReal := if h : n < 8 then ∑ r : Fin 512, dgAt (args m c) ⟨512 * n + r.val, by omega⟩ l else 0

include hw hu in
theorem part_block (l : Fin 1024) :
    ∑ r : Fin 512, gradG N1024 (fun k => iblk (F := Ideal) m c 3 t (ix2 r k)) (fun k => duB m c w u t (ix2 r k)) l = part m c t.val l := by
  have ht : t.val < 8 := t.isLt
  unfold part
  rw [dif_pos ht]
  refine Finset.sum_congr rfl fun r _ => ?_
  rw [funext fun k => blk3 m c t r k, funext fun k => du_block m c w u hw hu t r k]
  rfl

end blocks

variable (t : Fin cfg0.N) (r : Fin 512)

theorem hwA : ∀ (q : Fin 8) (j : Fin 512) (k : Fin 1024), wA m c q (ix2 j k) = (args m c).wd (ix2 ⟨512 * q.val + j.val, by omega⟩ k) :=
  fun q j k => wA_at m c k q j
theorem hwB : ∀ (q : Fin 8) (j : Fin 512) (k : Fin 1024), wB m c t q (ix2 j k) = (args m c).wd (ix2 ⟨512 * q.val + j.val, by omega⟩ k) :=
  fun q j k => wB_at m c t k q j
theorem huA : ∀ (q : Fin 8) (l : Fin 1024) (k : Fin 512), uA m c q (ix3 0 l k) = (args m c).wu (ix2 l ⟨512 * q.val + k.val, by omega⟩) :=
  fun q l k => uA_at m c q l k
theorem huB : ∀ (q : Fin 8) (l : Fin 1024) (k : Fin 512), uB m c t q (ix3 0 l k) = (args m c).wu (ix2 l ⟨512 * q.val + k.val, by omega⟩) :=
  fun q l k => uB_at m c t q l k

theorem dpre_point (y : S512x4096.Idx) : (outsAt0 m c t.val t.isLt).1 y = dpre (args m c) (rowOf t (y 0)) (y 1) := by
  by_cases h : t.val % 8 = 0
  · rw [outsAt0_A m c t h h]
    frame_out
    exact pieces_at (dB m c (wA m c) t) _ (fun q r k => dpre_block m c (wA m c) (hwA m c) t r q k) y
  · rw [outsAt0_B m c t h h]
    frame_out
    exact pieces_at (dB m c (wB m c t) t) _ (fun q r k => dpre_block m c (wB m c t) (hwB m c t) t r q k) y

theorem dh_point (l : Fin 1024) : (outsAt0 m c t.val t.isLt).2.1 (ix2 r l) = dhAt (args m c) (rowOf t r) l := by
  by_cases h : t.val % 8 = 0
  · rw [outsAt0_A m c t h h]
    frame_out
    exact (pay1_at r l _ _ _ _ _ _ _ _).trans (grad_block m c (wA m c) (uA m c) (hwA m c) (huA m c) t r l)
  · rw [outsAt0_B m c t h h]
    frame_out
    exact (pay1_at r l _ _ _ _ _ _ _ _).trans (grad_block m c (wB m c t) (uB m c t) (hwB m c t) (huB m c t) t r l)

theorem dhb_point (l : Fin 1024) : (outsAt0 m c t.val t.isLt).2.2.1 (ix2 r l) = dhAt (args m c) (rowOf t r) l := by
  by_cases h : t.val % 8 = 0
  · rw [outsAt0_A m c t h h]
    frame_out
    exact (pay1_at r l _ _ _ _ _ _ _ _).trans (grad_block m c (wA m c) (uA m c) (hwA m c) (huA m c) t r l)
  · rw [outsAt0_B m c t h h]
    frame_out
    exact (pay1_at r l _ _ _ _ _ _ _ _).trans (grad_block m c (wB m c t) (uB m c t) (hwB m c t) (huB m c t) t r l)

theorem acc_first (h : t.val % 8 = 0) : (outsAt0 m c t.val t.isLt).2.2.2.1 = Corner.top fun l => 0 + part m c t.val l := by
  rw [outsAt0_A m c t h h]
  frame_out
  refine (Corner.first (ms0_8 t).view _ _ _ _ pay4_at).trans (congrArg Corner.top (funext fun l => ?_))
  rw [pay3_at, Corner.first_read _ _ _ pay4_at]
  exact congrArg (fun s : EReal => 0 + s) ((pay29_at l _ _ _ _ _ _).trans (part_block m c (wA m c) (uA m c) (hwA m c) (huA m c) t l))

theorem acc_next (h : ¬ t.val % 8 = 0) (row : Fin 1024 → EReal)
    (hp : (outsAt0 m c (t.val - 1) (Nat.lt_of_le_of_lt (Nat.sub_le _ _) t.isLt)).2.2.2.1 = Corner.top row) :
    (outsAt0 m c t.val t.isLt).2.2.2.1 = Corner.top fun l => row l + part m c t.val l := by
  rw [outsAt0_B m c t h h]
  frame_out
  rw [hp]
  refine (Corner.stored (ms0_8 t).view _ _ _ _ fun y hy => ?_).trans (congrArg Corner.top (funext fun l => ?_))
  · rw [View.writes_nil, Memref.IsWhole.read_unread]
    exact if_neg hy
  · rw [pay3_at]
    refine congrArg₂ (fun a b : EReal => a + b) ?_ ((pay29_at l _ _ _ _ _ _).trans (part_block m c (wB m c t) (uB m c t) (hwB m c t) (huB m c t) t l))
    exact Corner.top_ld row _ l

theorem acc_point (n : ℕ) : ∀ hn : n < cfg0.N, (outsAt0 m c n hn).2.2.2.1 = Corner.top fun l => ∑ k ∈ Finset.range (n + 1), part m c k l := by
  induction n with
  | zero => exact fun hn => (acc_first m c ⟨0, hn⟩ rfl).trans (congrArg Corner.top (funext fun l => by simp))
  | succ n ih =>
    intro hn
    have h8 : n + 1 < 8 := hn
    refine (acc_next m c ⟨n + 1, hn⟩ (by show ¬ (n + 1) % 8 = 0; omega) _ (ih _)).trans (congrArg Corner.top (funext fun l => ?_))
    rw [Finset.sum_range_succ _ (n + 1)]

theorem parts (l : Fin 1024) : ∑ k ∈ Finset.range 8, part m c k l = ∑ R, dgAt (args m c) R l := by
  rw [← Fin.sum_univ_eq_sum_range (fun k => part m c k l)]
  refine Eq.trans (Finset.sum_congr rfl fun t _ => dif_pos t.isLt) (Fin.sum_mul_add_congr (n := 512) fun t r hl => ?_)
  exact congrArg (fun R => dgAt (args m c) R l) (Fin.ext (by show 512 * t.val + r.val = t.val * 512 + r.val; omega))

theorem final5 : (dats m 0 c).arrAt 5 cfg0.N = (fun y : S4096x4096.Idx => dpre (args m c) (y 0) (y 1)) := by
  refine (dats m 0 c).arrAt_eq_of_covers 5 _ (by decide +kernel) fun t hf y => ?_
  have h0 : (win0_5.blk t).view.emb y 0 = rowOf t (y 0) := Fin.ext (by
    show ((win0_5.blk t).view.emb y 0).val = 512 * t.val + (y 0).val
    blk_simp [idx5 t]
    omega)
  have h1 : (win0_5.blk t).view.emb y 1 = y 1 := Fin.ext (by blk_simp [idx5 t])
  rw [after0_5]
  exact (dpre_point m c t y).trans (congrArg₂ (dpre (args m c)) h0 h1).symm

theorem final6 : (dats m 0 c).arrAt 6 cfg0.N = (fun y : S4096x1024.Idx => dhAt (args m c) (y 0) (y 1)) := by
  refine (dats m 0 c).arrAt_eq_of_covers 6 _ (by decide +kernel) fun t hf y => ?_
  have h0 : (win0_6.blk t).view.emb y 0 = rowOf t (y 0) := Fin.ext (by
    show ((win0_6.blk t).view.emb y 0).val = 512 * t.val + (y 0).val
    blk_simp [idx6 t]
    omega)
  have h1 : (win0_6.blk t).view.emb y 1 = y 1 := Fin.ext (by blk_simp [idx6 t])
  rw [after0_6]
  refine Eq.trans ?_ ((dh_point m c t (y 0) (y 1)).trans (congrArg₂ (dhAt (args m c)) h0 h1).symm)
  exact congrArg (outsAt0 m c t.val t.isLt).2.1 (funext fun a => by fin_cases a <;> rfl)

theorem final7 : (dats m 0 c).arrAt 7 cfg0.N = (fun y : S4096x1024.Idx => dhAt (args m c) (y 0) (y 1)) := by
  refine (dats m 0 c).arrAt_eq_of_covers 7 _ (by decide +kernel) fun t hf y => ?_
  have h0 : (win0_7.blk t).view.emb y 0 = rowOf t (y 0) := Fin.ext (by
    show ((win0_7.blk t).view.emb y 0).val = 512 * t.val + (y 0).val
    blk_simp [idx7 t]
    omega)
  have h1 : (win0_7.blk t).view.emb y 1 = y 1 := Fin.ext (by blk_simp [idx7 t])
  rw [after0_7]
  refine Eq.trans ?_ ((dhb_point m c t (y 0) (y 1)).trans (congrArg₂ (dhAt (args m c)) h0 h1).symm)
  exact congrArg (outsAt0 m c t.val t.isLt).2.2.1 (funext fun a => by fin_cases a <;> rfl)

theorem final8 : (dats m 0 c).arrAt 8 cfg0.N = Corner.top fun l => ∑ R, dgAt (args m c) R l := by
  refine (dats m 0 c).arrAt_eq_of_after_last 8 t0_7 (by decide +kernel) _ fun j => ?_
  rw [after0_8]
  refine (congrFun ((acc_point m c 7 t0_7.isLt).trans (congrArg Corner.top (funext fun l => parts m c l))) _).trans
    (congrArg (Corner.top _) (funext fun a => Fin.ext ?_))
  fin_cases a <;> rfl

end Cert.Mlpb

end
-- ==== Proof.MlpbRef.lean ====
/- The reference's gradients through the squared relu, the products and the norm, at an index. -/
module

public import proofs.«01_k».proof.Proof.MlpbRows
public import proofs.«01_k».proof.Proof.Consts
public import proofs.«01_k».proof.Proof.Corner
public import proofs.«01_k».proof.Proof.Gen.Reference4Ideal.Read

@[expose] public section

set_option maxRecDepth 16384

noncomputable section

namespace Cert.Mlpb.Ref

open Cert.Reference4Ideal Cert.Reference4Ideal.Gen Cert.Reference4Ideal.Read Idealize.ShloMosaic Idealize.SL.Sem Cert.Rows

/-- The derivative of the squared relu, branch by branch. -/
theorem relu_back (p b : EReal) :
    Scalar.select (FloatOps.cmpf (F := Ideal) (φ := .f32) .ogt p (0 : EReal)) (max p 0 * b + b * max p 0) (0 : EReal) = b * slope p := by
  unfold slope
  rw [Consts.two, Consts.two_mul]
  by_cases h : 0 < p
  · have e : FloatOps.cmpf (F := Ideal) (φ := .f32) .ogt p (0 : EReal) = 1#1 := by
      show BitVec.ofBool (decide (0 < p)) = 1#1
      rw [decide_eq_true h]
      rfl
    rw [e, max_eq_left h.le]
    show p * b + b * p = b * (p + p)
    rw [EReal.left_distrib_of_nonneg h.le h.le, mul_comm p b]
  · have e : FloatOps.cmpf (F := Ideal) (φ := .f32) .ogt p (0 : EReal) = 0#1 := by
      show BitVec.ofBool (decide (0 < p)) = 0#1
      rw [decide_eq_false h]
      rfl
    rw [e, max_eq_right (not_lt.1 h)]
    show (0 : EReal) = b * (0 + 0)
    rw [add_zero, mul_zero]

variable (A : Args) (R : Fin 4096) (j : Fin 4096) (l : Fin 1024)

theorem pre_ref : val_main_v12 (F := Ideal) A.h A.g A.wu (ix2 R j) = pre A R j := by
  unfold pre scale meanSq N1024
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]

theorem pre_again : val_main_v40 (F := Ideal) A.h A.g A.wu (ix2 R j) = pre A R j := by
  unfold pre scale meanSq N1024
  pointwise [val_main_v40, val_main_v39, val_main_v38, val_main_v37, val_main_v36, val_main_v32, val_main_v31, val_main_v30, val_main_v29, val_main_v28,
    val_main_v27, val_main_v26, val_main_v25, val_main_cst_5, val_main_cst_6, val_main_cst_7]

theorem back_ref : val_main_v19 (F := Ideal) A.wd A.d (ix2 R j) = back A R j := by
  unfold back
  pointwise [val_main_v19]

theorem back_again : val_main_v49 (F := Ideal) A.wd A.d (ix2 R j) = back A R j := by
  unfold back
  pointwise [val_main_v49, val_main_v48]

theorem dpre_ref : val_main_v24 (F := Ideal) A.h A.g A.wu A.wd A.d (ix2 R j) = dpre A R j := by
  unfold dpre
  rw [← relu_back]
  pointwise [val_main_v24, val_main_v23, val_main_v22, val_main_v21, val_main_v20, val_main_v15, val_main_v14, val_main_v13, val_main_call0_v0,
    val_main_call0_cst, val_main_cst_2, val_main_cst_4]
  simp only [pre_ref, back_ref]

theorem dpre_again : val_main_v54 (F := Ideal) A.h A.g A.wu A.wd A.d (ix2 R j) = dpre A R j := by
  unfold dpre
  rw [← relu_back]
  pointwise [val_main_v54, val_main_v53, val_main_v52, val_main_v51, val_main_v50, val_main_v43, val_main_v42, val_main_v41, val_main_call1_v0,
    val_main_call1_cst, val_main_cst_9, val_main_cst_11]
  simp only [pre_again, back_again]

theorem dpreb_ref : val_main_v76 (F := Ideal) A.h A.g A.wu A.wd A.d (ix2 R j) = dpre A R j := by
  pointwise [val_main_v76]
  exact dpre_ref A R j

theorem du_ref : val_main_v55 (F := Ideal) A.h A.g A.wu A.wd A.d (ix2 R l) = du A R l := by
  unfold du
  pointwise [val_main_v55]
  simp only [dpre_again]

theorem dh_ref : val_main_v75 (F := Ideal) A.h A.g A.wu A.wd A.d (ix2 R l) = dhAt A R l := by
  unfold dhAt grad toSquares scale meanSq N1024
  pointwise [val_main_v75, val_main_v74, val_main_v73, val_main_v72, val_main_v71, val_main_v70, val_main_v69, val_main_v68, val_main_v67, val_main_v66,
    val_main_v65, val_main_v64, val_main_v63, val_main_v62, val_main_v61, val_main_v60, val_main_v59, val_main_v35, val_main_v34, val_main_v33,
    val_main_v32, val_main_v31, val_main_v30, val_main_v29, val_main_v28,
    val_main_v27, val_main_v26, val_main_v25, val_main_cst_5, val_main_cst_6, val_main_cst_7, val_main_cst_8, val_main_cst_13, val_main_cst_14, val_main_cst_15]
  simp only [Fin.sum_univ_one, du_ref, add_assoc]

theorem dhb_ref : val_main_v77 (F := Ideal) A.h A.g A.wu A.wd A.d (ix2 R l) = dhAt A R l := by
  pointwise [val_main_v77]
  exact dh_ref A R l

theorem dg_ref : val_main_v58 (F := Ideal) A.h A.g A.wu A.wd A.d (ix2 0 l) = ∑ R, dgAt A R l := by
  unfold dgAt gradG scale meanSq N1024
  pointwise [val_main_v58, val_main_v57, val_main_v56, val_main_v37, val_main_v36, val_main_v32, val_main_v31, val_main_v30, val_main_v29, val_main_v28,
    val_main_v27, val_main_v26, val_main_v25, val_main_cst_5, val_main_cst_6, val_main_cst_7, val_main_cst_12]
  simp only [du_ref]

theorem acc_ref (y : S8x1024.Idx) : val_main_v78 (F := Ideal) A.h A.g A.wu A.wd A.d y = Corner.top (fun l => ∑ R, dgAt A R l) y := by
  unfold Corner.top
  pointwise [val_main_v78, val_main_call2_v0, val_main_c]
  simp only [Nat.lt_one_iff, dite_eq_ite]
  split
  · exact (congrArg (fun a : Fin 1 => val_main_v58 (F := Ideal) A.h A.g A.wu A.wd A.d (ix2 a (y 1))) (Subsingleton.elim _ 0)).trans (dg_ref A (y 1))
  · exact congrArg (fun n : ℝ => (n : EReal)) Int.cast_zero

end Cert.Mlpb.Ref

end
-- ==== Proof.Mlpb.lean ====
/- The value claim of the gradient of the squared-relu layer: the kernel's four results are the reference's. -/
module

public import proofs.«01_k».proof.Defs
public import proofs.«01_k».proof.Proof.Gen.Reference4Ideal.Run
public import proofs.«01_k».proof.Proof.MlpbAcc
public import proofs.«01_k».proof.Proof.MlpbRef

@[expose] public section

noncomputable section

namespace Cert.Mlpb

open Idealize.ShloMosaic Idealize.ShloMosaic.TcCoe Idealize.SL.Sem

theorem algebraic : Cert.algebraic_Kernel4Ideal_Reference4Ideal (hKernel4Ideal := Cert.Kernel4Ideal.Gen.facts)
    (hReference4Ideal := Cert.Reference4Ideal.Gen.facts) := by
  intro m ρ m' ρ' _ hag
  refine ⟨fun c => (Cert.Kernel4Ideal.Gen.dats m 0 c).arrAt 5 Cert.Kernel4Ideal.cfg0.N,
    fun c => (Cert.Kernel4Ideal.Gen.dats m 0 c).arrAt 6 Cert.Kernel4Ideal.cfg0.N,
    fun c => (Cert.Kernel4Ideal.Gen.dats m 0 c).arrAt 7 Cert.Kernel4Ideal.cfg0.N,
    fun c => (Cert.Kernel4Ideal.Gen.dats m 0 c).arrAt 8 Cert.Kernel4Ideal.cfg0.N, Cert.Kernel4Ideal.Value.run_blocks m ρ,
    (θ_run _ _ _).mono (fun _ h c => ⟨(h c).1.trans ?_, (h c).2.1.trans ?_, (h c).2.2.1.trans ?_, (h c).2.2.2.1.trans ?_,
      (h c).2.2.2.2⟩) (Cert.Reference4Ideal.Value.run m' ρ')⟩
  all_goals
    obtain ⟨a0, a1, a2, a3, a4⟩ := hag c
  · rw [Cert.Reference4Ideal.Read.val_main_v76_eq, a0, a1, a2, a3, a4]
    refine Eq.trans ?_ (final5 m c).symm
    exact funext fun y => (congrArg _ (funext fun a => by fin_cases a <;> rfl)).trans (Ref.dpreb_ref (args m c) (y 0) (y 1))
  · rw [Cert.Reference4Ideal.Read.val_main_v75_eq, a0, a1, a2, a3, a4]
    refine Eq.trans ?_ (final6 m c).symm
    exact funext fun y => (congrArg _ (funext fun a => by fin_cases a <;> rfl)).trans (Ref.dh_ref (args m c) (y 0) (y 1))
  · rw [Cert.Reference4Ideal.Read.val_main_v77_eq, a0, a1, a2, a3, a4]
    refine Eq.trans ?_ (final7 m c).symm
    exact funext fun y => (congrArg _ (funext fun a => by fin_cases a <;> rfl)).trans (Ref.dhb_ref (args m c) (y 0) (y 1))
  · rw [Cert.Reference4Ideal.Read.val_main_v78_eq, a0, a1, a2, a3, a4]
    refine Eq.trans ?_ (final8 m c).symm
    exact funext fun y => Ref.acc_ref (args m c) y

end Cert.Mlpb

end
-- ==== Proof.OutbPoint.lean ====
/- What one point of the output projection's gradient computes, at an index. -/
module

public import proofs.«01_k».proof.Proof.Gen.Kernel5Ideal.Skeleton
public import proofs.«01_k».proof.Proof.Rows

@[expose] public section

set_option maxRecDepth 16384

noncomputable section

namespace Cert.Outb

open Cert.Kernel5Ideal Cert.Kernel5Ideal.Gen Idealize.ShloMosaic Idealize.SL.Sem Cert.Rows

/-- The lower and the upper half of a row. -/
def lower {α : Type} (x : Fin 1024 → α) (k : Fin 512) : α := x ⟨k.val, by omega⟩
def upper {α : Type} (x : Fin 1024 → α) (k : Fin 512) : α := x ⟨512 + k.val, by omega⟩

/-- Two halves as one row. -/
def joined {α : Type} (a b : Fin 512 → α) (l : Fin 1024) : α := if h : l.val < 512 then a ⟨l.val, h⟩ else b ⟨l.val - 512, by omega⟩

/-- The gate's result, and the gradient of the two groups' norms with respect to it. -/
def gated (y z : Fin 1024 → EReal) (l : Fin 1024) : EReal := y l * (z l * Ideal.logistic (z l))

def groupGrad (x g d : Fin 1024 → EReal) (l : Fin 1024) : EReal :=
  joined (grad N512 (lower x) (lower g) (lower d)) (grad N512 (upper x) (upper g) (upper d)) l

def groupGradG (x d : Fin 1024 → EReal) (l : Fin 1024) : EReal :=
  joined (fun k => lower x k * scale N512 (lower x)) (fun k => upper x k * scale N512 (upper x)) l * d l

theorem pay6_at (v3 : FVec Ideal S512x1024 .bf16) (v5 : FVec Ideal S2048x1024 .bf16) (r : Fin 512) (l : Fin 1024) :
    k0_pay6 (F := Ideal) v3 v5 (ix2 r l) = ∑ k : Fin 1024, v3 (ix2 r k) * v5 (ix2 ⟨l.val, by omega⟩ k) := by
  pointwise [k0_pay6, k0_pay5]

theorem pay7_at (v3 : FVec Ideal S512x1024 .bf16) (v5 : FVec Ideal S2048x1024 .bf16) (r : Fin 512) (l : Fin 1024) :
    k0_pay7 (F := Ideal) v3 v5 (ix2 r l) = ∑ k : Fin 1024, v3 (ix2 r k) * v5 (ix2 ⟨1024 + l.val, by omega⟩ k) := by
  pointwise [k0_pay7, k0_pay5]

variable (v8 v9 v10 v11 : FVec Ideal S512x1024 .f32) (v12 v97 v98 : FVec Ideal S1x1024 .f32) (v96 : FVec Ideal S512x1024 .f32)

theorem gated_at (r : Fin 512) (l : Fin 1024) :
    k0_pay11 (F := Ideal) v10 v11 (ix2 r l) = gated (fun k => v10 (ix2 r k)) (fun k => v11 (ix2 r k)) l := by
  unfold gated
  pointwise [k0_pay11, k0_pay10, k0_pay8]

theorem pay26_at (r : Fin 512) (l : Fin 1024) :
    k0_pay26 (F := Ideal) (k0_pay24 v8 v12 (k0_pay17 v10 v11) (k0_pay18 v10 v11) k0_pay19)
        (k0_pay25 v8 v12 (k0_pay12 v10 v11) (k0_pay14 v10 v11) (k0_pay15 v10 v11)) (Scalar.ofBits .f32 0x00000000#32) (ix2 r l)
      = groupGrad (fun k => k0_pay11 (F := Ideal) v10 v11 (ix2 r k)) (fun k => v12 (ix2 0 k)) (fun k => v8 (ix2 r k)) l := by
  unfold groupGrad joined grad toSquares scale meanSq lower upper N512
  pointwise [k0_pay26, k0_pay25, k0_pay24, k0_pay23, k0_pay21, k0_pay20, k0_pay19, k0_pay18, k0_pay17, k0_pay15, k0_pay14, k0_pay13, k0_pay12]
  simp only [Fin.sum_univ_one]
  split <;> simp only [Ideal.ofBits_zero, zero_add, add_zero]

theorem pay22_at (l : Fin 1024) :
    k0_pay22 (F := Ideal) v8 (k0_pay16 v10 v11) (k0_pay17 v10 v11) (k0_pay18 v10 v11) k0_pay19 (ix2 0 l)
      = ∑ r : Fin 512, groupGradG (fun k => k0_pay11 (F := Ideal) v10 v11 (ix2 r k)) (fun k => v8 (ix2 r k)) l := by
  unfold groupGradG joined scale meanSq lower upper N512
  pointwise [k0_pay22, k0_pay21, k0_pay20, k0_pay19, k0_pay18, k0_pay17, k0_pay16, k0_pay14, k0_pay13, k0_pay12]

theorem pay29_at (r : Fin 512) (l : Fin 1024) :
    k0_pay29 (F := Ideal) v96 (ix2 r l) = center N1024 (fun k => v96 (ix2 r k)) l := by
  unfold center N1024
  pointwise [k0_pay29]

theorem pay34_at (r : Fin 512) (l : Fin 1024) :
    k0_pay34 (F := Ideal) v9 v96 v97 v98 (ix2 r l)
      = siluGrad (normed N1024 (fun k => v96 (ix2 r k)) (fun k => v97 (ix2 0 k)) (fun k => v98 (ix2 0 k)) l) (v9 (ix2 r l)) := by
  unfold siluGrad normed scale meanSq center N1024
  pointwise [k0_pay34, k0_pay33, k0_pay31, k0_pay30, k0_pay29]

theorem pay37_at (l : Fin 1024) :
    k0_pay37 (F := Ideal) (k0_pay36 v9 v96 v97 v98) (ix2 0 l)
      = ∑ r : Fin 512, gradG N1024 (center N1024 fun k => v96 (ix2 r k)) (fun k => k0_pay34 (F := Ideal) v9 v96 v97 v98 (ix2 r k)) l := by
  unfold gradG scale meanSq center N1024
  pointwise [k0_pay37, k0_pay36, k0_pay33, k0_pay31, k0_pay30, k0_pay29]

theorem pay35_at (l : Fin 1024) :
    k0_pay35 (F := Ideal) v9 v96 v97 v98 (ix2 0 l) = ∑ r : Fin 512, k0_pay34 (F := Ideal) v9 v96 v97 v98 (ix2 r l) := by
  pointwise [k0_pay35]

theorem pay38_at (v129 : FVec Ideal S512x1024 .f32) (r : Fin 512) (l : Fin 1024) :
    k0_pay38 (F := Ideal) v97 (k0_pay29 v96) (k0_pay31 v96) (k0_pay32 v96) v129 (ix2 r l)
      = uncenter N1024 (grad N1024 (center N1024 fun k => v96 (ix2 r k)) (fun k => v97 (ix2 0 k)) (fun k => v129 (ix2 r k))) l := by
  unfold uncenter grad toSquares scale meanSq center N1024
  pointwise [k0_pay38, k0_pay32, k0_pay31, k0_pay30, k0_pay29]
  simp only [Fin.sum_univ_one, Ideal.ofBits_zero, zero_sub]

theorem pay40_at (v50 v166 : FVec Ideal S1x1024 .f32) (l : Fin 1024) :
    k0_pay40 (F := Ideal) v50 v166 (ix2 0 l) = v166 (ix2 0 l) + v50 (ix2 0 l) := by
  pointwise [k0_pay40]
theorem pay1_at (v134 v170 : FVec Ideal S1x1024 .f32) (l : Fin 1024) :
    k0_pay1 (F := Ideal) v134 v170 (ix2 0 l) = v170 (ix2 0 l) + v134 (ix2 0 l) := by
  pointwise [k0_pay1]
theorem pay2_at (v131 v174 : FVec Ideal S1x1024 .f32) (l : Fin 1024) :
    k0_pay2 (F := Ideal) v131 v174 (ix2 0 l) = v174 (ix2 0 l) + v131 (ix2 0 l) := by
  pointwise [k0_pay2]
theorem pay3_at (v161 : FVec Ideal S512x1024 .f32) (v178 : FVec Ideal S1x1024 .f32) (l : Fin 1024) :
    k0_pay3 (F := Ideal) v161 v178 (ix2 0 l) = v178 (ix2 0 l) + ∑ r : Fin 512, v161 (ix2 r l) := by
  pointwise [k0_pay3]
theorem pay4_at (i : S8x1024.Idx) : k0_pay4 (F := Ideal) i = 0 := Ideal.ofBits_zero FTy.f32

theorem pay27_at (v71 : FVec Ideal S512x1024 .f32) (v86 : FVec Ideal S512x512 .f32) (r : Fin 512) (l : Fin 1024) :
    k0_pay27 (F := Ideal) (k0_pay10 v11) v71 v86 (Scalar.ofBits .f32 0x00000000#32) (ix2 r l)
      = k0_pay26 (F := Ideal) v71 v86 (Scalar.ofBits .f32 0x00000000#32) (ix2 r l) * (v11 (ix2 r l) * Ideal.logistic (v11 (ix2 r l))) := by
  pointwise [k0_pay27, k0_pay10, k0_pay8]

theorem pay28_at (v71 : FVec Ideal S512x1024 .f32) (v86 : FVec Ideal S512x512 .f32) (r : Fin 512) (l : Fin 1024) :
    k0_pay28 (F := Ideal) v10 v11 (k0_pay8 v11) (k0_pay9 v11) v71 v86 (Scalar.ofBits .f32 0x00000000#32) (ix2 r l)
      = siluGrad (v11 (ix2 r l)) (v10 (ix2 r l) * k0_pay26 (F := Ideal) v71 v86 (Scalar.ofBits .f32 0x00000000#32) (ix2 r l)) := by
  unfold siluGrad
  pointwise [k0_pay28, k0_pay9, k0_pay8]

end Cert.Outb

end
-- ==== Proof.OutbRows.lean ====
/- The gradients of the output projection's call, row by row, in terms of the arguments. -/
module

public import proofs.«01_k».proof.Proof.OutbPoint
public import Idealize.ShloMosaic.Lib.KernelVsHost

@[expose] public section

noncomputable section

namespace Cert.Outb

open Cert.Kernel5Ideal Cert.Kernel5Ideal.Gen Idealize.ShloMosaic Cert.Rows

/-- The arguments of both programs. -/
structure Args where
  y : FVec Ideal S4096x1024 .f32
  z : FVec Ideal S4096x1024 .f32
  v : FVec Ideal S4096x1024 .f32
  gs : FVec Ideal S1x1024 .f32
  lg : FVec Ideal S1x1024 .f32
  lb : FVec Ideal S1x1024 .f32
  w : FVec Ideal S2048x1024 .f32
  d : FVec Ideal S4096x1024 .f32

variable (A : Args) (R : Fin 4096) (l : Fin 1024)

/-- The gradient that reaches the two halves of the mixed channels: a product with the weights' transpose. -/
def backS : EReal := ∑ k : Fin 1024, A.d (ix2 R k) * A.w (ix2 ⟨l.val, by omega⟩ k)
def backC : EReal := ∑ k : Fin 1024, A.d (ix2 R k) * A.w (ix2 ⟨1024 + l.val, by omega⟩ k)

/-- The state-space branch: the gate's result, the gradient with respect to it, to its factors, and to the norm's weights. -/
def gateOf : EReal := gated (fun k => A.y (ix2 R k)) (fun k => A.z (ix2 R k)) l
def dGate : EReal := groupGrad (gateOf A R) (fun k => A.gs (ix2 0 k)) (backS A R) l
def dyAt : EReal := dGate A R l * (A.z (ix2 R l) * Ideal.logistic (A.z (ix2 R l)))
def dzAt : EReal := siluGrad (A.z (ix2 R l)) (A.y (ix2 R l) * dGate A R l)
def dgsAt : EReal := groupGradG (gateOf A R) (backS A R) l

/-- The convolution branch: the gradient at the layer norm's result, and with respect to its weights and its argument. -/
def dNorm : EReal := siluGrad (normed N1024 (fun k => A.v (ix2 R k)) (fun k => A.lg (ix2 0 k)) (fun k => A.lb (ix2 0 k)) l) (backC A R l)
def dlgAt : EReal := gradG N1024 (center N1024 fun k => A.v (ix2 R k)) (dNorm A R) l
def dvAt : EReal := uncenter N1024 (grad N1024 (center N1024 fun k => A.v (ix2 R k)) (fun k => A.lg (ix2 0 k)) (dNorm A R)) l

/-- What a row adds to the four accumulated rows. -/
def addends (q : Fin 4) : EReal := ![dgsAt A R l, dlgAt A R l, dNorm A R l, dvAt A R l] q

end Cert.Outb

end
-- ==== Proof.Quad.lean ====
/- An accumulator of eight rows to whose first four every point of a run adds a row: what the writes leave. -/
module

public import proofs.«01_k».proof.Proof.Corner

@[expose] public section

noncomputable section

namespace Cert.Corner

open Idealize.ShloMosaic

variable {W : ℕ}

/-- The accumulator that holds four rows at the top and zeros below. -/
def four (f : Fin 4 → Fin W → EReal) (y : (⟨2, ![8, W]⟩ : Shape).Idx) : EReal := if h : (y 0).val < 4 then f ⟨(y 0).val, h⟩ (y 1) else 0

theorem four_ld (f : Fin 4 → Fin W → EReal) (k : ℕ) (hk : k < 4)
    (inb : ∀ a : Fin 2, (![k, 0] : Fin 2 → ℕ) a + (![1, W] : Fin 2 → ℕ) a ≤ (![8, W] : Fin 2 → ℕ) a) (l : Fin W) :
    View.ld (Val := Elt Ideal) (S := ⟨2, ![8, W]⟩) (e' := .f32) (four f) (Rect.unit (s := ⟨2, ![8, W]⟩) ![k, 0] ![1, W] inb) (ix2 0 l) = f ⟨k, hk⟩ l :=
  (dif_pos (show k + 1 * 0 < 4 by omega)).trans
    (congrArg₂ f (Fin.ext (show k + 1 * 0 = k by omega)) (Fin.ext (show 0 + 1 * l.val = l.val by omega)))

variable {sig : RefSig} {κ : Kind} {sp : Space} (v : View sig κ sp (⟨2, ![8, W]⟩ : Shape) .f32)
  (f : v.ty.Contents (Elt Ideal))

/-- A store of one row, read at an index. -/
theorem read_row (k : ℕ) (inb : ∀ a : Fin 2, (![k, 0] : Fin 2 → ℕ) a + (![1, W] : Fin 2 → ℕ) a ≤ (![8, W] : Fin 2 → ℕ) a)
    (p : (⟨2, ![1, W]⟩ : Shape).Idx → EReal) (L : List (View.Piece (Elt Ideal) (⟨2, ![8, W]⟩ : Shape) .f32)) (y : (⟨2, ![8, W]⟩ : Shape).Idx) :
    v.read (Elt Ideal) (v.writes (Elt Ideal) f (⟨Rect.unit (s := ⟨2, ![8, W]⟩) ![k, 0] ![1, W] inb, p⟩ :: L)) y
      = if (y 0).val = k then p (ix2 0 (y 1)) else v.read (Elt Ideal) (v.writes (Elt Ideal) f L) y := by
  split
  · rename_i h
    exact v.read_writes_cons_rows_of_mem f inb p L y (ix2 0 (y 1)) rfl (h.trans (Nat.add_zero k).symm) rfl
  · rename_i h
    exact v.read_writes_cons_rows_of_not_mem f (W := 1) inb p L y rfl rfl (by omega)

include v in
theorem canon_row (k : ℕ) (inb : ∀ a : Fin 2, (![k, 0] : Fin 2 → ℕ) a + (![1, W] : Fin 2 → ℕ) a ≤ (![8, W] : Fin 2 → ℕ) a)
    (p : (⟨2, ![1, W]⟩ : Shape).Idx → EReal) (L : List (View.Piece (Elt Ideal) (⟨2, ![8, W]⟩ : Shape) .f32)) (y : (⟨2, ![8, W]⟩ : Shape).Idx) :
    View.canon (Val := Elt Ideal) (e := .f32) (⟨Rect.unit (s := ⟨2, ![8, W]⟩) ![k, 0] ![1, W] inb, p⟩ :: L) y
      = if (y 0).val = k then p (ix2 0 (y 1)) else View.canon (Val := Elt Ideal) (e := .f32) L y := by
  rw [← v.read_writes_junk_eq_canon, ← v.read_writes_junk_eq_canon]
  exact read_row v _ k inb p L y

/-- The four rows of a choice by row number. -/
theorem choose (p0 p1 p2 p3 : Fin W → EReal) (y : (⟨2, ![8, W]⟩ : Shape).Idx) (z : EReal) (hz : 4 ≤ (y 0).val → z = 0) :
    (if (y 0).val = 3 then p3 (y 1) else if (y 0).val = 2 then p2 (y 1) else if (y 0).val = 1 then p1 (y 1) else if (y 0).val = 0 then p0 (y 1) else z)
      = four ![p0, p1, p2, p3] y := by
  unfold four
  rcases h : (y 0).val with _ | _ | _ | _ | n
  · rfl
  · rfl
  · rfl
  · rfl
  · rw [if_neg (by omega), if_neg (by omega), if_neg (by omega), if_neg (by omega), dif_neg (by omega)]
    exact hz (by omega)

variable (i0 : ∀ a : Fin 2, (![0, 0] : Fin 2 → ℕ) a + (![1, W] : Fin 2 → ℕ) a ≤ (![8, W] : Fin 2 → ℕ) a)
  (i1 : ∀ a : Fin 2, (![1, 0] : Fin 2 → ℕ) a + (![1, W] : Fin 2 → ℕ) a ≤ (![8, W] : Fin 2 → ℕ) a)
  (i2 : ∀ a : Fin 2, (![2, 0] : Fin 2 → ℕ) a + (![1, W] : Fin 2 → ℕ) a ≤ (![8, W] : Fin 2 → ℕ) a)
  (i3 : ∀ a : Fin 2, (![3, 0] : Fin 2 → ℕ) a + (![1, W] : Fin 2 → ℕ) a ≤ (![8, W] : Fin 2 → ℕ) a)
  (i8 : ∀ a : Fin 2, (![0, 0] : Fin 2 → ℕ) a + (![8, W] : Fin 2 → ℕ) a ≤ (![8, W] : Fin 2 → ℕ) a)
  (p0 p1 p2 p3 : (⟨2, ![1, W]⟩ : Shape).Idx → EReal) (z : (⟨2, ![8, W]⟩ : Shape).Idx → EReal)

/-- Zeros everywhere, read back. -/
theorem canon_zeros (hz : ∀ i, z i = 0) (y : (⟨2, ![8, W]⟩ : Shape).Idx) :
    View.canon (Val := Elt Ideal) (e := .f32) [⟨Rect.unit (s := ⟨2, ![8, W]⟩) ![0, 0] ![8, W] i8, z⟩] y = (0 : EReal) :=
  (congrFun (View.canon_unit_zero (S := ⟨2, ![8, W]⟩) (Val := Elt Ideal) (e := .f32) (off := ![0, 0]) (funext fun a => by fin_cases a <;> rfl) i8 z) y).trans (hz y)

/-- A store of the four rows over contents that are zero below them. -/
theorem stored_four (g : (⟨2, ![8, W]⟩ : Shape).Idx → EReal) (hL : v.read (Elt Ideal) f = g) (hg : ∀ y, 4 ≤ (y 0).val → g y = 0) :
    v.read (Elt Ideal) (v.writes (Elt Ideal) f [⟨Rect.unit (s := ⟨2, ![8, W]⟩) ![3, 0] ![1, W] i3, p3⟩,
        ⟨Rect.unit (s := ⟨2, ![8, W]⟩) ![2, 0] ![1, W] i2, p2⟩, ⟨Rect.unit (s := ⟨2, ![8, W]⟩) ![1, 0] ![1, W] i1, p1⟩,
        ⟨Rect.unit (s := ⟨2, ![8, W]⟩) ![0, 0] ![1, W] i0, p0⟩])
      = four ![fun l => p0 (ix2 0 l), fun l => p1 (ix2 0 l), fun l => p2 (ix2 0 l), fun l => p3 (ix2 0 l)] := by
  funext y
  rw [read_row, read_row, read_row, read_row, View.writes_nil, hL]
  exact choose (fun l => p0 (ix2 0 l)) (fun l => p1 (ix2 0 l)) (fun l => p2 (ix2 0 l)) (fun l => p3 (ix2 0 l)) y _ (hg y)

include v in
/-- The first point: zeros everywhere, then the four rows. -/
theorem first_four (hz : ∀ i, z i = 0) :
    View.canon (Val := Elt Ideal) (e := .f32) [⟨Rect.unit (s := ⟨2, ![8, W]⟩) ![3, 0] ![1, W] i3, p3⟩,
        ⟨Rect.unit (s := ⟨2, ![8, W]⟩) ![2, 0] ![1, W] i2, p2⟩, ⟨Rect.unit (s := ⟨2, ![8, W]⟩) ![1, 0] ![1, W] i1, p1⟩,
        ⟨Rect.unit (s := ⟨2, ![8, W]⟩) ![0, 0] ![1, W] i0, p0⟩, ⟨Rect.unit (s := ⟨2, ![8, W]⟩) ![0, 0] ![8, W] i8, z⟩]
      = four ![fun l => p0 (ix2 0 l), fun l => p1 (ix2 0 l), fun l => p2 (ix2 0 l), fun l => p3 (ix2 0 l)] := by
  funext y
  rw [canon_row v, canon_row v, canon_row v, canon_row v]
  exact choose (fun l => p0 (ix2 0 l)) (fun l => p1 (ix2 0 l)) (fun l => p2 (ix2 0 l)) (fun l => p3 (ix2 0 l)) y _ fun _ => canon_zeros i8 z hz y

/-- A row no earlier store has met, as the first point reads it. -/
theorem row_unmet (k : ℕ) (inb : ∀ a : Fin 2, (![k, 0] : Fin 2 → ℕ) a + (![1, W] : Fin 2 → ℕ) a ≤ (![8, W] : Fin 2 → ℕ) a)
    (L : List (View.Piece (Elt Ideal) (⟨2, ![8, W]⟩ : Shape) .f32)) (hL : ∀ y : (⟨2, ![8, W]⟩ : Shape).Idx, (y 0).val = k → View.canon (Val := Elt Ideal) (e := .f32) L y = (0 : EReal))
    (l : Fin W) :
    v.readCov (Val := Elt Ideal) L (Rect.unit (s := ⟨2, ![8, W]⟩) ![k, 0] ![1, W] inb).toLoadRect (ix2 0 l) = (0 : EReal) := by
  rw [View.readCov_eq_canon']
  exact hL _ (show k + 1 * 0 = k by omega)

end Cert.Corner

end
-- ==== Proof.OutbOuts.lean ====
/- What the points of the output projection's gradient leave. -/
module

public import proofs.«01_k».proof.Proof.OutbRows
public import proofs.«01_k».proof.Proof.Quad
public import proofs.«01_k».proof.Proof.Gen.Kernel5Ideal.Value

@[expose] public section

set_option maxRecDepth 16384

noncomputable section

namespace Cert.Outb

open Cert.Kernel5Ideal Cert.Kernel5Ideal.Gen Idealize.ShloMosaic Idealize.ShloMosaic.TcCoe Idealize.SL.Sem Cert.Rows

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)

variable (m : (ℓ : Loc nD τ sig) → Buf (Elt Ideal) ℓ) (c : Dev nD)

/-- The arguments in a memory. -/
abbrev args : Args := ⟨m ((c : Thread nD τ).loc main_arg0), m ((c : Thread nD τ).loc main_arg1), m ((c : Thread nD τ).loc main_arg2),
  m ((c : Thread nD τ).loc main_arg3), m ((c : Thread nD τ).loc main_arg4), m ((c : Thread nD τ).loc main_arg5),
  m ((c : Thread nD τ).loc main_arg6), m ((c : Thread nD τ).loc main_arg7)⟩

/-- Row `r` of the block of point `t`. -/
abbrev rowOf (t : Fin cfg0.N) (r : Fin 512) : Fin 4096 := ⟨512 * t.val + r.val, by have : t.val < 8 := t.isLt; omega⟩

variable (t : Fin cfg0.N) (r : Fin 512) (k : Fin 1024)

theorem blk0 : iblk (F := Ideal) m c 0 t (ix2 r k) = (args m c).d (ix2 (rowOf t r) k) := by
  blk_simp [iblk]
  entry_read
  refine congrArg (args m c).d ?_
  blk_ext [idx0 t]

theorem blk1 : iblk (F := Ideal) m c 1 t (ix2 r k) = (args m c).y (ix2 (rowOf t r) k) := by
  blk_simp [iblk, V_main_arg0]
  refine congrArg (args m c).y ?_
  blk_ext [idx1 t]

theorem blk2 : iblk (F := Ideal) m c 2 t (ix2 r k) = (args m c).z (ix2 (rowOf t r) k) := by
  blk_simp [iblk, V_main_arg1]
  refine congrArg (args m c).z ?_
  blk_ext [idx2 t]

theorem blk3 : iblk (F := Ideal) m c 3 t (ix2 r k) = (args m c).v (ix2 (rowOf t r) k) := by
  blk_simp [iblk, V_main_arg2]
  refine congrArg (args m c).v ?_
  blk_ext [idx3 t]

theorem blk4 : iblk (F := Ideal) m c 4 t (ix2 0 k) = (args m c).gs (ix2 0 k) := by
  blk_simp [iblk, V_main_arg3]
  refine congrArg (args m c).gs ?_
  blk_ext [idx4 t]

theorem blk5 : iblk (F := Ideal) m c 5 t (ix2 0 k) = (args m c).lg (ix2 0 k) := by
  blk_simp [iblk, V_main_arg4]
  refine congrArg (args m c).lg ?_
  blk_ext [idx5 t]

theorem blk6 : iblk (F := Ideal) m c 6 t (ix2 0 k) = (args m c).lb (ix2 0 k) := by
  blk_simp [iblk, V_main_arg5]
  refine congrArg (args m c).lb ?_
  blk_ext [idx6 t]

theorem blk7 (j : Fin 2048) : iblk (F := Ideal) m c 7 t (ix2 j k) = (args m c).w (ix2 j k) := by
  blk_simp [iblk]
  entry_read
  refine congrArg (args m c).w ?_
  blk_ext [idx7 t]

variable (l : Fin 1024)

theorem backS_block : k0_pay6 (F := Ideal) (iblk m c 0 t) (iblk m c 7 t) (ix2 r l) = backS (args m c) (rowOf t r) l :=
  (pay6_at _ _ r l).trans (Finset.sum_congr rfl fun k _ => congrArg₂ (fun a b : EReal => a * b) (blk0 m c t r k) (blk7 m c t k _))

theorem backC_block : k0_pay7 (F := Ideal) (iblk m c 0 t) (iblk m c 7 t) (ix2 r l) = backC (args m c) (rowOf t r) l :=
  (pay7_at _ _ r l).trans (Finset.sum_congr rfl fun k _ => congrArg₂ (fun a b : EReal => a * b) (blk0 m c t r k) (blk7 m c t k _))

theorem gate_block : k0_pay11 (F := Ideal) (iblk m c 1 t) (iblk m c 2 t) (ix2 r l) = gateOf (args m c) (rowOf t r) l :=
  (gated_at _ _ r l).trans (congrArg₂ (fun a b => gated a b l) (funext fun k => blk1 m c t r k) (funext fun k => blk2 m c t r k))

theorem dGate_block :
    k0_pay26 (F := Ideal) (k0_pay24 (k0_pay6 (iblk m c 0 t) (iblk m c 7 t)) (iblk m c 4 t) (k0_pay17 (iblk m c 1 t) (iblk m c 2 t))
          (k0_pay18 (iblk m c 1 t) (iblk m c 2 t)) k0_pay19)
        (k0_pay25 (k0_pay6 (iblk m c 0 t) (iblk m c 7 t)) (iblk m c 4 t) (k0_pay12 (iblk m c 1 t) (iblk m c 2 t))
          (k0_pay14 (iblk m c 1 t) (iblk m c 2 t)) (k0_pay15 (iblk m c 1 t) (iblk m c 2 t))) (Scalar.ofBits .f32 0x00000000#32) (ix2 r l)
      = dGate (args m c) (rowOf t r) l := by
  have e1 := funext fun k => gate_block m c t r k
  have e2 : (fun k : Fin 1024 => iblk (F := Ideal) m c 4 t (ix2 0 k)) = fun k => (args m c).gs (ix2 0 k) := funext fun k => blk4 m c t k
  have e3 := funext fun k => backS_block m c t r k
  rw [pay26_at, e1, e2, e3]
  rfl

theorem dgs_block :
    k0_pay22 (F := Ideal) (k0_pay6 (iblk m c 0 t) (iblk m c 7 t)) (k0_pay16 (iblk m c 1 t) (iblk m c 2 t)) (k0_pay17 (iblk m c 1 t) (iblk m c 2 t))
        (k0_pay18 (iblk m c 1 t) (iblk m c 2 t)) k0_pay19 (ix2 0 l)
      = ∑ r, dgsAt (args m c) (rowOf t r) l := by
  rw [pay22_at]
  refine Finset.sum_congr rfl fun r _ => ?_
  have e1 := funext fun k => gate_block m c t r k
  have e3 := funext fun k => backS_block m c t r k
  rw [e1, e3]
  rfl

theorem dNorm_block :
    k0_pay34 (F := Ideal) (k0_pay7 (iblk m c 0 t) (iblk m c 7 t)) (iblk m c 3 t) (iblk m c 5 t) (iblk m c 6 t) (ix2 r l)
      = dNorm (args m c) (rowOf t r) l := by
  have e1 : (fun k => iblk (F := Ideal) m c 3 t (ix2 r k)) = fun k => (args m c).v (ix2 (rowOf t r) k) := funext fun k => blk3 m c t r k
  have e2 : (fun k : Fin 1024 => iblk (F := Ideal) m c 5 t (ix2 0 k)) = fun k => (args m c).lg (ix2 0 k) := funext fun k => blk5 m c t k
  have e3 : (fun k : Fin 1024 => iblk (F := Ideal) m c 6 t (ix2 0 k)) = fun k => (args m c).lb (ix2 0 k) := funext fun k => blk6 m c t k
  rw [pay34_at, e1, e2, e3, backC_block]
  rfl

theorem dlg_block :
    k0_pay37 (F := Ideal) (k0_pay36 (k0_pay7 (iblk m c 0 t) (iblk m c 7 t)) (iblk m c 3 t) (iblk m c 5 t) (iblk m c 6 t)) (ix2 0 l)
      = ∑ r, dlgAt (args m c) (rowOf t r) l := by
  rw [pay37_at]
  refine Finset.sum_congr rfl fun r _ => ?_
  have e1 : (fun k => iblk (F := Ideal) m c 3 t (ix2 r k)) = fun k => (args m c).v (ix2 (rowOf t r) k) := funext fun k => blk3 m c t r k
  have e3 := funext fun k => dNorm_block m c t r k
  rw [e1, e3]
  rfl

theorem dlb_block :
    k0_pay35 (F := Ideal) (k0_pay7 (iblk m c 0 t) (iblk m c 7 t)) (iblk m c 3 t) (iblk m c 5 t) (iblk m c 6 t) (ix2 0 l)
      = ∑ r, dNorm (args m c) (rowOf t r) l :=
  (pay35_at _ _ _ _ l).trans (Finset.sum_congr rfl fun r _ => dNorm_block m c t r l)

theorem dv_block :
    k0_pay38 (F := Ideal) (iblk m c 5 t) (k0_pay29 (iblk m c 3 t)) (k0_pay31 (iblk m c 3 t)) (k0_pay32 (iblk m c 3 t))
        (k0_pay34 (k0_pay7 (iblk m c 0 t) (iblk m c 7 t)) (iblk m c 3 t) (iblk m c 5 t) (iblk m c 6 t)) (ix2 r l)
      = dvAt (args m c) (rowOf t r) l := by
  have e1 : (fun k => iblk (F := Ideal) m c 3 t (ix2 r k)) = fun k => (args m c).v (ix2 (rowOf t r) k) := funext fun k => blk3 m c t r k
  have e2 : (fun k : Fin 1024 => iblk (F := Ideal) m c 5 t (ix2 0 k)) = fun k => (args m c).lg (ix2 0 k) := funext fun k => blk5 m c t k
  have e3 := funext fun k => dNorm_block m c t r k
  rw [pay38_at, e1, e2, e3]
  rfl

theorem dy_point : (outsAt0 m c t.val t.isLt).1 (ix2 r l) = dyAt (args m c) (rowOf t r) l := by
  have e := congrArg₂ (fun a b : EReal => a * (b * Ideal.logistic b)) (dGate_block m c t r l) (blk2 m c t r l)
  by_cases h : t.val % 8 = 0
  · rw [outsAt0_A m c t h]
    frame_out
    exact (pay27_at _ _ _ r l).trans e
  · rw [outsAt0_B m c t h]
    frame_out
    exact (pay27_at _ _ _ r l).trans e

theorem dz_point : (outsAt0 m c t.val t.isLt).2.1 (ix2 r l) = dzAt (args m c) (rowOf t r) l := by
  have e := congrArg₂ (fun a b : EReal => siluGrad a b) (blk2 m c t r l)
    (congrArg₂ (fun a b : EReal => a * b) (blk1 m c t r l) (dGate_block m c t r l))
  by_cases h : t.val % 8 = 0
  · rw [outsAt0_A m c t h]
    frame_out
    exact (pay28_at _ _ _ _ r l).trans e
  · rw [outsAt0_B m c t h]
    frame_out
    exact (pay28_at _ _ _ _ r l).trans e

theorem dv_point : (outsAt0 m c t.val t.isLt).2.2.1 (ix2 r l) = dvAt (args m c) (rowOf t r) l := by
  by_cases h : t.val % 8 = 0
  · rw [outsAt0_A m c t h]
    frame_out
    exact dv_block m c t r l
  · rw [outsAt0_B m c t h]
    frame_out
    exact dv_block m c t r l

end Cert.Outb

end
-- ==== Proof.OutbAcc.lean ====
/- The four accumulated rows of the output projection's gradient, and the arrays after the run. -/
module

public import proofs.«01_k».proof.Proof.OutbOuts

@[expose] public section

set_option maxRecDepth 16384

noncomputable section

namespace Cert.Outb

open Cert.Kernel5Ideal Cert.Kernel5Ideal.Gen Idealize.ShloMosaic Idealize.ShloMosaic.TcCoe Idealize.SL.Sem Cert.Rows

variable (m : (ℓ : Loc nD τ sig) → Buf (Elt Ideal) ℓ) (c : Dev nD)

/-- What one block of rows adds. -/
def part (n : ℕ) (q : Fin 4) (l : Fin 1024) : EReal :=
  if h : n < 8 then ∑ r : Fin 512, addends (args m c) ⟨512 * n + r.val, by omega⟩ l q else 0

theorem part_of (t : Fin cfg0.N) (q : Fin 4) (l : Fin 1024) : ∑ r : Fin 512, addends (args m c) (rowOf t r) l q = part m c t.val q l := by
  have ht : t.val < 8 := t.isLt
  unfold part
  rw [dif_pos ht]

theorem acc_first (t : Fin cfg0.N) (h : t.val % 8 = 0) :
    (outsAt0 m c t.val t.isLt).2.2.2 = Corner.four fun q l => 0 + part m c t.val q l := by
  rw [outsAt0_A m c t h]
  frame_out
  refine (Corner.first_four (ms0_11 t).view _ _ _ _ _ _ _ _ _ _ pay4_at).trans (congrArg Corner.four (funext fun q => funext fun l => ?_))
  rw [← part_of]
  fin_cases q
  · refine (pay40_at _ _ l).trans (congrArg₂ (fun a b : EReal => a + b) (Corner.row_unmet _ 0 _ _ (fun y hy => ?_) l) (dgs_block m c t l))
    exact Corner.canon_zeros _ _ pay4_at y
  · refine (pay1_at _ _ l).trans (congrArg₂ (fun a b : EReal => a + b) (Corner.row_unmet _ 1 _ _ (fun y hy => ?_) l) (dlg_block m c t l))
    rw [Corner.canon_row (ms0_11 t).view, if_neg (by omega)]
    exact Corner.canon_zeros _ _ pay4_at y
  · refine (pay2_at _ _ l).trans (congrArg₂ (fun a b : EReal => a + b) (Corner.row_unmet _ 2 _ _ (fun y hy => ?_) l) (dlb_block m c t l))
    rw [Corner.canon_row (ms0_11 t).view, if_neg (by omega), Corner.canon_row (ms0_11 t).view, if_neg (by omega)]
    exact Corner.canon_zeros _ _ pay4_at y
  · refine (pay3_at _ _ l).trans (congrArg₂ (fun a b : EReal => a + b) (Corner.row_unmet _ 3 _ _ (fun y hy => ?_) l)
      (Finset.sum_congr rfl fun r _ => dv_block m c t r l))
    rw [Corner.canon_row (ms0_11 t).view, if_neg (by omega), Corner.canon_row (ms0_11 t).view, if_neg (by omega),
      Corner.canon_row (ms0_11 t).view, if_neg (by omega)]
    exact Corner.canon_zeros _ _ pay4_at y

theorem acc_next (t : Fin cfg0.N) (h : ¬ t.val % 8 = 0) (f : Fin 4 → Fin 1024 → EReal)
    (hp : (outsAt0 m c (t.val - 1) (Nat.lt_of_le_of_lt (Nat.sub_le _ _) t.isLt)).2.2.2 = Corner.four f) :
    (outsAt0 m c t.val t.isLt).2.2.2 = Corner.four fun q l => f q l + part m c t.val q l := by
  rw [outsAt0_B m c t h]
  frame_out
  rw [hp]
  refine (Corner.stored_four (ms0_11 t).view _ _ _ _ _ _ _ _ _ (Corner.four f) (Memref.IsWhole.read_unread _ _) fun y hy => dif_neg (by omega)).trans
    (congrArg Corner.four (funext fun q => funext fun l => ?_))
  rw [← part_of]
  fin_cases q
  · exact (pay40_at _ _ l).trans (congrArg₂ (fun a b : EReal => a + b) (Corner.four_ld f 0 (by omega) _ l) (dgs_block m c t l))
  · exact (pay1_at _ _ l).trans (congrArg₂ (fun a b : EReal => a + b) (Corner.four_ld f 1 (by omega) _ l) (dlg_block m c t l))
  · exact (pay2_at _ _ l).trans (congrArg₂ (fun a b : EReal => a + b) (Corner.four_ld f 2 (by omega) _ l) (dlb_block m c t l))
  · exact (pay3_at _ _ l).trans (congrArg₂ (fun a b : EReal => a + b) (Corner.four_ld f 3 (by omega) _ l)
      (Finset.sum_congr rfl fun r _ => dv_block m c t r l))

theorem acc_point : ∀ (n : ℕ) (hn : n < cfg0.N),
    (outsAt0 m c n hn).2.2.2 = Corner.four fun q l => ∑ k ∈ Finset.range (n + 1), part m c k q l
  | 0, hn => (acc_first m c ⟨0, hn⟩ rfl).trans (congrArg Corner.four (funext fun q => funext fun l => by simp))
  | n + 1, hn => by
    have h8 : n + 1 < 8 := hn
    refine (acc_next m c ⟨n + 1, hn⟩ (by show ¬ (n + 1) % 8 = 0; omega) _ (acc_point n _)).trans
      (congrArg Corner.four (funext fun q => funext fun l => ?_))
    rw [Finset.sum_range_succ _ (n + 1)]

theorem parts (q : Fin 4) (l : Fin 1024) : ∑ k ∈ Finset.range 8, part m c k q l = ∑ R, addends (args m c) R l q := by
  rw [← Fin.sum_univ_eq_sum_range (fun k => part m c k q l)]
  refine Eq.trans (Finset.sum_congr rfl fun t _ => dif_pos t.isLt) (Fin.sum_mul_add_congr (n := 512) fun t r hl => ?_)
  exact congrArg (fun R => addends (args m c) R l q) (Fin.ext (by show 512 * t.val + r.val = t.val * 512 + r.val; omega))

/-- The accumulated rows after the run. -/
theorem final11 : (dats m 0 c).arrAt 11 cfg0.N = Corner.four fun q l => ∑ R, addends (args m c) R l q := by
  refine (dats m 0 c).arrAt_eq_of_after_last 11 t0_7 (by decide +kernel) _ fun j => ?_
  rw [after0_11]
  refine (congrFun ((acc_point m c 7 t0_7.isLt).trans (congrArg Corner.four (funext fun q => funext fun l => parts m c q l))) _).trans
    (congrArg (Corner.four _) (funext fun a => Fin.ext ?_))
  fin_cases a <;> rfl

theorem final8 : (dats m 0 c).arrAt 8 cfg0.N = (fun y : S4096x1024.Idx => dyAt (args m c) (y 0) (y 1)) := by
  refine (dats m 0 c).arrAt_eq_of_covers 8 _ (by decide +kernel) fun t hf y => ?_
  have h0 : (win0_8.blk t).view.emb y 0 = rowOf t (y 0) := Fin.ext (by
    show ((win0_8.blk t).view.emb y 0).val = 512 * t.val + (y 0).val
    blk_simp [idx8 t]
    omega)
  have h1 : (win0_8.blk t).view.emb y 1 = y 1 := Fin.ext (by blk_simp [idx8 t])
  rw [after0_8]
  refine Eq.trans ?_ ((dy_point m c t (y 0) (y 1)).trans (congrArg₂ (dyAt (args m c)) h0 h1).symm)
  exact congrArg (outsAt0 m c t.val t.isLt).1 (funext fun a => by fin_cases a <;> rfl)

theorem final9 : (dats m 0 c).arrAt 9 cfg0.N = (fun y : S4096x1024.Idx => dzAt (args m c) (y 0) (y 1)) := by
  refine (dats m 0 c).arrAt_eq_of_covers 9 _ (by decide +kernel) fun t hf y => ?_
  have h0 : (win0_9.blk t).view.emb y 0 = rowOf t (y 0) := Fin.ext (by
    show ((win0_9.blk t).view.emb y 0).val = 512 * t.val + (y 0).val
    blk_simp [idx9 t]
    omega)
  have h1 : (win0_9.blk t).view.emb y 1 = y 1 := Fin.ext (by blk_simp [idx9 t])
  rw [after0_9]
  refine Eq.trans ?_ ((dz_point m c t (y 0) (y 1)).trans (congrArg₂ (dzAt (args m c)) h0 h1).symm)
  exact congrArg (outsAt0 m c t.val t.isLt).2.1 (funext fun a => by fin_cases a <;> rfl)

theorem final10 : (dats m 0 c).arrAt 10 cfg0.N = (fun y : S4096x1024.Idx => dvAt (args m c) (y 0) (y 1)) := by
  refine (dats m 0 c).arrAt_eq_of_covers 10 _ (by decide +kernel) fun t hf y => ?_
  have h0 : (win0_10.blk t).view.emb y 0 = rowOf t (y 0) := Fin.ext (by
    show ((win0_10.blk t).view.emb y 0).val = 512 * t.val + (y 0).val
    blk_simp [idx10 t]
    omega)
  have h1 : (win0_10.blk t).view.emb y 1 = y 1 := Fin.ext (by blk_simp [idx10 t])
  rw [after0_10]
  refine Eq.trans ?_ ((dv_point m c t (y 0) (y 1)).trans (congrArg₂ (dvAt (args m c)) h0 h1).symm)
  exact congrArg (outsAt0 m c t.val t.isLt).2.2.1 (funext fun a => by fin_cases a <;> rfl)

end Cert.Outb

end
-- ==== Proof.OutbRef.lean ====
/- The reference's gradients through the gated norm, the layer norm and the product, at an index. -/
module

public import proofs.«01_k».proof.Proof.OutbRows
public import proofs.«01_k».proof.Proof.Quad
public import proofs.«01_k».proof.Proof.Gen.Reference5Ideal.Read

@[expose] public section

set_option maxRecDepth 16384

noncomputable section

namespace Cert.Outb.Ref

open Cert.Reference5Ideal Cert.Reference5Ideal.Gen Cert.Reference5Ideal.Read Idealize.ShloMosaic Idealize.SL.Sem Cert.Rows

variable (A : Args) (R : Fin 4096) (l : Fin 1024)

theorem backS_ref : val_main_v49 (F := Ideal) A.w A.d (ix2 R l) = backS A R l := by
  unfold backS
  pointwise [val_main_v49, val_main_v48]

theorem backC_ref : val_main_v50 (F := Ideal) A.w A.d (ix2 R l) = backC A R l := by
  unfold backC
  pointwise [val_main_v50, val_main_v48]

theorem gate_ref : val_main_v2 (F := Ideal) A.y A.z (ix2 R l) = gateOf A R l := by
  unfold gateOf gated
  pointwise [val_main_v2, val_main_v1_0, val_main_v1_2, val_main_call0_v0, val_main_call0_v1, val_main_call0_v2, val_main_call0_v3, val_main_call0_v4, val_main_call0_cst, val_main_call0_cst_0]
  rfl

theorem center_ref : val_main_v27 (F := Ideal) A.v (ix2 R l) = center N1024 (fun k => A.v (ix2 R k)) l := by
  unfold center N1024
  pointwise [val_main_v27, val_main_v26, val_main_v25, val_main_v24, val_main_v23, val_main_v22, val_main_v21, val_main_v20, val_main_v0, val_main_cst, val_main_cst_4, val_main_cst_5]

theorem v3_ref (b : Fin 2) (k : Fin 512) : val_main_v3 (F := Ideal) A.y A.z (ix3 R b k) = gateOf A R ⟨512 * b.val + k.val, by omega⟩ := by
  rw [val_main_v3_apply, ← gate_ref]
  refine congrArg (val_main_v2 (F := Ideal) A.y A.z) (funext fun a => Fin.ext ?_)
  have hb := b.isLt
  have hk := k.isLt
  fin_cases a
  · show ((R.val * 2 + b.val) * 512 + k.val) / 1024 = R.val
    omega
  · show ((R.val * 2 + b.val) * 512 + k.val) % 1024 = 512 * b.val + k.val
    omega

theorem joined_eq (f : Fin 2 → Fin 512 → EReal) : joined (f 0) (f 1) l = f ⟨l.val / 512, by omega⟩ ⟨l.val % 512, Nat.mod_lt _ (by omega)⟩ := by
  unfold joined
  split
  · rename_i h
    exact congrArg₂ f (Fin.ext (Nat.div_eq_of_lt h).symm) (Fin.ext (Nat.mod_eq_of_lt h).symm)
  · rename_i h
    exact congrArg₂ f (Fin.ext (show 1 = l.val / 512 by omega)) (Fin.ext (show l.val - 512 = l.val % 512 by omega))

/-- A half of a row, by its number. -/
abbrev half (x : Fin 1024 → EReal) (b : Fin 2) (k : Fin 512) : EReal := x ⟨512 * b.val + k.val, by omega⟩

theorem half_zero (x : Fin 1024 → EReal) : half x 0 = lower x := funext fun k => congrArg x (Fin.ext (show 512 * 0 + k.val = k.val by omega))
theorem half_one (x : Fin 1024 → EReal) : half x 1 = upper x := funext fun k => congrArg x (Fin.ext (show 512 * 1 + k.val = 512 + k.val by omega))

/-- The reshape of a row into its two groups, undone. -/
theorem groups_idx (i : S4096x2x512.Idx) (h0 : (i 0).val = R.val) (h1 : (i 1).val = l.val / 512) (h2 : (i 2).val = l.val % 512) :
    i = ix3 R ⟨l.val / 512, by omega⟩ ⟨l.val % 512, Nat.mod_lt _ (by omega)⟩ :=
  funext fun a => Fin.ext (by fin_cases a <;> assumption)

theorem v88_ref (b : Fin 2) (k : Fin 512) :
    val_main_v88 (F := Ideal) A.gs A.w A.d (ix3 R b k) = half (backS A R) b k * half (fun k => A.gs (ix2 0 k)) b k := by
  have e : ∀ l, val_main_v87 (F := Ideal) A.gs A.w A.d (ix2 R l) = backS A R l * A.gs (ix2 0 l) := fun l => by
    pointwise [val_main_v87, val_main_v86]
    exact congrArg (fun s => s * A.gs (ix2 0 l)) (backS_ref A R l)
  rw [val_main_v88_apply]
  refine (congrArg (val_main_v87 (F := Ideal) A.gs A.w A.d) (funext fun a => Fin.ext ?_)).trans (e ⟨512 * b.val + k.val, by omega⟩)
  have hb := b.isLt
  have hk := k.isLt
  fin_cases a
  · show ((R.val * 2 + b.val) * 512 + k.val) / 1024 = R.val
    omega
  · show ((R.val * 2 + b.val) * 512 + k.val) % 1024 = 512 * b.val + k.val
    omega

theorem v16_ref (b : Fin 2) (k : Fin 512) :
    val_main_v16 (F := Ideal) A.y A.z (ix3 R b k) = half (gateOf A R) b k * scale N512 (half (gateOf A R) b) := by
  unfold scale meanSq N512
  pointwise [val_main_v16, val_main_v15, val_main_v11, val_main_v10, val_main_v9, val_main_v8, val_main_v7, val_main_v6, val_main_v5, val_main_v4,
    val_main_cst_0, val_main_cst_1, val_main_cst_2]
  simp only [v3_ref]

theorem v17_ref : val_main_v17 (F := Ideal) A.y A.z (ix2 R l)
    = joined (fun k => lower (gateOf A R) k * scale N512 (lower (gateOf A R))) (fun k => upper (gateOf A R) k * scale N512 (upper (gateOf A R))) l := by
  rw [val_main_v17_apply, ← half_zero, ← half_one, joined_eq l fun b k => half (gateOf A R) b k * scale N512 (half (gateOf A R) b), ← v16_ref]
  refine congrArg (val_main_v16 (F := Ideal) A.y A.z) (groups_idx R l _ ?_ ?_ ?_)
  · show (R.val * 1024 + l.val) / 1024 = R.val
    omega
  · show (R.val * 1024 + l.val) / 512 % 2 = l.val / 512
    omega
  · show (R.val * 1024 + l.val) % 512 = l.val % 512
    omega

theorem v102_ref (b : Fin 2) (k : Fin 512) : val_main_v102 (F := Ideal) A.y A.z A.gs A.w A.d (ix3 R b k)
    = grad N512 (half (gateOf A R) b) (half (fun k => A.gs (ix2 0 k)) b) (half (backS A R) b) k := by
  unfold grad toSquares scale meanSq N512
  pointwise [val_main_v102, val_main_v101, val_main_v100, val_main_v99, val_main_v98, val_main_v97, val_main_v96, val_main_v95, val_main_v94,
    val_main_v93, val_main_v92, val_main_v91, val_main_v90, val_main_v89, val_main_v14, val_main_v13, val_main_v12, val_main_v11, val_main_v10, val_main_v9, val_main_v8, val_main_v7, val_main_v6, val_main_v5, val_main_v4,
    val_main_cst_0, val_main_cst_1, val_main_cst_2, val_main_cst_3, val_main_cst_20, val_main_cst_21, val_main_cst_22]
  simp only [Fin.sum_univ_one, v3_ref, v88_ref]

theorem dGate_ref : val_main_v103 (F := Ideal) A.y A.z A.gs A.w A.d (ix2 R l) = dGate A R l := by
  unfold dGate groupGrad
  rw [val_main_v103_apply, ← half_zero, ← half_one, ← half_zero, ← half_one, ← half_zero, ← half_one,
    joined_eq l fun b k => grad N512 (half (gateOf A R) b) (half (fun k => A.gs (ix2 0 k)) b) (half (backS A R) b) k, ← v102_ref]
  refine congrArg (val_main_v102 (F := Ideal) A.y A.z A.gs A.w A.d) (groups_idx R l _ ?_ ?_ ?_)
  · show (R.val * 1024 + l.val) / 1024 = R.val
    omega
  · show (R.val * 1024 + l.val) / 512 % 2 = l.val / 512
    omega
  · show (R.val * 1024 + l.val) % 512 = l.val % 512
    omega

theorem dy_ref : val_main_v105 (F := Ideal) A.y A.z A.gs A.w A.d (ix2 R l) = dyAt A R l := by
  unfold dyAt
  pointwise [val_main_v105, val_main_v1_0, val_main_v1_2, val_main_call0_v0, val_main_call0_v1, val_main_call0_v2, val_main_call0_v3, val_main_call0_v4, val_main_call0_cst, val_main_call0_cst_0]
  rw [dGate_ref]
  rfl

theorem dz_ref : val_main_v107 (F := Ideal) A.y A.z A.gs A.w A.d (ix2 R l) = dzAt A R l := by
  unfold dzAt siluGrad
  pointwise [val_main_v107, val_main_v106, val_main_v104, val_main_call3_v0, val_main_call3_v1, val_main_call3_v2, val_main_v1_1, val_main_v1_2, val_main_call0_v0, val_main_call0_v1, val_main_call0_v2, val_main_call0_v3, val_main_call0_v4, val_main_call0_v6, val_main_call0_v7, val_main_call0_cst, val_main_call0_cst_0, val_main_call0_cst_1]
  simp only [dGate_ref]
  rfl

theorem dNorm_ref : val_main_v51 (F := Ideal) A.v A.lg A.lb A.w A.d (ix2 R l) = dNorm A R l := by
  unfold dNorm siluGrad normed scale meanSq N1024
  pointwise [val_main_v51, val_main_call2_v0, val_main_call2_v1, val_main_call2_v2, val_main_v45_1, val_main_v45_2, val_main_call1_v0, val_main_call1_v1, val_main_call1_v2, val_main_call1_v3, val_main_call1_v4, val_main_call1_v6, val_main_call1_v7, val_main_call1_cst, val_main_call1_cst_0, val_main_call1_cst_1,
    val_main_v44, val_main_v43, val_main_v42, val_main_v41, val_main_v40, val_main_v39, val_main_v35, val_main_v34, val_main_v33, val_main_v32, val_main_v31, val_main_v30, val_main_v29, val_main_v28,
    val_main_cst_6, val_main_cst_7, val_main_cst_8]
  simp only [center_ref, backC_ref]
  rfl

theorem dv_ref : val_main_v80 (F := Ideal) A.v A.lg A.lb A.w A.d (ix2 R l) = dvAt A R l := by
  unfold dvAt uncenter grad toSquares scale meanSq
  pointwise [val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57,
    val_main_v38, val_main_v37, val_main_v36, val_main_v35, val_main_v34, val_main_v33, val_main_v32, val_main_v31, val_main_v30, val_main_v29, val_main_v28,
    val_main_cst_6, val_main_cst_7, val_main_cst_8, val_main_cst_9, val_main_cst_12, val_main_cst_13, val_main_cst_14, val_main_cst_15, val_main_cst_16, val_main_cst_17]
  simp only [Fin.sum_univ_one, center_ref, dNorm_ref]

theorem dlg_ref : val_main_v56 (F := Ideal) A.v A.lg A.lb A.w A.d (ix2 0 l) = ∑ R, dlgAt A R l := by
  unfold dlgAt gradG scale meanSq
  pointwise [val_main_v56, val_main_v55, val_main_v54, val_main_v40, val_main_v39, val_main_v35, val_main_v34, val_main_v33, val_main_v32, val_main_v31, val_main_v30, val_main_v29, val_main_v28,
    val_main_cst_6, val_main_cst_7, val_main_cst_8, val_main_cst_11]
  simp only [center_ref, dNorm_ref]

theorem dlb_ref : val_main_v53 (F := Ideal) A.v A.lg A.lb A.w A.d (ix2 0 l) = ∑ R, dNorm A R l := by
  pointwise [val_main_v53, val_main_v52, val_main_cst_10]
  simp only [dNorm_ref]

theorem db_ref : val_main_v82 (F := Ideal) A.v A.lg A.lb A.w A.d (ix2 0 l) = ∑ R, dvAt A R l := by
  pointwise [val_main_v82, val_main_v81, val_main_cst_18]
  simp only [dv_ref]

theorem dgs_ref : val_main_v85 (F := Ideal) A.y A.z A.w A.d (ix2 0 l) = ∑ R, dgsAt A R l := by
  unfold dgsAt groupGradG
  pointwise [val_main_v85, val_main_v84, val_main_v83, val_main_cst_19]
  simp only [v17_ref, backS_ref]

theorem acc_ref (y : S8x1024.Idx) : val_main_v109 (F := Ideal) A.y A.z A.v A.lg A.lb A.w A.d y = Corner.four (fun q l => ∑ R, addends A R l q) y := by
  unfold Corner.four addends
  pointwise [val_main_v109, val_main_v108, val_main_cst_23]
  generalize y 0 = q, y 1 = l
  rcases q with ⟨_ | _ | _ | _ | n, hq⟩
  · exact dgs_ref A l
  · exact dlg_ref A l
  · exact dlb_ref A l
  · exact db_ref A l
  · rw [dif_neg, dif_neg, dif_neg, dif_neg, dif_neg] <;> dsimp only <;> omega

end Cert.Outb.Ref

end
-- ==== Proof.Outb.lean ====
/- The value claim of the output projection's gradient: kernel and reference end with the same four arrays. -/
module

public import proofs.«01_k».proof.Defs
public import proofs.«01_k».proof.Proof.Gen.Reference5Ideal.Run
public import proofs.«01_k».proof.Proof.OutbAcc
public import proofs.«01_k».proof.Proof.OutbRef

@[expose] public section

noncomputable section

namespace Cert.Outb

open Idealize.ShloMosaic Idealize.ShloMosaic.TcCoe Idealize.SL.Sem

theorem algebraic : Cert.algebraic_Kernel5Ideal_Reference5Ideal (hKernel5Ideal := Cert.Kernel5Ideal.Gen.facts)
    (hReference5Ideal := Cert.Reference5Ideal.Gen.facts) := by
  intro m ρ m' ρ' _ hag
  refine ⟨fun c => (Cert.Kernel5Ideal.Gen.dats m 0 c).arrAt 8 Cert.Kernel5Ideal.cfg0.N,
    fun c => (Cert.Kernel5Ideal.Gen.dats m 0 c).arrAt 9 Cert.Kernel5Ideal.cfg0.N,
    fun c => (Cert.Kernel5Ideal.Gen.dats m 0 c).arrAt 10 Cert.Kernel5Ideal.cfg0.N,
    fun c => (Cert.Kernel5Ideal.Gen.dats m 0 c).arrAt 11 Cert.Kernel5Ideal.cfg0.N, Cert.Kernel5Ideal.Value.run_blocks m ρ,
    (θ_run _ _ _).mono (fun _ h c => ⟨(h c).1.trans ?_, (h c).2.1.trans ?_, (h c).2.2.1.trans ?_, (h c).2.2.2.1.trans ?_, (h c).2.2.2.2⟩)
      (Cert.Reference5Ideal.Value.run m' ρ')⟩
  all_goals
    obtain ⟨a0, a1, a2, a3, a4, a5, a6, a7⟩ := hag c
    have e0 : StableHlo.launchContents m' c (Proc.devRef .tc Cert.Reference5Ideal.main_arg0) = (args m c).y := a0
    have e1 : StableHlo.launchContents m' c (Proc.devRef .tc Cert.Reference5Ideal.main_arg1) = (args m c).z := a1
    have e2 : StableHlo.launchContents m' c (Proc.devRef .tc Cert.Reference5Ideal.main_arg2) = (args m c).v := a2
    have e3 : StableHlo.launchContents m' c (Proc.devRef .tc Cert.Reference5Ideal.main_arg3) = (args m c).gs := a3
    have e4 : StableHlo.launchContents m' c (Proc.devRef .tc Cert.Reference5Ideal.main_arg4) = (args m c).lg := a4
    have e5 : StableHlo.launchContents m' c (Proc.devRef .tc Cert.Reference5Ideal.main_arg5) = (args m c).lb := a5
    have e6 : StableHlo.launchContents m' c (Proc.devRef .tc Cert.Reference5Ideal.main_arg6) = (args m c).w := a6
    have e7 : StableHlo.launchContents m' c (Proc.devRef .tc Cert.Reference5Ideal.main_arg7) = (args m c).d := a7
  · refine (Cert.Reference5Ideal.Read.val_main_v105_eq _).trans (Eq.trans ?_ (final8 m c).symm)
    rw [e0, e1, e3, e6, e7]
    exact funext fun y => (congrArg _ (funext fun a => by fin_cases a <;> rfl)).trans (Ref.dy_ref (args m c) (y 0) (y 1))
  · refine (Cert.Reference5Ideal.Read.val_main_v107_eq _).trans (Eq.trans ?_ (final9 m c).symm)
    rw [e0, e1, e3, e6, e7]
    exact funext fun y => (congrArg _ (funext fun a => by fin_cases a <;> rfl)).trans (Ref.dz_ref (args m c) (y 0) (y 1))
  · refine (Cert.Reference5Ideal.Read.val_main_v80_eq _).trans (Eq.trans ?_ (final10 m c).symm)
    rw [e2, e4, e5, e6, e7]
    exact funext fun y => (congrArg _ (funext fun a => by fin_cases a <;> rfl)).trans (Ref.dv_ref (args m c) (y 0) (y 1))
  · refine (Cert.Reference5Ideal.Read.val_main_v109_eq _).trans (Eq.trans ?_ (final11 m c).symm)
    rw [e0, e1, e2, e4, e5, e6, e7]
    exact funext fun y => Ref.acc_ref (args m c) y

end Cert.Outb

end
-- ==== Proof.TailPoint.lean ====
/- What one point of the last call computes, at an index. -/
module

public import proofs.«01_k».proof.Proof.Gen.Kernel6Ideal.Skeleton
public import proofs.«01_k».proof.Proof.Rows

@[expose] public section

set_option maxRecDepth 16384

noncomputable section

namespace Cert.Tail

open Cert.Kernel6Ideal Cert.Kernel6Ideal.Gen Idealize.ShloMosaic Idealize.SL.Sem Cert.Rows

/-- The root-mean-square norm of a row. -/
def rms (x g : Fin 1024 → EReal) (l : Fin 1024) : EReal := x l * scale N1024 x * g l

/-- The weight of a row's squares in the loss, and the gradient that reaches an error. -/
def seed : EReal := Ideal.div (Ideal.ofBits .f32 0x3F000000#32) N1024
def errGrad (e : Fin 1024 → EReal) (l : Fin 1024) : EReal := e l * seed + seed * e l

/-- The loss of a row of errors. -/
def lossOf (e : Fin 1024 → EReal) : EReal := Ideal.ofBits .f32 0x3F000000#32 * Ideal.div (∑ k, e k * e k) N1024

variable (v3 v4 v29 v32 v71 : FVec Ideal S512x1024 .f32) (v5 v27 v33 v34 : FVec Ideal S1x1024 .f32) (v22 : FVec Ideal S512x256 .f32)
  (v24 : FVec Ideal S1024x1024 .bf16) (v30 : FVec Ideal S256x1024 .bf16)

theorem pay8_at (r : Fin 512) (l : Fin 1024) :
    k0_pay8 (F := Ideal) v3 v5 (ix2 r l) = rms (fun k => v3 (ix2 r k)) (fun k => v5 (ix2 0 k)) l := by
  unfold rms scale meanSq N1024
  pointwise [k0_pay8, k0_pay7, k0_pay5, k0_pay4]

theorem pay10_at (r : Fin 512) (l : Fin 1024) :
    k0_pay10 (F := Ideal) v3 v5 v24 v27 (ix2 r l) = (∑ k : Fin 1024, k0_pay8 (F := Ideal) v3 v5 (ix2 r k) * v24 (ix2 k l)) + v27 (ix2 0 l) := by
  pointwise [k0_pay10]

theorem pay11_at (r : Fin 512) (l : Fin 1024) :
    k0_pay11 (F := Ideal) v22 v30 (ix2 r l) = ∑ k : Fin 256, v22 (ix2 r k) * v30 (ix2 k l) := by
  pointwise [k0_pay11, k0_pay9]

theorem pay18_at (r : Fin 512) (l : Fin 1024) :
    k0_pay18 (F := Ideal) v32 v33 (ix2 r l) = rms (fun k => v32 (ix2 r k)) (fun k => v33 (ix2 0 k)) l := by
  unfold rms scale meanSq N1024
  pointwise [k0_pay18, k0_pay17, k0_pay15, k0_pay14]

theorem pay19_at (r : Fin 512) (l : Fin 1024) :
    k0_pay19 (F := Ideal) v3 v29 v32 v33 (ix2 r l) = v3 (ix2 r l) + Ideal.logistic (v29 (ix2 r l)) * k0_pay18 (F := Ideal) v32 v33 (ix2 r l) := by
  pointwise [k0_pay19, k0_pay12]

theorem pay24_at (r : Fin 512) (l : Fin 1024) :
    k0_pay24 (F := Ideal) v3 v4 v29 v32 v33 v34 (ix2 r l)
      = rms (fun k => k0_pay19 (F := Ideal) v3 v29 v32 v33 (ix2 r k)) (fun k => v34 (ix2 0 k)) l - v4 (ix2 r l) := by
  unfold rms scale meanSq N1024
  pointwise [k0_pay24, k0_pay23, k0_pay21, k0_pay20]

theorem pay25_at (r : Fin 512) :
    k0_pay25 (F := Ideal) v3 v4 v29 v32 v33 v34 (ix2 r 0) = lossOf fun k => k0_pay24 (F := Ideal) v3 v4 v29 v32 v33 v34 (ix2 r k) := by
  unfold lossOf N1024
  pointwise [k0_pay25]

theorem pay26_at (r : Fin 512) (l : Fin 1024) :
    k0_pay26 (F := Ideal) v71 (Scalar.ofBits .f32 0x3F800000#32) (ix2 r l) = errGrad (fun k => v71 (ix2 r k)) l := by
  unfold errGrad seed N1024
  pointwise [k0_pay26]
  simp only [Fin.sum_univ_one]

theorem pay27_at (l : Fin 1024) :
    k0_pay27 (F := Ideal) (k0_pay23 v3 v29 v32 v33) v71 (Scalar.ofBits .f32 0x3F800000#32) (ix2 0 l)
      = ∑ r : Fin 512, gradG N1024 (fun k => k0_pay19 (F := Ideal) v3 v29 v32 v33 (ix2 r k))
          (fun k => k0_pay26 (F := Ideal) v71 (Scalar.ofBits .f32 0x3F800000#32) (ix2 r k)) l := by
  unfold gradG scale meanSq N1024
  pointwise [k0_pay27, k0_pay23, k0_pay21, k0_pay20]

theorem pay28_at (r : Fin 512) (l : Fin 1024) :
    k0_pay28 (F := Ideal) v34 (k0_pay19 v3 v29 v32 v33) (k0_pay21 v3 v29 v32 v33) (k0_pay22 v3 v29 v32 v33) v71 (Scalar.ofBits .f32 0x3F800000#32) (ix2 r l)
      = grad N1024 (fun k => k0_pay19 (F := Ideal) v3 v29 v32 v33 (ix2 r k)) (fun k => v34 (ix2 0 k))
          (fun k => k0_pay26 (F := Ideal) v71 (Scalar.ofBits .f32 0x3F800000#32) (ix2 r k)) l := by
  unfold grad toSquares scale meanSq N1024
  pointwise [k0_pay28, k0_pay22, k0_pay21, k0_pay20]
  simp only [Fin.sum_univ_one]

variable (v35 v38 v53 v55 v109 v111 : FVec Ideal S512x1024 .f32) (v63 v66 : FVec Ideal S512x1 .f32) (c : Ideal .f32)

theorem pay30_at (r : Fin 512) (l : Fin 1024) :
    k0_pay30 (F := Ideal) v34 v53 v55 v63 v66 v71 c (ix2 r l) = k0_pay28 (F := Ideal) v34 v55 v63 v66 v71 c (ix2 r l) * v53 (ix2 r l) := by
  pointwise [k0_pay30]

theorem pay31_at (l : Fin 1024) :
    k0_pay31 (F := Ideal) v34 (k0_pay12 v29) (k0_pay17 v32) v55 v63 v66 v71 c (ix2 0 l)
      = ∑ r : Fin 512, gradG N1024 (fun k => v32 (ix2 r k))
          (fun k => Ideal.logistic (v29 (ix2 r k)) * k0_pay28 (F := Ideal) v34 v55 v63 v66 v71 c (ix2 r k)) l := by
  unfold gradG scale meanSq N1024
  pointwise [k0_pay31, k0_pay29, k0_pay17, k0_pay15, k0_pay14, k0_pay12]

theorem pay35_at (r : Fin 512) (l : Fin 1024) :
    k0_pay35 (F := Ideal) v32 (k0_pay33 v33 v34 (k0_pay12 v29) (k0_pay15 v32) v55 v63 v66 v71 c)
        (k0_pay34 v32 v33 v34 (k0_pay12 v29) (k0_pay16 v32) v55 v63 v66 v71 c) (ix2 r l)
      = grad N1024 (fun k => v32 (ix2 r k)) (fun k => v33 (ix2 0 k))
          (fun k => Ideal.logistic (v29 (ix2 r k)) * k0_pay28 (F := Ideal) v34 v55 v63 v66 v71 c (ix2 r k)) l := by
  unfold grad toSquares scale meanSq N1024
  pointwise [k0_pay35, k0_pay34, k0_pay33, k0_pay32, k0_pay29, k0_pay16, k0_pay15, k0_pay14, k0_pay12]
  simp only [Fin.sum_univ_one]

theorem pay36_at (r : Fin 512) (l : Fin 1024) :
    k0_pay36 (F := Ideal) (k0_pay13 v29) v111 (ix2 r l) = v111 (ix2 r l) * (Ideal.logistic (v29 (ix2 r l)) * (1 - Ideal.logistic (v29 (ix2 r l)))) := by
  pointwise [k0_pay36, k0_pay13, k0_pay12]

theorem pay38_at (r : Fin 512) (l : Fin 1024) :
    k0_pay38 (F := Ideal) v38 v111 v24 (ix2 r l) = ∑ k : Fin 1024, k0_pay36 (F := Ideal) v38 v111 (ix2 r k) * v24 (ix2 l k) := by
  pointwise [k0_pay38, k0_pay37]

theorem pay39_at (l : Fin 1024) :
    k0_pay39 (F := Ideal) (k0_pay7 v3) v38 v111 v24 (ix2 0 l)
      = ∑ r : Fin 512, gradG N1024 (fun k => v3 (ix2 r k)) (fun k => k0_pay38 (F := Ideal) v38 v111 v24 (ix2 r k)) l := by
  unfold gradG scale meanSq N1024
  pointwise [k0_pay39, k0_pay7, k0_pay5, k0_pay4]

theorem pay40_at (r : Fin 512) (l : Fin 1024) :
    k0_pay40 (F := Ideal) v3 v5 (k0_pay5 v3) (k0_pay6 v3) v38 v109 v111 v24 (ix2 r l)
      = v109 (ix2 r l) + grad N1024 (fun k => v3 (ix2 r k)) (fun k => v5 (ix2 0 k)) (fun k => k0_pay38 (F := Ideal) v38 v111 v24 (ix2 r k)) l := by
  unfold grad toSquares scale meanSq N1024
  pointwise [k0_pay40, k0_pay6, k0_pay5, k0_pay4]
  simp only [Fin.sum_univ_one]

theorem pay42_at (v21 : FVec Ideal S512x1024 .bf16) (v161 : FVec Ideal S1024x1024 .f32) (k l : Fin 1024) :
    k0_pay42 (F := Ideal) v21 v38 v111 v161 (ix2 k l) = v161 (ix2 k l) + ∑ r : Fin 512, v21 (ix2 r k) * k0_pay36 (F := Ideal) v38 v111 (ix2 r l) := by
  pointwise [k0_pay42, k0_pay37]

theorem pay43_at (v131 : FVec Ideal S512x1024 .f32) (v166 : FVec Ideal S256x1024 .f32) (k : Fin 256) (l : Fin 1024) :
    k0_pay43 (F := Ideal) (k0_pay9 v22) v131 v166 (ix2 k l) = v166 (ix2 k l) + ∑ r : Fin 512, v22 (ix2 r k) * v131 (ix2 r l) := by
  pointwise [k0_pay43, k0_pay9]

theorem pay44_at (v78 : FVec Ideal S512x1 .f32) (v172 : FVec Ideal S1x1024 .f32) (l : Fin 1024) :
    k0_pay44 (F := Ideal) v78 v172 (ix2 0 l) = v172 (ix2 0 l) + ∑ r : Fin 512, v78 (ix2 r 0) := by
  pointwise [k0_pay44]

theorem pay45_at (v92 v180 : FVec Ideal S1x1024 .f32) (l : Fin 1024) :
    k0_pay45 (F := Ideal) v92 v180 (ix2 0 l) = v180 (ix2 0 l) + v92 (ix2 0 l) := by
  pointwise [k0_pay45]
theorem pay46_at (v114 v184 : FVec Ideal S1x1024 .f32) (l : Fin 1024) :
    k0_pay46 (F := Ideal) v114 v184 (ix2 0 l) = v184 (ix2 0 l) + v114 (ix2 0 l) := by
  pointwise [k0_pay46]
theorem pay47_at (v132 : FVec Ideal S512x1024 .f32) (v188 : FVec Ideal S1x1024 .f32) (l : Fin 1024) :
    k0_pay47 (F := Ideal) v132 v188 (ix2 0 l) = v188 (ix2 0 l) + ∑ r : Fin 512, v132 (ix2 r l) := by
  pointwise [k0_pay47]
theorem pay48_at (v139 v194 : FVec Ideal S1x1024 .f32) (l : Fin 1024) :
    k0_pay48 (F := Ideal) v139 v194 (ix2 0 l) = v194 (ix2 0 l) + v139 (ix2 0 l) := by
  pointwise [k0_pay48]

theorem pay1_at (i : S1024x1024.Idx) : k0_pay1 (F := Ideal) i = 0 := Ideal.ofBits_zero FTy.f32
theorem pay2_at (i : S256x1024.Idx) : k0_pay2 (F := Ideal) i = 0 := Ideal.ofBits_zero FTy.f32
theorem pay3_at (i : S8x1024.Idx) : k0_pay3 (F := Ideal) i = 0 := Ideal.ofBits_zero FTy.f32

end Cert.Tail

end
-- ==== Proof.TailRows.lean ====
/- The loss and its gradients, row by row, in terms of the arguments. -/
module

public import proofs.«01_k».proof.Proof.TailPoint
public import Idealize.ShloMosaic.Lib.KernelVsHost

@[expose] public section

noncomputable section

namespace Cert.Tail

open Cert.Kernel6Ideal Cert.Kernel6Ideal.Gen Idealize.ShloMosaic Cert.Rows

/-- The arguments of both programs. -/
structure Args where
  h : FVec Ideal S4096x1024 .f32
  p : FVec Ideal S4096x256 .f32
  t : FVec Ideal S4096x1024 .f32
  gn : FVec Ideal S1x1024 .f32
  wg : FVec Ideal S1024x1024 .f32
  bg : FVec Ideal S1x1024 .f32
  wp : FVec Ideal S256x1024 .f32
  pg : FVec Ideal S1x1024 .f32
  fg : FVec Ideal S1x1024 .f32

variable (A : Args) (R : Fin 4096) (l : Fin 1024)

/-- The row of the hidden state, the vectors as rows. -/
abbrev hRow : Fin 1024 → EReal := fun k => A.h (ix2 R k)
abbrev vec (g : FVec Ideal S1x1024 .f32) : Fin 1024 → EReal := fun k => g (ix2 0 k)

/-- The forward pass: the normed row, the gate before its logistic, the embedding's product, the hidden state after it, the error. -/
def normedH : EReal := rms (hRow A R) (vec A.gn) l
def gatePre : EReal := (∑ k : Fin 1024, normedH A R k * A.wg (ix2 k l)) + A.bg (ix2 0 l)
def embPre : EReal := ∑ k : Fin 256, A.p (ix2 R k) * A.wp (ix2 k l)
def embN : EReal := rms (embPre A R) (vec A.pg) l
def out : EReal := A.h (ix2 R l) + Ideal.logistic (gatePre A R l) * embN A R l
def err : EReal := rms (out A R) (vec A.fg) l - A.t (ix2 R l)

/-- The backward pass: the gradients at the hidden state after the embedding, at the gate, at the embedding and at the norm's result. -/
def dOut : EReal := grad N1024 (out A R) (vec A.fg) (errGrad (err A R)) l
def dGate : EReal := dOut A R l * embN A R l * (Ideal.logistic (gatePre A R l) * (1 - Ideal.logistic (gatePre A R l)))
def dEmbN : EReal := Ideal.logistic (gatePre A R l) * dOut A R l
def dEmb : EReal := grad N1024 (embPre A R) (vec A.pg) (dEmbN A R) l
def dNormed : EReal := ∑ k : Fin 1024, dGate A R k * A.wg (ix2 l k)
def dhAt : EReal := dOut A R l + grad N1024 (hRow A R) (vec A.gn) (dNormed A R) l

/-- What a row adds to the five accumulated rows: the loss, and the gradients of the vectors. -/
def addends (q : Fin 5) : EReal :=
  ![lossOf (err A R), gradG N1024 (out A R) (errGrad (err A R)) l, gradG N1024 (embPre A R) (dEmbN A R) l, dGate A R l,
    gradG N1024 (hRow A R) (dNormed A R) l] q

end Cert.Tail

end
-- ==== Proof.Five.lean ====
/- An accumulator of eight rows to whose first five every point of a run adds a row: what the writes leave. -/
module

public import proofs.«01_k».proof.Proof.Quad

@[expose] public section

noncomputable section

namespace Cert.Corner

open Idealize.ShloMosaic

variable {W : ℕ} {sig : RefSig} {κ : Kind} {sp : Space} (v : View sig κ sp (⟨2, ![8, W]⟩ : Shape) .f32)
  (f : v.ty.Contents (Elt Ideal))
  (i0 : ∀ a : Fin 2, (![0, 0] : Fin 2 → ℕ) a + (![1, W] : Fin 2 → ℕ) a ≤ (![8, W] : Fin 2 → ℕ) a)
  (i1 : ∀ a : Fin 2, (![1, 0] : Fin 2 → ℕ) a + (![1, W] : Fin 2 → ℕ) a ≤ (![8, W] : Fin 2 → ℕ) a)
  (i2 : ∀ a : Fin 2, (![2, 0] : Fin 2 → ℕ) a + (![1, W] : Fin 2 → ℕ) a ≤ (![8, W] : Fin 2 → ℕ) a)
  (i3 : ∀ a : Fin 2, (![3, 0] : Fin 2 → ℕ) a + (![1, W] : Fin 2 → ℕ) a ≤ (![8, W] : Fin 2 → ℕ) a)
  (i8 : ∀ a : Fin 2, (![0, 0] : Fin 2 → ℕ) a + (![8, W] : Fin 2 → ℕ) a ≤ (![8, W] : Fin 2 → ℕ) a)
  (p0 p1 p2 p3 : (⟨2, ![1, W]⟩ : Shape).Idx → EReal) (z : (⟨2, ![8, W]⟩ : Shape).Idx → EReal)

/-- The accumulator that holds five rows at the top and zeros below. -/
def five (f : Fin 5 → Fin W → EReal) (y : (⟨2, ![8, W]⟩ : Shape).Idx) : EReal := if h : (y 0).val < 5 then f ⟨(y 0).val, h⟩ (y 1) else 0

theorem five_ld (f : Fin 5 → Fin W → EReal) (k : ℕ) (hk : k < 5)
    (inb : ∀ a : Fin 2, (![k, 0] : Fin 2 → ℕ) a + (![1, W] : Fin 2 → ℕ) a ≤ (![8, W] : Fin 2 → ℕ) a) (l : Fin W) :
    View.ld (Val := Elt Ideal) (S := ⟨2, ![8, W]⟩) (e' := .f32) (five f) (Rect.unit (s := ⟨2, ![8, W]⟩) ![k, 0] ![1, W] inb) (ix2 0 l) = f ⟨k, hk⟩ l :=
  (dif_pos (show k + 1 * 0 < 5 by omega)).trans
    (congrArg₂ f (Fin.ext (show k + 1 * 0 = k by omega)) (Fin.ext (show 0 + 1 * l.val = l.val by omega)))

/-- A fifth row over a choice of four. -/
theorem choose_five (p0 p1 p2 p3 p4 : Fin W → EReal) (y : (⟨2, ![8, W]⟩ : Shape).Idx) (z : EReal) (hz : 5 ≤ (y 0).val → z = 0) :
    (if (y 0).val = 4 then p4 (y 1) else if (y 0).val = 3 then p3 (y 1) else if (y 0).val = 2 then p2 (y 1) else if (y 0).val = 1 then p1 (y 1)
      else if (y 0).val = 0 then p0 (y 1) else z) = five ![p0, p1, p2, p3, p4] y := by
  unfold five
  rcases h : (y 0).val with _ | _ | _ | _ | _ | n
  iterate 5 rfl
  rw [if_neg (by omega), if_neg (by omega), if_neg (by omega), if_neg (by omega), if_neg (by omega), dif_neg (by omega)]
  exact hz (by omega)

variable (i4 : ∀ a : Fin 2, (![4, 0] : Fin 2 → ℕ) a + (![1, W] : Fin 2 → ℕ) a ≤ (![8, W] : Fin 2 → ℕ) a) (p4 : (⟨2, ![1, W]⟩ : Shape).Idx → EReal)

theorem stored_five (g : (⟨2, ![8, W]⟩ : Shape).Idx → EReal) (hL : v.read (Elt Ideal) f = g) (hg : ∀ y, 5 ≤ (y 0).val → g y = 0) :
    v.read (Elt Ideal) (v.writes (Elt Ideal) f [⟨Rect.unit (s := ⟨2, ![8, W]⟩) ![4, 0] ![1, W] i4, p4⟩, ⟨Rect.unit (s := ⟨2, ![8, W]⟩) ![3, 0] ![1, W] i3, p3⟩,
        ⟨Rect.unit (s := ⟨2, ![8, W]⟩) ![2, 0] ![1, W] i2, p2⟩, ⟨Rect.unit (s := ⟨2, ![8, W]⟩) ![1, 0] ![1, W] i1, p1⟩,
        ⟨Rect.unit (s := ⟨2, ![8, W]⟩) ![0, 0] ![1, W] i0, p0⟩])
      = five ![fun l => p0 (ix2 0 l), fun l => p1 (ix2 0 l), fun l => p2 (ix2 0 l), fun l => p3 (ix2 0 l), fun l => p4 (ix2 0 l)] := by
  funext y
  rw [read_row, read_row, read_row, read_row, read_row, View.writes_nil, hL]
  exact choose_five (fun l => p0 (ix2 0 l)) (fun l => p1 (ix2 0 l)) (fun l => p2 (ix2 0 l)) (fun l => p3 (ix2 0 l)) (fun l => p4 (ix2 0 l)) y _ (hg y)

include v in
theorem first_five (hz : ∀ i, z i = 0) :
    View.canon (Val := Elt Ideal) (e := .f32) [⟨Rect.unit (s := ⟨2, ![8, W]⟩) ![4, 0] ![1, W] i4, p4⟩, ⟨Rect.unit (s := ⟨2, ![8, W]⟩) ![3, 0] ![1, W] i3, p3⟩,
        ⟨Rect.unit (s := ⟨2, ![8, W]⟩) ![2, 0] ![1, W] i2, p2⟩, ⟨Rect.unit (s := ⟨2, ![8, W]⟩) ![1, 0] ![1, W] i1, p1⟩,
        ⟨Rect.unit (s := ⟨2, ![8, W]⟩) ![0, 0] ![1, W] i0, p0⟩, ⟨Rect.unit (s := ⟨2, ![8, W]⟩) ![0, 0] ![8, W] i8, z⟩]
      = five ![fun l => p0 (ix2 0 l), fun l => p1 (ix2 0 l), fun l => p2 (ix2 0 l), fun l => p3 (ix2 0 l), fun l => p4 (ix2 0 l)] := by
  funext y
  rw [canon_row v, canon_row v, canon_row v, canon_row v, canon_row v]
  exact choose_five (fun l => p0 (ix2 0 l)) (fun l => p1 (ix2 0 l)) (fun l => p2 (ix2 0 l)) (fun l => p3 (ix2 0 l)) (fun l => p4 (ix2 0 l)) y _
    fun _ => canon_zeros i8 z hz y

end Cert.Corner

end
-- ==== Proof.TailOuts.lean ====
/- What the points of the last call leave. -/
module

public import proofs.«01_k».proof.Proof.TailRows
public import proofs.«01_k».proof.Proof.Five
public import proofs.«01_k».proof.Proof.Gen.Kernel6Ideal.Value

@[expose] public section

set_option maxRecDepth 16384

noncomputable section

namespace Cert.Tail

open Cert.Kernel6Ideal Cert.Kernel6Ideal.Gen Idealize.ShloMosaic Idealize.ShloMosaic.TcCoe Idealize.SL.Sem Cert.Rows

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)

variable (m : (ℓ : Loc nD τ sig) → Buf (Elt Ideal) ℓ) (c : Dev nD)

/-- The arguments in a memory. -/
abbrev args : Args := ⟨m ((c : Thread nD τ).loc main_arg0), m ((c : Thread nD τ).loc main_arg1), m ((c : Thread nD τ).loc main_arg2),
  m ((c : Thread nD τ).loc main_arg3), m ((c : Thread nD τ).loc main_arg4), m ((c : Thread nD τ).loc main_arg5),
  m ((c : Thread nD τ).loc main_arg6), m ((c : Thread nD τ).loc main_arg7), m ((c : Thread nD τ).loc main_arg8)⟩

/-- Row `r` of the block of point `t`. -/
abbrev rowOf (t : Fin cfg0.N) (r : Fin 512) : Fin 4096 := ⟨512 * t.val + r.val, by have : t.val < 8 := t.isLt; omega⟩

variable (t : Fin cfg0.N) (r : Fin 512) (k : Fin 1024)

theorem blk0 : iblk (F := Ideal) m c 0 t (ix2 r k) = (args m c).h (ix2 (rowOf t r) k) := by
  blk_simp [iblk, V_main_arg0]
  refine congrArg (args m c).h ?_
  blk_ext [idx0 t]

theorem blk1 (k : Fin 256) : iblk (F := Ideal) m c 1 t (ix2 r k) = (args m c).p (ix2 (rowOf t r) k) := by
  blk_simp [iblk, V_main_arg1]
  refine congrArg (args m c).p ?_
  blk_ext [idx1 t]

theorem blk2 : iblk (F := Ideal) m c 2 t (ix2 r k) = (args m c).t (ix2 (rowOf t r) k) := by
  blk_simp [iblk, V_main_arg2]
  refine congrArg (args m c).t ?_
  blk_ext [idx2 t]

theorem blk3 : iblk (F := Ideal) m c 3 t (ix2 0 k) = (args m c).gn (ix2 0 k) := by
  blk_simp [iblk, V_main_arg3]
  refine congrArg (args m c).gn ?_
  blk_ext [idx3 t]

theorem blk4 (j : Fin 1024) : iblk (F := Ideal) m c 4 t (ix2 j k) = (args m c).wg (ix2 j k) := by
  blk_simp [iblk]
  entry_read
  refine congrArg (args m c).wg ?_
  blk_ext [idx4 t]

theorem blk5 : iblk (F := Ideal) m c 5 t (ix2 0 k) = (args m c).bg (ix2 0 k) := by
  blk_simp [iblk, V_main_arg5]
  refine congrArg (args m c).bg ?_
  blk_ext [idx5 t]

theorem blk6 (j : Fin 256) : iblk (F := Ideal) m c 6 t (ix2 j k) = (args m c).wp (ix2 j k) := by
  blk_simp [iblk]
  entry_read
  refine congrArg (args m c).wp ?_
  blk_ext [idx6 t]

theorem blk7 : iblk (F := Ideal) m c 7 t (ix2 0 k) = (args m c).pg (ix2 0 k) := by
  blk_simp [iblk, V_main_arg7]
  refine congrArg (args m c).pg ?_
  blk_ext [idx7 t]

theorem blk8 : iblk (F := Ideal) m c 8 t (ix2 0 k) = (args m c).fg (ix2 0 k) := by
  blk_simp [iblk, V_main_arg8]
  refine congrArg (args m c).fg ?_
  blk_ext [idx8 t]

/-- The arrays a point computes on its way, under the names of what they hold. -/
abbrev gB : FVec Ideal S512x1024 .f32 := k0_pay10 (F := Ideal) (iblk m c 0 t) (iblk m c 3 t) (iblk m c 4 t) (iblk m c 5 t)
abbrev eB : FVec Ideal S512x1024 .f32 := k0_pay11 (F := Ideal) (iblk m c 1 t) (iblk m c 6 t)
abbrev oB : FVec Ideal S512x1024 .f32 := k0_pay19 (F := Ideal) (iblk m c 0 t) (gB m c t) (eB m c t) (iblk m c 7 t)
abbrev errB : FVec Ideal S512x1024 .f32 := k0_pay24 (F := Ideal) (iblk m c 0 t) (iblk m c 2 t) (gB m c t) (eB m c t) (iblk m c 7 t) (iblk m c 8 t)
abbrev rB : FVec Ideal S512x1 .f32 := k0_pay21 (F := Ideal) (iblk m c 0 t) (gB m c t) (eB m c t) (iblk m c 7 t)
abbrev qB : FVec Ideal S512x1 .f32 := k0_pay22 (F := Ideal) (iblk m c 0 t) (gB m c t) (eB m c t) (iblk m c 7 t)
abbrev dOutB : FVec Ideal S512x1024 .f32 :=
  k0_pay28 (F := Ideal) (iblk m c 8 t) (oB m c t) (rB m c t) (qB m c t) (errB m c t) (Scalar.ofBits .f32 0x3F800000#32)
abbrev dMixB : FVec Ideal S512x1024 .f32 :=
  k0_pay30 (F := Ideal) (iblk m c 8 t) (k0_pay18 (eB m c t) (iblk m c 7 t)) (oB m c t) (rB m c t) (qB m c t) (errB m c t) (Scalar.ofBits .f32 0x3F800000#32)
abbrev dEmbB : FVec Ideal S512x1024 .f32 :=
  k0_pay35 (F := Ideal) (eB m c t)
    (k0_pay33 (iblk m c 7 t) (iblk m c 8 t) (k0_pay12 (gB m c t)) (k0_pay15 (eB m c t)) (oB m c t) (rB m c t) (qB m c t) (errB m c t) (Scalar.ofBits .f32 0x3F800000#32))
    (k0_pay34 (eB m c t) (iblk m c 7 t) (iblk m c 8 t) (k0_pay12 (gB m c t)) (k0_pay16 (eB m c t)) (oB m c t) (rB m c t) (qB m c t) (errB m c t) (Scalar.ofBits .f32 0x3F800000#32))

variable (l : Fin 1024)

theorem row0 : (fun k => iblk (F := Ideal) m c 0 t (ix2 r k)) = hRow (args m c) (rowOf t r) := funext fun k => blk0 m c t r k
theorem row3 : (fun k : Fin 1024 => iblk (F := Ideal) m c 3 t (ix2 0 k)) = vec (args m c).gn := funext fun k => blk3 m c t k
theorem row7 : (fun k : Fin 1024 => iblk (F := Ideal) m c 7 t (ix2 0 k)) = vec (args m c).pg := funext fun k => blk7 m c t k
theorem row8 : (fun k : Fin 1024 => iblk (F := Ideal) m c 8 t (ix2 0 k)) = vec (args m c).fg := funext fun k => blk8 m c t k

theorem normed_block : k0_pay8 (F := Ideal) (iblk m c 0 t) (iblk m c 3 t) (ix2 r l) = normedH (args m c) (rowOf t r) l := by
  rw [pay8_at, row0, row3]
  rfl

theorem gate_block : gB m c t (ix2 r l) = gatePre (args m c) (rowOf t r) l :=
  (pay10_at _ _ _ _ r l).trans (congrArg₂ (fun a b : EReal => a + b) (Finset.sum_congr rfl fun k _ =>
    congrArg₂ (fun a b : EReal => a * b) (normed_block m c t r k) (blk4 m c t l k)) (blk5 m c t l))

theorem emb_block : eB m c t (ix2 r l) = embPre (args m c) (rowOf t r) l :=
  (pay11_at _ _ r l).trans (Finset.sum_congr rfl fun k _ => congrArg₂ (fun a b : EReal => a * b) (blk1 m c t r k) (blk6 m c t l k))

theorem emb_row : (fun k => eB m c t (ix2 r k)) = embPre (args m c) (rowOf t r) := funext fun k => emb_block m c t r k

theorem embN_block : k0_pay18 (F := Ideal) (eB m c t) (iblk m c 7 t) (ix2 r l) = embN (args m c) (rowOf t r) l := by
  rw [pay18_at, emb_row, row7]
  rfl

theorem out_block : oB m c t (ix2 r l) = out (args m c) (rowOf t r) l :=
  (pay19_at _ _ _ _ r l).trans (congrArg₂ (fun a b : EReal => a + b) (blk0 m c t r l)
    (congrArg₂ (fun a b : EReal => Ideal.logistic a * b) (gate_block m c t r l) (embN_block m c t r l)))

theorem out_row : (fun k => oB m c t (ix2 r k)) = out (args m c) (rowOf t r) := funext fun k => out_block m c t r k

theorem err_block : errB m c t (ix2 r l) = err (args m c) (rowOf t r) l := by
  refine (pay24_at _ _ _ _ _ _ r l).trans ?_
  rw [out_row, row8, blk2]
  rfl

theorem err_row : (fun k => errB m c t (ix2 r k)) = err (args m c) (rowOf t r) := funext fun k => err_block m c t r k

theorem loss_block :
    k0_pay25 (F := Ideal) (iblk m c 0 t) (iblk m c 2 t) (gB m c t) (eB m c t) (iblk m c 7 t) (iblk m c 8 t) (ix2 r 0) = lossOf (err (args m c) (rowOf t r)) :=
  (pay25_at _ _ _ _ _ _ r).trans (congrArg lossOf (err_row m c t r))

theorem errGrad_row :
    (fun k => k0_pay26 (F := Ideal) (errB m c t) (Scalar.ofBits .f32 0x3F800000#32) (ix2 r k)) = errGrad (err (args m c) (rowOf t r)) :=
  funext fun k => (pay26_at _ r k).trans (congrArg (fun e => errGrad e k) (err_row m c t r))

theorem dfg_block :
    k0_pay27 (F := Ideal) (k0_pay23 (iblk m c 0 t) (gB m c t) (eB m c t) (iblk m c 7 t)) (errB m c t) (Scalar.ofBits .f32 0x3F800000#32) (ix2 0 l)
      = ∑ r, gradG N1024 (out (args m c) (rowOf t r)) (errGrad (err (args m c) (rowOf t r))) l := by
  rw [pay27_at]
  refine Finset.sum_congr rfl fun r _ => ?_
  rw [out_row, errGrad_row]

theorem dOut_block : dOutB m c t (ix2 r l) = dOut (args m c) (rowOf t r) l := by
  refine (pay28_at _ _ _ _ _ _ r l).trans ?_
  rw [out_row, row8, errGrad_row]
  rfl

theorem dEmbN_row : (fun k => Ideal.logistic (gB m c t (ix2 r k)) * dOutB m c t (ix2 r k)) = dEmbN (args m c) (rowOf t r) :=
  funext fun k => congrArg₂ (fun a b : EReal => Ideal.logistic a * b) (gate_block m c t r k) (dOut_block m c t r k)

theorem dpg_block :
    k0_pay31 (F := Ideal) (iblk m c 8 t) (k0_pay12 (gB m c t)) (k0_pay17 (eB m c t)) (oB m c t) (rB m c t) (qB m c t) (errB m c t)
        (Scalar.ofBits .f32 0x3F800000#32) (ix2 0 l)
      = ∑ r, gradG N1024 (embPre (args m c) (rowOf t r)) (dEmbN (args m c) (rowOf t r)) l := by
  rw [pay31_at]
  refine Finset.sum_congr rfl fun r _ => ?_
  rw [emb_row, dEmbN_row]

theorem dEmb_block : dEmbB m c t (ix2 r l) = dEmb (args m c) (rowOf t r) l := by
  refine (pay35_at _ _ _ _ _ _ _ _ _ r l).trans ?_
  rw [emb_row, row7, dEmbN_row]
  rfl

theorem dGate_block : k0_pay36 (F := Ideal) (k0_pay13 (gB m c t)) (dMixB m c t) (ix2 r l) = dGate (args m c) (rowOf t r) l := by
  exact (pay36_at _ _ r l).trans (congrArg₂ (fun a b : EReal => a * (Ideal.logistic b * (1 - Ideal.logistic b)))
    ((pay30_at _ _ _ _ _ _ _ r l).trans (congrArg₂ (fun a b : EReal => a * b) (dOut_block m c t r l) (embN_block m c t r l))) (gate_block m c t r l))

theorem dNormed_block :
    k0_pay38 (F := Ideal) (k0_pay13 (gB m c t)) (dMixB m c t) (iblk m c 4 t) (ix2 r l) = dNormed (args m c) (rowOf t r) l :=
  (pay38_at _ _ _ r l).trans (Finset.sum_congr rfl fun k _ => congrArg₂ (fun a b : EReal => a * b) (dGate_block m c t r k) (blk4 m c t k l))

theorem dNormed_row :
    (fun k => k0_pay38 (F := Ideal) (k0_pay13 (gB m c t)) (dMixB m c t) (iblk m c 4 t) (ix2 r k)) = dNormed (args m c) (rowOf t r) :=
  funext fun k => dNormed_block m c t r k

theorem dgn_block :
    k0_pay39 (F := Ideal) (k0_pay7 (iblk m c 0 t)) (k0_pay13 (gB m c t)) (dMixB m c t) (iblk m c 4 t) (ix2 0 l)
      = ∑ r, gradG N1024 (hRow (args m c) (rowOf t r)) (dNormed (args m c) (rowOf t r)) l := by
  rw [pay39_at]
  refine Finset.sum_congr rfl fun r _ => ?_
  rw [row0, dNormed_row]

theorem dh_block :
    k0_pay40 (F := Ideal) (iblk m c 0 t) (iblk m c 3 t) (k0_pay5 (iblk m c 0 t)) (k0_pay6 (iblk m c 0 t)) (k0_pay13 (gB m c t)) (dOutB m c t)
        (dMixB m c t) (iblk m c 4 t) (ix2 r l)
      = dhAt (args m c) (rowOf t r) l := by
  rw [pay40_at, row0, row3, dNormed_row, dOut_block]
  rfl

theorem dh_point : (outsAt0 m c t.val t.isLt).1 (ix2 r l) = dhAt (args m c) (rowOf t r) l := by
  by_cases h : t.val % 8 = 0
  · rw [outsAt0_A m c t h]
    frame_out
    exact dh_block m c t r l
  · rw [outsAt0_B m c t h]
    frame_out
    exact dh_block m c t r l

theorem dhb_point : (outsAt0 m c t.val t.isLt).2.1 (ix2 r l) = dhAt (args m c) (rowOf t r) l := by
  by_cases h : t.val % 8 = 0
  · rw [outsAt0_A m c t h]
    frame_out
    exact dh_block m c t r l
  · rw [outsAt0_B m c t h]
    frame_out
    exact dh_block m c t r l

end Cert.Tail

end
-- ==== Proof.TailAcc.lean ====
/- The accumulated arrays of the last call, and the arrays after the run. -/
module

public import proofs.«01_k».proof.Proof.TailOuts

@[expose] public section

set_option maxRecDepth 16384

noncomputable section

namespace Cert.Tail

open Cert.Kernel6Ideal Cert.Kernel6Ideal.Gen Idealize.ShloMosaic Idealize.ShloMosaic.TcCoe Idealize.SL.Sem Cert.Rows

variable (m : (ℓ : Loc nD τ sig) → Buf (Elt Ideal) ℓ) (c : Dev nD)

/-- What one block of rows adds to a sum over all rows. -/
def part (f : Fin 4096 → EReal) (n : ℕ) : EReal := if h : n < 8 then ∑ r : Fin 512, f ⟨512 * n + r.val, by omega⟩ else 0

theorem part_of (f : Fin 4096 → EReal) (t : Fin cfg0.N) : ∑ r : Fin 512, f (rowOf t r) = part f t.val := by
  have ht : t.val < 8 := t.isLt
  unfold part
  rw [dif_pos ht]

theorem parts (f : Fin 4096 → EReal) : ∑ k ∈ Finset.range 8, part f k = ∑ R, f R := by
  rw [← Fin.sum_univ_eq_sum_range (fun k => part f k)]
  refine Eq.trans (Finset.sum_congr rfl fun t _ => dif_pos t.isLt) (Fin.sum_mul_add_congr (n := 512) fun t r hl => ?_)
  exact congrArg f (Fin.ext (by show 512 * t.val + r.val = t.val * 512 + r.val; omega))

/-- A row's part of the gate's weights and of the embedding's. -/
def dwg (A : Args) (k l : Fin 1024) (R : Fin 4096) : EReal := normedH A R k * dGate A R l
def dwp (A : Args) (k : Fin 256) (l : Fin 1024) (R : Fin 4096) : EReal := A.p (ix2 R k) * dEmb A R l

theorem dwg_block (t : Fin cfg0.N) (k l : Fin 1024) :
    ∑ r : Fin 512, k0_pay8 (F := Ideal) (iblk m c 0 t) (iblk m c 3 t) (ix2 r k) * k0_pay36 (F := Ideal) (k0_pay13 (gB m c t)) (dMixB m c t) (ix2 r l)
      = part (dwg (args m c) k l) t.val :=
  (Finset.sum_congr rfl fun r _ => congrArg₂ (fun a b : EReal => a * b) (normed_block m c t r k) (dGate_block m c t r l)).trans
    (part_of (dwg (args m c) k l) t)

theorem dwp_block (t : Fin cfg0.N) (k : Fin 256) (l : Fin 1024) :
    (∑ r : Fin 512, (fun a b : EReal => a * b) (iblk (F := Ideal) m c 1 t (ix2 r k)) (dEmbB m c t (ix2 r l))) = part (dwp (args m c) k l) t.val :=
  (Finset.sum_congr rfl fun r _ => congrArg₂ (fun a b : EReal => a * b) (blk1 m c t r k) (dEmb_block m c t r l)).trans
    (part_of (dwp (args m c) k l) t)

theorem dwg_first (t : Fin cfg0.N) (h : t.val % 8 = 0) (k l : Fin 1024) :
    (outsAt0 m c t.val t.isLt).2.2.1 (ix2 k l) = 0 + part (dwg (args m c) k l) t.val := by
  rw [outsAt0_A m c t h]
  frame_out
  exact (pay42_at _ _ _ _ k l).trans (congrArg₂ (fun a b : EReal => a + b) (pay1_at _) (dwg_block m c t k l))

theorem dwg_next (t : Fin cfg0.N) (h : ¬ t.val % 8 = 0) (k l : Fin 1024) :
    (outsAt0 m c t.val t.isLt).2.2.1 (ix2 k l)
      = (outsAt0 m c (t.val - 1) (Nat.lt_of_le_of_lt (Nat.sub_le _ _) t.isLt)).2.2.1 (ix2 k l) + part (dwg (args m c) k l) t.val := by
  rw [outsAt0_B m c t h]
  frame_out
  exact (pay42_at _ _ _ _ k l).trans (congrArg₂ (fun a b : EReal => a + b) rfl (dwg_block m c t k l))

theorem dwp_first (t : Fin cfg0.N) (h : t.val % 8 = 0) (k : Fin 256) (l : Fin 1024) :
    (outsAt0 m c t.val t.isLt).2.2.2.1 (ix2 k l) = 0 + part (dwp (args m c) k l) t.val := by
  rw [outsAt0_A m c t h]
  frame_out
  exact (pay43_at _ _ _ k l).trans (congrArg₂ (fun a b : EReal => a + b) (pay2_at _) (dwp_block m c t k l))

theorem dwp_next (t : Fin cfg0.N) (h : ¬ t.val % 8 = 0) (k : Fin 256) (l : Fin 1024) :
    (outsAt0 m c t.val t.isLt).2.2.2.1 (ix2 k l)
      = (outsAt0 m c (t.val - 1) (Nat.lt_of_le_of_lt (Nat.sub_le _ _) t.isLt)).2.2.2.1 (ix2 k l) + part (dwp (args m c) k l) t.val := by
  rw [outsAt0_B m c t h]
  frame_out
  exact (pay43_at _ _ _ k l).trans (congrArg₂ (fun a b : EReal => a + b) rfl (dwp_block m c t k l))

theorem dwg_point (k l : Fin 1024) : ∀ (n : ℕ) (hn : n < cfg0.N),
    (outsAt0 m c n hn).2.2.1 (ix2 k l) = ∑ j ∈ Finset.range (n + 1), part (dwg (args m c) k l) j
  | 0, hn => (dwg_first m c ⟨0, hn⟩ rfl k l).trans (by simp)
  | n + 1, hn => by
    have h8 : n + 1 < 8 := hn
    rw [Finset.sum_range_succ _ (n + 1)]
    exact (dwg_next m c ⟨n + 1, hn⟩ (by show ¬ (n + 1) % 8 = 0; omega) k l).trans (congrArg (fun a => a + _) (dwg_point k l n _))

theorem dwp_point (k : Fin 256) (l : Fin 1024) : ∀ (n : ℕ) (hn : n < cfg0.N),
    (outsAt0 m c n hn).2.2.2.1 (ix2 k l) = ∑ j ∈ Finset.range (n + 1), part (dwp (args m c) k l) j
  | 0, hn => (dwp_first m c ⟨0, hn⟩ rfl k l).trans (by simp)
  | n + 1, hn => by
    have h8 : n + 1 < 8 := hn
    rw [Finset.sum_range_succ _ (n + 1)]
    exact (dwp_next m c ⟨n + 1, hn⟩ (by show ¬ (n + 1) % 8 = 0; omega) k l).trans (congrArg (fun a => a + _) (dwp_point k l n _))

theorem loss_part (t : Fin cfg0.N) (l : Fin 1024) :
    (∑ r : Fin 512, (k0_pay25 (F := Ideal) (iblk m c 0 t) (iblk m c 2 t) (gB m c t) (eB m c t) (iblk m c 7 t) (iblk m c 8 t) (ix2 r 0) : EReal) : EReal)
      = part (fun R => addends (args m c) R l 0) t.val :=
  (Finset.sum_congr rfl fun r _ => loss_block m c t r).trans (part_of (fun R => addends (args m c) R l 0) t)

theorem dbg_part (t : Fin cfg0.N) (l : Fin 1024) :
    (∑ r : Fin 512, (k0_pay36 (F := Ideal) (k0_pay13 (gB m c t)) (dMixB m c t) (ix2 r l) : EReal) : EReal)
      = part (fun R => addends (args m c) R l 3) t.val :=
  (Finset.sum_congr rfl fun r _ => dGate_block m c t r l).trans (part_of (fun R => addends (args m c) R l 3) t)

theorem acc_first (t : Fin cfg0.N) (h : t.val % 8 = 0) :
    (outsAt0 m c t.val t.isLt).2.2.2.2 = Corner.five fun q l => 0 + part (fun R => addends (args m c) R l q) t.val := by
  rw [outsAt0_A m c t h]
  frame_out
  refine (Corner.first_five (ms0_13 t).view _ _ _ _ _ _ _ _ _ _ _ _ pay3_at).trans (congrArg Corner.five (funext fun q => funext fun l => ?_))
  fin_cases q
  · refine (pay44_at _ _ l).trans (congrArg₂ (fun a b : EReal => a + b) (Corner.row_unmet _ 0 _ _ (fun y hy => ?_) l) (loss_part m c t l))
    exact Corner.canon_zeros _ _ pay3_at y
  · refine (pay45_at _ _ l).trans (congrArg₂ (fun a b : EReal => a + b) (Corner.row_unmet _ 1 _ _ (fun y hy => ?_) l)
      ((dfg_block m c t l).trans (part_of (fun R => addends (args m c) R l 1) t)))
    rw [Corner.canon_row (ms0_13 t).view, if_neg (by omega)]
    exact Corner.canon_zeros _ _ pay3_at y
  · refine (pay46_at _ _ l).trans (congrArg₂ (fun a b : EReal => a + b) (Corner.row_unmet _ 2 _ _ (fun y hy => ?_) l)
      ((dpg_block m c t l).trans (part_of (fun R => addends (args m c) R l 2) t)))
    rw [Corner.canon_row (ms0_13 t).view, if_neg (by omega), Corner.canon_row (ms0_13 t).view, if_neg (by omega)]
    exact Corner.canon_zeros _ _ pay3_at y
  · refine (pay47_at _ _ l).trans (congrArg₂ (fun a b : EReal => a + b) (Corner.row_unmet _ 3 _ _ (fun y hy => ?_) l) (dbg_part m c t l))
    rw [Corner.canon_row (ms0_13 t).view, if_neg (by omega), Corner.canon_row (ms0_13 t).view, if_neg (by omega),
      Corner.canon_row (ms0_13 t).view, if_neg (by omega)]
    exact Corner.canon_zeros _ _ pay3_at y
  · refine (pay48_at _ _ l).trans (congrArg₂ (fun a b : EReal => a + b) (Corner.row_unmet _ 4 _ _ (fun y hy => ?_) l)
      ((dgn_block m c t l).trans (part_of (fun R => addends (args m c) R l 4) t)))
    rw [Corner.canon_row (ms0_13 t).view, if_neg (by omega), Corner.canon_row (ms0_13 t).view, if_neg (by omega),
      Corner.canon_row (ms0_13 t).view, if_neg (by omega), Corner.canon_row (ms0_13 t).view, if_neg (by omega)]
    exact Corner.canon_zeros _ _ pay3_at y

theorem acc_next (t : Fin cfg0.N) (h : ¬ t.val % 8 = 0) (f : Fin 5 → Fin 1024 → EReal)
    (hp : (outsAt0 m c (t.val - 1) (Nat.lt_of_le_of_lt (Nat.sub_le _ _) t.isLt)).2.2.2.2 = Corner.five f) :
    (outsAt0 m c t.val t.isLt).2.2.2.2 = Corner.five fun q l => f q l + part (fun R => addends (args m c) R l q) t.val := by
  rw [outsAt0_B m c t h]
  frame_out
  rw [hp]
  refine (Corner.stored_five (ms0_13 t).view _ _ _ _ _ _ _ _ _ _ _ (Corner.five f) (Memref.IsWhole.read_unread _ _) fun y hy => dif_neg (by omega)).trans
    (congrArg Corner.five (funext fun q => funext fun l => ?_))
  fin_cases q
  · exact (pay44_at _ _ l).trans (congrArg₂ (fun a b : EReal => a + b) (Corner.five_ld f 0 (by omega) _ l) (loss_part m c t l))
  · exact (pay45_at _ _ l).trans (congrArg₂ (fun a b : EReal => a + b) (Corner.five_ld f 1 (by omega) _ l)
      ((dfg_block m c t l).trans (part_of (fun R => addends (args m c) R l 1) t)))
  · exact (pay46_at _ _ l).trans (congrArg₂ (fun a b : EReal => a + b) (Corner.five_ld f 2 (by omega) _ l)
      ((dpg_block m c t l).trans (part_of (fun R => addends (args m c) R l 2) t)))
  · exact (pay47_at _ _ l).trans (congrArg₂ (fun a b : EReal => a + b) (Corner.five_ld f 3 (by omega) _ l) (dbg_part m c t l))
  · exact (pay48_at _ _ l).trans (congrArg₂ (fun a b : EReal => a + b) (Corner.five_ld f 4 (by omega) _ l)
      ((dgn_block m c t l).trans (part_of (fun R => addends (args m c) R l 4) t)))

theorem acc_point : ∀ (n : ℕ) (hn : n < cfg0.N),
    (outsAt0 m c n hn).2.2.2.2 = Corner.five fun q l => ∑ k ∈ Finset.range (n + 1), part (fun R => addends (args m c) R l q) k
  | 0, hn => (acc_first m c ⟨0, hn⟩ rfl).trans (congrArg Corner.five (funext fun q => funext fun l => by simp))
  | n + 1, hn => by
    have h8 : n + 1 < 8 := hn
    refine (acc_next m c ⟨n + 1, hn⟩ (by show ¬ (n + 1) % 8 = 0; omega) _ (acc_point n _)).trans
      (congrArg Corner.five (funext fun q => funext fun l => ?_))
    rw [Finset.sum_range_succ _ (n + 1)]

/-- The accumulated rows after the run. -/
theorem final13 : (dats m 0 c).arrAt 13 cfg0.N = Corner.five fun q l => ∑ R, addends (args m c) R l q := by
  refine (dats m 0 c).arrAt_eq_of_after_last 13 t0_7 (by decide +kernel) _ fun j => ?_
  rw [after0_13]
  refine (congrFun ((acc_point m c 7 t0_7.isLt).trans (congrArg Corner.five (funext fun q => funext fun l =>
    parts fun R => addends (args m c) R l q))) _).trans (congrArg (Corner.five _) (funext fun a => Fin.ext ?_))
  fin_cases a <;> rfl

theorem final11 : (dats m 0 c).arrAt 11 cfg0.N = (fun y : S1024x1024.Idx => ∑ R, dwg (args m c) (y 0) (y 1) R) := by
  refine (dats m 0 c).arrAt_eq_of_after_last 11 t0_7 (by decide +kernel) _ fun j => ?_
  rw [after0_11]
  exact (congrArg (outsAt0 m c 7 t0_7.isLt).2.2.1 (funext fun a => Fin.ext (by fin_cases a <;> rfl))).trans
    ((dwg_point m c (j 0) (j 1) 7 t0_7.isLt).trans (parts _))

theorem final12 : (dats m 0 c).arrAt 12 cfg0.N = (fun y : S256x1024.Idx => ∑ R, dwp (args m c) (y 0) (y 1) R) := by
  refine (dats m 0 c).arrAt_eq_of_after_last 12 t0_7 (by decide +kernel) _ fun j => ?_
  rw [after0_12]
  exact (congrArg (outsAt0 m c 7 t0_7.isLt).2.2.2.1 (funext fun a => Fin.ext (by fin_cases a <;> rfl))).trans
    ((dwp_point m c (j 0) (j 1) 7 t0_7.isLt).trans (parts _))

theorem final9 : (dats m 0 c).arrAt 9 cfg0.N = (fun y : S4096x1024.Idx => dhAt (args m c) (y 0) (y 1)) := by
  refine (dats m 0 c).arrAt_eq_of_covers 9 _ (by decide +kernel) fun t hf y => ?_
  have h0 : (win0_9.blk t).view.emb y 0 = rowOf t (y 0) := Fin.ext (by
    show ((win0_9.blk t).view.emb y 0).val = 512 * t.val + (y 0).val
    blk_simp [idx9 t]
    omega)
  have h1 : (win0_9.blk t).view.emb y 1 = y 1 := Fin.ext (by blk_simp [idx9 t])
  rw [after0_9]
  refine Eq.trans ?_ ((dh_point m c t (y 0) (y 1)).trans (congrArg₂ (dhAt (args m c)) h0 h1).symm)
  exact congrArg (outsAt0 m c t.val t.isLt).1 (funext fun a => by fin_cases a <;> rfl)

theorem final10 : (dats m 0 c).arrAt 10 cfg0.N = (fun y : S4096x1024.Idx => dhAt (args m c) (y 0) (y 1)) := by
  refine (dats m 0 c).arrAt_eq_of_covers 10 _ (by decide +kernel) fun t hf y => ?_
  have h0 : (win0_10.blk t).view.emb y 0 = rowOf t (y 0) := Fin.ext (by
    show ((win0_10.blk t).view.emb y 0).val = 512 * t.val + (y 0).val
    blk_simp [idx10 t]
    omega)
  have h1 : (win0_10.blk t).view.emb y 1 = y 1 := Fin.ext (by blk_simp [idx10 t])
  rw [after0_10]
  refine Eq.trans ?_ ((dhb_point m c t (y 0) (y 1)).trans (congrArg₂ (dhAt (args m c)) h0 h1).symm)
  exact congrArg (outsAt0 m c t.val t.isLt).2.1 (funext fun a => by fin_cases a <;> rfl)

end Cert.Tail

end
-- ==== Proof.TailRef.lean ====
/- The reference's loss and its gradients, at an index. -/
module

public import proofs.«01_k».proof.Proof.TailRows
public import proofs.«01_k».proof.Proof.Five
public import proofs.«01_k».proof.Proof.Consts
public import proofs.«01_k».proof.Proof.Gen.Reference6Ideal.Read

@[expose] public section

set_option maxRecDepth 16384

noncomputable section

namespace Cert.Tail.Ref

open Cert.Reference6Ideal Cert.Reference6Ideal.Gen Cert.Reference6Ideal.Read Idealize.ShloMosaic Idealize.SL.Sem Cert.Rows

variable (A : Args) (R : Fin 4096) (l : Fin 1024)

theorem normed_ref : val_main_v14 (F := Ideal) A.h A.gn (ix2 R l) = normedH A R l := by
  unfold normedH rms scale meanSq N1024
  pointwise [val_main_v14, val_main_v13, val_main_v12, val_main_v11, val_main_v7, val_main_v6, val_main_v5, val_main_v4, val_main_v3, val_main_v2, val_main_v1, val_main_v0,
    val_main_cst, val_main_cst_0, val_main_cst_1]

theorem gatePre_ref : val_main_v17 (F := Ideal) A.h A.gn A.wg A.bg (ix2 R l) = gatePre A R l := by
  unfold gatePre
  pointwise [val_main_v17, val_main_v16, val_main_v15]
  simp only [normed_ref]

theorem sig_ref : val_main_v23 (F := Ideal) A.h A.gn A.wg A.bg (ix2 R l) = Ideal.logistic (gatePre A R l) := by
  pointwise [val_main_v23, val_main_v22, val_main_v21, val_main_v20, val_main_v19, val_main_v18, val_main_cst_3, val_main_cst_4]
  rw [gatePre_ref]
  rfl

theorem embPre_ref : val_main_v27 (F := Ideal) A.p A.wp (ix2 R l) = embPre A R l := by
  unfold embPre
  pointwise [val_main_v27]

theorem embN_ref : val_main_v42 (F := Ideal) A.p A.wp A.pg (ix2 R l) = embN A R l := by
  unfold embN rms scale meanSq N1024
  pointwise [val_main_v42, val_main_v41, val_main_v40, val_main_v39, val_main_v35, val_main_v34, val_main_v33, val_main_v32, val_main_v31, val_main_v30, val_main_v29, val_main_v28,
    val_main_cst_6, val_main_cst_7, val_main_cst_8]
  simp only [embPre_ref]

theorem out_ref : val_main_v44 (F := Ideal) A.h A.p A.gn A.wg A.bg A.wp A.pg (ix2 R l) = out A R l := by
  unfold out
  pointwise [val_main_v44, val_main_v43]
  rw [sig_ref, embN_ref]

theorem scaled_ref : val_main_v57 (F := Ideal) A.h A.p A.gn A.wg A.bg A.wp A.pg (ix2 R l) = out A R l * scale N1024 (out A R) := by
  unfold scale meanSq N1024
  pointwise [val_main_v57, val_main_v56, val_main_v52, val_main_v51, val_main_v50, val_main_v49, val_main_v48, val_main_v47, val_main_v46, val_main_v45,
    val_main_cst_10, val_main_cst_11, val_main_cst_12]
  simp only [out_ref]

theorem err_ref : val_main_v60 (F := Ideal) A.h A.p A.t A.gn A.wg A.bg A.wp A.pg A.fg (ix2 R l) = err A R l := by
  unfold err rms
  pointwise [val_main_v60, val_main_v59, val_main_v58]
  rw [scaled_ref]

theorem seed_real : ∃ s : ℝ, 0 ≤ s ∧ seed = (s : EReal) := by
  unfold seed N1024
  rw [Consts.half, Consts.width, Ideal.div_coe (by norm_num : (1024 : ℝ) ≠ 0)]
  exact ⟨1 / 2 * (1 / 1024), by norm_num, (EReal.coe_mul _ _).symm⟩

theorem errGrad_ref : val_main_v74 (F := Ideal) A.h A.p A.t A.gn A.wg A.bg A.wp A.pg A.fg (ix2 R l) = errGrad (err A R) l := by
  have e : seed * (Ideal.ofBits FTy.f32 0x40000000#32 * err A R l) = errGrad (err A R) l := by
    unfold errGrad
    obtain ⟨s, hs, e⟩ := seed_real
    rw [e, Consts.two, Consts.two_mul, EReal.left_distrib_of_nonneg_of_ne_top (EReal.coe_nonneg.mpr hs) (EReal.coe_ne_top s), mul_comm (s : EReal)]
  rw [← e]
  unfold seed N1024
  pointwise [val_main_v74, val_main_v73, val_main_v72, val_main_v71, val_main_v70, val_main_v69, val_main_v63, val_main_v62, val_main_cst_14, val_main_cst_19,
    val_main_cst_20, val_main_cst_21]
  rw [err_ref]

theorem loss_ref : val_main_v143 (F := Ideal) A.h A.p A.t A.gn A.wg A.bg A.wp A.pg A.fg (ix2 0 l) = ∑ R, lossOf (err A R) := by
  unfold lossOf N1024
  pointwise [val_main_v143, val_main_v68, val_main_v67, val_main_v66, val_main_v65, val_main_v64, val_main_v61, val_main_cst_15, val_main_cst_16, val_main_cst_17, val_main_cst_18]
  simp only [err_ref]
  rw [Consts.half, Consts.mul_sum _ _ _ (by norm_num)]

theorem dOut_ref : val_main_v93 (F := Ideal) A.h A.p A.t A.gn A.wg A.bg A.wp A.pg A.fg (ix2 R l) = dOut A R l := by
  unfold dOut grad toSquares scale meanSq N1024
  pointwise [val_main_v93, val_main_v92, val_main_v91, val_main_v90, val_main_v89, val_main_v88, val_main_v87, val_main_v86, val_main_v85, val_main_v84, val_main_v83, val_main_v82, val_main_v81, val_main_v80, val_main_v79, val_main_v78,
    val_main_v55, val_main_v54, val_main_v53, val_main_v52, val_main_v51, val_main_v50, val_main_v49, val_main_v48, val_main_v47, val_main_v46, val_main_v45,
    val_main_cst_10, val_main_cst_11, val_main_cst_12, val_main_cst_13, val_main_cst_23, val_main_cst_24, val_main_cst_25]
  simp only [Fin.sum_univ_one, out_ref, errGrad_ref]

theorem dEmbN_ref : val_main_v94 (F := Ideal) A.h A.p A.t A.gn A.wg A.bg A.wp A.pg A.fg (ix2 R l) = dEmbN A R l := by
  unfold dEmbN
  pointwise [val_main_v94]
  rw [sig_ref, dOut_ref]

theorem dGate_ref : val_main_v117 (F := Ideal) A.h A.p A.t A.gn A.wg A.bg A.wp A.pg A.fg (ix2 R l) = dGate A R l := by
  unfold dGate
  pointwise [val_main_v117, val_main_v95, val_main_v26, val_main_v25, val_main_v24, val_main_cst_5]
  rw [sig_ref, dOut_ref, embN_ref]

theorem dEmb_ref : val_main_v114 (F := Ideal) A.h A.p A.t A.gn A.wg A.bg A.wp A.pg A.fg (ix2 R l) = dEmb A R l := by
  unfold dEmb grad toSquares scale meanSq N1024
  pointwise [val_main_v114, val_main_v113, val_main_v112, val_main_v111, val_main_v110, val_main_v109, val_main_v108, val_main_v107, val_main_v106, val_main_v105, val_main_v104, val_main_v103, val_main_v102, val_main_v101, val_main_v100, val_main_v99,
    val_main_v38, val_main_v37, val_main_v36, val_main_v35, val_main_v34, val_main_v33, val_main_v32, val_main_v31, val_main_v30, val_main_v29, val_main_v28,
    val_main_cst_6, val_main_cst_7, val_main_cst_8, val_main_cst_9, val_main_cst_27, val_main_cst_28, val_main_cst_29]
  simp only [Fin.sum_univ_one, embPre_ref, dEmbN_ref]

theorem dNormed_ref : val_main_v122 (F := Ideal) A.h A.p A.t A.gn A.wg A.bg A.wp A.pg A.fg (ix2 R l) = dNormed A R l := by
  unfold dNormed
  pointwise [val_main_v122]
  simp only [dGate_ref]

theorem dh_ref : val_main_v142 (F := Ideal) A.h A.p A.t A.gn A.wg A.bg A.wp A.pg A.fg (ix2 R l) = dhAt A R l := by
  unfold dhAt grad toSquares scale meanSq N1024
  pointwise [val_main_v142, val_main_v141, val_main_v140, val_main_v139, val_main_v138, val_main_v137, val_main_v136, val_main_v135, val_main_v134, val_main_v133, val_main_v132, val_main_v131, val_main_v130, val_main_v129, val_main_v128, val_main_v127, val_main_v126,
    val_main_v10, val_main_v9, val_main_v8, val_main_v7, val_main_v6, val_main_v5, val_main_v4, val_main_v3, val_main_v2, val_main_v1, val_main_v0,
    val_main_cst, val_main_cst_0, val_main_cst_1, val_main_cst_2, val_main_cst_32, val_main_cst_33, val_main_cst_34]
  simp only [Fin.sum_univ_one, dOut_ref, dNormed_ref]
  simp only [add_assoc]

theorem dhb_ref : val_main_v146 (F := Ideal) A.h A.p A.t A.gn A.wg A.bg A.wp A.pg A.fg (ix2 R l) = dhAt A R l := by
  pointwise [val_main_v146]
  exact dh_ref A R l

theorem dwg_ref (k : Fin 1024) :
    val_main_v121 (F := Ideal) A.h A.p A.t A.gn A.wg A.bg A.wp A.pg A.fg (ix2 k l) = ∑ R, normedH A R k * dGate A R l := by
  pointwise [val_main_v121, val_main_v120]
  simp only [dGate_ref, normed_ref]
  exact Finset.sum_congr rfl fun R _ => mul_comm _ _

theorem dwp_ref (k : Fin 256) :
    val_main_v116 (F := Ideal) A.h A.p A.t A.gn A.wg A.bg A.wp A.pg A.fg (ix2 k l) = ∑ R, (fun a b : EReal => a * b) (A.p (ix2 R k)) (dEmb A R l) := by
  pointwise [val_main_v116, val_main_v115]
  simp only [dEmb_ref]
  exact Finset.sum_congr rfl fun R _ => mul_comm _ _

theorem dfg_ref : val_main_v77 (F := Ideal) A.h A.p A.t A.gn A.wg A.bg A.wp A.pg A.fg (ix2 0 l) = ∑ R, gradG N1024 (out A R) (errGrad (err A R)) l := by
  unfold gradG
  pointwise [val_main_v77, val_main_v76, val_main_v75, val_main_cst_22]
  simp only [scaled_ref, errGrad_ref]

theorem dpg_ref : val_main_v98 (F := Ideal) A.h A.p A.t A.gn A.wg A.bg A.wp A.pg A.fg (ix2 0 l) = ∑ R, gradG N1024 (embPre A R) (dEmbN A R) l := by
  unfold gradG scale meanSq N1024
  pointwise [val_main_v98, val_main_v97, val_main_v96, val_main_v40, val_main_v39, val_main_v35, val_main_v34, val_main_v33, val_main_v32, val_main_v31, val_main_v30, val_main_v29, val_main_v28,
    val_main_cst_6, val_main_cst_7, val_main_cst_8, val_main_cst_26]
  simp only [embPre_ref, dEmbN_ref]

theorem dbg_ref : val_main_v119 (F := Ideal) A.h A.p A.t A.gn A.wg A.bg A.wp A.pg A.fg (ix2 0 l) = ∑ R, dGate A R l := by
  pointwise [val_main_v119, val_main_v118, val_main_cst_30]
  simp only [dGate_ref]

theorem dgn_ref : val_main_v125 (F := Ideal) A.h A.p A.t A.gn A.wg A.bg A.wp A.pg A.fg (ix2 0 l) = ∑ R, gradG N1024 (hRow A R) (dNormed A R) l := by
  unfold gradG scale meanSq N1024
  pointwise [val_main_v125, val_main_v124, val_main_v123, val_main_v12, val_main_v11, val_main_v7, val_main_v6, val_main_v5, val_main_v4, val_main_v3, val_main_v2, val_main_v1, val_main_v0,
    val_main_cst, val_main_cst_0, val_main_cst_1, val_main_cst_31]
  simp only [dNormed_ref]

theorem acc_ref (y : S8x1024.Idx) :
    val_main_v145 (F := Ideal) A.h A.p A.t A.gn A.wg A.bg A.wp A.pg A.fg y = Corner.five (fun q l => ∑ R, addends A R l q) y := by
  unfold Corner.five addends
  pointwise [val_main_v145, val_main_v144, val_main_cst_35]
  generalize y 0 = q, y 1 = l
  rcases q with ⟨_ | _ | _ | _ | _ | n, hq⟩
  · exact loss_ref A l
  · exact dfg_ref A l
  · exact dpg_ref A l
  · exact dbg_ref A l
  · exact dgn_ref A l
  · rw [dif_neg, dif_neg, dif_neg, dif_neg, dif_neg, dif_neg] <;> dsimp only <;> omega

end Cert.Tail.Ref

end
-- ==== Proof.Tail.lean ====
/- The value claim of the last call: the loss and its gradients are the reference's. -/
module

public import proofs.«01_k».proof.Defs
public import proofs.«01_k».proof.Proof.Gen.Reference6Ideal.Run
public import proofs.«01_k».proof.Proof.TailAcc
public import proofs.«01_k».proof.Proof.TailRef

@[expose] public section

noncomputable section

namespace Cert.Tail

open Idealize.ShloMosaic Idealize.ShloMosaic.TcCoe Idealize.SL.Sem

theorem algebraic : Cert.algebraic_Kernel6Ideal_Reference6Ideal (hKernel6Ideal := Cert.Kernel6Ideal.Gen.facts)
    (hReference6Ideal := Cert.Reference6Ideal.Gen.facts) := by
  intro m ρ m' ρ' _ hag
  refine ⟨fun c => (Cert.Kernel6Ideal.Gen.dats m 0 c).arrAt 9 Cert.Kernel6Ideal.cfg0.N,
    fun c => (Cert.Kernel6Ideal.Gen.dats m 0 c).arrAt 10 Cert.Kernel6Ideal.cfg0.N,
    fun c => (Cert.Kernel6Ideal.Gen.dats m 0 c).arrAt 11 Cert.Kernel6Ideal.cfg0.N,
    fun c => (Cert.Kernel6Ideal.Gen.dats m 0 c).arrAt 12 Cert.Kernel6Ideal.cfg0.N,
    fun c => (Cert.Kernel6Ideal.Gen.dats m 0 c).arrAt 13 Cert.Kernel6Ideal.cfg0.N, Cert.Kernel6Ideal.Value.run_blocks m ρ,
    (θ_run _ _ _).mono (fun _ h c => ⟨(h c).1.trans ?_, (h c).2.1.trans ?_, (h c).2.2.1.trans ?_, (h c).2.2.2.1.trans ?_, (h c).2.2.2.2.1.trans ?_,
      (h c).2.2.2.2.2⟩) (Cert.Reference6Ideal.Value.run m' ρ')⟩
  all_goals
    obtain ⟨a0, a1, a2, a3, a4, a5, a6, a7, a8⟩ := hag c
    have e0 : StableHlo.launchContents m' c (Proc.devRef .tc Cert.Reference6Ideal.main_arg0) = (args m c).h := a0
    have e1 : StableHlo.launchContents m' c (Proc.devRef .tc Cert.Reference6Ideal.main_arg1) = (args m c).p := a1
    have e2 : StableHlo.launchContents m' c (Proc.devRef .tc Cert.Reference6Ideal.main_arg2) = (args m c).t := a2
    have e3 : StableHlo.launchContents m' c (Proc.devRef .tc Cert.Reference6Ideal.main_arg3) = (args m c).gn := a3
    have e4 : StableHlo.launchContents m' c (Proc.devRef .tc Cert.Reference6Ideal.main_arg4) = (args m c).wg := a4
    have e5 : StableHlo.launchContents m' c (Proc.devRef .tc Cert.Reference6Ideal.main_arg5) = (args m c).bg := a5
    have e6 : StableHlo.launchContents m' c (Proc.devRef .tc Cert.Reference6Ideal.main_arg6) = (args m c).wp := a6
    have e7 : StableHlo.launchContents m' c (Proc.devRef .tc Cert.Reference6Ideal.main_arg7) = (args m c).pg := a7
    have e8 : StableHlo.launchContents m' c (Proc.devRef .tc Cert.Reference6Ideal.main_arg8) = (args m c).fg := a8
  · refine (Cert.Reference6Ideal.Read.val_main_v142_eq _).trans (Eq.trans ?_ (final9 m c).symm)
    rw [e0, e1, e2, e3, e4, e5, e6, e7, e8]
    exact funext fun y => (congrArg _ (funext fun a => by fin_cases a <;> rfl)).trans (Ref.dh_ref (args m c) (y 0) (y 1))
  · refine (Cert.Reference6Ideal.Read.val_main_v146_eq _).trans (Eq.trans ?_ (final10 m c).symm)
    rw [e0, e1, e2, e3, e4, e5, e6, e7, e8]
    exact funext fun y => (congrArg _ (funext fun a => by fin_cases a <;> rfl)).trans (Ref.dhb_ref (args m c) (y 0) (y 1))
  · refine (Cert.Reference6Ideal.Read.val_main_v121_eq _).trans (Eq.trans ?_ (final11 m c).symm)
    rw [e0, e1, e2, e3, e4, e5, e6, e7, e8]
    exact funext fun y => (congrArg _ (funext fun a => by fin_cases a <;> rfl)).trans (Ref.dwg_ref (args m c) (y 1) (y 0))
  · refine (Cert.Reference6Ideal.Read.val_main_v116_eq _).trans (Eq.trans ?_ (final12 m c).symm)
    rw [e0, e1, e2, e3, e4, e5, e6, e7, e8]
    exact funext fun y => (congrArg _ (funext fun a => by fin_cases a <;> rfl)).trans (Ref.dwp_ref (args m c) (y 1) (y 0))
  · refine (Cert.Reference6Ideal.Read.val_main_v145_eq _).trans (Eq.trans ?_ (final13 m c).symm)
    rw [e0, e1, e2, e3, e4, e5, e6, e7, e8]
    exact funext fun y => Ref.acc_ref (args m c) y

end Cert.Tail

end
-- ==== Proof.FwdRows.lean ====
/- The norm of a row, as both programs of the forward calls compute it. -/
module

public import proofs.«01_k».proof.Proof.Rows

@[expose] public section

noncomputable section

namespace Cert.Rows

open Idealize.ShloMosaic

/-- A row scaled with the inverse root of its mean square, times the weights. -/
def rms {n : ℕ} (N : EReal) (x g : Fin n → EReal) (l : Fin n) : EReal := x l * scale N x * g l

end Cert.Rows

end
-- ==== Proof.InpOuts.lean ====
/- What the points of the input projection leave: the first norm's result and its five products. -/
module

public import proofs.«01_k».proof.Proof.FwdRows
public import proofs.«01_k».proof.Proof.Corner
public import proofs.«01_k».proof.Proof.Gen.Kernel8Ideal.Value
public import Idealize.ShloMosaic.Lib.KernelVsHost

@[expose] public section

set_option maxRecDepth 16384

noncomputable section

namespace Cert.Inp

open Cert.Kernel8Ideal Cert.Kernel8Ideal.Gen Idealize.ShloMosaic Idealize.ShloMosaic.TcCoe Idealize.SL.Sem Cert.Rows

section Point

variable (x : FVec Ideal S512x1024 .f32) (g : FVec Ideal S1x1024 .f32) (r : Fin 512)

theorem pay3_at (l : Fin 1024) : k0_pay3 (F := Ideal) x g (ix2 r l) = rms N1024 (fun k => x (ix2 r k)) (fun k => g (ix2 0 k)) l := by
  unfold rms scale meanSq
  pointwise [k0_pay3]

theorem pay4_at (w : FVec Ideal S1024x1024 .bf16) (l : Fin 1024) :
    k0_pay4 (F := Ideal) x g w (ix2 r l) = ∑ k, k0_pay3 (F := Ideal) x g (ix2 r k) * w (ix2 l k) := by
  pointwise [k0_pay4]

theorem pay5_at (w : FVec Ideal S1536x1024 .bf16) (l : Fin 1536) :
    k0_pay5 (F := Ideal) x g w (ix2 r l) = ∑ k, k0_pay3 (F := Ideal) x g (ix2 r k) * w (ix2 l k) := by
  pointwise [k0_pay5]

theorem pay6_at (w : FVec Ideal S16x1024 .bf16) (l : Fin 16) :
    k0_pay6 (F := Ideal) x g w (ix2 r l) = ∑ k, k0_pay3 (F := Ideal) x g (ix2 r k) * w (ix2 l k) := by
  pointwise [k0_pay6]

theorem pay1_at (u : FVec Ideal S512x1024 .bf16) (w : FVec Ideal S1024x1024 .bf16) (l : Fin 1024) :
    k0_pay1 (F := Ideal) u w (ix2 r l) = ∑ k, u (ix2 r k) * w (ix2 l k) := by
  pointwise [k0_pay1]

theorem pay2_at (u : FVec Ideal S512x1024 .bf16) (w : FVec Ideal S1024x1024 .bf16) (l : Fin 1024) :
    k0_pay2 (F := Ideal) u w (ix2 r l) = ∑ k, u (ix2 r k) * w (ix2 l k) := by
  pointwise [k0_pay2]

end Point

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

section Values

variable (X : FVec Ideal S4096x1024 .f32) (G : FVec Ideal S1x1024 .f32) (W : FVec Ideal S1024x4624 .f32)

/-- The norm's result, and one entry of its product with the weights. -/
def unitAt (R : Fin 4096) (l : Fin 1024) : EReal := rms N1024 (fun k => X (ix2 R k)) (fun k => G (ix2 0 k)) l

def projAt (R : Fin 4096) (j : Fin 4624) : EReal := ∑ k : Fin 1024, unitAt X G R k * W (ix2 k j)

end Values

variable (m : (ℓ : Loc nD τ sig) → Buf (Elt Ideal) ℓ) (c : Dev nD)

abbrev argX : FVec Ideal S4096x1024 .f32 := m ((c : Thread nD τ).loc main_arg0)
abbrev argG : FVec Ideal S1x1024 .f32 := m ((c : Thread nD τ).loc main_arg1)
abbrev argW : FVec Ideal S1024x4624 .f32 := m ((c : Thread nD τ).loc main_arg2)

/-- Row `r` of the block of point `t`. -/
abbrev rowOf (t : Fin cfg0.N) (r : Fin 512) : Fin 4096 := ⟨512 * t.val + r.val, by have : t.val < 8 := t.isLt; omega⟩

theorem blk0 (t : Fin cfg0.N) (r : Fin 512) (k : Fin 1024) : iblk (F := Ideal) m c 0 t (ix2 r k) = argX m c (ix2 (rowOf t r) k) := by
  blk_simp [iblk, V_main_arg0]
  refine congrArg (argX m c) ?_
  blk_ext [idx0 t]

theorem blk1 (t : Fin cfg0.N) (k : Fin 1024) : iblk (F := Ideal) m c 1 t (ix2 0 k) = argG m c (ix2 0 k) := by
  blk_simp [iblk, V_main_arg1]
  refine congrArg (argG m c) ?_
  blk_ext [idx1 t]

theorem blk2 (t : Fin cfg0.N) (j : S4624x1024.Idx) : iblk (F := Ideal) m c 2 t j = argW m c (ix2 (j 1) (j 0)) := by
  blk_simp [iblk]
  entry_read
  refine transpose_apply _ _ _ _ (ix2 (j 1) (j 0)) fun b => ?_
  fin_cases b
  · show (j 0).val = ((win0_2.blk t).view.emb j 0).val
    blk_simp [idx2 t]
  · show (j 1).val = ((win0_2.blk t).view.emb j 1).val
    blk_simp [idx2 t]

theorem unit_point (t : Fin cfg0.N) (r : Fin 512) (l : Fin 1024) :
    k0_pay3 (F := Ideal) (iblk m c 0 t) (iblk m c 1 t) (ix2 r l) = unitAt (argX m c) (argG m c) (rowOf t r) l := by
  unfold unitAt
  rw [pay3_at, show (fun k => iblk (F := Ideal) m c 0 t (ix2 r k)) = _ from funext fun k => blk0 m c t r k,
    show (fun k : Fin 1024 => iblk (F := Ideal) m c 1 t (ix2 0 k)) = _ from funext fun k => blk1 m c t k]

/-- The product of one block's rows with `n` of the weights' columns, from column `o` on. -/
theorem proj_point (t : Fin cfg0.N) {o n : ℕ} (inb : ∀ a, (![o, 0] : Fin 2 → ℕ) a + (![n, 1024] : Fin 2 → ℕ) a ≤ S4624x1024.size a)
    (r : Fin 512) (l : Fin n) (h : o + l.val < 4624) :
    ∑ k : Fin 1024, (fun a b : EReal => a * b) (k0_pay3 (F := Ideal) (iblk m c 0 t) (iblk m c 1 t) (ix2 r k))
        (View.ld (iblk (F := Ideal) m c 2 t) (Rect.unit ![o, 0] ![n, 1024] inb) (ix2 l k))
      = projAt (argX m c) (argG m c) (argW m c) (rowOf t r) ⟨o + l.val, h⟩ := by
  refine Finset.sum_congr rfl fun k _ => congrArg₂ (fun a b : EReal => a * b) (unit_point m c t r k) ?_
  refine (blk2 m c t _).trans (congrArg (argW m c) (funext fun a => Fin.ext ?_))
  fin_cases a
  · show 0 + 1 * k.val = k.val
    omega
  · show o + 1 * l.val = o + l.val
    omega

/-- Where a block of `n` columns of the run's results lies. -/
theorem colOf {o n : ℕ} (h : o + n ≤ 4624) (j : Fin n) : o + j.val < 4624 := by omega

theorem final3 : (dats m 0 c).arrAt 3 cfg0.N = (fun y : S4096x1024.Idx => unitAt (argX m c) (argG m c) (y 0) (y 1)) := by
  refine (dats m 0 c).arrAt_eq_of_covers 3 _ (by decide +kernel) fun t hf y => ?_
  rw [after0_3]
  unfold_out out0_3
  frame_out
  have e : (cfg0.win 3).xinj (grid0.coords t) y = ix2 (y 0) (y 1) := funext fun a => by fin_cases a <;> rfl
  refine (congrArg (k0_pay3 (F := Ideal) (iblk m c 0 t) (iblk m c 1 t)) e).trans ((unit_point m c t (y 0) (y 1)).trans (congrArg₂ (unitAt (argX m c) (argG m c)) ?_ ?_))
  · refine Fin.ext ?_
    show 512 * t.val + (y 0).val = ((win0_3.blk t).view.emb y 0).val
    blk_simp [idx3 t]
    omega
  · exact Fin.ext (by blk_simp [idx3 t])

theorem final4 : (dats m 0 c).arrAt 4 cfg0.N
    = (fun y : S4096x1024.Idx => projAt (argX m c) (argG m c) (argW m c) (y 0) ⟨0 + (y 1).val, colOf (n := 1024) (by decide) (y 1)⟩) := by
  refine (dats m 0 c).arrAt_eq_of_covers 4 _ (by decide +kernel) fun t hf y => ?_
  rw [after0_4]
  unfold_out out0_4
  frame_out
  have e : (cfg0.win 4).xinj (grid0.coords t) y = ix2 (y 0) (y 1) := funext fun a => by fin_cases a <;> rfl
  refine (congrArg (k0_pay4 (F := Ideal) (iblk m c 0 t) (iblk m c 1 t) (View.ld (iblk m c 2 t) r0_2)) e).trans ((pay4_at _ _ (y 0) _ (y 1)).trans
    ((proj_point m c t inb_S4624x1024_S1024x1024_0_0 (y 0) (y 1) (colOf (n := 1024) (by decide) (y 1))).trans (congrArg₂ (projAt (argX m c) (argG m c) (argW m c)) ?_ ?_)))
  · refine Fin.ext ?_
    show 512 * t.val + (y 0).val = ((win0_4.blk t).view.emb y 0).val
    blk_simp [idx4 t]
    omega
  · refine Fin.ext ?_
    show 0 + (y 1).val = 0 + ((win0_4.blk t).view.emb y 1).val
    blk_simp [idx4 t]

theorem final5 : (dats m 0 c).arrAt 5 cfg0.N
    = (fun y : S4096x1536.Idx => projAt (argX m c) (argG m c) (argW m c) (y 0) ⟨1024 + (y 1).val, colOf (n := 1536) (by decide) (y 1)⟩) := by
  refine (dats m 0 c).arrAt_eq_of_covers 5 _ (by decide +kernel) fun t hf y => ?_
  rw [after0_5]
  unfold_out out0_5
  frame_out
  have e : (cfg0.win 5).xinj (grid0.coords t) y = ix2 (y 0) (y 1) := funext fun a => by fin_cases a <;> rfl
  refine (congrArg (k0_pay5 (F := Ideal) (iblk m c 0 t) (iblk m c 1 t) (View.ld (iblk m c 2 t) r0_3)) e).trans ((pay5_at _ _ (y 0) _ (y 1)).trans
    ((proj_point m c t inb_S4624x1024_S1536x1024_1024_0 (y 0) (y 1) (colOf (n := 1536) (by decide) (y 1))).trans (congrArg₂ (projAt (argX m c) (argG m c) (argW m c)) ?_ ?_)))
  · refine Fin.ext ?_
    show 512 * t.val + (y 0).val = ((win0_5.blk t).view.emb y 0).val
    blk_simp [idx5 t]
    omega
  · refine Fin.ext ?_
    show 1024 + (y 1).val = 1024 + ((win0_5.blk t).view.emb y 1).val
    blk_simp [idx5 t]

theorem final6 : (dats m 0 c).arrAt 6 cfg0.N
    = (fun y : S4096x16.Idx => projAt (argX m c) (argG m c) (argW m c) (y 0) ⟨2560 + (y 1).val, colOf (n := 16) (by decide) (y 1)⟩) := by
  refine (dats m 0 c).arrAt_eq_of_covers 6 _ (by decide +kernel) fun t hf y => ?_
  rw [after0_6]
  unfold_out out0_6
  frame_out
  have e : (cfg0.win 6).xinj (grid0.coords t) y = ix2 (y 0) (y 1) := funext fun a => by fin_cases a <;> rfl
  refine (congrArg (k0_pay6 (F := Ideal) (iblk m c 0 t) (iblk m c 1 t) (View.ld (iblk m c 2 t) r0_5)) e).trans ((pay6_at _ _ (y 0) _ (y 1)).trans
    ((proj_point m c t inb_S4624x1024_S16x1024_2560_0 (y 0) (y 1) (colOf (n := 16) (by decide) (y 1))).trans (congrArg₂ (projAt (argX m c) (argG m c) (argW m c)) ?_ ?_)))
  · refine Fin.ext ?_
    show 512 * t.val + (y 0).val = ((win0_6.blk t).view.emb y 0).val
    blk_simp [idx6 t]
    omega
  · refine Fin.ext ?_
    show 2560 + (y 1).val = 2560 + ((win0_6.blk t).view.emb y 1).val
    blk_simp [idx6 t]

theorem final7 : (dats m 0 c).arrAt 7 cfg0.N
    = (fun y : S4096x1024.Idx => projAt (argX m c) (argG m c) (argW m c) (y 0) ⟨2576 + (y 1).val, colOf (n := 1024) (by decide) (y 1)⟩) := by
  refine (dats m 0 c).arrAt_eq_of_covers 7 _ (by decide +kernel) fun t hf y => ?_
  rw [after0_7]
  unfold_out out0_7
  frame_out
  have e : (cfg0.win 7).xinj (grid0.coords t) y = ix2 (y 0) (y 1) := funext fun a => by fin_cases a <;> rfl
  refine (congrArg (k0_pay1 (F := Ideal) (k0_pay3 (iblk m c 0 t) (iblk m c 1 t)) (View.ld (iblk m c 2 t) r0_7)) e).trans ((pay1_at (y 0) _ _ (y 1)).trans
    ((proj_point m c t inb_S4624x1024_S1024x1024_2576_0 (y 0) (y 1) (colOf (n := 1024) (by decide) (y 1))).trans (congrArg₂ (projAt (argX m c) (argG m c) (argW m c)) ?_ ?_)))
  · refine Fin.ext ?_
    show 512 * t.val + (y 0).val = ((win0_7.blk t).view.emb y 0).val
    blk_simp [idx7 t]
    omega
  · refine Fin.ext ?_
    show 2576 + (y 1).val = 2576 + ((win0_7.blk t).view.emb y 1).val
    blk_simp [idx7 t]

theorem final8 : (dats m 0 c).arrAt 8 cfg0.N
    = (fun y : S4096x1024.Idx => projAt (argX m c) (argG m c) (argW m c) (y 0) ⟨3600 + (y 1).val, colOf (n := 1024) (by decide) (y 1)⟩) := by
  refine (dats m 0 c).arrAt_eq_of_covers 8 _ (by decide +kernel) fun t hf y => ?_
  rw [after0_8]
  unfold_out out0_8
  frame_out
  have e : (cfg0.win 8).xinj (grid0.coords t) y = ix2 (y 0) (y 1) := funext fun a => by fin_cases a <;> rfl
  refine (congrArg (k0_pay2 (F := Ideal) (k0_pay3 (iblk m c 0 t) (iblk m c 1 t)) (View.ld (iblk m c 2 t) r0_8)) e).trans ((pay2_at (y 0) _ _ (y 1)).trans
    ((proj_point m c t inb_S4624x1024_S1024x1024_3600_0 (y 0) (y 1) (colOf (n := 1024) (by decide) (y 1))).trans (congrArg₂ (projAt (argX m c) (argG m c) (argW m c)) ?_ ?_)))
  · refine Fin.ext ?_
    show 512 * t.val + (y 0).val = ((win0_8.blk t).view.emb y 0).val
    blk_simp [idx8 t]
    omega
  · refine Fin.ext ?_
    show 3600 + (y 1).val = 3600 + ((win0_8.blk t).view.emb y 1).val
    blk_simp [idx8 t]

end Cert.Inp

end
-- ==== Proof.InpRef.lean ====
/- The reference's norm and products, at an index. -/
module

public import proofs.«01_k».proof.Proof.InpOuts
public import proofs.«01_k».proof.Proof.Gen.Reference8Ideal.Read

@[expose] public section

set_option maxRecDepth 16384

noncomputable section

namespace Cert.Inp.Ref

open Cert.Reference8Ideal Cert.Reference8Ideal.Gen Cert.Reference8Ideal.Read Idealize.ShloMosaic Idealize.SL.Sem Cert.Rows

variable (X : FVec Ideal S4096x1024 .f32) (G : FVec Ideal S1x1024 .f32) (W : FVec Ideal S1024x4624 .f32)

theorem unit_ref (R : Fin 4096) (l : Fin 1024) : val_main_v11 (F := Ideal) X G (ix2 R l) = unitAt X G R l := by
  unfold unitAt rms scale meanSq
  pointwise [val_main_v11, val_main_v10, val_main_v9, val_main_v8, val_main_v7, val_main_v6, val_main_v5, val_main_v4, val_main_v3, val_main_v2,
    val_main_v1, val_main_v0, val_main_cst, val_main_cst_0, val_main_cst_1]

theorem proj_ref (R : Fin 4096) (j : Fin 4624) : val_main_v12 (F := Ideal) X G W (ix2 R j) = projAt X G W R j := by
  refine Eq.trans (b := ∑ k : Fin 1024, val_main_v11 (F := Ideal) X G (ix2 R k) * W (ix2 k j)) ?_ ?_
  · pointwise [val_main_v12]
  · exact Finset.sum_congr rfl fun k _ => congrArg (fun a : EReal => a * W (ix2 k j)) (unit_ref X G R k)

/-- The norm's result is kept rounded, which changes no ideal number. -/
theorem v13_ref : val_main_v13 (F := Ideal) X G = fun y => unitAt X G (y 0) (y 1) :=
  funext fun y => (congrArg (val_main_v11 (F := Ideal) X G) (funext fun a => by fin_cases a <;> rfl)).trans (unit_ref X G (y 0) (y 1))

theorem v14_ref : val_main_v14 (F := Ideal) X G W = fun y => projAt X G W (y 0) ⟨0 + (y 1).val, colOf (n := 1024) (by decide) (y 1)⟩ := funext fun y => by
  refine Eq.trans ?_ (proj_ref X G W (y 0) _)
  refine extractStridedSlice_apply _ _ _ _ _ fun a => ?_
  fin_cases a
  · exact (Nat.zero_add _).symm
  · rfl

theorem v15_ref : val_main_v15 (F := Ideal) X G W = fun y => projAt X G W (y 0) ⟨1024 + (y 1).val, colOf (n := 1536) (by decide) (y 1)⟩ := funext fun y => by
  refine Eq.trans ?_ (proj_ref X G W (y 0) _)
  refine extractStridedSlice_apply _ _ _ _ _ fun a => ?_
  fin_cases a
  · exact (Nat.zero_add _).symm
  · rfl

theorem v16_ref : val_main_v16 (F := Ideal) X G W = fun y => projAt X G W (y 0) ⟨2560 + (y 1).val, colOf (n := 16) (by decide) (y 1)⟩ := funext fun y => by
  refine Eq.trans ?_ (proj_ref X G W (y 0) _)
  refine extractStridedSlice_apply _ _ _ _ _ fun a => ?_
  fin_cases a
  · exact (Nat.zero_add _).symm
  · rfl

theorem v17_ref : val_main_v17 (F := Ideal) X G W = fun y => projAt X G W (y 0) ⟨2576 + (y 1).val, colOf (n := 1024) (by decide) (y 1)⟩ := funext fun y => by
  refine Eq.trans ?_ (proj_ref X G W (y 0) _)
  refine extractStridedSlice_apply _ _ _ _ _ fun a => ?_
  fin_cases a
  · exact (Nat.zero_add _).symm
  · rfl

theorem v18_ref : val_main_v18 (F := Ideal) X G W = fun y => projAt X G W (y 0) ⟨3600 + (y 1).val, colOf (n := 1024) (by decide) (y 1)⟩ := funext fun y => by
  refine Eq.trans ?_ (proj_ref X G W (y 0) _)
  refine extractStridedSlice_apply _ _ _ _ _ fun a => ?_
  fin_cases a
  · exact (Nat.zero_add _).symm
  · rfl

end Cert.Inp.Ref

end
-- ==== Proof.Inp.lean ====
/- The value claim of the input projection: kernel and reference end with the same six arrays. -/
module

public import proofs.«01_k».proof.Defs
public import proofs.«01_k».proof.Proof.Gen.Reference8Ideal.Run
public import proofs.«01_k».proof.Proof.InpRef

@[expose] public section

noncomputable section

namespace Cert.Inp

open Idealize.ShloMosaic Idealize.ShloMosaic.TcCoe Idealize.SL.Sem

theorem algebraic : Cert.algebraic_Kernel8Ideal_Reference8Ideal (hKernel8Ideal := Cert.Kernel8Ideal.Gen.facts)
    (hReference8Ideal := Cert.Reference8Ideal.Gen.facts) := by
  intro m ρ m' ρ' _ hag
  refine ⟨fun c => (Cert.Kernel8Ideal.Gen.dats m 0 c).arrAt 3 Cert.Kernel8Ideal.cfg0.N,
    fun c => (Cert.Kernel8Ideal.Gen.dats m 0 c).arrAt 4 Cert.Kernel8Ideal.cfg0.N,
    fun c => (Cert.Kernel8Ideal.Gen.dats m 0 c).arrAt 5 Cert.Kernel8Ideal.cfg0.N,
    fun c => (Cert.Kernel8Ideal.Gen.dats m 0 c).arrAt 6 Cert.Kernel8Ideal.cfg0.N,
    fun c => (Cert.Kernel8Ideal.Gen.dats m 0 c).arrAt 7 Cert.Kernel8Ideal.cfg0.N,
    fun c => (Cert.Kernel8Ideal.Gen.dats m 0 c).arrAt 8 Cert.Kernel8Ideal.cfg0.N,
    Cert.Kernel8Ideal.Value.run_blocks m ρ,
    (θ_run _ _ _).mono (fun _ h c => ⟨(h c).1.trans ?_, (h c).2.1.trans ?_, (h c).2.2.1.trans ?_, (h c).2.2.2.1.trans ?_, (h c).2.2.2.2.1.trans ?_,
      (h c).2.2.2.2.2.1.trans ?_, (h c).2.2.2.2.2.2⟩) (Cert.Reference8Ideal.Value.run m' ρ')⟩
  all_goals obtain ⟨a0, a1, a2⟩ := hag c
  · rw [Cert.Reference8Ideal.Read.val_main_v13_eq, a0, a1]
    exact (Ref.v13_ref _ _).trans (final3 m c).symm
  · rw [Cert.Reference8Ideal.Read.val_main_v14_eq, a0, a1, a2]
    exact (Ref.v14_ref _ _ _).trans (final4 m c).symm
  · rw [Cert.Reference8Ideal.Read.val_main_v15_eq, a0, a1, a2]
    exact (Ref.v15_ref _ _ _).trans (final5 m c).symm
  · rw [Cert.Reference8Ideal.Read.val_main_v16_eq, a0, a1, a2]
    exact (Ref.v16_ref _ _ _).trans (final6 m c).symm
  · rw [Cert.Reference8Ideal.Read.val_main_v17_eq, a0, a1, a2]
    exact (Ref.v17_ref _ _ _).trans (final7 m c).symm
  · rw [Cert.Reference8Ideal.Read.val_main_v18_eq, a0, a1, a2]
    exact (Ref.v18_ref _ _ _).trans (final8 m c).symm

end Cert.Inp

end
-- ==== Proof.Cols.lean ====
/- Eight stores of 512 columns each, and the block of 4096 columns they leave. -/
module

public import proofs.«01_k».proof.Proof.Corner
public import Idealize.ShloMosaic.Lib.KernelVsHost
public import Idealize.ShloMosaic.Lib.Ring

@[expose] public section

set_option maxRecDepth 16384

noncomputable section

namespace Cert.Cols

open Idealize.ShloMosaic Idealize.ShloMosaic.TcCoe Idealize.SL.Sem

abbrev Wide : Shape := ⟨2, ![512, 4096]⟩
abbrev Block : Shape := ⟨2, ![512, 512]⟩

theorem inb (q : Fin 8) : ∀ a : Fin 2, (![0, 512 * q.val] : Fin 2 → ℕ) a + (![512, 512] : Fin 2 → ℕ) a ≤ Wide.size a := by
  intro a
  fin_cases a
  · exact Nat.le_refl _
  · show 512 * q.val + 512 ≤ 4096
    omega

/-- The stores, the last first. -/
abbrev cols (q : Fin 8) : Rect Wide := Rect.unit (s := Wide) ![0, 512 * q.val] ![512, 512] (inb q)
abbrev pieces (f : Fin 8 → FVec Ideal Block .bf16) : List (View.Piece (Elt Ideal) Wide .bf16) :=
  [⟨cols 7, f 7⟩, ⟨cols 6, f 6⟩, ⟨cols 5, f 5⟩, ⟨cols 4, f 4⟩, ⟨cols 3, f 3⟩, ⟨cols 2, f 2⟩, ⟨cols 1, f 1⟩, ⟨cols 0, f 0⟩]

theorem pieces_at (f : Fin 8 → FVec Ideal Block .bf16) (G : Fin 512 → Fin 4096 → EReal)
    (hf : ∀ q (r k : Fin 512), f q (ix2 r k) = G r ⟨512 * q.val + k.val, by omega⟩) (y : Wide.Idx) :
    View.canon (pieces f) y = G (y 0) (y 1) := by
  refine View.canon_apply_of_pieces (Val := Elt Ideal) (e := .bf16) (fun y => G (y 0) (y 1)) _ ?_ y
    (View.cover_of_tiledL (pieces f) Block.size (by sl_kernel_rfl) y)
  have key : ∀ q (x : Block.Idx), f q x = G ((cols q).emb x 0) ((cols q).emb x 1) := fun q x =>
    (congrArg (f q) (funext fun a => by fin_cases a <;> rfl)).trans ((hf q (x 0) (x 1)).trans (congrArg₂ G
      (Fin.ext (by show (x 0).val = 0 + 1 * (x 0).val; omega)) (Fin.ext (by show 512 * q.val + (x 1).val = 512 * q.val + 1 * (x 1).val; omega))))
  intro p hp
  simp only [pieces, List.mem_cons, List.not_mem_nil, or_false] at hp
  rcases hp with rfl | rfl | rfl | rfl | rfl | rfl | rfl | rfl <;> exact key _

end Cert.Cols

end
-- ==== Proof.MlpuOuts.lean ====
/- What the points of the up projection leave: the product and its squared relu, in eight blocks of columns. -/
module

public import proofs.«01_k».proof.Proof.Cols
public import proofs.«01_k».proof.Proof.Gen.Kernel9Ideal.Value

@[expose] public section

set_option maxRecDepth 16384

noncomputable section

namespace Cert.Mlpu

open Cert.Kernel9Ideal Cert.Kernel9Ideal.Gen Idealize.ShloMosaic Idealize.ShloMosaic.TcCoe Idealize.SL.Sem

section Point

variable (x : FVec Ideal S512x1024 .bf16) (w : FVec Ideal S1x1024x512 .bf16) (r k : Fin 512)

/-- One block of columns of the product, and of its squared relu. -/
abbrev inner : FVec Ideal S512x512 .bf16 := k0_pay10 (F := Ideal) x w
abbrev squared : FVec Ideal S512x512 .bf16 := k0_pay11 (F := Ideal) x w

theorem inner_at : inner x w (ix2 r k) = ∑ j : Fin 1024, x (ix2 r j) * w (ix3 0 j k) := by
  pointwise [k0_pay10, k0_pay9, k0_pay8]

theorem squared_at : squared x w (ix2 r k) = max (inner x w (ix2 r k)) 0 * max (inner x w (ix2 r k)) 0 := by
  rw [← Ideal.ofBits_zero FTy.f32]
  rfl

end Point

theorem idx0 : ∀ t : Fin cfg0.N, win0_0.index t = ![t.val, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

/-- The product with the weights at an index, and its squared relu. -/
def innerAt (U : FVec Ideal S4096x1024 .f32) (W : FVec Ideal S1024x4096 .f32) (R j : Fin 4096) : EReal := ∑ k : Fin 1024, U (ix2 R k) * W (ix2 k j)

def squaredAt (U : FVec Ideal S4096x1024 .f32) (W : FVec Ideal S1024x4096 .f32) (R j : Fin 4096) : EReal :=
  max (innerAt U W R j) 0 * max (innerAt U W R j) 0

variable (m : (ℓ : Loc nD τ sig) → Buf (Elt Ideal) ℓ) (c : Dev nD)

abbrev argU : FVec Ideal S4096x1024 .f32 := m ((c : Thread nD τ).loc main_arg0)
abbrev argW : FVec Ideal S1024x4096 .f32 := m ((c : Thread nD τ).loc main_arg1)

/-- Row `r` of the block of point `t`. -/
abbrev rowOf (t : Fin cfg0.N) (r : Fin 512) : Fin 4096 := ⟨512 * t.val + r.val, by have : t.val < 8 := t.isLt; omega⟩

theorem rows_at (R : Fin 4096) (k : Fin 1024) : V m c main_v0 (ix2 R k) = argU m c (ix2 R k) := by
  entry_read
  rfl

theorem up_at (q : Fin 8) (l : Fin 1024) (k : Fin 512) : V m c main_v3 (ix3 q l k) = argW m c (ix2 l ⟨512 * q.val + k.val, by omega⟩) := by
  entry_read
  refine (transpose_apply _ _ _ _ (ix3 l q k) fun b => by fin_cases b <;> rfl).trans ?_
  refine shapeCast_apply _ _ _ (ix2 l ⟨512 * q.val + k.val, by omega⟩) ?_
  refine (Shape.rowMajor_val_two _).trans (Eq.trans ?_ (Shape.rowMajor_val_three _).symm)
  show l.val * 4096 + (512 * q.val + k.val) = (l.val * 8 + q.val) * 512 + k.val
  omega

theorem blk0 (t : Fin cfg0.N) (r : Fin 512) (k : Fin 1024) : iblk (F := Ideal) m c 0 t (ix2 r k) = argU m c (ix2 (rowOf t r) k) := by
  refine Eq.trans ?_ (rows_at m c (rowOf t r) k)
  blk_simp [iblk]
  refine congrArg (V m c main_v0) ?_
  blk_ext [idx0 t]

/-- The rows, as a point loads them. -/
abbrev xq (t : Fin cfg0.N) : FVec Ideal S512x1024 .bf16 := View.ld (iblk (F := Ideal) m c 0 t) r0_0

theorem xq_at (t : Fin cfg0.N) (r : Fin 512) (k : Fin 1024) : xq m c t (ix2 r k) = argU m c (ix2 (rowOf t r) k) := by
  refine Eq.trans ?_ (blk0 m c t r k)
  refine congrArg (iblk (F := Ideal) m c 0 t) (funext fun a => Fin.ext ?_)
  fin_cases a
  · show 0 + 1 * r.val = r.val
    omega
  · show 0 + 1 * k.val = k.val
    omega

theorem inbU (q : Fin 8) : ∀ a : Fin 3, (![q.val, 0, 0] : Fin 3 → ℕ) a + (![1, 1024, 512] : Fin 3 → ℕ) a ≤ S8x1024x512.size a := by
  intro a
  fin_cases a
  · show q.val + 1 ≤ 8
    omega
  · exact Nat.le_refl _
  · exact Nat.le_refl _

/-- The weights of one block of columns, as a point loads them. -/
abbrev wq (t : Fin cfg0.N) (q : Fin 8) : FVec Ideal S1x1024x512 .bf16 :=
  View.ld (iblk (F := Ideal) m c 1 t) (Rect.unit (s := S8x1024x512) ![q.val, 0, 0] ![1, 1024, 512] (inbU q))

theorem wq_at (t : Fin cfg0.N) (q : Fin 8) (l : Fin 1024) (k : Fin 512) :
    wq m c t q (ix3 0 l k) = argW m c (ix2 l ⟨512 * q.val + k.val, by omega⟩) := by
  refine Eq.trans ?_ (up_at m c q l k)
  show iblk (F := Ideal) m c 1 t _ = _
  blk_simp [iblk]
  refine congrArg (V m c main_v3) ?_
  funext a
  refine Fin.ext ?_
  fin_cases a
  all_goals blk_simp [idx1 t]
  · show q.val + 1 * 0 = q.val
    omega
  · show 0 + 1 * l.val = l.val
    omega
  · show 0 + 1 * k.val = k.val
    omega

theorem inner_point (t : Fin cfg0.N) (q : Fin 8) (r k : Fin 512) :
    inner (xq m c t) (wq m c t q) (ix2 r k) = innerAt (argU m c) (argW m c) (rowOf t r) ⟨512 * q.val + k.val, by omega⟩ := by
  refine (inner_at _ _ r k).trans ?_
  unfold innerAt
  exact Finset.sum_congr rfl fun j _ => congrArg₂ (fun a b : EReal => a * b) (xq_at m c t r j) (wq_at m c t q j k)

theorem squared_point (t : Fin cfg0.N) (q : Fin 8) (r k : Fin 512) :
    squared (xq m c t) (wq m c t q) (ix2 r k) = squaredAt (argU m c) (argW m c) (rowOf t r) ⟨512 * q.val + k.val, by omega⟩ := by
  refine (squared_at _ _ r k).trans ?_
  unfold squaredAt
  exact congrArg (fun a : EReal => max a 0 * max a 0) (inner_point m c t q r k)

/-- The eight stores of a result are its blocks of columns. -/
theorem out2_eq (t : Fin cfg0.N) : out0_2 (F := Ideal) (iblk m c 0 t) (iblk m c 1 t) = View.canon (Cols.pieces fun q => inner (xq m c t) (wq m c t q)) := by
  unfold out0_2
  exact congrArg View.canon (congrArg₂ List.cons rfl (congrArg₂ List.cons rfl (congrArg₂ List.cons rfl (congrArg₂ List.cons rfl (congrArg₂ List.cons rfl (congrArg₂ List.cons rfl (congrArg₂ List.cons rfl (congrArg₂ List.cons rfl rfl))))))))
theorem out3_eq (t : Fin cfg0.N) : out0_3 (F := Ideal) (iblk m c 0 t) (iblk m c 1 t) = View.canon (Cols.pieces fun q => squared (xq m c t) (wq m c t q)) := by
  unfold out0_3
  exact congrArg View.canon (congrArg₂ List.cons rfl (congrArg₂ List.cons rfl (congrArg₂ List.cons rfl (congrArg₂ List.cons rfl (congrArg₂ List.cons rfl (congrArg₂ List.cons rfl (congrArg₂ List.cons rfl (congrArg₂ List.cons rfl rfl))))))))

set_option maxHeartbeats 2000000 in
theorem final2 : (dats m 0 c).arrAt 2 cfg0.N = (fun y : S4096x4096.Idx => innerAt (argU m c) (argW m c) (y 0) (y 1)) := by
  refine (dats m 0 c).arrAt_eq_of_covers 2 _ (by decide +kernel) fun t hf y => ?_
  rw [after0_2, out2_eq]
  have e : (cfg0.win 2).xinj (grid0.coords t) y = ix2 (y 0) (y 1) := funext fun a => by fin_cases a <;> rfl
  refine (congrArg (View.canon (Cols.pieces fun q => inner (xq m c t) (wq m c t q))) e).trans
    ((Cols.pieces_at (fun q => inner (xq m c t) (wq m c t q)) (fun r j => innerAt (argU m c) (argW m c) (rowOf t r) j)
      (fun q r k => inner_point m c t q r k) (ix2 (y 0) (y 1))).trans (congrArg₂ (innerAt (argU m c) (argW m c)) ?_ ?_))
  · refine Fin.ext ?_
    show 512 * t.val + (y 0).val = ((win0_2.blk t).view.emb y 0).val
    blk_simp [idx2 t]
    omega
  · exact Fin.ext (by blk_simp [idx2 t])

set_option maxHeartbeats 2000000 in
theorem final3 : (dats m 0 c).arrAt 3 cfg0.N = (fun y : S4096x4096.Idx => squaredAt (argU m c) (argW m c) (y 0) (y 1)) := by
  refine (dats m 0 c).arrAt_eq_of_covers 3 _ (by decide +kernel) fun t hf y => ?_
  rw [after0_3, out3_eq]
  have e : (cfg0.win 3).xinj (grid0.coords t) y = ix2 (y 0) (y 1) := funext fun a => by fin_cases a <;> rfl
  refine (congrArg (View.canon (Cols.pieces fun q => squared (xq m c t) (wq m c t q))) e).trans
    ((Cols.pieces_at (fun q => squared (xq m c t) (wq m c t q)) (fun r j => squaredAt (argU m c) (argW m c) (rowOf t r) j)
      (fun q r k => squared_point m c t q r k) (ix2 (y 0) (y 1))).trans (congrArg₂ (squaredAt (argU m c) (argW m c)) ?_ ?_))
  · refine Fin.ext ?_
    show 512 * t.val + (y 0).val = ((win0_3.blk t).view.emb y 0).val
    blk_simp [idx3 t]
    omega
  · exact Fin.ext (by blk_simp [idx3 t])

end Cert.Mlpu

end
-- ==== Proof.Mlpu.lean ====
/- The value claim of the up projection with its squared relu: kernel and reference end with the same two arrays. -/
module

public import proofs.«01_k».proof.Defs
public import proofs.«01_k».proof.Proof.Gen.Reference9Ideal.Run
public import proofs.«01_k».proof.Proof.Gen.Reference9Ideal.Read
public import proofs.«01_k».proof.Proof.MlpuOuts

@[expose] public section

noncomputable section

namespace Cert.Mlpu

open Idealize.ShloMosaic Idealize.ShloMosaic.TcCoe Idealize.SL.Sem

section Ref

open Cert.Reference9Ideal Cert.Reference9Ideal.Gen Cert.Reference9Ideal.Read

variable (U : FVec Ideal S4096x1024 .f32) (W : FVec Ideal S1024x4096 .f32)

theorem inner_ref (R j : Fin 4096) : val_main_v0 (F := Ideal) U W (ix2 R j) = innerAt U W R j := by
  unfold innerAt
  pointwise [val_main_v0]

theorem v3_ref : val_main_v3 (F := Ideal) U W = fun y => innerAt U W (y 0) (y 1) :=
  funext fun y => (congrArg (val_main_v0 (F := Ideal) U W) (funext fun a => by fin_cases a <;> rfl)).trans (inner_ref U W (y 0) (y 1))

theorem v5_ref : val_main_v5 (F := Ideal) U W = fun y => squaredAt U W (y 0) (y 1) := funext fun y => by
  unfold squaredAt
  rw [← Ideal.ofBits_zero FTy.f32]
  exact congrArg (fun a : EReal => max a (Ideal.ofBits .f32 0x00000000#32) * max a (Ideal.ofBits .f32 0x00000000#32)) (congrFun (v3_ref U W) y)

end Ref

theorem algebraic : Cert.algebraic_Kernel9Ideal_Reference9Ideal (hKernel9Ideal := Cert.Kernel9Ideal.Gen.facts)
    (hReference9Ideal := Cert.Reference9Ideal.Gen.facts) := by
  intro m ρ m' ρ' _ hag
  refine ⟨fun c => (Cert.Kernel9Ideal.Gen.dats m 0 c).arrAt 2 Cert.Kernel9Ideal.cfg0.N,
    fun c => (Cert.Kernel9Ideal.Gen.dats m 0 c).arrAt 3 Cert.Kernel9Ideal.cfg0.N, Cert.Kernel9Ideal.Value.run_blocks m ρ,
    (θ_run _ _ _).mono (fun _ h c => ⟨(h c).1.trans ?_, (h c).2.1.trans ?_, (h c).2.2⟩) (Cert.Reference9Ideal.Value.run m' ρ')⟩
  all_goals obtain ⟨a0, a1⟩ := hag c
  · rw [Cert.Reference9Ideal.Read.val_main_v3_eq, a0, a1]
    exact (v3_ref _ _).trans (final2 m c).symm
  · rw [Cert.Reference9Ideal.Read.val_main_v5_eq, a0, a1]
    exact (v5_ref _ _).trans (final3 m c).symm

end Cert.Mlpu

end
-- ==== Proof.OutpPoint.lean ====
/- What one point of the output projection computes, at an index. -/
module

public import proofs.«01_k».proof.Proof.FwdRows
public import proofs.«01_k».proof.Proof.Consts
public import proofs.«01_k».proof.Proof.Gen.Kernel10Ideal.Skeleton

@[expose] public section

set_option maxRecDepth 16384

noncomputable section

namespace Cert.Outp

open Cert.Kernel10Ideal Cert.Kernel10Ideal.Gen Idealize.ShloMosaic Idealize.SL.Sem Cert.Rows

/-- The gate's value, and `x * logistic x`. -/
def gate (y z : EReal) : EReal := y * (z * Ideal.logistic z)
def swish (p : EReal) : EReal := p * Ideal.logistic p

/-- The half of a row with the number `b`. -/
def half (x : Fin 1024 → EReal) (b : ℕ) (hb : b < 2) (k : Fin 512) : EReal := x ⟨512 * b + k.val, by omega⟩

/-- A row whose halves are each scaled with the inverse root of their own mean square. -/
def halves (x g : Fin 1024 → EReal) (l : Fin 1024) : EReal := x l * scale N512 (half x (l.val / 512) (by omega)) * g l

variable (y z v : FVec Ideal S512x1024 .f32) (gs lg lb : FVec Ideal S1x1024 .f32) (r : Fin 512) (l : Fin 1024)

theorem pay2_low (h : l.val < 512) : k0_pay2 (F := Ideal) y z gs (ix2 r l)
    = gate (y (ix2 r l)) (z (ix2 r l)) * scale N512 (fun k : Fin 512 => gate (y (ix2 r ⟨k.val, by omega⟩)) (z (ix2 r ⟨k.val, by omega⟩))) * gs (ix2 0 l) := by
  unfold scale meanSq N512 gate
  pointwise [k0_pay2]
  rw [dif_pos h]

theorem pay2_high (h : ¬ l.val < 512) : k0_pay2 (F := Ideal) y z gs (ix2 r l)
    = gate (y (ix2 r l)) (z (ix2 r l)) * scale N512 (fun k : Fin 512 => gate (y (ix2 r ⟨512 + k.val, by omega⟩)) (z (ix2 r ⟨512 + k.val, by omega⟩))) * gs (ix2 0 l) := by
  unfold scale meanSq N512 gate
  pointwise [k0_pay2]
  have e : ∀ h', (⟨512 + (l.val - 512), h'⟩ : Fin 1024) = l := fun _ => Fin.ext (show 512 + (l.val - 512) = l.val by omega)
  rw [dif_neg h]
  simp only [e]

theorem halves_low (x g : Fin 1024 → EReal) (h : l.val < 512) : halves x g l = x l * scale N512 (fun k : Fin 512 => x ⟨k.val, by omega⟩) * g l :=
  congrArg (fun f => x l * scale N512 f * g l) (funext fun k => congrArg x (Fin.ext (show 512 * (l.val / 512) + k.val = k.val by omega)))

theorem halves_high (x g : Fin 1024 → EReal) (h : ¬ l.val < 512) : halves x g l = x l * scale N512 (fun k : Fin 512 => x ⟨512 + k.val, by omega⟩) * g l :=
  congrArg (fun f => x l * scale N512 f * g l) (funext fun k => congrArg x (Fin.ext (show 512 * (l.val / 512) + k.val = 512 + k.val by omega)))

theorem pay2_at : k0_pay2 (F := Ideal) y z gs (ix2 r l) = halves (fun k => gate (y (ix2 r k)) (z (ix2 r k))) (fun k => gs (ix2 0 k)) l := by
  by_cases h : l.val < 512
  · exact (pay2_low y z gs r l h).trans (halves_low l (fun k => gate (y (ix2 r k)) (z (ix2 r k))) (fun k => gs (ix2 0 k)) h).symm
  · exact (pay2_high y z gs r l h).trans (halves_high l (fun k => gate (y (ix2 r k)) (z (ix2 r k))) (fun k => gs (ix2 0 k)) h).symm

theorem pay4_at : k0_pay4 (F := Ideal) v lg lb (k0_pay3 v) (ix2 r l)
    = swish (normed N1024 (fun k => v (ix2 r k)) (fun k => lg (ix2 0 k)) (fun k => lb (ix2 0 k)) l) := by
  unfold swish normed center scale meanSq N1024
  pointwise [k0_pay4, k0_pay3]

variable (ys : FVec Ideal S512x1024 .bf16) (mu : FVec Ideal S512x1 .f32) (x : FVec Ideal S512x1024 .f32) (wlo whi : FVec Ideal S1024x1024 .bf16)

theorem pay5_at : k0_pay5 (F := Ideal) ys v lg lb mu x wlo whi (ix2 r l)
    = x (ix2 r l) + (∑ k : Fin 1024, ys (ix2 r k) * wlo (ix2 k l)) + ∑ k : Fin 1024, k0_pay4 (F := Ideal) v lg lb mu (ix2 r k) * whi (ix2 k l) := by
  pointwise [k0_pay5]

theorem pay1_at (g2 : FVec Ideal S1x1024 .f32) :
    k0_pay1 (F := Ideal) (k0_pay5 ys v lg lb mu x wlo whi) g2 (k0_pay6 ys v lg lb mu x wlo whi) k0_pay7 (ix2 r l)
      = rms N1024 (fun k => k0_pay5 (F := Ideal) ys v lg lb mu x wlo whi (ix2 r k)) (fun k => g2 (ix2 0 k)) l := by
  unfold rms scale meanSq N1024
  pointwise [k0_pay1, k0_pay6, k0_pay7]

end Cert.Outp

end
-- ==== Proof.OutpVals.lean ====
/- What the output projection leaves, as functions of the arguments. -/
module

public import proofs.«01_k».proof.Proof.OutpPoint

@[expose] public section

set_option maxRecDepth 16384

noncomputable section

namespace Cert.Outp

open Cert.Kernel10Ideal Cert.Kernel10Ideal.Gen Idealize.ShloMosaic Idealize.SL.Sem Cert.Rows

/-- The arguments: the scan's output, its gate, the convolution's output, the residual, the gains and shifts, the weights. -/
structure Args where
  y : FVec Ideal S4096x1024 .f32
  z : FVec Ideal S4096x1024 .f32
  v : FVec Ideal S4096x1024 .f32
  x : FVec Ideal S4096x1024 .f32
  gs : FVec Ideal S1x1024 .f32
  lg : FVec Ideal S1x1024 .f32
  lb : FVec Ideal S1x1024 .f32
  w : FVec Ideal S2048x1024 .f32
  g2 : FVec Ideal S1x1024 .f32

variable (A : Args) (R : Fin 4096)

def gateAt (l : Fin 1024) : EReal := gate (A.y (ix2 R l)) (A.z (ix2 R l))

/-- The gated norm of the scan's branch, and the layer norm with its silu of the convolution's. -/
def scanAt (l : Fin 1024) : EReal := halves (gateAt A R) (fun k => A.gs (ix2 0 k)) l
def convAt (l : Fin 1024) : EReal := swish (normed N1024 (fun k => A.v (ix2 R k)) (fun k => A.lg (ix2 0 k)) (fun k => A.lb (ix2 0 k)) l)

/-- Both branches as one row. -/
def mixedAt (j : Fin 2048) : EReal := if h : j.val < 1024 then scanAt A R ⟨j.val, h⟩ else convAt A R ⟨j.val - 1024, by omega⟩

theorem mixed_low (k : Fin 1024) (h : k.val < 2048) : mixedAt A R ⟨k.val, h⟩ = scanAt A R k := dif_pos k.isLt

theorem mixed_high (k : Fin 1024) (h : 1024 + k.val < 2048) : mixedAt A R ⟨1024 + k.val, h⟩ = convAt A R k :=
  (dif_neg (show ¬ 1024 + k.val < 1024 by omega)).trans (congrArg (convAt A R) (Fin.ext (show 1024 + k.val - 1024 = k.val by omega)))

/-- The residual with the projection added, and its norm. -/
def hiddenAt (l : Fin 1024) : EReal := A.x (ix2 R l) + ∑ j : Fin 2048, mixedAt A R j * A.w (ix2 j l)
def unitAt (l : Fin 1024) : EReal := rms N1024 (hiddenAt A R) (fun k => A.g2 (ix2 0 k)) l

theorem hidden_split (l : Fin 1024) : hiddenAt A R l
    = A.x (ix2 R l) + (∑ k : Fin 1024, scanAt A R k * A.w (ix2 ⟨k.val, by omega⟩ l)) + ∑ k : Fin 1024, convAt A R k * A.w (ix2 ⟨1024 + k.val, by omega⟩ l) := by
  unfold hiddenAt
  rw [add_assoc]
  refine congrArg (fun s => A.x (ix2 R l) + s) ?_
  refine (show ∑ j : Fin (1024 + 1024), mixedAt A R j * A.w (ix2 j l) = _ from ?_)
  rw [Fin.sum_univ_add]
  exact congrArg₂ (fun a b : EReal => a + b)
    (Finset.sum_congr rfl fun k _ => congrArg (fun s => s * A.w (ix2 ⟨k.val, by omega⟩ l)) (mixed_low A R k (by omega)))
    (Finset.sum_congr rfl fun k _ => congrArg (fun s => s * A.w (ix2 ⟨1024 + k.val, by omega⟩ l)) (mixed_high A R k (by omega)))

end Cert.Outp

end
-- ==== Proof.OutpOuts.lean ====
/- What the points of the output projection leave in the three results. -/
module

public import proofs.«01_k».proof.Proof.OutpVals
public import proofs.«01_k».proof.Proof.Corner
public import proofs.«01_k».proof.Proof.Gen.Kernel10Ideal.Value
public import Idealize.ShloMosaic.Lib.KernelVsHost
public import Idealize.ShloMosaic.Lib.Ring

@[expose] public section

set_option maxRecDepth 16384

noncomputable section

namespace Cert.Outp

open Cert.Kernel10Ideal Cert.Kernel10Ideal.Gen Idealize.ShloMosaic Idealize.ShloMosaic.TcCoe Idealize.SL.Sem Cert.Rows

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)

variable (m : (ℓ : Loc nD τ sig) → Buf (Elt Ideal) ℓ) (c : Dev nD)

abbrev args : Args where
  y := m ((c : Thread nD τ).loc main_arg0)
  z := m ((c : Thread nD τ).loc main_arg1)
  v := m ((c : Thread nD τ).loc main_arg2)
  x := m ((c : Thread nD τ).loc main_arg3)
  gs := m ((c : Thread nD τ).loc main_arg4)
  lg := m ((c : Thread nD τ).loc main_arg5)
  lb := m ((c : Thread nD τ).loc main_arg6)
  w := m ((c : Thread nD τ).loc main_arg7)
  g2 := m ((c : Thread nD τ).loc main_arg8)

/-- Row `r` of the block of point `t`. -/
abbrev rowOf (t : Fin cfg0.N) (r : Fin 512) : Fin 4096 := ⟨512 * t.val + r.val, by have : t.val < 8 := t.isLt; omega⟩

theorem blk0 (t : Fin cfg0.N) (r : Fin 512) (k : Fin 1024) : iblk (F := Ideal) m c 0 t (ix2 r k) = (args m c).y (ix2 (rowOf t r) k) := by
  blk_simp [iblk, V_main_arg0]
  refine congrArg (args m c).y ?_
  blk_ext [idx0 t]

theorem blk1 (t : Fin cfg0.N) (r : Fin 512) (k : Fin 1024) : iblk (F := Ideal) m c 1 t (ix2 r k) = (args m c).z (ix2 (rowOf t r) k) := by
  blk_simp [iblk, V_main_arg1]
  refine congrArg (args m c).z ?_
  blk_ext [idx1 t]

theorem blk2 (t : Fin cfg0.N) (r : Fin 512) (k : Fin 1024) : iblk (F := Ideal) m c 2 t (ix2 r k) = (args m c).v (ix2 (rowOf t r) k) := by
  blk_simp [iblk, V_main_arg2]
  refine congrArg (args m c).v ?_
  blk_ext [idx2 t]

theorem blk3 (t : Fin cfg0.N) (r : Fin 512) (k : Fin 1024) : iblk (F := Ideal) m c 3 t (ix2 r k) = (args m c).x (ix2 (rowOf t r) k) := by
  blk_simp [iblk, V_main_arg3]
  refine congrArg (args m c).x ?_
  blk_ext [idx3 t]

theorem blk4 (t : Fin cfg0.N) (k : Fin 1024) : iblk (F := Ideal) m c 4 t (ix2 0 k) = (args m c).gs (ix2 0 k) := by
  blk_simp [iblk, V_main_arg4]
  refine congrArg (args m c).gs ?_
  blk_ext [idx4 t]

theorem blk5 (t : Fin cfg0.N) (k : Fin 1024) : iblk (F := Ideal) m c 5 t (ix2 0 k) = (args m c).lg (ix2 0 k) := by
  blk_simp [iblk, V_main_arg5]
  refine congrArg (args m c).lg ?_
  blk_ext [idx5 t]

theorem blk6 (t : Fin cfg0.N) (k : Fin 1024) : iblk (F := Ideal) m c 6 t (ix2 0 k) = (args m c).lb (ix2 0 k) := by
  blk_simp [iblk, V_main_arg6]
  refine congrArg (args m c).lb ?_
  blk_ext [idx6 t]

theorem blk8 (t : Fin cfg0.N) (k : Fin 1024) : iblk (F := Ideal) m c 8 t (ix2 0 k) = (args m c).g2 (ix2 0 k) := by
  blk_simp [iblk, V_main_arg8]
  refine congrArg (args m c).g2 ?_
  blk_ext [idx8 t]

theorem blk7 (t : Fin cfg0.N) (j : S2048x1024.Idx) : iblk (F := Ideal) m c 7 t j = (args m c).w (ix2 (j 0) (j 1)) := by
  blk_simp [iblk]
  entry_read
  refine congrArg (args m c).w (funext fun a => Fin.ext ?_)
  fin_cases a
  · show ((win0_7.blk t).view.emb j 0).val = (j 0).val
    blk_simp [idx7 t]
  · show ((win0_7.blk t).view.emb j 1).val = (j 1).val
    blk_simp [idx7 t]

theorem low_at (t : Fin cfg0.N) (k l : Fin 1024) : View.ld (iblk (F := Ideal) m c 7 t) r0_4 (ix2 k l) = (args m c).w (ix2 ⟨k.val, by omega⟩ l) :=
  (blk7 m c t _).trans (congrArg₂ (fun a b => (args m c).w (ix2 a b)) (Fin.ext (show 0 + 1 * k.val = k.val by omega)) (Fin.ext (show 0 + 1 * l.val = l.val by omega)))

theorem high_at (t : Fin cfg0.N) (k l : Fin 1024) : View.ld (iblk (F := Ideal) m c 7 t) r0_5 (ix2 k l) = (args m c).w (ix2 ⟨1024 + k.val, by omega⟩ l) :=
  (blk7 m c t _).trans (congrArg₂ (fun a b => (args m c).w (ix2 a b)) (Fin.ext (show 1024 + 1 * k.val = 1024 + k.val by omega)) (Fin.ext (show 0 + 1 * l.val = l.val by omega)))

variable (t : Fin cfg0.N) (r : Fin 512) (l : Fin 1024)

theorem scan_point : k0_pay2 (F := Ideal) (iblk m c 0 t) (iblk m c 1 t) (iblk m c 4 t) (ix2 r l) = scanAt (args m c) (rowOf t r) l := by
  refine (pay2_at _ _ _ r l).trans ?_
  unfold scanAt gateAt
  rw [show (fun k => gate (iblk (F := Ideal) m c 0 t (ix2 r k)) (iblk (F := Ideal) m c 1 t (ix2 r k))) = _ from funext fun k => congrArg₂ gate (blk0 m c t r k) (blk1 m c t r k),
    show (fun k : Fin 1024 => iblk (F := Ideal) m c 4 t (ix2 0 k)) = _ from funext fun k => blk4 m c t k]

theorem conv_point : k0_pay4 (F := Ideal) (iblk m c 2 t) (iblk m c 5 t) (iblk m c 6 t) (k0_pay3 (iblk m c 2 t)) (ix2 r l) = convAt (args m c) (rowOf t r) l := by
  refine (pay4_at _ _ _ r l).trans ?_
  unfold convAt
  rw [show (fun k => iblk (F := Ideal) m c 2 t (ix2 r k)) = _ from funext fun k => blk2 m c t r k,
    show (fun k : Fin 1024 => iblk (F := Ideal) m c 5 t (ix2 0 k)) = _ from funext fun k => blk5 m c t k,
    show (fun k : Fin 1024 => iblk (F := Ideal) m c 6 t (ix2 0 k)) = _ from funext fun k => blk6 m c t k]

theorem hidden_point : k0_pay5 (F := Ideal) (k0_pay2 (iblk m c 0 t) (iblk m c 1 t) (iblk m c 4 t)) (iblk m c 2 t) (iblk m c 5 t) (iblk m c 6 t) (k0_pay3 (iblk m c 2 t)) (iblk m c 3 t) (View.ld (iblk (F := Ideal) m c 7 t) r0_4) (View.ld (iblk (F := Ideal) m c 7 t) r0_5) (ix2 r l) = hiddenAt (args m c) (rowOf t r) l := by
  refine (pay5_at _ _ _ r l _ _ _ _ _).trans ((hidden_split (args m c) (rowOf t r) l).trans ?_).symm
  refine congrArg₂ (fun a b : EReal => a + b) (congrArg₂ (fun a b : EReal => a + b) (blk3 m c t r l).symm ?_) ?_
  · exact Finset.sum_congr rfl fun k _ => congrArg₂ (fun a b : EReal => a * b) (scan_point m c t r k).symm (low_at m c t k l).symm
  · exact Finset.sum_congr rfl fun k _ => congrArg₂ (fun a b : EReal => a * b) (conv_point m c t r k).symm (high_at m c t k l).symm

theorem unit_point : k0_pay1 (F := Ideal) (k0_pay5 (k0_pay2 (iblk m c 0 t) (iblk m c 1 t) (iblk m c 4 t)) (iblk m c 2 t) (iblk m c 5 t) (iblk m c 6 t) (k0_pay3 (iblk m c 2 t)) (iblk m c 3 t) (View.ld (iblk (F := Ideal) m c 7 t) r0_4) (View.ld (iblk (F := Ideal) m c 7 t) r0_5)) (iblk m c 8 t) (k0_pay6 (k0_pay2 (iblk m c 0 t) (iblk m c 1 t) (iblk m c 4 t)) (iblk m c 2 t) (iblk m c 5 t) (iblk m c 6 t) (k0_pay3 (iblk m c 2 t)) (iblk m c 3 t) (View.ld (iblk (F := Ideal) m c 7 t) r0_4) (View.ld (iblk (F := Ideal) m c 7 t) r0_5)) k0_pay7 (ix2 r l) = unitAt (args m c) (rowOf t r) l := by
  refine (pay1_at _ _ _ r l _ _ _ _ _ _).trans ?_
  unfold unitAt
  exact congrArg₂ (fun x g => rms N1024 x g l) (funext fun k => hidden_point m c t r k) (funext fun k => blk8 m c t k)

/-- The two stores of the joined row, the last first. -/
abbrev pair (a b : FVec Ideal S512x1024 .bf16) : List (View.Piece (Elt Ideal) S512x2048 .bf16) := [⟨r0_3, a⟩, ⟨r0_2, b⟩]

theorem pair_at (a b : FVec Ideal S512x1024 .bf16) (G : Fin 512 → Fin 2048 → EReal)
    (ha : ∀ r (k : Fin 1024), a (ix2 r k) = G r ⟨1024 + k.val, by omega⟩) (hb : ∀ r (k : Fin 1024), b (ix2 r k) = G r ⟨k.val, by omega⟩)
    (y : S512x2048.Idx) : View.canon (pair a b) y = G (y 0) (y 1) := by
  refine View.canon_apply_of_pieces (Val := Elt Ideal) (e := .bf16) (fun y => G (y 0) (y 1)) _ ?_ y
    (View.cover_of_tiledL (pair a b) S512x1024.size (by sl_kernel_rfl) y)
  intro p hp
  simp only [pair, List.mem_cons, List.not_mem_nil, or_false] at hp
  rcases hp with rfl | rfl
  · intro x
    exact (congrArg a (funext fun a => by fin_cases a <;> rfl)).trans ((ha (x 0) (x 1)).trans (congrArg₂ G
      (Fin.ext (by show (x 0).val = 0 + 1 * (x 0).val; omega)) (Fin.ext (by show 1024 + (x 1).val = 1024 + 1 * (x 1).val; omega))))
  · intro x
    exact (congrArg b (funext fun a => by fin_cases a <;> rfl)).trans ((hb (x 0) (x 1)).trans (congrArg₂ G
      (Fin.ext (by show (x 0).val = 0 + 1 * (x 0).val; omega)) (Fin.ext (by show (x 1).val = 0 + 1 * (x 1).val; omega))))

/-- Point `t` leaves its rows of the joined row. -/
theorem out9_at (y : S512x2048.Idx) : out0_9 (F := Ideal) (iblk m c 0 t) (iblk m c 1 t) (iblk m c 2 t) (iblk m c 3 t) (iblk m c 4 t) (iblk m c 5 t) (iblk m c 6 t) (iblk m c 7 t) (iblk m c 8 t) y = mixedAt (args m c) (rowOf t (y 0)) (y 1) := by
  unfold_out out0_9
  refine pair_at _ _ (fun r j => mixedAt (args m c) (rowOf t r) j) (fun r k => ?_) (fun r k => ?_) y
  · frame_out
    exact (conv_point m c t r k).trans (mixed_high _ _ k _).symm
  · frame_out
    exact (scan_point m c t r k).trans (mixed_low _ _ k _).symm

theorem final9 : (dats m 0 c).arrAt 9 cfg0.N = (fun y : S4096x2048.Idx => mixedAt (args m c) (y 0) (y 1)) := by
  refine (dats m 0 c).arrAt_eq_of_covers 9 _ (by decide +kernel) fun t hf y => ?_
  rw [after0_9]
  have e : (cfg0.win 9).xinj (grid0.coords t) y = ix2 (y 0) (y 1) := funext fun a => by fin_cases a <;> rfl
  have e0 : rowOf t (y 0) = (win0_9.blk t).view.emb y 0 := by
    refine Fin.ext ?_
    show 512 * t.val + (y 0).val = ((win0_9.blk t).view.emb y 0).val
    blk_simp [idx9 t]
    omega
  have e1 : (y 1) = (win0_9.blk t).view.emb y 1 := Fin.ext (by blk_simp [idx9 t])
  have q := (out9_at m c t (ix2 (y 0) (y 1))).trans (congrArg₂ (mixedAt (args m c)) e0 e1)
  rw [e]
  refine Eq.trans (cast_eq rfl _) ?_
  exact q

theorem final10 : (dats m 0 c).arrAt 10 cfg0.N = (fun y : S4096x1024.Idx => hiddenAt (args m c) (y 0) (y 1)) := by
  refine (dats m 0 c).arrAt_eq_of_covers 10 _ (by decide +kernel) fun t hf y => ?_
  rw [after0_10]
  unfold_out out0_10
  frame_out
  have e : (cfg0.win 10).xinj (grid0.coords t) y = ix2 (y 0) (y 1) := funext fun a => by fin_cases a <;> rfl
  refine (congrArg (k0_pay5 (F := Ideal) (k0_pay2 (iblk m c 0 t) (iblk m c 1 t) (iblk m c 4 t)) (iblk m c 2 t) (iblk m c 5 t) (iblk m c 6 t) (k0_pay3 (iblk m c 2 t)) (iblk m c 3 t) (View.ld (iblk (F := Ideal) m c 7 t) r0_4) (View.ld (iblk (F := Ideal) m c 7 t) r0_5)) e).trans ((hidden_point m c t (y 0) (y 1)).trans (congrArg₂ (hiddenAt (args m c)) ?_ ?_))
  · refine Fin.ext ?_
    show 512 * t.val + (y 0).val = ((win0_10.blk t).view.emb y 0).val
    blk_simp [idx10 t]
    omega
  · exact Fin.ext (by blk_simp [idx10 t])

theorem final11 : (dats m 0 c).arrAt 11 cfg0.N = (fun y : S4096x1024.Idx => unitAt (args m c) (y 0) (y 1)) := by
  refine (dats m 0 c).arrAt_eq_of_covers 11 _ (by decide +kernel) fun t hf y => ?_
  rw [after0_11]
  unfold_out out0_11
  frame_out
  have e : (cfg0.win 11).xinj (grid0.coords t) y = ix2 (y 0) (y 1) := funext fun a => by fin_cases a <;> rfl
  refine (congrArg (k0_pay1 (F := Ideal) (k0_pay5 (k0_pay2 (iblk m c 0 t) (iblk m c 1 t) (iblk m c 4 t)) (iblk m c 2 t) (iblk m c 5 t) (iblk m c 6 t) (k0_pay3 (iblk m c 2 t)) (iblk m c 3 t) (View.ld (iblk (F := Ideal) m c 7 t) r0_4) (View.ld (iblk (F := Ideal) m c 7 t) r0_5)) (iblk m c 8 t) (k0_pay6 (k0_pay2 (iblk m c 0 t) (iblk m c 1 t) (iblk m c 4 t)) (iblk m c 2 t) (iblk m c 5 t) (iblk m c 6 t) (k0_pay3 (iblk m c 2 t)) (iblk m c 3 t) (View.ld (iblk (F := Ideal) m c 7 t) r0_4) (View.ld (iblk (F := Ideal) m c 7 t) r0_5)) k0_pay7) e).trans ((unit_point m c t (y 0) (y 1)).trans (congrArg₂ (unitAt (args m c)) ?_ ?_))
  · refine Fin.ext ?_
    show 512 * t.val + (y 0).val = ((win0_11.blk t).view.emb y 0).val
    blk_simp [idx11 t]
    omega
  · exact Fin.ext (by blk_simp [idx11 t])

end Cert.Outp

end
-- ==== Proof.OutpRef.lean ====
/- The reference's gated norm, layer norm, projection and norm, at an index. -/
module

public import proofs.«01_k».proof.Proof.OutpVals
public import proofs.«01_k».proof.Proof.Gen.Reference10Ideal.Read
public import Idealize.ShloMosaic.Lib.KernelVsHost

@[expose] public section

set_option maxRecDepth 16384

noncomputable section

namespace Cert.Outp.Ref

open Cert.Reference10Ideal Cert.Reference10Ideal.Gen Cert.Reference10Ideal.Read Idealize.ShloMosaic Idealize.SL.Sem Cert.Rows

variable (A : Args) (R : Fin 4096) (l : Fin 1024)

theorem gate_ref : val_main_v1 (F := Ideal) A.y A.z (ix2 R l) = gateAt A R l := by
  unfold gateAt gate
  pointwise [val_main_v1, val_main_v0, val_main_call0_v0, val_main_call0_v1, val_main_call0_v2, val_main_call0_v3, val_main_call0_v4, val_main_call0_v5, val_main_call0_cst, val_main_call0_cst_0]
  rfl

theorem groups_ref (b : Fin 2) (k : Fin 512) : val_main_v2 (F := Ideal) A.y A.z (ix3 R b k) = half (gateAt A R) b.val b.isLt k := by
  rw [val_main_v2_apply]
  refine (congrArg (val_main_v1 (F := Ideal) A.y A.z) (funext fun a => Fin.ext ?_)).trans (gate_ref A R ⟨512 * b.val + k.val, by omega⟩)
  fin_cases a
  · show ((R.val * 2 + b.val) * 512 + k.val) / 1024 = R.val
    omega
  · show ((R.val * 2 + b.val) * 512 + k.val) % 1024 = 512 * b.val + k.val
    omega

theorem scaled_ref (b : Fin 2) (k : Fin 512) :
    val_main_v12 (F := Ideal) A.y A.z (ix3 R b k) = half (gateAt A R) b.val b.isLt k * scale N512 (half (gateAt A R) b.val b.isLt) := by
  unfold scale meanSq N512
  pointwise [val_main_v12, val_main_v11, val_main_v10, val_main_v9, val_main_v8, val_main_v7, val_main_v6, val_main_v5, val_main_v4, val_main_v3, val_main_cst, val_main_cst_0, val_main_cst_1]
  simp only [groups_ref]

theorem joined_ref : val_main_v13 (F := Ideal) A.y A.z (ix2 R l) = gateAt A R l * scale N512 (half (gateAt A R) (l.val / 512) (by omega)) := by
  rw [val_main_v13_apply]
  refine (congrArg (val_main_v12 (F := Ideal) A.y A.z) (funext fun a => Fin.ext ?_)).trans
    ((scaled_ref A R ⟨l.val / 512, by omega⟩ ⟨l.val % 512, Nat.mod_lt _ (by omega)⟩).trans
      (congrArg (fun s => s * scale N512 (half (gateAt A R) (l.val / 512) (by omega)))
        (congrArg (gateAt A R) (Fin.ext (show 512 * (l.val / 512) + l.val % 512 = l.val by omega)))))
  fin_cases a
  · show (R.val * 1024 + l.val) / 1024 = R.val
    omega
  · show (R.val * 1024 + l.val) / 512 % 2 = l.val / 512
    omega
  · show (R.val * 1024 + l.val) % 512 = l.val % 512
    omega

theorem scan_ref : val_main_v15 (F := Ideal) A.y A.z A.gs (ix2 R l) = scanAt A R l := by
  unfold scanAt halves
  rw [← joined_ref]
  pointwise [val_main_v15, val_main_v14]

theorem normed_ref : val_main_v35 (F := Ideal) A.v A.lg A.lb (ix2 R l)
    = normed N1024 (fun k => A.v (ix2 R k)) (fun k => A.lg (ix2 0 k)) (fun k => A.lb (ix2 0 k)) l := by
  unfold normed center scale meanSq N1024
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_cst_2, val_main_cst_3, val_main_cst_4, val_main_cst_5, val_main_cst_6]

theorem conv_ref : val_main_v36 (F := Ideal) A.v A.lg A.lb (ix2 R l) = convAt A R l := by
  unfold convAt swish
  rw [← normed_ref]
  pointwise [val_main_v36, val_main_call1_v0, val_main_call1_v1, val_main_call1_v2, val_main_call1_v3, val_main_call1_v4, val_main_call1_v5, val_main_call1_cst, val_main_call1_cst_0]
  rfl

theorem mixed_ref (j : Fin 2048) : val_main_v37 (F := Ideal) A.y A.z A.v A.gs A.lg A.lb (ix2 R j) = mixedAt A R j := by
  unfold val_main_v37 mixedAt
  split
  · rename_i h
    refine Eq.trans ?_ (scan_ref A R ⟨j.val, h⟩)
    exact concatenate_pair_apply_left (s₁ := S4096x1024) (s₂ := S4096x1024) (t := S4096x2048) 1 (val_main_v15 (F := Ideal) A.y A.z A.gs) (val_main_v36 (F := Ideal) A.v A.lg A.lb)
      concatenates_S4096x1024_S4096x1024_S4096x2048_d1 (ix2 R j) rfl (ix2 R ⟨j.val, h⟩) fun a => by fin_cases a <;> rfl
  · rename_i h
    refine Eq.trans ?_ (conv_ref A R ⟨j.val - 1024, by omega⟩)
    refine concatenate_pair_apply_right (s₁ := S4096x1024) (s₂ := S4096x1024) (t := S4096x2048) 1 (val_main_v15 (F := Ideal) A.y A.z A.gs) (val_main_v36 (F := Ideal) A.v A.lg A.lb)
      concatenates_S4096x1024_S4096x1024_S4096x2048_d1 (ix2 R j) rfl rfl (ix2 R ⟨j.val - 1024, by omega⟩) (fun a ha => ?_) ?_
    · fin_cases a
      · rfl
      · exact absurd rfl ha
    · show j.val - 1024 + 1024 = j.val
      omega

theorem hidden_ref : val_main_v39 (F := Ideal) A.y A.z A.v A.x A.gs A.lg A.lb A.w (ix2 R l) = hiddenAt A R l := by
  refine Eq.trans (b := A.x (ix2 R l) + ∑ j : Fin 2048, val_main_v37 (F := Ideal) A.y A.z A.v A.gs A.lg A.lb (ix2 R j) * A.w (ix2 j l)) ?_ ?_
  · pointwise [val_main_v39, val_main_v38]
  · exact congrArg (fun s => A.x (ix2 R l) + s) (Finset.sum_congr rfl fun j _ => congrArg (fun s => s * A.w (ix2 j l)) (mixed_ref A R j))

theorem unit_ref : val_main_v52 (F := Ideal) A.y A.z A.v A.x A.gs A.lg A.lb A.w A.g2 (ix2 R l) = unitAt A R l := by
  unfold unitAt rms scale meanSq N1024
  simp only [← hidden_ref]
  pointwise [val_main_v52, val_main_v51, val_main_v50, val_main_v49, val_main_v48, val_main_v47, val_main_v46, val_main_v45, val_main_v44, val_main_v43, val_main_v42, val_main_v41, val_main_cst_7, val_main_cst_8, val_main_cst_9]

/-- The first and the last result are kept rounded, which changes no ideal number. -/
theorem v40_ref : val_main_v40 (F := Ideal) A.y A.z A.v A.gs A.lg A.lb = fun y => mixedAt A (y 0) (y 1) :=
  funext fun y => (congrArg (val_main_v37 (F := Ideal) A.y A.z A.v A.gs A.lg A.lb) (funext fun a => by fin_cases a <;> rfl)).trans (mixed_ref A (y 0) (y 1))

theorem v39_ref : val_main_v39 (F := Ideal) A.y A.z A.v A.x A.gs A.lg A.lb A.w = fun y => hiddenAt A (y 0) (y 1) :=
  funext fun y => (congrArg (val_main_v39 (F := Ideal) A.y A.z A.v A.x A.gs A.lg A.lb A.w) (funext fun a => by fin_cases a <;> rfl)).trans (hidden_ref A (y 0) (y 1))

theorem v53_ref : val_main_v53 (F := Ideal) A.y A.z A.v A.x A.gs A.lg A.lb A.w A.g2 = fun y => unitAt A (y 0) (y 1) :=
  funext fun y => (congrArg (val_main_v52 (F := Ideal) A.y A.z A.v A.x A.gs A.lg A.lb A.w A.g2) (funext fun a => by fin_cases a <;> rfl)).trans (unit_ref A (y 0) (y 1))

end Cert.Outp.Ref

end
-- ==== Proof.Outp.lean ====
/- The value claim of the output projection: kernel and reference end with the same three arrays. -/
module

public import proofs.«01_k».proof.Defs
public import proofs.«01_k».proof.Proof.Gen.Reference10Ideal.Run
public import proofs.«01_k».proof.Proof.OutpOuts
public import proofs.«01_k».proof.Proof.OutpRef

@[expose] public section

noncomputable section

namespace Cert.Outp

open Idealize.ShloMosaic Idealize.ShloMosaic.TcCoe Idealize.SL.Sem

theorem algebraic : Cert.algebraic_Kernel10Ideal_Reference10Ideal (hKernel10Ideal := Cert.Kernel10Ideal.Gen.facts)
    (hReference10Ideal := Cert.Reference10Ideal.Gen.facts) := by
  intro m ρ m' ρ' _ hag
  refine ⟨fun c => (Cert.Kernel10Ideal.Gen.dats m 0 c).arrAt 9 Cert.Kernel10Ideal.cfg0.N,
    fun c => (Cert.Kernel10Ideal.Gen.dats m 0 c).arrAt 10 Cert.Kernel10Ideal.cfg0.N,
    fun c => (Cert.Kernel10Ideal.Gen.dats m 0 c).arrAt 11 Cert.Kernel10Ideal.cfg0.N,
    Cert.Kernel10Ideal.Value.run_blocks m ρ,
    (θ_run _ _ _).mono (fun _ h c => ⟨(h c).1.trans ?_, (h c).2.1.trans ?_, (h c).2.2.1.trans ?_, (h c).2.2.2⟩) (Cert.Reference10Ideal.Value.run m' ρ')⟩
  all_goals obtain ⟨a0, a1, a2, a3, a4, a5, a6, a7, a8⟩ := hag c
  · rw [Cert.Reference10Ideal.Read.val_main_v40_eq, a0, a1, a2, a4, a5, a6]
    exact (Ref.v40_ref (args m c)).trans (final9 m c).symm
  · rw [Cert.Reference10Ideal.Read.val_main_v39_eq, a0, a1, a2, a3, a4, a5, a6, a7]
    exact (Ref.v39_ref (args m c)).trans (final10 m c).symm
  · rw [Cert.Reference10Ideal.Read.val_main_v53_eq, a0, a1, a2, a3, a4, a5, a6, a7, a8]
    exact (Ref.v53_ref (args m c)).trans (final11 m c).symm

end Cert.Outp

end
-- ==== Proof.SpreBlock.lean ====
/- One grid step of the recurrence's forward preparation: every store of the first result is `p * logistic p` of the
   four-tap sum `p` over the rows before and at it; the second result is the softplus of the shifted step sizes. -/
module

public import proofs.«01_k».proof.Proof.Gen.Kernel11Ideal.Value
public import Idealize.ShloMosaic.Lib.Pipeline.ValueKit
public import Idealize.ShloMosaic.Lib.WholeRead

@[expose] public section

set_option maxRecDepth 16384

noncomputable section

namespace Cert.Spre

open Cert.Kernel11Ideal Cert.Kernel11Ideal.Gen Idealize.ShloMosaic Idealize.ShloMosaic.TcCoe Idealize.SL.Sem

variable {F : FTy → Type} [FloatOps F]

/-- `p * logistic p` of a bias plus four products, added from the left. -/
def unit (b w0 e0 w1 e1 w2 e2 w3 e3 : F .f32) : F .f32 :=
  have p := FloatOps.addf (FloatOps.addf (FloatOps.addf (FloatOps.addf b (FloatOps.mulf w0 e0)) (FloatOps.mulf w1 e1))
    (FloatOps.mulf w2 e2)) (FloatOps.mulf w3 e3)
  FloatOps.mulf p (FloatOps.logistic p)

/-- The first result's block over the extended rows `E`, which start eight rows early: tap `k` meets the row `3 - k` before. -/
def actOf (W : S8x1536.Idx → F .f32) (B : S1x1536.Idx → F .f32) (E : S520x1536.Idx → F .f32) (y : S512x1536.Idx) : F .f32 :=
  have h : (y 0).val < 512 := (y 0).isLt
  unit (B (ix2 0 (y 1))) (W (ix2 0 (y 1))) (E (ix2 ⟨(y 0).val + 5, by omega⟩ (y 1))) (W (ix2 1 (y 1)))
    (E (ix2 ⟨(y 0).val + 6, by omega⟩ (y 1))) (W (ix2 2 (y 1))) (E (ix2 ⟨(y 0).val + 7, by omega⟩ (y 1))) (W (ix2 3 (y 1)))
    (E (ix2 ⟨(y 0).val + 8, by omega⟩ (y 1)))

/-- One row over sixteen rows. -/
theorem over (w : Vec F S1x512 .f32) (x : S16x512.Idx) : broadcastTo S16x512 w broadcasts_S1x512_S16x512 x = w (ix2 0 (x 1)) :=
  broadcastTo_apply _ _ x _ fun a => by fin_cases a <;> rfl

theorem stored (b w0 : Vec F S1x512 .f32) (e0 : Vec F S16x512 .f32) (w1 : Vec F S1x512 .f32) (e1 : Vec F S16x512 .f32)
    (w2 : Vec F S1x512 .f32) (e2 : Vec F S16x512 .f32) (w3 : Vec F S1x512 .f32) (e3 : Vec F S16x512 .f32) (x : S16x512.Idx) :
    k0_pay6 b w0 e0 w1 e1 w2 e2 w3 e3 x = unit (b (ix2 0 (x 1))) (w0 (ix2 0 (x 1))) (e0 x) (w1 (ix2 0 (x 1))) (e1 x)
      (w2 (ix2 0 (x 1))) (e2 x) (w3 (ix2 0 (x 1))) (e3 x) := by
  rw [← over b, ← over w0, ← over w1, ← over w2, ← over w3]
  unfold k0_pay6
  simp only [shapeCast_self]
  rfl

/-- Where a rectangle's index sits in its array. -/
theorem sits {n0 n1 : ℕ} (r c k0 k1 : ℕ)
    (h : ∀ a, (![r, c] : Fin 2 → ℕ) a + (![k0, k1] : Fin 2 → ℕ) a ≤ (⟨2, ![n0, n1]⟩ : Shape).size a)
    (x : (⟨2, ![k0, k1]⟩ : Shape).Idx) (y : (⟨2, ![n0, n1]⟩ : Shape).Idx)
    (h0 : (y 0).val = r + (x 0).val) (h1 : (y 1).val = c + (x 1).val) :
    (Rect.unit (s := ⟨2, ![n0, n1]⟩) ![r, c] ![k0, k1] h).emb x = y := by
  funext a
  refine Fin.ext ?_
  fin_cases a
  · exact (congrArg (r + ·) (Nat.one_mul _)).trans h0.symm
  · exact (congrArg (c + ·) (Nat.one_mul _)).trans h1.symm

/-- A load of a rectangle of an input, and of the rows the stores so far left in the scratch, at an index. -/
theorem read_in {n0 n1 : ℕ} {M : Memref sig .tc .vmem ⟨2, ![n0, n1]⟩ .f32} (hM : M.IsWhole) (X : Vec F ⟨2, ![n0, n1]⟩ .f32) (r c k0 k1 : ℕ)
    (h : ∀ a, (![r, c] : Fin 2 → ℕ) a + (![k0, k1] : Fin 2 → ℕ) a ≤ (⟨2, ![n0, n1]⟩ : Shape).size a)
    (x : (⟨2, ![k0, k1]⟩ : Shape).Idx) (y : (⟨2, ![n0, n1]⟩ : Shape).Idx)
    (h0 : (y 0).val = r + (x 0).val) (h1 : (y 1).val = c + (x 1).val) :
    View.readAt (Elt F) M.view (Rect.unit (s := ⟨2, ![n0, n1]⟩) ![r, c] ![k0, k1] h).toLoadRect (hM.unread X) x = X y := by
  rw [hM.readAt_unread]
  exact congrArg X (sits r c k0 k1 h x y h0 h1)

theorem read_ext (v : View sig .tc .vmem S520x1536 .f32) (L : List (View.Piece (Elt F) S520x1536 .f32)) (r c : ℕ)
    (h : ∀ a, (![r, c] : Fin 2 → ℕ) a + (![16, 512] : Fin 2 → ℕ) a ≤ S520x1536.size a) (x : S16x512.Idx)
    (y : S520x1536.Idx) (h0 : (y 0).val = r + (x 0).val) (h1 : (y 1).val = c + (x 1).val) :
    v.readCov L (Rect.unit (s := S520x1536) ![r, c] ![16, 512] h).toLoadRect x = View.canon L y := by
  rw [View.readCov_eq_canon']
  exact congrArg (View.canon L) (sits r c 16 512 h x y h0 h1)

/-- One store of the first result. -/
theorem store {M : Memref sig .tc .vmem S8x1536 .f32} (hM : M.IsWhole) (W : Vec F S8x1536 .f32)
    {M' : Memref sig .tc .vmem S1x1536 .f32} (hM' : M'.IsWhole) (B : Vec F S1x1536 .f32)
    (v : View sig .tc .vmem S520x1536 .f32) (L : List (View.Piece (Elt F) S520x1536 .f32)) (E : Vec F S520x1536 .f32)
    (hL : View.canon L = E) (r c : ℕ)
    (h : ∀ a, (![r, c] : Fin 2 → ℕ) a + (![16, 512] : Fin 2 → ℕ) a ≤ S512x1536.size a)
    (kb : ∀ a, (![0, c] : Fin 2 → ℕ) a + (![1, 512] : Fin 2 → ℕ) a ≤ S1x1536.size a)
    (k0 : ∀ a, (![0, c] : Fin 2 → ℕ) a + (![1, 512] : Fin 2 → ℕ) a ≤ S8x1536.size a)
    (k1 : ∀ a, (![1, c] : Fin 2 → ℕ) a + (![1, 512] : Fin 2 → ℕ) a ≤ S8x1536.size a)
    (k2 : ∀ a, (![2, c] : Fin 2 → ℕ) a + (![1, 512] : Fin 2 → ℕ) a ≤ S8x1536.size a)
    (k3 : ∀ a, (![3, c] : Fin 2 → ℕ) a + (![1, 512] : Fin 2 → ℕ) a ≤ S8x1536.size a)
    (e0 : ∀ a, (![r + 5, c] : Fin 2 → ℕ) a + (![16, 512] : Fin 2 → ℕ) a ≤ S520x1536.size a)
    (e1 : ∀ a, (![r + 6, c] : Fin 2 → ℕ) a + (![16, 512] : Fin 2 → ℕ) a ≤ S520x1536.size a)
    (e2 : ∀ a, (![r + 7, c] : Fin 2 → ℕ) a + (![16, 512] : Fin 2 → ℕ) a ≤ S520x1536.size a)
    (e3 : ∀ a, (![r + 8, c] : Fin 2 → ℕ) a + (![16, 512] : Fin 2 → ℕ) a ≤ S520x1536.size a) (x : S16x512.Idx) :
    k0_pay6
      (View.readAt (Elt F) M'.view (Rect.unit (s := S1x1536) ![0, c] ![1, 512] kb).toLoadRect (hM'.unread B))
      (View.readAt (Elt F) M.view (Rect.unit (s := S8x1536) ![0, c] ![1, 512] k0).toLoadRect (hM.unread W))
      (v.readCov L (Rect.unit (s := S520x1536) ![r + 5, c] ![16, 512] e0).toLoadRect)
      (View.readAt (Elt F) M.view (Rect.unit (s := S8x1536) ![1, c] ![1, 512] k1).toLoadRect (hM.unread W))
      (v.readCov L (Rect.unit (s := S520x1536) ![r + 6, c] ![16, 512] e1).toLoadRect)
      (View.readAt (Elt F) M.view (Rect.unit (s := S8x1536) ![2, c] ![1, 512] k2).toLoadRect (hM.unread W))
      (v.readCov L (Rect.unit (s := S520x1536) ![r + 7, c] ![16, 512] e2).toLoadRect)
      (View.readAt (Elt F) M.view (Rect.unit (s := S8x1536) ![3, c] ![1, 512] k3).toLoadRect (hM.unread W))
      (v.readCov L (Rect.unit (s := S520x1536) ![r + 8, c] ![16, 512] e3).toLoadRect) x
    = actOf W B E ((Rect.unit (s := S512x1536) ![r, c] ![16, 512] h).emb x) := by
  subst hL
  have hx : (x 0).val < 16 := (x 0).isLt
  have hr : ((Rect.unit (s := S512x1536) ![r, c] ![16, 512] h).emb x 0).val = r + (x 0).val := congrArg (r + ·) (Nat.one_mul _)
  have hc : ((Rect.unit (s := S512x1536) ![r, c] ![16, 512] h).emb x 1).val = c + (x 1).val := congrArg (c + ·) (Nat.one_mul _)
  generalize (Rect.unit (s := S512x1536) ![r, c] ![16, 512] h).emb x = y at hr hc
  have hE (k : ℕ) (hk : k ≤ 8) (e : ∀ a, (![r + k, c] : Fin 2 → ℕ) a + (![16, 512] : Fin 2 → ℕ) a ≤ S520x1536.size a)
      (hy : (y 0).val + k < 520) :
      v.readCov L (Rect.unit (s := S520x1536) ![r + k, c] ![16, 512] e).toLoadRect x = View.canon L (ix2 ⟨(y 0).val + k, hy⟩ (y 1)) :=
    read_ext v L (r + k) c e x _ (by show (y 0).val + k = _; omega) hc
  rw [stored]
  unfold actOf
  rw [hE 5 (by omega), hE 6 (by omega), hE 7 (by omega), hE 8 (by omega),
    read_in hM' B 0 c 1 512 kb (ix2 0 (x 1)) (ix2 0 (y 1)) rfl hc, read_in hM W 0 c 1 512 k0 (ix2 0 (x 1)) (ix2 0 (y 1)) rfl hc,
    read_in hM W 1 c 1 512 k1 (ix2 0 (x 1)) (ix2 1 (y 1)) rfl hc, read_in hM W 2 c 1 512 k2 (ix2 0 (x 1)) (ix2 2 (y 1)) rfl hc,
    read_in hM W 3 c 1 512 k3 (ix2 0 (x 1)) (ix2 3 (y 1)) rfl hc]

/-- The extended rows: the eight rows before this step's, zeros at the first step, then this step's 512. -/
def ext (i : grid0.Coords) (x0 : Vec F S512x1536 .f32) (x1 : Vec F S8x1536 .f32) (y : S520x1536.Idx) : F .f32 :=
  if h : (y 0).val < 8 then (if (i 0).val = 0 then FloatOps.ofBits .f32 0x00000000#32 else x1 (ix2 ⟨(y 0).val, h⟩ (y 1)))
  else x0 (ix2 ⟨(y 0).val - 8, by have : (y 0).val < 520 := (y 0).isLt; omega⟩ (y 1))

/-- A load of a whole input. -/
theorem read_all {n0 n1 : ℕ} {M : Memref sig .tc .vmem ⟨2, ![n0, n1]⟩ .f32} (hM : M.IsWhole) (X : Vec F ⟨2, ![n0, n1]⟩ .f32)
    (h : ∀ a, (![0, 0] : Fin 2 → ℕ) a + (![n0, n1] : Fin 2 → ℕ) a ≤ (⟨2, ![n0, n1]⟩ : Shape).size a) :
    View.readAt (Elt F) M.view (Rect.unit (s := ⟨2, ![n0, n1]⟩) ![0, 0] ![n0, n1] h).toLoadRect (hM.unread X) = X :=
  funext fun x => read_in hM X 0 0 n0 n1 h x x (Nat.zero_add _).symm (Nat.zero_add _).symm

/-- The two stores into the scratch leave the extended rows. -/
theorem scratch (i : grid0.Coords) {M0 : Memref sig .tc .vmem S512x1536 .f32} (h0 : M0.IsWhole)
    {M1 : Memref sig .tc .vmem S8x1536 .f32} (h1 : M1.IsWhole) (x0 : Vec F S512x1536 .f32) (x1 : Vec F S8x1536 .f32)
    (h : ∀ a, (![8, 0] : Fin 2 → ℕ) a + (![512, 1536] : Fin 2 → ℕ) a ≤ S520x1536.size a)
    (h' : ∀ a, (![0, 0] : Fin 2 → ℕ) a + (![8, 1536] : Fin 2 → ℕ) a ≤ S520x1536.size a)
    (g0 : ∀ a, (![0, 0] : Fin 2 → ℕ) a + (![512, 1536] : Fin 2 → ℕ) a ≤ S512x1536.size a)
    (g1 : ∀ a, (![0, 0] : Fin 2 → ℕ) a + (![8, 1536] : Fin 2 → ℕ) a ≤ S8x1536.size a) :
    View.canon (Val := Elt F) (e := .f32) [⟨Rect.unit (s := S520x1536) ![8, 0] ![512, 1536] h,
        k0_pay3 (View.readAt (Elt F) M0.view (Rect.unit (s := S512x1536) ![0, 0] ![512, 1536] g0).toLoadRect (h0.unread x0))⟩,
      ⟨Rect.unit (s := S520x1536) ![0, 0] ![8, 1536] h',
        k0_pay2 i (View.readAt (Elt F) M1.view (Rect.unit (s := S8x1536) ![0, 0] ![8, 1536] g1).toLoadRect (h1.unread x1))⟩]
      = ext i x0 x1 := by
  rw [read_all h0 x0 g0, read_all h1 x1 g1]
  funext y
  refine View.canon_apply_of_pieces (Val := Elt F) (e := .f32) (ext i x0 x1) _ ?_ y ?_
  · intro p hp
    simp only [List.mem_cons, List.not_mem_nil, or_false] at hp
    rcases hp with rfl | rfl
    · intro x
      have hx : (x 0).val < 512 := (x 0).isLt
      refine Eq.trans ?_ (congrArg (ext i x0 x1) (sits (n0 := 520) (n1 := 1536) 8 0 512 1536 h x
        (ix2 ⟨8 + (x 0).val, by omega⟩ (x 1)) rfl (Nat.zero_add _).symm)).symm
      unfold k0_pay3 ext
      refine Eq.trans ?_ (dif_neg (by show ¬ 8 + (x 0).val < 8; omega)).symm
      refine (congrFun (shapeCast_self _ _) x).trans (congrArg x0 (funext fun a => Fin.ext ?_))
      fin_cases a
      · show (x 0).val = 8 + (x 0).val - 8; omega
      · rfl
    · intro x
      have hx : (x 0).val < 8 := (x 0).isLt
      refine Eq.trans ?_ (congrArg (ext i x0 x1) (sits (n0 := 520) (n1 := 1536) 0 0 8 1536 h' x
        (ix2 ⟨(x 0).val, by omega⟩ (x 1)) (Nat.zero_add _).symm (Nat.zero_add _).symm)).symm
      unfold k0_pay2 ext
      refine Eq.trans ?_ (dif_pos hx).symm
      refine (congrFun (shapeCast_self _ _) x).trans ?_
      have hi : (i 0).val < 8 := (i 0).isLt
      by_cases hz : (i 0).val = 0
      · rw [if_pos hz, hz]; rfl
      · have : Scalar.cmpi .eq (BitVec.ofNat 32 (i 0).val) 0#32 = 0#1 := by
          generalize (i 0).val = n at hi hz
          revert hz
          revert n
          decide
        rw [if_neg hz, this]
        refine congrArg x1 (funext fun a => ?_)
        fin_cases a <;> rfl
  · have hy0 : (y 0).val < 520 := (y 0).isLt
    have hy1 : (y 1).val < 1536 := (y 1).isLt
    by_cases hlt : (y 0).val < 8
    · refine ⟨_, List.mem_cons_of_mem _ List.mem_cons_self, (Rect.mem_set_unit (s := S520x1536) (inb := h')).2 fun a => ?_⟩
      fin_cases a
      · exact ⟨Nat.zero_le _, by show (y 0).val < 0 + 8; omega⟩
      · exact ⟨Nat.zero_le _, by show (y 1).val < 0 + 1536; omega⟩
    · refine ⟨_, List.mem_cons_self, (Rect.mem_set_unit (s := S520x1536) (inb := h)).2 fun a => ?_⟩
      fin_cases a
      · exact ⟨by show 8 ≤ (y 0).val; omega, by show (y 0).val < 8 + 512; omega⟩
      · exact ⟨Nat.zero_le _, by show (y 1).val < 0 + 1536; omega⟩

/-- The softplus of a number, as the step computes it. -/
def soft (a : F .f32) : F .f32 :=
  have o : F .f32 := FloatOps.ofBits .f32 0x00000000#32
  Scalar.select (FloatOps.cmpf .one (FloatOps.subf a o) (FloatOps.subf a o)) (FloatOps.addf a o)
    (FloatOps.addf (FloatOps.maximumf a o) (FloatOps.log1p (FloatOps.exp (FloatOps.subf o (FloatOps.absf (FloatOps.subf a o))))))

theorem soft_stored (x2 : Vec F S512x16 .f32) (x5 : Vec F S1x16 .f32) (y : S512x16.Idx) :
    k0_pay1 (k0_pay149 x2 x5) (k0_pay150 x2 x5) (k0_pay151 x2 x5) (k0_pay152 x2 x5) y = soft (FloatOps.addf (x2 y) (x5 (ix2 0 (y 1)))) := by
  have e : broadcastTo S512x16 x5 broadcasts_S1x16_S512x16 y = x5 (ix2 0 (y 1)) :=
    broadcastTo_apply _ _ y _ fun a => by fin_cases a <;> rfl
  rw [← e]
  rfl

end Cert.Spre

end
-- ==== Proof.SpreStep.lean ====
/- What one grid step of the recurrence's forward preparation leaves in its two output blocks. -/
module

public import proofs.«01_k».proof.Proof.SpreBlock

@[expose] public section

set_option pp.maxSteps 200
set_option maxRecDepth 16384

noncomputable section

namespace Cert.Spre

open Cert.Kernel11Ideal Cert.Kernel11Ideal.Gen Idealize.ShloMosaic Idealize.ShloMosaic.TcCoe Idealize.SL.Sem

variable {F : FTy → Type} [FloatOps F]

/-- Every piece holds `G`: shown for the newest, then for the rest. -/
theorem hold_cons {G : S512x1536.Idx → F .f32} {p : View.Piece (Elt F) S512x1536 .f32}
    {L : List (View.Piece (Elt F) S512x1536 .f32)} (h : ∀ x, p.2 x = G (p.1.emb x))
    (hL : ∀ q ∈ L, ∀ x : q.1.shape.Idx, q.2 x = G (q.1.emb x)) : ∀ q ∈ p :: L, ∀ x : q.1.shape.Idx, q.2 x = G (q.1.emb x) :=
  List.forall_mem_cons.2 ⟨h, hL⟩

section Step

variable (c : Dev nD) (i : grid0.Coords) (arg1 : Memref sig .tc .vmem S512x1536 .f32) (harg1 : arg1.IsWhole)
  (arg2 : Memref sig .tc .vmem S8x1536 .f32) (harg2 : arg2.IsWhole) (arg3 : Memref sig .tc .vmem S512x16 .f32) (harg3 : arg3.IsWhole)
  (arg4 : Memref sig .tc .vmem S8x1536 .f32) (harg4 : arg4.IsWhole) (arg5 : Memref sig .tc .vmem S1x1536 .f32) (harg5 : arg5.IsWhole)
  (arg6 : Memref sig .tc .vmem S1x16 .f32) (harg6 : arg6.IsWhole) (arg7 : Memref sig .tc .vmem S512x1536 .f32) (harg7 : arg7.IsWhole)
  (arg8 : Memref sig .tc .vmem S512x16 .f32) (harg8 : arg8.IsWhole) (arg9 : Memref sig .tc .vmem S520x1536 .f32) (harg9 : arg9.IsWhole)
  (x0 : Vec F S512x1536 .f32) (x1 : Vec F S8x1536 .f32) (x2 : Vec F S512x16 .f32) (x3 : Vec F S8x1536 .f32) (x4 : Vec F S1x1536 .f32)
  (x5 : Vec F S1x16 .f32)

set_option maxHeartbeats 8000000 in
theorem act_step (y : S512x1536.Idx) :
    out0_A_6 c i arg1 harg1 arg2 harg2 arg3 harg3 arg4 harg4 arg5 harg5 arg6 harg6 arg7 harg7 arg8 harg8 arg9 harg9 x0 x1 x2 x3 x4 x5 y
      = actOf x3 x4 (ext i x0 x1) y := by
  have hc := cover0_A_6 c i arg1 harg1 arg2 harg2 arg3 harg3 arg4 harg4 arg5 harg5 arg6 harg6 arg7 harg7 arg8 harg8 arg9 harg9 x0 x1 x2 x3 x4 x5 y
  unfold out0_A_6
  rw [View.read_writes_junk_eq_canon]
  refine View.canon_apply_of_pieces (Val := Elt F) (e := .f32) (actOf x3 x4 (ext i x0 x1)) _ ?_ y hc
  clear hc
  unfold kernelRun0_A
  sl_unfold_run_names
  dsimp only
  iterate 96
    refine hold_cons (fun x => store harg4 x3 harg5 x4 arg9.view _ _ (scratch i harg1 harg2 x0 x1 (by decide) (by decide) (by decide) (by decide)) _ _ (by decide) (by decide) (by decide) (by decide) (by decide) (by decide) (by decide) (by decide) (by decide) (by decide) x) ?_
  exact fun _ hq => absurd hq List.not_mem_nil

theorem soft_step (y : S512x16.Idx) :
    out0_A_7 c i arg1 harg1 arg2 harg2 arg3 harg3 arg4 harg4 arg5 harg5 arg6 harg6 arg7 harg7 arg8 harg8 arg9 harg9 x0 x1 x2 x3 x4 x5 y
      = soft (FloatOps.addf (x2 y) (x5 (ix2 0 (y 1)))) := by
  have hc := cover0_A_7 c i arg1 harg1 arg2 harg2 arg3 harg3 arg4 harg4 arg5 harg5 arg6 harg6 arg7 harg7 arg8 harg8 arg9 harg9 x0 x1 x2 x3 x4 x5 y
  unfold out0_A_7
  rw [View.read_writes_junk_eq_canon]
  refine View.canon_apply_of_pieces (Val := Elt F) (e := .f32) (fun y => soft (FloatOps.addf (x2 y) (x5 (ix2 0 (y 1))))) _ ?_ y hc
  clear hc
  unfold kernelRun0_A
  sl_unfold_run_names
  dsimp only
  refine List.forall_mem_cons.2 ⟨fun x => ?_, fun _ hq => absurd hq List.not_mem_nil⟩
  refine (soft_stored _ _ x).trans ?_
  rw [sits (n0 := 512) (n1 := 16) 0 0 512 16 _ x x (Nat.zero_add _).symm (Nat.zero_add _).symm]
  exact congrArg₂ (fun a b => soft (FloatOps.addf a b)) (congrFun (read_all harg3 x2 _) x) (congrFun (read_all harg6 x5 _) _)

end Step

end Cert.Spre

end
-- ==== Proof.SpreVals.lean ====
/- The two arrays the recurrence's forward preparation leaves, each as one function of the arguments. -/
module

public import proofs.«01_k».proof.Proof.SpreStep
public import Idealize.ShloMosaic.Lib.KernelVsHost

@[expose] public section

set_option maxRecDepth 16384

noncomputable section

namespace Cert.Spre

open Cert.Kernel11Ideal Cert.Kernel11Ideal.Gen Idealize.ShloMosaic Idealize.ShloMosaic.TcCoe Idealize.SL.Sem

/-- The input's row `s - 3`, or zero before the first. -/
def back (x : S4096x1536.Idx → EReal) (s : ℕ) (hs : s < 4099) (l : Fin 1536) : EReal :=
  if h : 3 ≤ s then x (ix2 ⟨s - 3, by omega⟩ l) else 0

/-- The first result. -/
def act (x : S4096x1536.Idx → EReal) (w : S4x1536.Idx → EReal) (b : S1x1536.Idx → EReal) (y : S4096x1536.Idx) : EReal :=
  have h : (y 0).val < 4096 := (y 0).isLt
  unit (F := Ideal) (b (ix2 0 (y 1))) (w (ix2 0 (y 1))) (back x (y 0).val (by omega) (y 1)) (w (ix2 1 (y 1)))
    (back x ((y 0).val + 1) (by omega) (y 1)) (w (ix2 2 (y 1))) (back x ((y 0).val + 2) (by omega) (y 1)) (w (ix2 3 (y 1)))
    (back x ((y 0).val + 3) (by omega) (y 1))

/-- The second result. -/
def steps (d : S4096x16.Idx → EReal) (b : S1x16.Idx → EReal) (y : S4096x16.Idx) : EReal := soft (F := Ideal) (FloatOps.addf (d y) (b (ix2 0 (y 1))))

theorem coord : ∀ t : Fin cfg0.N, (grid0.coords t 0).val = t.val := (by decide +kernel : ∀ t : Fin grid0.N, _)
theorem idx0 : ∀ t : Fin cfg0.N, win0_0.index t = ![t.val, 0] := (by decide +kernel : ∀ t : Fin grid0.N, _)
theorem idx1 : ∀ t : Fin cfg0.N, win0_1.index t = ![64 * t.val - 1, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

variable (m : (ℓ : Loc nD τ sig) → Buf (Elt Ideal) ℓ) (c : Dev nD)

/-- The extended rows of a step hold the input from five rows of zeros (or earlier rows) on. -/
theorem ext_back (t : Fin cfg0.N) (r : Fin 520) (l : Fin 1536) (hr : 5 ≤ r.val) (n : ℕ) (hn : n < 4099) (e : n + 5 = t.val * 512 + r.val) :
    ext (F := Ideal) (grid0.coords t) (iblk m c 0 t) (iblk m c 1 t) (ix2 r l) = back (m ((c : Thread nD τ).loc main_arg0)) n hn l := by
  have ht : t.val < 8 := t.isLt
  unfold ext back
  by_cases h : r.val < 8
  · refine (dif_pos (h : ((ix2 r l : S520x1536.Idx) 0).val < 8)).trans ?_
    by_cases hz : t.val = 0
    · refine (if_pos ((coord t).trans hz)).trans (Eq.trans ?_ (dif_neg (by omega)).symm)
      exact Ideal.ofBits_zero _
    · refine (if_neg (fun e => hz ((coord t).symm.trans e))).trans (Eq.trans ?_ (dif_pos (by omega)).symm)
      blk_simp [iblk, V_main_arg0]
      refine congrArg _ ?_
      blk_ext [idx1 t]
  · refine (dif_neg (h : ¬ ((ix2 r l : S520x1536.Idx) 0).val < 8)).trans (Eq.trans ?_ (dif_pos (by omega)).symm)
    blk_simp [iblk, V_main_arg0]
    refine congrArg _ ?_
    blk_ext [idx0 t]

/-- The weights, padded to eight rows by the host. -/
theorem weight (t : Fin cfg0.N) (k : Fin 4) (l : Fin 1536) :
    iblk (F := Ideal) m c 3 t (ix2 (n0 := 8) ⟨k.val, by omega⟩ l) = m ((c : Thread nD τ).loc main_arg2) (ix2 k l) := by
  show V m c main_v0 ((win0_3.blk t).view.emb _) = _
  entry_read
  refine pad_apply_of_inside _ ![4, 0] _ _ _ pads_S4x1536_S8x1536_040_000 _ _ (ix2 k l) fun a => ?_
  fin_cases a
  · show ((win0_3.blk t).view.emb (ix2 (n0 := 8) (n1 := 1536) ⟨k.val, by omega⟩ l) 0).val = 0 + k.val * (0 + 1)
    blk_simp [idx3 t]
  · show ((win0_3.blk t).view.emb (ix2 (n0 := 8) (n1 := 1536) ⟨k.val, by omega⟩ l) 1).val = 0 + l.val * (0 + 1)
    blk_simp [idx3 t]

theorem bias (t : Fin cfg0.N) (l : Fin 1536) : iblk (F := Ideal) m c 4 t (ix2 0 l) = m ((c : Thread nD τ).loc main_arg3) (ix2 0 l) := by
  blk_simp [iblk, V_main_arg3]
  refine congrArg _ ?_
  blk_ext [idx4 t]

theorem shift (t : Fin cfg0.N) (l : Fin 16) : iblk (F := Ideal) m c 5 t (ix2 0 l) = m ((c : Thread nD τ).loc main_arg4) (ix2 0 l) := by
  blk_simp [iblk, V_main_arg4]
  refine congrArg _ ?_
  blk_ext [idx5 t]

theorem final6 : (dats m 0 c).arrAt 6 cfg0.N
    = act (m ((c : Thread nD τ).loc main_arg0)) (m ((c : Thread nD τ).loc main_arg2)) (m ((c : Thread nD τ).loc main_arg3)) := by
  refine (dats m 0 c).arrAt_eq_of_covers 6 _ (by decide +kernel) fun t hf y => ?_
  blk_simp
  rw [after0_6]
  unfold outsAt0
  dsimp only
  rw [act_step]
  have h0 : ((win0_6.blk t).view.emb y 0).val = t.val * 512 + (y 0).val := by blk_simp [idx6 t]
  have h1 : (win0_6.blk t).view.emb y 1 = y 1 := Fin.ext (by blk_simp [idx6 t])
  have hy : (y 0).val < 512 := (y 0).isLt
  have ht : t.val < 8 := t.isLt
  generalize (win0_6.blk t).view.emb y = z at h0 h1
  unfold actOf act
  have hE (k : ℕ) (hk : k ≤ 3) (hn : (z 0).val + k < 4099) (hr : (y 0).val + (k + 5) < 520) :
      ext (F := Ideal) (grid0.coords t) (iblk m c 0 t) (iblk m c 1 t) (ix2 ⟨(y 0).val + (k + 5), hr⟩ (y 1))
        = back (m ((c : Thread nD τ).loc main_arg0)) ((z 0).val + k) hn (z 1) :=
    (ext_back m c t ⟨(y 0).val + (k + 5), hr⟩ (y 1) (by show 5 ≤ (y 0).val + (k + 5); omega) _ hn
      (by show (z 0).val + k + 5 = t.val * 512 + ((y 0).val + (k + 5)); omega)).trans (congrArg _ h1.symm)
  have hW (k : Fin 4) : iblk (F := Ideal) m c 3 t (ix2 (n0 := 8) ⟨k.val, by omega⟩ (y 1)) = m ((c : Thread nD τ).loc main_arg2) (ix2 k (z 1)) :=
    (weight m c t k (y 1)).trans (congrArg (fun l => m ((c : Thread nD τ).loc main_arg2) (ix2 k l)) h1.symm)
  have hB : iblk (F := Ideal) m c 4 t (ix2 0 (y 1)) = m ((c : Thread nD τ).loc main_arg3) (ix2 0 (z 1)) :=
    (bias m c t (y 1)).trans (congrArg (fun l => m ((c : Thread nD τ).loc main_arg3) (ix2 0 l)) h1.symm)
  have hu : ∀ {b b' w0 w0' e0 e0' w1 w1' e1 e1' w2 w2' e2 e2' w3 w3' e3 e3' : EReal}, b = b' → w0 = w0' → e0 = e0' → w1 = w1' → e1 = e1' →
      w2 = w2' → e2 = e2' → w3 = w3' → e3 = e3' →
      unit (F := Ideal) b w0 e0 w1 e1 w2 e2 w3 e3 = unit (F := Ideal) b' w0' e0' w1' e1' w2' e2' w3' e3' := by
    intros; subst_vars; rfl
  exact hu hB (hW 0) (hE 0 (by omega) (by omega) _) (hW 1) (hE 1 (by omega) _ _) (hW 2) (hE 2 (by omega) _ _) (hW 3) (hE 3 (by omega) _ _)

theorem final7 : (dats m 0 c).arrAt 7 cfg0.N = steps (m ((c : Thread nD τ).loc main_arg1)) (m ((c : Thread nD τ).loc main_arg4)) := by
  refine (dats m 0 c).arrAt_eq_of_covers 7 _ (by decide +kernel) fun t hf y => ?_
  blk_simp
  rw [after0_7]
  unfold outsAt0
  dsimp only
  rw [soft_step]
  unfold steps
  refine congrArg₂ (fun a b : EReal => soft (F := Ideal) (FloatOps.addf a b)) ?_ ((shift m c t (y 1)).trans (congrArg (fun l => m ((c : Thread nD τ).loc main_arg4) (ix2 0 l)) ?_))
  · blk_simp [iblk, V_main_arg1]
    refine congrArg _ (funext fun a => Fin.ext ?_)
    fin_cases a
    · show ((win0_2.blk t).view.emb y 0).val = ((win0_7.blk t).view.emb y 0).val
      blk_simp [idx2 t, idx7 t]
    · show ((win0_2.blk t).view.emb y 1).val = ((win0_7.blk t).view.emb y 1).val
      blk_simp [idx2 t, idx7 t]
  · exact Fin.ext (by blk_simp [idx7 t])

end Cert.Spre

end
-- ==== Proof.SpreRef.lean ====
/- The reference's two results: the padded input's four shifted products and the bias, added in another order, and the
   same softplus. -/
module

public import proofs.«01_k».proof.Proof.Gen.Reference11Ideal.Read
public import proofs.«01_k».proof.Proof.SpreVals

@[expose] public section

set_option maxRecDepth 16384

noncomputable section

namespace Cert.Spre

open Cert.Reference11Ideal Cert.Reference11Ideal.Read Idealize.ShloMosaic Idealize.ShloMosaic.TcCoe Idealize.SL.Sem

variable (x : (⟨S4096x1536, .f32⟩ : BufTy).Contents (Elt Ideal)) (w : (⟨S4x1536, .f32⟩ : BufTy).Contents (Elt Ideal))
  (b : (⟨S1x1536, .f32⟩ : BufTy).Contents (Elt Ideal))

/-- The padded input, three rows of zeros first. -/
theorem padded (j : S4099x1536.Idx) (n : ℕ) (hn : n < 4099) (l : Fin 1536) (h0 : (j 0).val = n) (h1 : (j 1).val = l.val) :
    val_main_v0 (F := Ideal) x j = back x n hn l := by
  unfold val_main_v0 back
  by_cases h : 3 ≤ n
  · rw [dif_pos h]
    refine pad_apply_of_inside _ _ _ _ _ _ _ _ (ix2 ⟨n - 3, by omega⟩ l) fun a => ?_
    fin_cases a
    · show (j 0).val = 3 + (n - 3) * (0 + 1); omega
    · show (j 1).val = 0 + l.val * (0 + 1); omega
  · rw [dif_neg h]
    refine (pad_apply_of_not_inside _ _ _ _ _ _ _ _ 0 ?_).trans ?_
    · show ¬ (3 ≤ (j 0).val ∧ ((j 0).val - 3) % (0 + 1) = 0 ∧ ((j 0).val - 3) / (0 + 1) < 4096)
      omega
    · show ((((0#32 : BitVec 32).toInt : ℤ) : ℝ) : EReal) = 0
      simp

theorem row0 (y : S4096x1536.Idx) : val_main_v5 (F := Ideal) w y = w (ix2 0 (y 1)) := by
  rw [val_main_v5_apply, val_main_v4_apply, val_main_v3_apply, val_main_v2_apply]
  exact congrArg w (funext fun a => by fin_cases a; exacts [rfl, Fin.ext (Nat.mod_eq_of_lt (y 1).isLt)])

theorem row1 (y : S4096x1536.Idx) : val_main_v11 (F := Ideal) w y = w (ix2 1 (y 1)) := by
  rw [val_main_v11_apply, val_main_v10_apply, val_main_v9_apply, val_main_v8_apply]
  exact congrArg w (funext fun a => by fin_cases a; exacts [rfl, Fin.ext (Nat.mod_eq_of_lt (y 1).isLt)])

theorem row2 (y : S4096x1536.Idx) : val_main_v18 (F := Ideal) w y = w (ix2 2 (y 1)) := by
  rw [val_main_v18_apply, val_main_v17_apply, val_main_v16_apply, val_main_v15_apply]
  exact congrArg w (funext fun a => by fin_cases a; exacts [rfl, Fin.ext (Nat.mod_eq_of_lt (y 1).isLt)])

theorem row3 (y : S4096x1536.Idx) : val_main_v25 (F := Ideal) w y = w (ix2 3 (y 1)) := by
  rw [val_main_v25_apply, val_main_v24_apply, val_main_v23_apply, val_main_v22_apply]
  exact congrArg w (funext fun a => by fin_cases a; exacts [rfl, Fin.ext (Nat.mod_eq_of_lt (y 1).isLt)])

/-- The sum before the gate. -/
def pre (y : S4096x1536.Idx) : EReal :=
  have h : (y 0).val < 4096 := (y 0).isLt
  b (ix2 0 (y 1)) + w (ix2 0 (y 1)) * back x (y 0).val (by omega) (y 1) + w (ix2 1 (y 1)) * back x ((y 0).val + 1) (by omega) (y 1)
    + w (ix2 2 (y 1)) * back x ((y 0).val + 2) (by omega) (y 1) + w (ix2 3 (y 1)) * back x ((y 0).val + 3) (by omega) (y 1)

theorem act_eq (y : S4096x1536.Idx) : act x w b y = pre x w b y * Ideal.logistic (pre x w b y) := rfl

theorem swap (p0 p1 p2 p3 w0 w1 w2 w3 c : EReal) :
    p0 * w0 + p1 * w1 + p2 * w2 + p3 * w3 + c = c + w0 * p0 + w1 * p1 + w2 * p2 + w3 * p3 := by
  ac_rfl

theorem pre_ref (y : S4096x1536.Idx) : val_main_v29 (F := Ideal) x w b y = pre x w b y := by
  have h : (y 0).val < 4096 := (y 0).isLt
  rw [val_main_v29_apply, val_main_v27_apply, val_main_v20_apply, val_main_v13_apply, val_main_v6_apply, val_main_v12_apply,
    val_main_v19_apply, val_main_v26_apply, row0, row1, row2, row3, val_main_v28_apply, val_main_v1_apply, val_main_v7_apply,
    val_main_v14_apply, val_main_v21_apply,
    padded x (idx_main_v1 y) (y 0).val (by omega) (y 1) rfl rfl,
    padded x (idx_main_v7 y) ((y 0).val + 1) (by omega) (y 1) (by show 1 + (y 0).val = _; omega) rfl,
    padded x (idx_main_v14 y) ((y 0).val + 2) (by omega) (y 1) (by show 2 + (y 0).val = _; omega) rfl,
    padded x (idx_main_v21 y) ((y 0).val + 3) (by omega) (y 1) (by show 3 + (y 0).val = _; omega) rfl]
  have e : b (idx_main_v28 y) = b (ix2 0 (y 1)) := congrArg b (funext fun a => by fin_cases a <;> rfl)
  rw [e]
  exact swap _ _ _ _ _ _ _ _ _

theorem act_ref : val_main_v30 (F := Ideal) x w b = act x w b := by
  funext y
  rw [act_eq, ← pre_ref]
  pointwise [val_main_v30, val_main_call1_v5, val_main_call1_v4, val_main_call1_v3, val_main_call1_v2, val_main_call1_v1, val_main_call1_v0, val_main_call1_cst, val_main_call1_cst_0]
  rfl

theorem steps_ref (d : (⟨S4096x16, .f32⟩ : BufTy).Contents (Elt Ideal)) (s : (⟨S1x16, .f32⟩ : BufTy).Contents (Elt Ideal)) :
    val_main_v33 (F := Ideal) d s = steps d s := by
  funext y
  have e : val_main_v31 (F := Ideal) s y = s (ix2 0 (y 1)) :=
    (val_main_v31_apply s y).trans (congrArg s (funext fun a => by fin_cases a <;> rfl))
  rw [val_main_v33_apply, val_main_call2_v4_apply, val_main_call2_v6_apply, val_main_call2_v11_apply, val_main_call2_v1_apply,
    val_main_call2_v10_apply, val_main_call2_v9_apply, val_main_call2_v8_apply, val_main_call2_v7_apply, val_main_call2_v3_apply,
    val_main_call2_v2_apply, val_main_call2_v5_apply, val_main_call2_v0_apply, val_main_call2_cst_apply, val_main_v32_apply, e]
  unfold steps soft
  generalize FloatOps.addf (F := Ideal) (φ := .f32) (d y) (s (ix2 0 (y 1))) = a
  have hn (u : EReal) : -u = Ideal.ofBits .f32 0x00000000#32 - u := by
    rw [Ideal.ofBits_zero FTy.f32]
    exact (zero_sub u).symm
  exact congrArg (fun q : EReal => Scalar.select (FloatOps.cmpf (F := Ideal) (φ := .f32) .one (FloatOps.subf a (FloatOps.ofBits .f32 0x00000000#32)) (FloatOps.subf a (FloatOps.ofBits .f32 0x00000000#32)))
    (FloatOps.addf a (FloatOps.ofBits .f32 0x00000000#32)) (FloatOps.addf (F := Ideal) (φ := .f32) (FloatOps.maximumf a (FloatOps.ofBits .f32 0x00000000#32)) (FloatOps.log1p (F := Ideal) (φ := .f32) (FloatOps.exp (F := Ideal) (φ := .f32) q)))) (hn _)

end Cert.Spre

end
-- ==== Proof.Spre.lean ====
/- The value claim of the recurrence's forward preparation: kernel and reference end with the same two arrays. -/
module

public import proofs.«01_k».proof.Defs
public import proofs.«01_k».proof.Proof.Gen.Reference11Ideal.Run
public import proofs.«01_k».proof.Proof.SpreRef

@[expose] public section

noncomputable section

namespace Cert.Spre

open Idealize.ShloMosaic Idealize.ShloMosaic.TcCoe Idealize.SL.Sem

theorem algebraic : Cert.algebraic_Kernel11Ideal_Reference11Ideal (hKernel11Ideal := Cert.Kernel11Ideal.Gen.facts)
    (hReference11Ideal := Cert.Reference11Ideal.Gen.facts) := by
  intro m ρ m' ρ' _ hag
  refine ⟨fun c => (Cert.Kernel11Ideal.Gen.dats m 0 c).arrAt 6 Cert.Kernel11Ideal.cfg0.N,
    fun c => (Cert.Kernel11Ideal.Gen.dats m 0 c).arrAt 7 Cert.Kernel11Ideal.cfg0.N, Cert.Kernel11Ideal.Value.run_blocks m ρ,
    (θ_run _ _ _).mono (fun _ h c => ⟨(h c).1.trans ?_, (h c).2.1.trans ?_, (h c).2.2⟩) (Cert.Reference11Ideal.Value.run m' ρ')⟩
  all_goals obtain ⟨a0, a1, a2, a3, a4⟩ := hag c
  · rw [Cert.Reference11Ideal.Read.val_main_v30_eq, a0, a2, a3]
    exact (act_ref _ _ _).trans (final6 m c).symm
  · rw [Cert.Reference11Ideal.Read.val_main_v33_eq, a1, a4]
    exact (steps_ref _ _).trans (final7 m c).symm

end Cert.Spre

end
-- ==== Proof.DownOuts.lean ====
/- What the points of the down projection leave: the residual with the product of the squared hidden values added. -/
module

public import proofs.«01_k».proof.Proof.Corner
public import proofs.«01_k».proof.Proof.Gen.Kernel12Ideal.Value
public import Idealize.ShloMosaic.Lib.KernelVsHost
public import Idealize.ShloMosaic.Lib.Ring

@[expose] public section

set_option maxRecDepth 16384

noncomputable section

namespace Cert.Down

open Cert.Kernel12Ideal Cert.Kernel12Ideal.Gen Idealize.ShloMosaic Idealize.ShloMosaic.TcCoe Idealize.SL.Sem

/-- The residual `x` plus the squares of the hidden row `a` times the weights. -/
def downAt (x : FVec Ideal S4096x1024 .f32) (a : FVec Ideal S4096x4096 .f32) (w : FVec Ideal S4096x1024 .f32) (R : Fin 4096) (l : Fin 1024) : EReal :=
  x (ix2 R l) + ∑ k : Fin 4096, a (ix2 R k) * a (ix2 R k) * w (ix2 k l)

theorem pay_at (x : FVec Ideal S512x1024 .f32) (a : FVec Ideal S512x4096 .bf16) (w : FVec Ideal S4096x1024 .bf16) (r : Fin 512) (l : Fin 1024) :
    k0_pay1 (F := Ideal) x a w (ix2 r l) = x (ix2 r l) + ∑ k : Fin 4096, a (ix2 r k) * w (ix2 k l) := by
  pointwise [k0_pay1]

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![t.val, 0] := (by decide +kernel : ∀ t : Fin grid0.N, _)

variable (m : (ℓ : Loc nD τ sig) → Buf (Elt Ideal) ℓ) (c : Dev nD)

abbrev argX : FVec Ideal S4096x1024 .f32 := m ((c : Thread nD τ).loc main_arg0)
abbrev argA : FVec Ideal S4096x4096 .f32 := m ((c : Thread nD τ).loc main_arg1)
abbrev argW : FVec Ideal S4096x1024 .f32 := m ((c : Thread nD τ).loc main_arg2)

/-- Row `r` of the block of point `t`. -/
abbrev rowOf (t : Fin cfg0.N) (r : Fin 512) : Fin 4096 := ⟨512 * t.val + r.val, by have : t.val < 8 := t.isLt; omega⟩

theorem residual (t : Fin cfg0.N) (r : Fin 512) (l : Fin 1024) : iblk (F := Ideal) m c 0 t (ix2 r l) = argX m c (ix2 (rowOf t r) l) := by
  blk_simp [iblk, V_main_arg0]
  refine congrArg (argX m c) ?_
  blk_ext [at0 t]

theorem squares (t : Fin cfg0.N) (r : Fin 512) (k : Fin 4096) :
    iblk (F := Ideal) m c 1 t (ix2 r k) = argA m c (ix2 (rowOf t r) k) * argA m c (ix2 (rowOf t r) k) := by
  blk_simp [iblk]
  entry_read
  refine congrArg (fun s : EReal => s * s) (congrArg (argA m c) ?_)
  blk_ext [at1 t]

theorem weights (t : Fin cfg0.N) (k : Fin 4096) (l : Fin 1024) : iblk (F := Ideal) m c 2 t (ix2 k l) = argW m c (ix2 k l) := by
  blk_simp [iblk]
  entry_read
  refine congrArg (argW m c) ?_
  blk_ext [at2 t]

theorem down_point (t : Fin cfg0.N) (r : Fin 512) (l : Fin 1024) :
    k0_pay1 (F := Ideal) (iblk m c 0 t) (iblk m c 1 t) (iblk m c 2 t) (ix2 r l) = downAt (argX m c) (argA m c) (argW m c) (rowOf t r) l :=
  (pay_at _ _ _ r l).trans (congrArg₂ (fun a b : EReal => a + b) (residual m c t r l)
    (Finset.sum_congr rfl fun k _ => congrArg₂ (fun a b : EReal => a * b) (squares m c t r k) (weights m c t k l)))

theorem final3 : (dats m 0 c).arrAt 3 cfg0.N = (fun y : S4096x1024.Idx => downAt (argX m c) (argA m c) (argW m c) (y 0) (y 1)) := by
  refine (dats m 0 c).arrAt_eq_of_covers 3 _ (by decide +kernel) fun t hf y => ?_
  rw [after0_3]
  unfold out0_3
  frame_out
  have e : (cfg0.win 3).xinj (grid0.coords t) y = ix2 (y 0) (y 1) := funext fun a => by fin_cases a <;> rfl
  refine (congrArg (k0_pay1 (F := Ideal) (iblk m c 0 t) (iblk m c 1 t) (iblk m c 2 t)) e).trans
    ((down_point m c t (y 0) (y 1)).trans (congrArg₂ (downAt (argX m c) (argA m c) (argW m c)) ?_ ?_))
  · refine Fin.ext ?_
    show 512 * t.val + (y 0).val = ((win0_3.blk t).view.emb y 0).val
    blk_simp [at3 t]
    omega
  · exact Fin.ext (by blk_simp [at3 t])

end Cert.Down

end
-- ==== Proof.Down.lean ====
/- The value claim of the down projection: kernel and reference end with the same array. -/
module

public import proofs.«01_k».proof.Defs
public import proofs.«01_k».proof.Proof.Gen.Reference12Ideal.Run
public import proofs.«01_k».proof.Proof.Gen.Reference12Ideal.Read
public import proofs.«01_k».proof.Proof.DownOuts

@[expose] public section

noncomputable section

namespace Cert.Down

open Cert.Reference12Ideal Cert.Reference12Ideal.Read Idealize.ShloMosaic Idealize.ShloMosaic.TcCoe Idealize.SL.Sem

theorem down_ref (x : FVec Ideal S4096x1024 .f32) (a : FVec Ideal S4096x4096 .f32) (w : FVec Ideal S4096x1024 .f32) :
    val_main_v2 (F := Ideal) x a w = fun y : S4096x1024.Idx => downAt x a w (y 0) (y 1) := by
  funext y
  rw [val_main_v2_apply, val_main_v1_apply]
  refine congrArg₂ (fun p q : EReal => p + q) (congrArg x (funext fun b => by fin_cases b <;> rfl)) (Finset.sum_congr rfl fun k _ => ?_)
  rw [val_main_v0_apply]
  have ea : lidx_main_v1 y k = ix2 (y 0) k := funext fun b => by fin_cases b <;> rfl
  have ew : ridx_main_v1 y k = ix2 k (y 1) := funext fun b => by fin_cases b <;> rfl
  rw [ea, ew]
  rfl

theorem algebraic : Cert.algebraic_Kernel12Ideal_Reference12Ideal (hKernel12Ideal := Cert.Kernel12Ideal.Gen.facts)
    (hReference12Ideal := Cert.Reference12Ideal.Gen.facts) := by
  intro m ρ m' ρ' _ hag
  refine ⟨fun c => (Cert.Kernel12Ideal.Gen.dats m 0 c).arrAt 3 Cert.Kernel12Ideal.cfg0.N, Cert.Kernel12Ideal.Value.run_blocks m ρ,
    (θ_run _ _ _).mono (fun _ h c => ⟨(h c).1.trans ?_, (h c).2⟩) (Cert.Reference12Ideal.Value.run m' ρ')⟩
  obtain ⟨a0, a1, a2⟩ := hag c
  rw [Cert.Reference12Ideal.Read.val_main_v2_eq, a0, a1, a2]
  exact (down_ref _ _ _).trans (final3 m c).symm

end Cert.Down

end
-- ==== Proof.DwupOuts.lean ====
/- What the points of the up projection's weight gradient leave: one block of columns each. -/
module

public import proofs.«01_k».proof.Proof.Gen.Kernel13Ideal.Value
public import Idealize.ShloMosaic.Lib.KernelVsHost
public import Idealize.ShloMosaic.Lib.Ring
public import Idealize.ShloMosaic.Lib.Pipeline.ValueKit

@[expose] public section

set_option maxRecDepth 16384

noncomputable section

namespace Cert.Dwup

open Cert.Kernel13Ideal Cert.Kernel13Ideal.Gen Idealize.ShloMosaic Idealize.ShloMosaic.TcCoe Idealize.SL.Sem

/-- The sum over the tokens of an input's entry times a cotangent's. -/
def gradAt (u : FVec Ideal S4096x1024 .f32) (d : FVec Ideal S4096x4096 .f32) (i : Fin 1024) (j : Fin 4096) : EReal :=
  ∑ k : Fin 4096, u (ix2 k i) * d (ix2 k j)

theorem pay_at (u : FVec Ideal S4096x1024 .bf16) (d : FVec Ideal S4096x512 .bf16) (y : S1x1024x512.Idx) :
    k0_pay1 (F := Ideal) u d y = ∑ k : Fin 4096, u (ix2 k (y 1)) * d (ix2 k (y 2)) := by
  pointwise [k0_pay1]

theorem at0 : ∀ t : Fin cfg0.N, win0_0.index t = ![0, 0] := (by decide +kernel : ∀ t : Fin grid0.N, _)
theorem at1 : ∀ t : Fin cfg0.N, win0_1.index t = ![0, t.val] := (by decide +kernel : ∀ t : Fin grid0.N, _)
theorem at2 : ∀ t : Fin cfg0.N, win0_2.index t = ![t.val, 0, 0] := (by decide +kernel : ∀ t : Fin grid0.N, _)

variable (m : (ℓ : Loc nD τ sig) → Buf (Elt Ideal) ℓ) (c : Dev nD)

abbrev argU : FVec Ideal S4096x1024 .f32 := m ((c : Thread nD τ).loc main_arg0)
abbrev argD : FVec Ideal S4096x4096 .f32 := m ((c : Thread nD τ).loc main_arg2)

/-- Column `j` of the block with the number `b`. -/
abbrev colOf (b : Fin 8) (j : Fin 512) : Fin 4096 := ⟨512 * b.val + j.val, by omega⟩

abbrev num (t : Fin cfg0.N) : Fin 8 := ⟨t.val, t.isLt⟩

theorem inputs (t : Fin cfg0.N) (k : Fin 4096) (i : Fin 1024) : iblk (F := Ideal) m c 0 t (ix2 k i) = argU m c (ix2 k i) := by
  blk_simp [iblk]
  entry_read
  refine congrArg (argU m c) ?_
  blk_ext [at0 t]

theorem cots (t : Fin cfg0.N) (k : Fin 4096) (j : Fin 512) : iblk (F := Ideal) m c 1 t (ix2 k j) = argD m c (ix2 k (colOf (num t) j)) := by
  blk_simp [iblk]
  entry_read
  refine congrArg (argD m c) ?_
  blk_ext [at1 t]

theorem grad_point (t : Fin cfg0.N) (y : S1x1024x512.Idx) :
    k0_pay1 (F := Ideal) (iblk m c 0 t) (iblk m c 1 t) y = gradAt (argU m c) (argD m c) (y 1) (colOf (num t) (y 2)) :=
  (pay_at _ _ y).trans (Finset.sum_congr rfl fun k _ => congrArg₂ (fun a b : EReal => a * b) (inputs m c t k (y 1)) (cots m c t k (y 2)))

theorem final2 : (dats m 0 c).arrAt 2 cfg0.N = (fun y : S8x1024x512.Idx => gradAt (argU m c) (argD m c) (y 1) (colOf (y 0) (y 2))) := by
  refine (dats m 0 c).arrAt_eq_of_covers 2 _ (by decide +kernel) fun t hf y => ?_
  rw [after0_2]
  unfold out0_2
  frame_out
  refine (grad_point m c t ((cfg0.win 2).xinj (grid0.coords t) y)).trans (congrArg₂ (gradAt (argU m c) (argD m c)) ?_ (congrArg₂ colOf ?_ ?_))
  · exact Fin.ext (by blk_simp [at2 t]; try rfl)
  · have h : (y 0).val < 1 := (y 0).isLt
    refine Fin.ext ?_
    show t.val = ((win0_2.blk t).view.emb y 0).val
    blk_simp [at2 t]
    try omega
  · exact Fin.ext (by blk_simp [at2 t]; try rfl)

end Cert.Dwup

end
-- ==== Proof.Dwup.lean ====
/- The value claim of the up projection's weight gradient: kernel and reference end with the same blocks of columns. -/
module

public import proofs.«01_k».proof.Defs
public import proofs.«01_k».proof.Proof.Gen.Reference13Ideal.Run
public import proofs.«01_k».proof.Proof.Gen.Reference13Ideal.Read
public import proofs.«01_k».proof.Proof.DwupOuts

@[expose] public section

noncomputable section

namespace Cert.Dwup

open Cert.Reference13Ideal Cert.Reference13Ideal.Read Idealize.ShloMosaic Idealize.ShloMosaic.TcCoe Idealize.SL.Sem

theorem grad_ref (u : FVec Ideal S4096x1024 .f32) (d : FVec Ideal S4096x4096 .f32) :
    val_main_v5 (F := Ideal) u d = fun y : S8x1024x512.Idx => gradAt u d (y 1) (colOf (y 0) (y 2)) := by
  funext y
  have h0 : (y 0).val < 8 := (y 0).isLt
  have h1 : (y 1).val < 1024 := (y 1).isLt
  have h2 : (y 2).val < 512 := (y 2).isLt
  rw [val_main_v5_apply, val_main_v4_apply, val_main_v3_apply, val_main_v2_apply, val_main_v1_apply]
  refine Finset.sum_congr rfl fun k _ => (mul_comm _ _).trans (congrArg₂ (fun a b : EReal => a * b) (congrArg u ?_) (congrArg d ?_))
  · funext a
    fin_cases a
    · rfl
    · exact Fin.ext (by show (((y 1).val * 8 + (y 0).val) * 512 + (y 2).val) / 4096 = (y 1).val; omega)
  · funext a
    fin_cases a
    · rfl
    · exact Fin.ext (by show (((y 1).val * 8 + (y 0).val) * 512 + (y 2).val) % 4096 = 512 * (y 0).val + (y 2).val; omega)

theorem algebraic : Cert.algebraic_Kernel13Ideal_Reference13Ideal (hKernel13Ideal := Cert.Kernel13Ideal.Gen.facts)
    (hReference13Ideal := Cert.Reference13Ideal.Gen.facts) := by
  intro m ρ m' ρ' _ hag
  refine ⟨fun c => (Cert.Kernel13Ideal.Gen.dats m 0 c).arrAt 2 Cert.Kernel13Ideal.cfg0.N, Cert.Kernel13Ideal.Value.run_blocks m ρ,
    (θ_run _ _ _).mono (fun _ h c => ⟨(h c).1.trans ?_, (h c).2⟩) (Cert.Reference13Ideal.Value.run m' ρ')⟩
  obtain ⟨a0, a1, a2⟩ := hag c
  rw [Cert.Reference13Ideal.Read.val_main_v5_eq, a0, a2]
  exact (grad_ref _ _).trans (final2 m c).symm

end Cert.Dwup

end
-- ==== Proof.Adam.lean ====
/- The value claim of the filters' optimiser step: kernel and reference end with the same six arrays. -/
module

public import proofs.«01_k».proof.Defs
public import proofs.«01_k».proof.Proof.Gen.Kernel14Ideal.Value
public import proofs.«01_k».proof.Proof.Gen.Reference14Ideal.Run
public import proofs.«01_k».proof.Proof.Gen.Reference14Ideal.Read

@[expose] public section

set_option maxRecDepth 16384

noncomputable section

namespace Cert.Adam

open Cert.Kernel14Ideal.Value Idealize.ShloMosaic Idealize.ShloMosaic.TcCoe Idealize.SL.Sem

theorem algebraic : Cert.algebraic_Kernel14Ideal_Reference14Ideal (hKernel14Ideal := Cert.Kernel14Ideal.Gen.facts)
    (hReference14Ideal := Cert.Reference14Ideal.Gen.facts) := by
  intro m ρ m' ρ' _ hag
  refine ⟨fun c => (Cert.Kernel14Ideal.Gen.dats m 0 c).arrAt 8 Cert.Kernel14Ideal.cfg0.N,
    fun c => (Cert.Kernel14Ideal.Gen.dats m 0 c).arrAt 9 Cert.Kernel14Ideal.cfg0.N,
    fun c => (Cert.Kernel14Ideal.Gen.dats m 0 c).arrAt 10 Cert.Kernel14Ideal.cfg0.N,
    fun c => (Cert.Kernel14Ideal.Gen.dats m 0 c).arrAt 11 Cert.Kernel14Ideal.cfg0.N,
    fun c => (Cert.Kernel14Ideal.Gen.dats m 0 c).arrAt 12 Cert.Kernel14Ideal.cfg0.N,
    fun c => (Cert.Kernel14Ideal.Gen.dats m 0 c).arrAt 13 Cert.Kernel14Ideal.cfg0.N, Cert.Kernel14Ideal.Value.run_blocks m ρ,
    (θ_run _ _ _).mono (fun _ h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩) (Cert.Reference14Ideal.Value.run m' ρ')⟩
  all_goals obtain ⟨a0, a1, a2, a3, a4, a5, a6, a7⟩ := hag c
  · rw [a0, a2, a4, a6]; exact Eq.trans rfl (final8 m c).symm
  · rw [a0, a4]; exact Eq.trans rfl (final9 m c).symm
  · rw [a0, a6]; exact Eq.trans rfl (final10 m c).symm
  · rw [a1, a3, a5, a7]; exact Eq.trans rfl (final11 m c).symm
  · rw [a1, a5]; exact Eq.trans rfl (final12 m c).symm
  · rw [a1, a7]; exact Eq.trans rfl (final13 m c).symm

end Cert.Adam

end
-- ==== Proof.lean ====
/- The assembly: the facts of the programs, the frames, and the value claims proved in the modules named after the calls. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Conv4
public import proofs.«01_k».proof.Proof.Gen.Kernel2.Frame
public import proofs.«01_k».proof.Proof.Gen.Kernel2Ideal.Value
public import proofs.«01_k».proof.Proof.Gen.Reference2Ideal.Run
public import proofs.«01_k».proof.Proof.Scan
public import proofs.«01_k».proof.Proof.Gen.Pre_finite_decays
public import proofs.«01_k».proof.Proof.Gen.Kernel3.Frame
public import proofs.«01_k».proof.Proof.Gen.Kernel3Ideal.Value
public import proofs.«01_k».proof.Proof.Gen.Reference3Ideal.Run
public import proofs.«01_k».proof.Proof.Inb
public import proofs.«01_k».proof.Proof.Gen.Kernel4.Frame
public import proofs.«01_k».proof.Proof.Gen.Kernel4Ideal.Value
public import proofs.«01_k».proof.Proof.Gen.Reference4Ideal.Run
public import proofs.«01_k».proof.Proof.Mlpb
public import proofs.«01_k».proof.Proof.Gen.Kernel5.Frame
public import proofs.«01_k».proof.Proof.Gen.Kernel5Ideal.Value
public import proofs.«01_k».proof.Proof.Gen.Reference5Ideal.Run
public import proofs.«01_k».proof.Proof.Outb
public import proofs.«01_k».proof.Proof.Gen.Kernel6.Frame
public import proofs.«01_k».proof.Proof.Gen.Kernel6Ideal.Value
public import proofs.«01_k».proof.Proof.Gen.Reference6Ideal.Run
public import proofs.«01_k».proof.Proof.Tail
public import proofs.«01_k».proof.Proof.Gen.Kernel8.Frame
public import proofs.«01_k».proof.Proof.Gen.Kernel8Ideal.Value
public import proofs.«01_k».proof.Proof.Gen.Reference8Ideal.Run
public import proofs.«01_k».proof.Proof.Inp
public import proofs.«01_k».proof.Proof.Gen.Kernel9.Frame
public import proofs.«01_k».proof.Proof.Gen.Kernel9Ideal.Value
public import proofs.«01_k».proof.Proof.Gen.Reference9Ideal.Run
public import proofs.«01_k».proof.Proof.Mlpu
public import proofs.«01_k».proof.Proof.Gen.Kernel10.Frame
public import proofs.«01_k».proof.Proof.Gen.Kernel10Ideal.Value
public import proofs.«01_k».proof.Proof.Gen.Reference10Ideal.Run
public import proofs.«01_k».proof.Proof.Outp
public import proofs.«01_k».proof.Proof.Gen.Kernel11.Frame
public import proofs.«01_k».proof.Proof.Gen.Kernel11Ideal.Value
public import proofs.«01_k».proof.Proof.Gen.Reference11Ideal.Run
public import proofs.«01_k».proof.Proof.Spre
public import proofs.«01_k».proof.Proof.Gen.Kernel12.Frame
public import proofs.«01_k».proof.Proof.Gen.Kernel12Ideal.Value
public import proofs.«01_k».proof.Proof.Gen.Reference12Ideal.Run
public import proofs.«01_k».proof.Proof.Down
public import proofs.«01_k».proof.Proof.Gen.Kernel13.Frame
public import proofs.«01_k».proof.Proof.Gen.Kernel13Ideal.Value
public import proofs.«01_k».proof.Proof.Gen.Reference13Ideal.Run
public import proofs.«01_k».proof.Proof.Dwup
public import proofs.«01_k».proof.Proof.Gen.Kernel14.Frame
public import proofs.«01_k».proof.Proof.Gen.Kernel14Ideal.Value
public import proofs.«01_k».proof.Proof.Gen.Reference14Ideal.Run
public import proofs.«01_k».proof.Proof.Adam
public import Idealize.ShloMosaic.Adequacy
public import Idealize.ShloMosaic.Init

@[expose] public section

noncomputable section

namespace Cert.Proof

open Idealize.ShloMosaic Idealize.SL.Sem

/- The frame of a reference that is host operations only: its run, and no semaphore to count. -/

/-- The frame of `Reference`. -/
theorem conv4_reference_frame : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run (F := Ideal) m ρ)

/-- The frame of `Reference3`. -/
theorem inb_reference_frame : Cert.quiescent_Reference3Ideal (hReference3Ideal := Cert.Reference3Ideal.Gen.facts) := fun m ρ _ =>
  (θ_run _ _ _).mono (fun r h => ⟨fun c => (h c).2.2, sem_eq_zero_of_no_sems (by decide) r.2⟩)
    (Cert.Reference3Ideal.Value.run (F := Ideal) m ρ)

/-- The frame of `Reference4`. -/
theorem mlpb_reference_frame : Cert.quiescent_Reference4Ideal (hReference4Ideal := Cert.Reference4Ideal.Gen.facts) := fun m ρ _ =>
  (θ_run _ _ _).mono (fun r h => ⟨fun c => (h c).2.2.2.2, sem_eq_zero_of_no_sems (by decide) r.2⟩)
    (Cert.Reference4Ideal.Value.run (F := Ideal) m ρ)

/-- The frame of `Reference5`. -/
theorem outb_reference_frame : Cert.quiescent_Reference5Ideal (hReference5Ideal := Cert.Reference5Ideal.Gen.facts) := fun m ρ _ =>
  (θ_run _ _ _).mono (fun r h => ⟨fun c => (h c).2.2.2.2, sem_eq_zero_of_no_sems (by decide) r.2⟩)
    (Cert.Reference5Ideal.Value.run (F := Ideal) m ρ)

/-- The frame of `Reference6`. -/
theorem tail_reference_frame : Cert.quiescent_Reference6Ideal (hReference6Ideal := Cert.Reference6Ideal.Gen.facts) := fun m ρ _ =>
  (θ_run _ _ _).mono (fun r h => ⟨fun c => (h c).2.2.2.2.2, sem_eq_zero_of_no_sems (by decide) r.2⟩)
    (Cert.Reference6Ideal.Value.run (F := Ideal) m ρ)

/-- The frame of `Reference8`. -/
theorem inp_reference_frame : Cert.quiescent_Reference8Ideal (hReference8Ideal := Cert.Reference8Ideal.Gen.facts) := fun m ρ _ =>
  (θ_run _ _ _).mono (fun r h => ⟨fun c => (h c).2.2.2.2.2.2, sem_eq_zero_of_no_sems (by decide) r.2⟩)
    (Cert.Reference8Ideal.Value.run (F := Ideal) m ρ)

/-- The frame of `Reference9`. -/
theorem mlpu_reference_frame : Cert.quiescent_Reference9Ideal (hReference9Ideal := Cert.Reference9Ideal.Gen.facts) := fun m ρ _ =>
  (θ_run _ _ _).mono (fun r h => ⟨fun c => (h c).2.2, sem_eq_zero_of_no_sems (by decide) r.2⟩)
    (Cert.Reference9Ideal.Value.run (F := Ideal) m ρ)

/-- The frame of `Reference10`. -/
theorem outp_reference_frame : Cert.quiescent_Reference10Ideal (hReference10Ideal := Cert.Reference10Ideal.Gen.facts) := fun m ρ _ =>
  (θ_run _ _ _).mono (fun r h => ⟨fun c => (h c).2.2.2, sem_eq_zero_of_no_sems (by decide) r.2⟩)
    (Cert.Reference10Ideal.Value.run (F := Ideal) m ρ)

/-- The frame of `Reference11`. -/
theorem spre_reference_frame : Cert.quiescent_Reference11Ideal (hReference11Ideal := Cert.Reference11Ideal.Gen.facts) := fun m ρ _ =>
  (θ_run _ _ _).mono (fun r h => ⟨fun c => (h c).2.2, sem_eq_zero_of_no_sems (by decide) r.2⟩)
    (Cert.Reference11Ideal.Value.run (F := Ideal) m ρ)

/-- The frame of `Reference12`. -/
theorem down_reference_frame : Cert.quiescent_Reference12Ideal (hReference12Ideal := Cert.Reference12Ideal.Gen.facts) := fun m ρ _ =>
  (θ_run _ _ _).mono (fun r h => ⟨fun c => (h c).2, sem_eq_zero_of_no_sems (by decide) r.2⟩)
    (Cert.Reference12Ideal.Value.run (F := Ideal) m ρ)

/-- The frame of `Reference13`. -/
theorem dwup_reference_frame : Cert.quiescent_Reference13Ideal (hReference13Ideal := Cert.Reference13Ideal.Gen.facts) := fun m ρ _ =>
  (θ_run _ _ _).mono (fun r h => ⟨fun c => (h c).2, sem_eq_zero_of_no_sems (by decide) r.2⟩)
    (Cert.Reference13Ideal.Value.run (F := Ideal) m ρ)

/-- The frame of `Reference14`. -/
theorem adam_reference_frame : Cert.quiescent_Reference14Ideal (hReference14Ideal := Cert.Reference14Ideal.Gen.facts) := fun m ρ _ =>
  (θ_run _ _ _).mono (fun r h => ⟨fun c => (h c).2.2.2.2.2.2, sem_eq_zero_of_no_sems (by decide) r.2⟩)
    (Cert.Reference14Ideal.Value.run (F := Ideal) m ρ)

/-- The frame of the scan's reference, whose host loop leaves its arguments alone. -/
theorem scan_reference_frame : Cert.quiescent_Reference2Ideal (hReference2Ideal := Cert.Reference2Ideal.Gen.facts) := fun m ρ _ =>
  (θ_run _ _ _).mono (fun r h => ⟨fun c =>
      ⟨(h c Cert.Reference2Ideal.main_arg0 (by decide)).trans (Cert.Scan.Ref.arg_kept m c _ (by simp)),
        (h c Cert.Reference2Ideal.main_arg1 (by decide)).trans (Cert.Scan.Ref.arg_kept m c _ (by simp)),
        (h c Cert.Reference2Ideal.main_arg2 (by decide)).trans (Cert.Scan.Ref.arg_kept m c _ (by simp)),
        (h c Cert.Reference2Ideal.main_arg3 (by decide)).trans (Cert.Scan.Ref.arg_kept m c _ (by simp))⟩,
      sem_eq_zero_of_no_sems (by decide) r.2⟩)
    (Cert.Reference2Ideal.Value.run_fold (F := Ideal) m ρ)

theorem claim : Cert.Claim := ⟨
  Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Pre_finite_decays.Gen.facts,
  fun m ρ _ => Cert.Kernel.Gen.frame m ρ,
  fun m ρ _ => Cert.KernelIdeal.Gen.frame m ρ,
  conv4_reference_frame,
  fun m ρ _ => Cert.Kernel2.Gen.frame m ρ,
  fun m ρ _ => Cert.Kernel2Ideal.Gen.frame m ρ,
  fun m ρ _ => Cert.Kernel2Ideal.Gen.frame m ρ,
  scan_reference_frame,
  fun m ρ _ => scan_reference_frame m ρ trivial,
  fun m ρ _ => Cert.Kernel3.Gen.frame m ρ,
  fun m ρ _ => Cert.Kernel3Ideal.Gen.frame m ρ,
  inb_reference_frame,
  fun m ρ _ => Cert.Kernel4.Gen.frame m ρ,
  fun m ρ _ => Cert.Kernel4Ideal.Gen.frame m ρ,
  mlpb_reference_frame,
  fun m ρ _ => Cert.Kernel5.Gen.frame m ρ,
  fun m ρ _ => Cert.Kernel5Ideal.Gen.frame m ρ,
  outb_reference_frame,
  fun m ρ _ => Cert.Kernel6.Gen.frame m ρ,
  fun m ρ _ => Cert.Kernel6Ideal.Gen.frame m ρ,
  tail_reference_frame,
  fun m ρ _ => Cert.Kernel8.Gen.frame m ρ,
  fun m ρ _ => Cert.Kernel8Ideal.Gen.frame m ρ,
  inp_reference_frame,
  fun m ρ _ => Cert.Kernel9.Gen.frame m ρ,
  fun m ρ _ => Cert.Kernel9Ideal.Gen.frame m ρ,
  mlpu_reference_frame,
  fun m ρ _ => Cert.Kernel10.Gen.frame m ρ,
  fun m ρ _ => Cert.Kernel10Ideal.Gen.frame m ρ,
  outp_reference_frame,
  fun m ρ _ => Cert.Kernel11.Gen.frame m ρ,
  fun m ρ _ => Cert.Kernel11Ideal.Gen.frame m ρ,
  spre_reference_frame,
  fun m ρ _ => Cert.Kernel12.Gen.frame m ρ,
  fun m ρ _ => Cert.Kernel12Ideal.Gen.frame m ρ,
  down_reference_frame,
  fun m ρ _ => Cert.Kernel13.Gen.frame m ρ,
  fun m ρ _ => Cert.Kernel13Ideal.Gen.frame m ρ,
  dwup_reference_frame,
  fun m ρ _ => Cert.Kernel14.Gen.frame m ρ,
  fun m ρ _ => Cert.Kernel14Ideal.Gen.frame m ρ,
  adam_reference_frame,
  trivial,
  Cert.Conv4.algebraic,
  trivial,
  Cert.Scan.algebraic,
  trivial,
  Cert.Inb.algebraic,
  trivial,
  Cert.Mlpb.algebraic,
  trivial,
  Cert.Outb.algebraic,
  trivial,
  Cert.Tail.algebraic,
  trivial,
  Cert.Inp.algebraic,
  trivial,
  Cert.Mlpu.algebraic,
  trivial,
  Cert.Outp.algebraic,
  trivial,
  Cert.Spre.algebraic,
  trivial,
  Cert.Down.algebraic,
  trivial,
  Cert.Dwup.algebraic,
  trivial,
  Cert.Adam.algebraic⟩

end Cert.Proof

end
